-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1)
      ∧ r.2.mem ((c.tc : Thread Cert.Dwin.nD Cert.Dwin.τ).loc Cert.Dwin.main_arg2) = m ((c.tc : Thread Cert.Dwin.nD Cert.Dwin.τ).loc Cert.Dwin.main_arg2))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
      ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1)
      ∧ r.2.mem ((c.tc : Thread Cert.DwinRefIdeal.nD Cert.DwinRefIdeal.τ).loc Cert.DwinRefIdeal.main_arg2) = m ((c.tc : Thread Cert.DwinRefIdeal.nD Cert.DwinRefIdeal.τ).loc Cert.DwinRefIdeal.main_arg2))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1)
      ∧ r.2.mem ((c.tc : Thread Cert.Dwout.nD Cert.Dwout.τ).loc Cert.Dwout.main_arg2) = m ((c.tc : Thread Cert.Dwout.nD Cert.Dwout.τ).loc Cert.Dwout.main_arg2))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1)
      ∧ r.2.mem ((c.tc : Thread Cert.DwoutIdeal.nD Cert.DwoutIdeal.τ).loc Cert.DwoutIdeal.main_arg2) = m ((c.tc : Thread Cert.DwoutIdeal.nD Cert.DwoutIdeal.τ).loc Cert.DwoutIdeal.main_arg2))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1)
      ∧ r.2.mem ((c.tc : Thread Cert.DwoutRefIdeal.nD Cert.DwoutRefIdeal.τ).loc Cert.DwoutRefIdeal.main_arg2) = m ((c.tc : Thread Cert.DwoutRefIdeal.nD Cert.DwoutRefIdeal.τ).loc Cert.DwoutRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_AttnBwd_AttnBwdIdeal : Prop :=
  IdealRules.named_const.Statement Cert.AttnBwdIdeal.κ "mask" .f32 0xF149F2CA#32 ⊥

def algebraic_AttnBwdIdeal_AttnRefIdeal_pre_attn_finite [hAttnBwdIdeal : Cert.AttnBwdIdeal.Facts] [hAttnRefIdeal : Cert.AttnRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_attn_finite m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v45_0)) (v1 : (c : Dev Cert.AttnBwdIdeal.nD) → Buf (Elt Ideal) ((c.tc : Thread Cert.AttnBwdIdeal.nD Cert.AttnBwdIdeal.τ).loc Cert.AttnBwdIdeal.main_v45_1)) (v2 : (c : Dev Cert.AttnBwdIdeal.nD) → Buf (Elt Ideal) ((c.tc : Thread Cert.AttnBwdIdeal.nD Cert.AttnBwdIdeal.τ).loc Cert.AttnBwdIdeal.main_v45_2)) (v3 : (c : Dev Cert.AttnBwdIdeal.nD) → Buf (Elt Ideal) ((c.tc : Thread Cert.AttnBwdIdeal.nD Cert.AttnBwdIdeal.τ).loc Cert.AttnBwdIdeal.main_v45_3)) (v4 : (c : Dev Cert.AttnBwdIdeal.nD) → Buf (Elt Ideal) ((c.tc : Thread Cert.AttnBwdIdeal.nD Cert.AttnBwdIdeal.τ).loc Cert.AttnBwdIdeal.main_v45_4)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v45_0) = v0 c
          ∧ r.2.mem ((c.tc : Thread Cert.AttnBwdIdeal.nD Cert.AttnBwdIdeal.τ).loc Cert.AttnBwdIdeal.main_v45_1) = v1 c
          ∧ r.2.mem ((c.tc : Thread Cert.AttnBwdIdeal.nD Cert.AttnBwdIdeal.τ).loc Cert.AttnBwdIdeal.main_v45_2) = v2 c
          ∧ r.2.mem ((c.tc : Thread Cert.AttnBwdIdeal.nD Cert.AttnBwdIdeal.τ).loc Cert.AttnBwdIdeal.main_v45_3) = v3 c
          ∧ r.2.mem ((c.tc : Thread Cert.AttnBwdIdeal.nD Cert.AttnBwdIdeal.τ).loc Cert.AttnBwdIdeal.main_v45_4) = v4 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v90) = v0 c
          ∧ r.2.mem ((c.tc : Thread Cert.AttnRefIdeal.nD Cert.AttnRefIdeal.τ).loc Cert.AttnRefIdeal.main_v91) = v1 c
          ∧ r.2.mem ((c.tc : Thread Cert.AttnRefIdeal.nD Cert.AttnRefIdeal.τ).loc Cert.AttnRefIdeal.main_v92) = v2 c
          ∧ r.2.mem ((c.tc : Thread Cert.AttnRefIdeal.nD Cert.AttnRefIdeal.τ).loc Cert.AttnRefIdeal.main_v88) = v3 c
          ∧ r.2.mem ((c.tc : Thread Cert.AttnRefIdeal.nD Cert.AttnRefIdeal.τ).loc Cert.AttnRefIdeal.main_v89) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v4) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)
      ∧ m' ((c.tc : Thread Cert.DwinRefIdeal.nD Cert.DwinRefIdeal.τ).loc Cert.DwinRefIdeal.main_arg2) = m ((c.tc : Thread Cert.DwinIdeal.nD Cert.DwinIdeal.τ).loc Cert.DwinIdeal.main_arg2)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
          ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v17) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1)
          ∧ r.2.mem ((c.tc : Thread Cert.DwinRefIdeal.nD Cert.DwinRefIdeal.τ).loc Cert.DwinRefIdeal.main_arg2) = m' ((c.tc : Thread Cert.DwinRefIdeal.nD Cert.DwinRefIdeal.τ).loc Cert.DwinRefIdeal.main_arg2))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)
      ∧ m' ((c.tc : Thread Cert.DwoutRefIdeal.nD Cert.DwoutRefIdeal.τ).loc Cert.DwoutRefIdeal.main_arg2) = m ((c.tc : Thread Cert.DwoutIdeal.nD Cert.DwoutIdeal.τ).loc Cert.DwoutIdeal.main_arg2)) →
    ∃ (v0 : (c : Dev Cert.DwoutIdeal.nD) → Buf (Elt Ideal) ((c.tc : Thread Cert.DwoutIdeal.nD Cert.DwoutIdeal.τ).loc Cert.DwoutIdeal.main_v0)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v0) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1)
          ∧ r.2.mem ((c.tc : Thread Cert.DwoutIdeal.nD Cert.DwoutIdeal.τ).loc Cert.DwoutIdeal.main_arg2) = m ((c.tc : Thread Cert.DwoutIdeal.nD Cert.DwoutIdeal.τ).loc Cert.DwoutIdeal.main_arg2))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v10) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1)
          ∧ r.2.mem ((c.tc : Thread Cert.DwoutRefIdeal.nD Cert.DwoutRefIdeal.τ).loc Cert.DwoutRefIdeal.main_arg2) = m' ((c.tc : Thread Cert.DwoutRefIdeal.nD Cert.DwoutRefIdeal.τ).loc Cert.DwoutRefIdeal.main_arg2))

def Claim : Prop :=
  ∃ (hKernel : Cert.Kernel.Facts) (hKernelIdeal : Cert.KernelIdeal.Facts) (hReferenceIdeal : Cert.ReferenceIdeal.Facts) (hAttnBwd : Cert.AttnBwd.Facts) (hAttnBwdIdeal : Cert.AttnBwdIdeal.Facts) (hAttnRefIdeal : Cert.AttnRefIdeal.Facts) (hUp : Cert.Up.Facts) (hUpIdeal : Cert.UpIdeal.Facts) (hUpRefIdeal : Cert.UpRefIdeal.Facts) (hDact : Cert.Dact.Facts) (hDactIdeal : Cert.DactIdeal.Facts) (hDactRefIdeal : Cert.DactRefIdeal.Facts) (hDwin : Cert.Dwin.Facts) (hDwinIdeal : Cert.DwinIdeal.Facts) (hDwinRefIdeal : Cert.DwinRefIdeal.Facts) (hDwout : Cert.Dwout.Facts) (hDwoutIdeal : Cert.DwoutIdeal.Facts) (hDwoutRefIdeal : Cert.DwoutRefIdeal.Facts) (hPre_finite : Cert.Pre_finite.Facts) (hPre_attn_finite : Cert.Pre_attn_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Up (hUp := hUp)
    ∧ quiescent_UpIdeal (hUpIdeal := hUpIdeal)
    ∧ quiescent_UpRefIdeal (hUpRefIdeal := hUpRefIdeal)
    ∧ quiescent_Dact (hDact := hDact)
    ∧ quiescent_DactIdeal (hDactIdeal := hDactIdeal)
    ∧ quiescent_DactRefIdeal (hDactRefIdeal := hDactRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_AttnBwd_AttnBwdIdeal
    ∧ algebraic_AttnBwdIdeal_AttnRefIdeal_pre_attn_finite (hAttnBwdIdeal := hAttnBwdIdeal) (hAttnRefIdeal := hAttnRefIdeal) (hPre_attn_finite := hPre_attn_finite)
    ∧ preserves_Up_UpIdeal
    ∧ algebraic_UpIdeal_UpRefIdeal (hUpIdeal := hUpIdeal) (hUpRefIdeal := hUpRefIdeal)
    ∧ preserves_Dact_DactIdeal
    ∧ algebraic_DactIdeal_DactRefIdeal (hDactIdeal := hDactIdeal) (hDactRefIdeal := hDactRefIdeal)
    ∧ preserves_Dwin_DwinIdeal
    ∧ algebraic_DwinIdeal_DwinRefIdeal (hDwinIdeal := hDwinIdeal) (hDwinRefIdeal := hDwinRefIdeal)
    ∧ preserves_Dwout_DwoutIdeal
    ∧ algebraic_DwoutIdeal_DwoutRefIdeal (hDwoutIdeal := hDwoutIdeal) (hDwoutRefIdeal := hDwoutRefIdeal)
-- ==== Pre_attn_finite.lean ====
abbrev S8448x1024 : Shape := ⟨2, ![8448, 1024]⟩
abbrev S8448x2048 : Shape := ⟨2, ![8448, 2048]⟩
abbrev S16x8448 : Shape := ⟨2, ![16, 8448]⟩
abbrev S_ : Shape := ⟨0, ![]⟩

class Facts : Prop where
  bitsLt_bf16_f32 : FTy.bits .bf16 < FTy.bits .f32
  bcast_S_S8448x1024 : S_.BroadcastsInDim S8448x1024 (![] : Fin 0 → Fin S8448x1024.rank)
  bcast_S_S8448x2048 : S_.BroadcastsInDim S8448x2048 (![] : Fin 0 → Fin S8448x2048.rank)
  bcast_S_S16x8448 : S_.BroadcastsInDim S16x8448 (![] : Fin 0 → Fin S16x8448.rank)

variable [Facts]

def fn {F : FTy → Type} [FloatOps F] (main_arg0 : FVec F S8448x1024 .bf16) (main_arg1 : FVec F S8448x1024 .bf16) (main_arg2 : FVec F S8448x2048 .bf16) (main_arg3 : FVec F S16x8448 .f32) : IVec S8448x1024 1 × IVec S8448x1024 1 × IVec S8448x2048 1 × IVec S16x8448 1 :=
  let main_v0 : FVec F S8448x1024 .f32 := (extf .f32 · bitsLt_bf16_f32) main_arg0
  let main_v1 : FVec F S8448x1024 .f32 := Host.absf main_v0
  let main_cst : FVec F S_ .f32 := constant S_ .f32 0x7F800000#32
  let main_v2 : FVec F S8448x1024 .f32 := broadcastInDim S8448x1024 ![] bcast_S_S8448x1024 main_cst
  let main_v3 : IVec S8448x1024 1 := cmpf .olt main_v1 main_v2
  let main_v4 : FVec F S8448x1024 .f32 := (extf .f32 · bitsLt_bf16_f32) main_arg1
  let main_v5 : FVec F S8448x1024 .f32 := Host.absf main_v4
  let main_cst_0 : FVec F S_ .f32 := constant S_ .f32 0x7F800000#32
  let main_v6 : FVec F S8448x1024 .f32 := broadcastInDim S8448x1024 ![] bcast_S_S8448x1024 main_cst_0
  let main_v7 : IVec S8448x1024 1 := cmpf .olt main_v5 main_v6
  let main_v8 : FVec F S8448x2048 .f32 := (extf .f32 · bitsLt_bf16_f32) main_arg2
  let main_v9 : FVec F S8448x2048 .f32 := Host.absf main_v8
  let main_cst_1 : FVec F S_ .f32 := constant S_ .f32 0x7F800000#32
  let main_v10 : FVec F S8448x2048 .f32 := broadcastInDim S8448x2048 ![] bcast_S_S8448x2048 main_cst_1
  let main_v11 : IVec S8448x2048 1 := cmpf .olt main_v9 main_v10
  let main_v12 : FVec F S16x8448 .f32 := Host.absf main_arg3
  let main_cst_2 : FVec F S_ .f32 := constant S_ .f32 0x7F800000#32
  let main_v13 : FVec F S16x8448 .f32 := broadcastInDim S16x8448 ![] bcast_S_S16x8448 main_cst_2
  let main_v14 : IVec S16x8448 1 := cmpf .olt main_v12 main_v13
  (main_v3, main_v7, main_v11, main_v14)
-- ==== Pre_finite.lean ====
abbrev S2x8448x2816 : Shape := ⟨3, ![2, 8448, 2816]⟩
abbrev S1024x5632 : Shape := ⟨2, ![1024, 5632]⟩
abbrev S8448x1024 : Shape := ⟨2, ![8448, 1024]⟩
abbrev S1x1024 : Shape := ⟨2, ![1, 1024]⟩
abbrev S_ : Shape := ⟨0, ![]⟩

class Facts : Prop where
  bitsLt_bf16_f32 : FTy.bits .bf16 < FTy.bits .f32
  bcast_S_S2x8448x2816 : S_.BroadcastsInDim S2x8448x2816 (![] : Fin 0 → Fin S2x8448x2816.rank)
  bcast_S_S1024x5632 : S_.BroadcastsInDim S1024x5632 (![] : Fin 0 → Fin S1024x5632.rank)
  bcast_S_S8448x1024 : S_.BroadcastsInDim S8448x1024 (![] : Fin 0 → Fin S8448x1024.rank)
  bcast_S_S1x1024 : S_.BroadcastsInDim S1x1024 (![] : Fin 0 → Fin S1x1024.rank)

variable [Facts]

def fn {F : FTy → Type} [FloatOps F] (main_arg0 : FVec F S2x8448x2816 .bf16) (main_arg1 : FVec F S1024x5632 .bf16) (main_arg2 : FVec F S8448x1024 .f32) (main_arg3 : FVec F S8448x1024 .f32) (main_arg4 : FVec F S1x1024 .f32) : IVec S2x8448x2816 1 × IVec S1024x5632 1 × IVec S8448x1024 1 × IVec S8448x1024 1 × IVec S1x1024 1 :=
  let main_v0 : FVec F S2x8448x2816 .f32 := (extf .f32 · bitsLt_bf16_f32) main_arg0
  let main_v1 : FVec F S2x8448x2816 .f32 := Host.absf main_v0
  let main_cst : FVec F S_ .f32 := constant S_ .f32 0x7F800000#32
  let main_v2 : FVec F S2x8448x2816 .f32 := broadcastInDim S2x8448x2816 ![] bcast_S_S2x8448x2816 main_cst
  let main_v3 : IVec S2x8448x2816 1 := cmpf .olt main_v1 main_v2
  let main_v4 : FVec F S1024x5632 .f32 := (extf .f32 · bitsLt_bf16_f32) main_arg1
  let main_v5 : FVec F S1024x5632 .f32 := Host.absf main_v4
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_v8 : FVec F S8448x1024 .f32 := Host.absf main_arg2
  let main_cst_1 : FVec F S_ .f32 := constant S_ .f32 0x7F800000#32
  let main_v9 : FVec F S8448x1024 .f32 := broadcastInDim S8448x1024 ![] bcast_S_S8448x1024 main_cst_1
  let main_v10 : IVec S8448x1024 1 := cmpf .olt main_v8 main_v9
  let main_v11 : FVec F S8448x1024 .f32 := Host.absf main_arg3
  let main_cst_2 : FVec F S_ .f32 := constant S_ .f32 0x7F800000#32
  let main_v12 : FVec F S8448x1024 .f32 := broadcastInDim S8448x1024 ![] bcast_S_S8448x1024 main_cst_2
  let main_v13 : IVec S8448x1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  (main_v3, main_v7, main_v10, main_v13, main_v16)
-- ==== Kernel.lean ====
abbrev S2x8448x2816 : Shape := ⟨3, ![2, 8448, 2816]⟩
abbrev S1024x5632 : Shape := ⟨2, ![1024, 5632]⟩
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S1x768x1408 : Shape := ⟨3, ![1, 768, 1408]⟩
abbrev S1024x1408 : Shape := ⟨2, ![1024, 1408]⟩
abbrev S768x1024 : Shape := ⟨2, ![768, 1024]⟩
abbrev S768x1 : Shape := ⟨2, ![768, 1]⟩
abbrev S768x1408 : Shape := ⟨2, ![768, 1408]⟩
abbrev S768 : Shape := ⟨1, ![768]⟩
abbrev S1024 : Shape := ⟨1, ![1024]⟩

abbrev nBuf : Space → Nat
  | .hbm => 30
  | .vmem => 18
  | .smem => 0
  | _ => 0

abbrev bufTy : (tb : Table) → Fin (tcTables nBuf tb) → BufTy
  | .hbm, ⟨0, _⟩ => ⟨S2x8448x2816, .bf16⟩
  | .hbm, ⟨1, _⟩ => ⟨S1024x5632, .bf16⟩
  | .hbm, ⟨2, _⟩ => ⟨S8448x1024, .f32⟩
  | .hbm, ⟨3, _⟩ => ⟨S8448x1024, .f32⟩
  | .hbm, ⟨4, _⟩ => ⟨S1x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S_, .f32⟩
  | .hbm, ⟨21, _⟩ => ⟨S8448x1, .f32⟩
  | .hbm, ⟨22, _⟩ => ⟨S8448x1, .f32⟩
  | .hbm, ⟨23, _⟩ => ⟨S8448x1, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S8448x1024, .bf16⟩
  | .hbm, ⟨28, _⟩ => ⟨S1x1024, .f32⟩
  | .hbm, ⟨29, _⟩ => ⟨S1x1024, .f32⟩
  | .local _ .vmem, ⟨0, _⟩ => ⟨S1x768x1408, .bf16⟩
  | .local _ .vmem, ⟨1, _⟩ => ⟨S1x768x1408, .bf16⟩
  | .local _ .vmem, ⟨2, _⟩ => ⟨S1024x1408, .bf16⟩
  | .local _ .vmem, ⟨3, _⟩ => ⟨S1024x1408, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S768x1, .f32⟩
  | .local _ .vmem, ⟨9, _⟩ => ⟨S768x1, .f32⟩
  | .local _ .vmem, ⟨10, _⟩ => ⟨S1x1024, .f32⟩
  | .local _ .vmem, ⟨11, _⟩ => ⟨S768x1024, .f32⟩
  | .local _ .vmem, ⟨12, _⟩ => ⟨S768x1024, .f32⟩
  | .local _ .vmem, ⟨13, _⟩ => ⟨S768x1024, .bf16⟩
  | .local _ .vmem, ⟨14, _⟩ => ⟨S768x1024, .bf16⟩
  | .local _ .vmem, ⟨15, _⟩ => ⟨S1x1024, .f32⟩
  | .local _ .vmem, ⟨16, _⟩ => ⟨S1x1024, .f32⟩
  | .local _ .vmem, ⟨17, _⟩ => ⟨S768x1024, .f32⟩
  | _, _ => ⟨S2x8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨2, ![11, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_27 : BitVec 32 := 0#32
  let v44 : BitVec 1 := Scalar.cmpi .eq arg0 c0_i32_27
  let v45 : BitVec 32 := Scalar.extui v44
  let c0_i32_28 : BitVec 32 := 0#32
  let v46 : BitVec 1 := Scalar.cmpi .ne v45 c0_i32_28
  v46

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S768x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceIdeal.lean ====
abbrev S2x8448x2816 : Shape := ⟨3, ![2, 8448, 2816]⟩
abbrev S1024x5632 : Shape := ⟨2, ![1024, 5632]⟩
abbrev S8448x1024 : Shape := ⟨2, ![8448, 1024]⟩
abbrev S1x1024 : Shape := ⟨2, ![1, 1024]⟩
abbrev S1x8448x2816 : Shape := ⟨3, ![1, 8448, 2816]⟩
abbrev S8448x2816 : Shape := ⟨2, ![8448, 2816]⟩
abbrev S8448x5632 : Shape := ⟨2, ![8448, 5632]⟩
abbrev S_ : Shape := ⟨0, ![]⟩
abbrev S8448 : Shape := ⟨1, ![8448]⟩
abbrev S8448x1 : Shape := ⟨2, ![8448, 1]⟩
abbrev S1024 : Shape := ⟨1, ![1024]⟩

abbrev nBuf : Space → Nat
  | .hbm => 90
  | .vmem => 0
  | .smem => 0
  | _ => 0

abbrev bufTy : (tb : Table) → Fin (tcTables nBuf tb) → BufTy
  | .hbm, ⟨0, _⟩ => ⟨S2x8448x2816, .bf16⟩
  | .hbm, ⟨1, _⟩ => ⟨S1024x5632, .bf16⟩
  | .hbm, ⟨2, _⟩ => ⟨S8448x1024, .f32⟩
  | .hbm, ⟨3, _⟩ => ⟨S8448x1024, .f32⟩
  | .hbm, ⟨4, _⟩ => ⟨S1x1024, .f32⟩
  | .hbm, ⟨5, _⟩ => ⟨S1x8448x2816, .bf16⟩
  | .hbm, ⟨6, _⟩ => ⟨S8448x2816, .bf16⟩
  | .hbm, ⟨7, _⟩ => ⟨S1x8448x2816, .bf16⟩
  | .hbm, ⟨8, _⟩ => ⟨S8448x2816, .bf16⟩
  | .hbm, ⟨9, _⟩ => ⟨S8448x5632, .bf16⟩
  | .hbm, ⟨10, _⟩ => ⟨S8448x5632, .f32⟩
  | .hbm, ⟨11, _⟩ => ⟨S_, .f32⟩
  | .hbm, ⟨12, _⟩ => ⟨S1x1024, .f32⟩
  | .hbm, ⟨13, _⟩ => ⟨S_, .f32⟩
  | .hbm, ⟨14, _⟩ => ⟨S8448, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S_, .f32⟩
  | .hbm, ⟨23, _⟩ => ⟨S8448, .f32⟩
  | .hbm, ⟨24, _⟩ => ⟨S8448x1, .f32⟩
  | .hbm, ⟨25, _⟩ => ⟨S_, .f32⟩
  | .hbm, ⟨26, _⟩ => ⟨S8448x1, .f32⟩
  | .hbm, ⟨27, _⟩ => ⟨S8448x1, .f32⟩
  | .hbm, ⟨28, _⟩ => ⟨S_, .f32⟩
  | .hbm, ⟨29, _⟩ => ⟨S8448x1, .f32⟩
  | .hbm, ⟨30, _⟩ => ⟨S8448x1, .f32⟩
  | .hbm, ⟨31, _⟩ => ⟨S8448x1, .f32⟩
  | .hbm, ⟨32, _⟩ => ⟨S8448x1, .f32⟩
  | .hbm, ⟨33, _⟩ => ⟨S_, .f32⟩
  | .hbm, ⟨34, _⟩ => ⟨S8448x1, .f32⟩
  | .hbm, ⟨35, _⟩ => ⟨S8448x1, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S_, .f32⟩
  | .hbm, ⟨43, _⟩ => ⟨S8448x1024, .f32⟩
  | .hbm, ⟨44, _⟩ => ⟨S8448x1024, .f32⟩
  | .hbm, ⟨45, _⟩ => ⟨S1024x5632, .f32⟩
  | .hbm, ⟨46, _⟩ => ⟨S8448x5632, .f32⟩
  | .hbm, ⟨47, _⟩ => ⟨S8448x1024, .f32⟩
  | .hbm, ⟨48, _⟩ => ⟨S_, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8448x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8448x1024, .f32⟩
  | .hbm, ⟨60, _⟩ => ⟨S8448x1024, .f32⟩
  | .hbm, ⟨61, _⟩ => ⟨S8448x1024, .f32⟩
  | .hbm, ⟨62, _⟩ => ⟨S_, .f32⟩
  | .hbm, ⟨63, _⟩ => ⟨S8448, .f32⟩
  | .hbm, ⟨64, _⟩ => ⟨S8448x1, .f32⟩
  | .hbm, ⟨65, _⟩ => ⟨S8448x1024, .f32⟩
  | .hbm, ⟨66, _⟩ => ⟨S8448x1024, .f32⟩
  | .hbm, ⟨67, _⟩ => ⟨S8448x1, .f32⟩
  | .hbm, ⟨68, _⟩ => ⟨S_, .f32⟩
  | .hbm, ⟨69, _⟩ => ⟨S8448x1, .f32⟩
  | .hbm, ⟨70, _⟩ => ⟨S8448x1, .f32⟩
  | .hbm, ⟨71, _⟩ => ⟨S_, .f32⟩
  | .hbm, ⟨72, _⟩ => ⟨S8448, .f32⟩
  | .hbm, ⟨73, _⟩ => ⟨S8448x1024, .f32⟩
  | .hbm, ⟨74, _⟩ => ⟨S8448x1024, .f32⟩
  | .hbm, ⟨75, _⟩ => ⟨S8448x1024, .f32⟩
  | .hbm, ⟨76, _⟩ => ⟨S8448x1024, .f32⟩
  | .hbm, ⟨77, _⟩ => ⟨S8448x1024, .f32⟩
  | .hbm, ⟨78, _⟩ => ⟨S8448x1024, .f32⟩
  | .hbm, ⟨79, _⟩ => ⟨S_, .f32⟩
  | .hbm, ⟨80, _⟩ => ⟨S8448, .f32⟩
  | .hbm, ⟨81, _⟩ => ⟨S8448x1, .f32⟩
  | .hbm, ⟨82, _⟩ => ⟨S_, .f32⟩
  | .hbm, ⟨83, _⟩ => ⟨S8448x1, .f32⟩
  | .hbm, ⟨84, _⟩ => ⟨S8448x1, .f32⟩
  | .hbm, ⟨85, _⟩ => ⟨S_, .f32⟩
  | .hbm, ⟨86, _⟩ => ⟨S8448, .f32⟩
  | .hbm, ⟨87, _⟩ => ⟨S8448x1024, .f32⟩
  | .hbm, ⟨88, _⟩ => ⟨S8448x1024, .f32⟩
  | .hbm, ⟨89, _⟩ => ⟨S8448x1024, .bf16⟩
  | _, _ => ⟨S2x8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_13 : Ref sig .tc := ⟨.hbm, 79, rfl⟩
abbrev main_v60 : Ref sig .tc := ⟨.hbm, 80, rfl⟩
abbrev main_v61 : Ref sig .tc := ⟨.hbm, 81, rfl⟩
abbrev main_cst_14 : Ref sig .tc := ⟨.hbm, 82, rfl⟩
abbrev main_v62 : Ref sig .tc := ⟨.hbm, 83, rfl⟩
abbrev main_v63 : Ref sig .tc := ⟨.hbm, 84, rfl⟩
abbrev main_cst_15 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]
-- ==== AttnBwd.lean ====
abbrev S8448x1024 : Shape := ⟨2, ![8448, 1024]⟩
abbrev S8448x2048 : Shape := ⟨2, ![8448, 2048]⟩
abbrev S16x8448 : Shape := ⟨2, ![16, 8448]⟩
abbrev S8448x16x64 : Shape := ⟨3, ![8448, 16, 64]⟩
abbrev S16x8448x64 : Shape := ⟨3, ![16, 8448, 64]⟩
abbrev S16x8448x8448 : Shape := ⟨3, ![16, 8448, 8448]⟩
abbrev S16x8448x1 : Shape := ⟨3, ![16, 8448, 1]⟩
abbrev S16x1x8448 : Shape := ⟨3, ![16, 1, 8448]⟩
abbrev S8448 : Shape := ⟨1, ![8448]⟩
abbrev S1x8448 : Shape := ⟨2, ![1, 8448]⟩
abbrev S8448x1 : Shape := ⟨2, ![8448, 1]⟩
abbrev S8448x8448 : Shape := ⟨2, ![8448, 8448]⟩
abbrev S_ : Shape := ⟨0, ![]⟩
abbrev S16x11x1x768 : Shape := ⟨4, ![16, 11, 1, 768]⟩
abbrev S8448x128 : Shape := ⟨2, ![8448, 128]⟩
abbrev S768x128 : Shape := ⟨2, ![768, 128]⟩
abbrev S2x11x1x768 : Shape := ⟨4, ![2, 11, 1, 768]⟩
abbrev S2x1x1x768 : Shape := ⟨4, ![2, 1, 1, 768]⟩
abbrev S11x128x768 : Shape := ⟨3, ![11, 128, 768]⟩
abbrev S128x768 : Shape := ⟨2, ![128, 768]⟩
abbrev S768x1 : Shape := ⟨2, ![768, 1]⟩
abbrev S768x768 : Shape := ⟨2, ![768, 768]⟩
abbrev S1x1x1x768 : Shape := ⟨4, ![1, 1, 1, 768]⟩
abbrev S1x768 : Shape := ⟨2, ![1, 768]⟩
abbrev S8x768 : Shape := ⟨2, ![8, 768]⟩
abbrev S32x768 : Shape := ⟨2, ![32, 768]⟩
abbrev S32x128 : Shape := ⟨2, ![32, 128]⟩
abbrev S32x1 : Shape := ⟨2, ![32, 1]⟩
abbrev S32 : Shape := ⟨1, ![32]⟩
abbrev S768 : Shape := ⟨1, ![768]⟩
abbrev S1x128x768 : Shape := ⟨3, ![1, 128, 768]⟩

abbrev nBuf : Space → Nat
  | .hbm => 61
  | .vmem => 42
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x2048, .bf16⟩
  | .hbm, ⟨3, _⟩ => ⟨S16x8448, .f32⟩
  | .hbm, ⟨4, _⟩ => ⟨S8448x1024, .f32⟩
  | .hbm, ⟨5, _⟩ => ⟨S8448x1024, .bf16⟩
  | .hbm, ⟨6, _⟩ => ⟨S8448x1024, .f32⟩
  | .hbm, ⟨7, _⟩ => ⟨S8448x1024, .bf16⟩
  | .hbm, ⟨8, _⟩ => ⟨S8448x1024, .f32⟩
  | .hbm, ⟨9, _⟩ => ⟨S8448x16x64, .f32⟩
  | .hbm, ⟨10, _⟩ => ⟨S16x8448x64, .f32⟩
  | .hbm, ⟨11, _⟩ => ⟨S8448x16x64, .f32⟩
  | .hbm, ⟨12, _⟩ => ⟨S16x8448x64, .f32⟩
  | .hbm, ⟨13, _⟩ => ⟨S16x8448x8448, .f32⟩
  | .hbm, ⟨14, _⟩ => ⟨S16x8448x1, .f32⟩
  | .hbm, ⟨15, _⟩ => ⟨S16x8448x8448, .f32⟩
  | .hbm, ⟨16, _⟩ => ⟨S16x8448x8448, .f32⟩
  | .hbm, ⟨17, _⟩ => ⟨S16x1x8448, .f32⟩
  | .hbm, ⟨18, _⟩ => ⟨S16x8448x8448, .f32⟩
  | .hbm, ⟨19, _⟩ => ⟨S16x8448x8448, .f32⟩
  | .hbm, ⟨20, _⟩ => ⟨S8448, .i32⟩
  | .hbm, ⟨21, _⟩ => ⟨S1x8448, .i32⟩
  | .hbm, ⟨22, _⟩ => ⟨S8448x1, .i32⟩
  | .hbm, ⟨23, _⟩ => ⟨S8448x8448, .i32⟩
  | .hbm, ⟨24, _⟩ => ⟨S8448x8448, .i32⟩
  | .hbm, ⟨25, _⟩ => ⟨S8448x8448, .i1⟩
  | .hbm, ⟨26, _⟩ => ⟨S_, .f32⟩
  | .hbm, ⟨27, _⟩ => ⟨S_, .f32⟩
  | .hbm, ⟨28, _⟩ => ⟨S16x8448x8448, .i1⟩
  | .hbm, ⟨29, _⟩ => ⟨S16x8448x8448, .f32⟩
  | .hbm, ⟨30, _⟩ => ⟨S16x8448x8448, .f32⟩
  | .hbm, ⟨31, _⟩ => ⟨S_, .f32⟩
  | .hbm, ⟨32, _⟩ => ⟨S16x8448, .f32⟩
  | .hbm, ⟨33, _⟩ => ⟨S16x8448x1, .f32⟩
  | .hbm, ⟨34, _⟩ => ⟨S16x8448x8448, .f32⟩
  | .hbm, ⟨35, _⟩ => ⟨S16x8448x8448, .f32⟩
  | .hbm, ⟨36, _⟩ => ⟨S16x8448x8448, .f32⟩
  | .hbm, ⟨37, _⟩ => ⟨S_, .f32⟩
  | .hbm, ⟨38, _⟩ => ⟨S16x8448, .f32⟩
  | .hbm, ⟨39, _⟩ => ⟨S16x8448x1, .f32⟩
  | .hbm, ⟨40, _⟩ => ⟨S16x8448x1, .f32⟩
  | .hbm, ⟨41, _⟩ => ⟨S16x8448x1, .f32⟩
  | .hbm, ⟨42, _⟩ => ⟨S16x8448x8448, .f32⟩
  | .hbm, ⟨43, _⟩ => ⟨S16x8448x8448, .f32⟩
  | .hbm, ⟨44, _⟩ => ⟨S8448x16x64, .f32⟩
  | .hbm, ⟨45, _⟩ => ⟨S16x8448x64, .f32⟩
  | .hbm, ⟨46, _⟩ => ⟨S16x8448x64, .f32⟩
  | .hbm, ⟨47, _⟩ => ⟨S8448x1024, .f32⟩
  | .hbm, ⟨48, _⟩ => ⟨S8448x16x64, .f32⟩
  | .hbm, ⟨49, _⟩ => ⟨S16x8448x64, .f32⟩
  | .hbm, ⟨50, _⟩ => ⟨S16x8448x64, .f32⟩
  | .hbm, ⟨51, _⟩ => ⟨S_, .f32⟩
  | .hbm, ⟨52, _⟩ => ⟨S16x8448, .f32⟩
  | .hbm, ⟨53, _⟩ => ⟨S16x11x1x768, .f32⟩
  | .hbm, ⟨54, _⟩ => ⟨S16x11x1x768, .f32⟩
  | .hbm, ⟨55, _⟩ => ⟨S16x11x1x768, .f32⟩
  | .hbm, ⟨56, _⟩ => ⟨S8448x1024, .bf16⟩
  | .hbm, ⟨57, _⟩ => ⟨S8448x1024, .bf16⟩
  | .hbm, ⟨58, _⟩ => ⟨S8448x1024, .bf16⟩
  | .hbm, ⟨59, _⟩ => ⟨S16x11x1x768, .f32⟩
  | .hbm, ⟨60, _⟩ => ⟨S16x11x1x768, .f32⟩
  | .local _ .vmem, ⟨0, _⟩ => ⟨S8448x128, .bf16⟩
  | .local _ .vmem, ⟨1, _⟩ => ⟨S8448x128, .bf16⟩
  | .local _ .vmem, ⟨2, _⟩ => ⟨S8448x128, .bf16⟩
  | .local _ .vmem, ⟨3, _⟩ => ⟨S8448x128, .bf16⟩
  | .local _ .vmem, ⟨4, _⟩ => ⟨S768x128, .bf16⟩
  | .local _ .vmem, ⟨5, _⟩ => ⟨S768x128, .bf16⟩
  | .local _ .vmem, ⟨6, _⟩ => ⟨S768x128, .bf16⟩
  | .local _ .vmem, ⟨7, _⟩ => ⟨S768x128, .bf16⟩
  | .local _ .vmem, ⟨8, _⟩ => ⟨S2x11x1x768, .f32⟩
  | .local _ .vmem, ⟨9, _⟩ => ⟨S2x11x1x768, .f32⟩
  | .local _ .vmem, ⟨10, _⟩ => ⟨S2x11x1x768, .f32⟩
  | .local _ .vmem, ⟨11, _⟩ => ⟨S2x11x1x768, .f32⟩
  | .local _ .vmem, ⟨12, _⟩ => ⟨S2x11x1x768, .f32⟩
  | .local _ .vmem, ⟨13, _⟩ => ⟨S2x11x1x768, .f32⟩
  | .local _ .vmem, ⟨14, _⟩ => ⟨S8448x128, .bf16⟩
  | .local _ .vmem, ⟨15, _⟩ => ⟨S8448x128, .bf16⟩
  | .local _ .vmem, ⟨16, _⟩ => ⟨S768x128, .bf16⟩
  | .local _ .vmem, ⟨17, _⟩ => ⟨S768x128, .bf16⟩
  | .local _ .vmem, ⟨18, _⟩ => ⟨S768x128, .bf16⟩
  | .local _ .vmem, ⟨19, _⟩ => ⟨S768x128, .bf16⟩
  | .local _ .vmem, ⟨20, _⟩ => ⟨S2x1x1x768, .f32⟩
  | .local _ .vmem, ⟨21, _⟩ => ⟨S2x1x1x768, .f32⟩
  | .local _ .vmem, ⟨22, _⟩ => ⟨S2x11x1x768, .f32⟩
  | .local _ .vmem, ⟨23, _⟩ => ⟨S2x11x1x768, .f32⟩
  | .local _ .vmem, ⟨24, _⟩ => ⟨S11x128x768, .f32⟩
  | .local _ .vmem, ⟨25, _⟩ => ⟨S128x768, .bf16⟩
  | .local _ .vmem, ⟨26, _⟩ => ⟨S768x128, .f32⟩
  | .local _ .vmem, ⟨27, _⟩ => ⟨S768x128, .f32⟩
  | .local _ .vmem, ⟨28, _⟩ => ⟨S768x1, .f32⟩
  | .local _ .vmem, ⟨29, _⟩ => ⟨S768x768, .f32⟩
  | .local _ .vmem, ⟨30, _⟩ => ⟨S768x768, .f32⟩
  | .local _ .vmem, ⟨31, _⟩ => ⟨S768x768, .bf16⟩
  | .local _ .vmem, ⟨32, _⟩ => ⟨S768x768, .bf16⟩
  | .local _ .vmem, ⟨33, _⟩ => ⟨S768x128, .f32⟩
  | .local _ .vmem, ⟨34, _⟩ => ⟨S768x128, .f32⟩
  | .local _ .vmem, ⟨35, _⟩ => ⟨S768x128, .f32⟩
  | .local _ .vmem, ⟨36, _⟩ => ⟨S768x1, .f32⟩
  | .local _ .vmem, ⟨37, _⟩ => ⟨S768x768, .f32⟩
  | .local _ .vmem, ⟨38, _⟩ => ⟨S768x768, .f32⟩
  | .local _ .vmem, ⟨39, _⟩ => ⟨S768x768, .bf16⟩
  | .local _ .vmem, ⟨40, _⟩ => ⟨S768x768, .bf16⟩
  | .local _ .vmem, ⟨41, _⟩ => ⟨S768x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_2 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45_0 : Ref sig .tc := ⟨.hbm, 56, rfl⟩
abbrev main_v45_1 : Ref sig .tc := ⟨.hbm, 57, rfl⟩
abbrev main_v45_2 : Ref sig .tc := ⟨.hbm, 58, rfl⟩
abbrev main_v45_3 : Ref sig .tc := ⟨.hbm, 59, rfl⟩
abbrev main_v45_4 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_scratch10 : Ref sig .tc := ⟨.vmem, 34, rfl⟩
abbrev cc0_scratch11 : Ref sig .tc := ⟨.vmem, 35, rfl⟩
abbrev cc0_scratch12 : Ref sig .tc := ⟨.vmem, 36, rfl⟩
abbrev cc0_scratch13 : Ref sig .tc := ⟨.vmem, 37, rfl⟩
abbrev cc0_scratch14 : Ref sig .tc := ⟨.vmem, 38, rfl⟩
abbrev cc0_scratch15 : Ref sig .tc := ⟨.vmem, 39, rfl⟩
abbrev cc0_scratch16 : Ref sig .tc := ⟨.vmem, 40, rfl⟩
abbrev cc0_scratch17 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 11], ![false, false]⟩

def k0_off1 (i : grid0.Coords) : Fin 4 → Nat :=
  let c0_15 : Index := 0#32
  let arg1 : BitVec 32 := BitVec.ofNat 32 (i 1).val
  let v29 : Index := Scalar.indexCast arg1
  let c0_16 : Index := 0#32
  let c0_17 : Index := 0#32
  ![0, v29.toNat, 0, 0]
def k0_off2 (i : grid0.Coords) : Fin 4 → Nat :=
  let c1 : Index := 1#32
  let arg1 : BitVec 32 := BitVec.ofNat 32 (i 1).val
  let v50 : Index := Scalar.indexCast arg1
  let c0_29 : Index := 0#32
  let c0_30 : Index := 0#32
  ![1, v50.toNat, 0, 0]
def k0_mult1 (i : grid0.Coords) : BitVec 32 :=
  let arg1 : BitVec 32 := BitVec.ofNat 32 (i 1).val
  let c768_i32 : BitVec 32 := 768#32
  let v59 : BitVec 32 := Scalar.muli arg1 c768_i32
  v59
def k0_off3 (i : grid0.Coords) : Fin 2 → Nat :=
  let arg1 : BitVec 32 := BitVec.ofNat 32 (i 1).val
  let c768_i32 : BitVec 32 := 768#32
  let v59 : BitVec 32 := Scalar.muli arg1 c768_i32
  let v60 : BitVec 32 := v59
  let v61 : Index := Scalar.indexCast v60
  let c0_33 : Index := 0#32
  ![v61.toNat, 0]
def k0_off4 (i : grid0.Coords) : Fin 3 → Nat :=
  let arg1 : BitVec 32 := BitVec.ofNat 32 (i 1).val
  let v2131 : Index := Scalar.indexCast arg1
  let c0_892 : Index := 0#32
  let c0_893 : Index := 0#32
  ![v2131.toNat, 0, 0]
@[reducible] def k0_t1_loop (i : grid0.Coords) : Scf.Loop 32 :=
  let arg1 : BitVec 32 := BitVec.ofNat 32 (i 1).val
  let c1_i32 : BitVec 32 := 1#32
  let v2140 : BitVec 32 := Scalar.addi arg1 c1_i32
  let c11_i32 : BitVec 32 := 11#32
  let v2141 : BitVec 32 := Scalar.subi c11_i32 v2140
  let c1_i32_897 : BitVec 32 := 1#32
  let v2143 : BitVec 32 := Scalar.divsi v2141 c1_i32_897
  let v2144 : BitVec 32 := Scalar.muli v2143 c1_i32_897
  let v2145 : BitVec 32 := Scalar.addi v2140 v2144
  let c1_i32_898 : BitVec 32 := 1#32
  ⟨v2140, v2145, c1_i32_898⟩
def k0_mult2 (i : grid0.Coords) (k0_t1 : Fin (k0_t1_loop i).trips) : BitVec 32 :=
  let arg1 : BitVec 32 := BitVec.ofNat 32 (i 1).val
  let c1_i32 : BitVec 32 := 1#32
  let v2140 : BitVec 32 := Scalar.addi arg1 c1_i32
  let c1_i32_898 : BitVec 32 := 1#32
  let arg32 : BitVec 32 := Scf.iv v2140 c1_i32_898 k0_t1
  let c768_i32_927 : BitVec 32 := 768#32
  let v2179 : BitVec 32 := Scalar.muli arg32 c768_i32_927
  v2179
def k0_off5 (i : grid0.Coords) (k0_t1 : Fin (k0_t1_loop i).trips) : Fin 2 → Nat :=
  let arg1 : BitVec 32 := BitVec.ofNat 32 (i 1).val
  let c1_i32 : BitVec 32 := 1#32
  let v2140 : BitVec 32 := Scalar.addi arg1 c1_i32
  let c1_i32_898 : BitVec 32 := 1#32
  let arg32 : BitVec 32 := Scf.iv v2140 c1_i32_898 k0_t1
  let c768_i32_927 : BitVec 32 := 768#32
  let v2179 : BitVec 32 := Scalar.muli arg32 c768_i32_927
  let v2180 : BitVec 32 := v2179
  let v2181 : Index := Scalar.indexCast v2180
  let c0_928 : Index := 0#32
  ![v2181.toNat, 0]
def k0_off6 (i : grid0.Coords) (k0_t1 : Fin (k0_t1_loop i).trips) : Fin 4 → Nat :=
  let c0_944 : Index := 0#32
  let arg1 : BitVec 32 := BitVec.ofNat 32 (i 1).val
  let c1_i32 : BitVec 32 := 1#32
  let v2140 : BitVec 32 := Scalar.addi arg1 c1_i32
  let c1_i32_898 : BitVec 32 := 1#32
  let arg32 : BitVec 32 := Scf.iv v2140 c1_i32_898 k0_t1
  let v2207 : Index := Scalar.indexCast arg32
  let c0_945 : Index := 0#32
  let c0_946 : Index := 0#32
  ![0, v2207.toNat, 0, 0]
def k0_off7 (i : grid0.Coords) (k0_t1 : Fin (k0_t1_loop i).trips) : Fin 4 → Nat :=
  let c1_1340 : Index := 1#32
  let arg1 : BitVec 32 := BitVec.ofNat 32 (i 1).val
  let c1_i32 : BitVec 32 := 1#32
  let v2140 : BitVec 32 := Scalar.addi arg1 c1_i32
  let c1_i32_898 : BitVec 32 := 1#32
  let arg32 : BitVec 32 := Scf.iv v2140 c1_i32_898 k0_t1
  let v3061 : Index := Scalar.indexCast arg32
  let c0_1341 : Index := 0#32
  let c0_1342 : Index := 0#32
  ![1, v3061.toNat, 0, 0]
def k0_off8 (i : grid0.Coords) (k0_t1 : Fin (k0_t1_loop i).trips) : Fin 3 → Nat :=
  let arg1 : BitVec 32 := BitVec.ofNat 32 (i 1).val
  let c1_i32 : BitVec 32 := 1#32
  let v2140 : BitVec 32 := Scalar.addi arg1 c1_i32
  let c1_i32_898 : BitVec 32 := 1#32
  let arg32 : BitVec 32 := Scf.iv v2140 c1_i32_898 k0_t1
  let v3915 : Index := Scalar.indexCast arg32
  let c0_1736 : Index := 0#32
  let c0_1737 : Index := 0#32
  ![v3915.toNat, 0, 0]
@[reducible] def k0_t2_loop (i : grid0.Coords) : Scf.Loop 32 :=
  let arg1 : BitVec 32 := BitVec.ofNat 32 (i 1).val
  let c1_i32 : BitVec 32 := 1#32
  let v2140 : BitVec 32 := Scalar.addi arg1 c1_i32
  let c11_i32 : BitVec 32 := 11#32
  let v2141 : BitVec 32 := Scalar.subi c11_i32 v2140
  let c1_i32_897 : BitVec 32 := 1#32
  let v2143 : BitVec 32 := Scalar.divsi v2141 c1_i32_897
  let v2144 : BitVec 32 := Scalar.muli v2143 c1_i32_897
  let v2145 : BitVec 32 := Scalar.addi v2140 v2144
  let v2142 : BitVec 32 := Scalar.addi v2140 v2141
  let c1_i32_899 : BitVec 32 := 1#32
  ⟨v2145, v2142, c1_i32_899⟩
def k0_mult3 (i : grid0.Coords) (k0_t2 : Fin (k0_t2_loop i).trips) : BitVec 32 :=
  let arg1 : BitVec 32 := BitVec.ofNat 32 (i 1).val
  let c1_i32 : BitVec 32 := 1#32
  let v2140 : BitVec 32 := Scalar.addi arg1 c1_i32
  let c11_i32 : BitVec 32 := 11#32
  let v2141 : BitVec 32 := Scalar.subi c11_i32 v2140
  let c1_i32_897 : BitVec 32 := 1#32
  let v2143 : BitVec 32 := Scalar.divsi v2141 c1_i32_897
  let v2144 : BitVec 32 := Scalar.muli v2143 c1_i32_897
  let v2145 : BitVec 32 := Scalar.addi v2140 v2144
  let c1_i32_899 : BitVec 32 := 1#32
  let arg32 : BitVec 32 := Scf.iv v2145 c1_i32_899 k0_t2
  let c768_i32_927 : BitVec 32 := 768#32
  let v2179 : BitVec 32 := Scalar.muli arg32 c768_i32_927
  v2179
def k0_off9 (i : grid0.Coords) (k0_t2 : Fin (k0_t2_loop i).trips) : Fin 2 → Nat :=
  let arg1 : BitVec 32 := BitVec.ofNat 32 (i 1).val
  let c1_i32 : BitVec 32 := 1#32
  let v2140 : BitVec 32 := Scalar.addi arg1 c1_i32
  let c11_i32 : BitVec 32 := 11#32
  let v2141 : BitVec 32 := Scalar.subi c11_i32 v2140
  let c1_i32_897 : BitVec 32 := 1#32
  let v2143 : BitVec 32 := Scalar.divsi v2141 c1_i32_897
  let v2144 : BitVec 32 := Scalar.muli v2143 c1_i32_897
  let v2145 : BitVec 32 := Scalar.addi v2140 v2144
  let c1_i32_899 : BitVec 32 := 1#32
  let arg32 : BitVec 32 := Scf.iv v2145 c1_i32_899 k0_t2
  let c768_i32_927 : BitVec 32 := 768#32
  let v2179 : BitVec 32 := Scalar.muli arg32 c768_i32_927
  let v2180 : BitVec 32 := v2179
  let v2181 : Index := Scalar.indexCast v2180
  let c0_928 : Index := 0#32
  ![v2181.toNat, 0]
def k0_off10 (i : grid0.Coords) (k0_t2 : Fin (k0_t2_loop i).trips) : Fin 4 → Nat :=
  let c0_944 : Index := 0#32
  let arg1 : BitVec 32 := BitVec.ofNat 32 (i 1).val
  let c1_i32 : BitVec 32 := 1#32
  let v2140 : BitVec 32 := Scalar.addi arg1 c1_i32
  let c11_i32 : BitVec 32 := 11#32
  let v2141 : BitVec 32 := Scalar.subi c11_i32 v2140
  let c1_i32_897 : BitVec 32 := 1#32
  let v2143 : BitVec 32 := Scalar.divsi v2141 c1_i32_897
  let v2144 : BitVec 32 := Scalar.muli v2143 c1_i32_897
  let v2145 : BitVec 32 := Scalar.addi v2140 v2144
  let c1_i32_899 : BitVec 32 := 1#32
  let arg32 : BitVec 32 := Scf.iv v2145 c1_i32_899 k0_t2
  let v2207 : Index := Scalar.indexCast arg32
  let c0_945 : Index := 0#32
  let c0_946 : Index := 0#32
  ![0, v2207.toNat, 0, 0]
def k0_off11 (i : grid0.Coords) (k0_t2 : Fin (k0_t2_loop i).trips) : Fin 4 → Nat :=
  let c1_1340 : Index := 1#32
  let arg1 : BitVec 32 := BitVec.ofNat 32 (i 1).val
  let c1_i32 : BitVec 32 := 1#32
  let v2140 : BitVec 32 := Scalar.addi arg1 c1_i32
  let c11_i32 : BitVec 32 := 11#32
  let v2141 : BitVec 32 := Scalar.subi c11_i32 v2140
  let c1_i32_897 : BitVec 32 := 1#32
  let v2143 : BitVec 32 := Scalar.divsi v2141 c1_i32_897
  let v2144 : BitVec 32 := Scalar.muli v2143 c1_i32_897
  let v2145 : BitVec 32 := Scalar.addi v2140 v2144
  let c1_i32_899 : BitVec 32 := 1#32
  let arg32 : BitVec 32 := Scf.iv v2145 c1_i32_899 k0_t2
  let v3061 : Index := Scalar.indexCast arg32
  let c0_1341 : Index := 0#32
  let c0_1342 : Index := 0#32
  ![1, v3061.toNat, 0, 0]
def k0_off12 (i : grid0.Coords) (k0_t2 : Fin (k0_t2_loop i).trips) : Fin 3 → Nat :=
  let arg1 : BitVec 32 := BitVec.ofNat 32 (i 1).val
  let c1_i32 : BitVec 32 := 1#32
  let v2140 : BitVec 32 := Scalar.addi arg1 c1_i32
  let c11_i32 : BitVec 32 := 11#32
  let v2141 : BitVec 32 := Scalar.subi c11_i32 v2140
  let c1_i32_897 : BitVec 32 := 1#32
  let v2143 : BitVec 32 := Scalar.divsi v2141 c1_i32_897
  let v2144 : BitVec 32 := Scalar.muli v2143 c1_i32_897
  let v2145 : BitVec 32 := Scalar.addi v2140 v2144
  let c1_i32_899 : BitVec 32 := 1#32
  let arg32 : BitVec 32 := Scf.iv v2145 c1_i32_899 k0_t2
  let v3915 : Index := Scalar.indexCast arg32
  let c0_1736 : Index := 0#32
  let c0_1737 : Index := 0#32
  ![v3915.toNat, 0, 0]
def k0_cond2 (i : grid0.Coords) : BitVec 1 :=
  let arg1 : BitVec 32 := BitVec.ofNat 32 (i 1).val
  let c10_i32 : BitVec 32 := 10#32
  let v2176 : BitVec 1 := Scalar.cmpi .eq arg1 c10_i32
  let v2177 : BitVec 32 := Scalar.extui v2176
  let c0_i32_926 : BitVec 32 := 0#32
  let v2178 : BitVec 1 := Scalar.cmpi .ne v2177 c0_i32_926
  v2178

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8448x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x11x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x11x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x11x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8448x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S768x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S768x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x1x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x11x1x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== AttnBwdIdeal.lean ====
variable {F : FTy → Type} [FloatOps F] [Named F]
def κ : String → Option EReal := fun
  | "mask" => some ⊥
  | _ => none
-- ==== AttnRefIdeal.lean ====
abbrev S8448x1024 : Shape := ⟨2, ![8448, 1024]⟩
abbrev S8448x2048 : Shape := ⟨2, ![8448, 2048]⟩
abbrev S16x8448 : Shape := ⟨2, ![16, 8448]⟩
abbrev S8448x16x64 : Shape := ⟨3, ![8448, 16, 64]⟩
abbrev S16x8448x64 : Shape := ⟨3, ![16, 8448, 64]⟩
abbrev S16x8448x8448 : Shape := ⟨3, ![16, 8448, 8448]⟩
abbrev S16x8448x1 : Shape := ⟨3, ![16, 8448, 1]⟩
abbrev S16x1x8448 : Shape := ⟨3, ![16, 1, 8448]⟩
abbrev S8448 : Shape := ⟨1, ![8448]⟩
abbrev S1x8448 : Shape := ⟨2, ![1, 8448]⟩
abbrev S8448x1 : Shape := ⟨2, ![8448, 1]⟩
abbrev S8448x8448 : Shape := ⟨2, ![8448, 8448]⟩
abbrev S_ : Shape := ⟨0, ![]⟩
abbrev S16x64x8448 : Shape := ⟨3, ![16, 64, 8448]⟩
abbrev S16x11x1x768 : Shape := ⟨4, ![16, 11, 1, 768]⟩

abbrev nBuf : Space → Nat
  | .hbm => 121
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x2048, .bf16⟩
  | .hbm, ⟨3, _⟩ => ⟨S16x8448, .f32⟩
  | .hbm, ⟨4, _⟩ => ⟨S8448x1024, .bf16⟩
  | .hbm, ⟨5, _⟩ => ⟨S8448x1024, .f32⟩
  | .hbm, ⟨6, _⟩ => ⟨S8448x1024, .bf16⟩
  | .hbm, ⟨7, _⟩ => ⟨S8448x1024, .f32⟩
  | .hbm, ⟨8, _⟩ => ⟨S8448x1024, .f32⟩
  | .hbm, ⟨9, _⟩ => ⟨S8448x16x64, .f32⟩
  | .hbm, ⟨10, _⟩ => ⟨S16x8448x64, .f32⟩
  | .hbm, ⟨11, _⟩ => ⟨S8448x16x64, .f32⟩
  | .hbm, ⟨12, _⟩ => ⟨S16x8448x64, .f32⟩
  | .hbm, ⟨13, _⟩ => ⟨S16x8448x8448, .f32⟩
  | .hbm, ⟨14, _⟩ => ⟨S16x8448x1, .f32⟩
  | .hbm, ⟨15, _⟩ => ⟨S16x8448x8448, .f32⟩
  | .hbm, ⟨16, _⟩ => ⟨S16x8448x8448, .f32⟩
  | .hbm, ⟨17, _⟩ => ⟨S16x1x8448, .f32⟩
  | .hbm, ⟨18, _⟩ => ⟨S16x8448x8448, .f32⟩
  | .hbm, ⟨19, _⟩ => ⟨S16x8448x8448, .f32⟩
  | .hbm, ⟨20, _⟩ => ⟨S8448, .i32⟩
  | .hbm, ⟨21, _⟩ => ⟨S1x8448, .i32⟩
  | .hbm, ⟨22, _⟩ => ⟨S8448x1, .i32⟩
  | .hbm, ⟨23, _⟩ => ⟨S8448x8448, .i32⟩
  | .hbm, ⟨24, _⟩ => ⟨S8448x8448, .i32⟩
  | .hbm, ⟨25, _⟩ => ⟨S8448x8448, .i1⟩
  | .hbm, ⟨26, _⟩ => ⟨S_, .f32⟩
  | .hbm, ⟨27, _⟩ => ⟨S_, .f32⟩
  | .hbm, ⟨28, _⟩ => ⟨S16x8448x8448, .i1⟩
  | .hbm, ⟨29, _⟩ => ⟨S16x8448x8448, .f32⟩
  | .hbm, ⟨30, _⟩ => ⟨S16x8448x8448, .f32⟩
  | .hbm, ⟨31, _⟩ => ⟨S_, .f32⟩
  | .hbm, ⟨32, _⟩ => ⟨S16x8448x8448, .f32⟩
  | .hbm, ⟨33, _⟩ => ⟨S_, .f32⟩
  | .hbm, ⟨34, _⟩ => ⟨S16x8448, .f32⟩
  | .hbm, ⟨35, _⟩ => ⟨S16x8448x1, .f32⟩
  | .hbm, ⟨36, _⟩ => ⟨S16x8448x8448, .f32⟩
  | .hbm, ⟨37, _⟩ => ⟨S16x8448x8448, .i1⟩
  | .hbm, ⟨38, _⟩ => ⟨S16x8448x8448, .f32⟩
  | .hbm, ⟨39, _⟩ => ⟨S_, .f32⟩
  | .hbm, ⟨40, _⟩ => ⟨S16x8448, .f32⟩
  | .hbm, ⟨41, _⟩ => ⟨S_, .f32⟩
  | .hbm, ⟨42, _⟩ => ⟨S16x8448, .f32⟩
  | .hbm, ⟨43, _⟩ => ⟨S16x8448, .f32⟩
  | .hbm, ⟨44, _⟩ => ⟨S_, .f32⟩
  | .hbm, ⟨45, _⟩ => ⟨S16x8448, .f32⟩
  | .hbm, ⟨46, _⟩ => ⟨S16x8448, .i1⟩
  | .hbm, ⟨47, _⟩ => ⟨S_, .f32⟩
  | .hbm, ⟨48, _⟩ => ⟨S16x8448, .f32⟩
  | .hbm, ⟨49, _⟩ => ⟨S16x8448, .i1⟩
  | .hbm, ⟨50, _⟩ => ⟨S_, .f32⟩
  | .hbm, ⟨51, _⟩ => ⟨S16x8448, .f32⟩
  | .hbm, ⟨52, _⟩ => ⟨S_, .f32⟩
  | .hbm, ⟨53, _⟩ => ⟨S16x8448, .f32⟩
  | .hbm, ⟨54, _⟩ => ⟨S_, .f32⟩
  | .hbm, ⟨55, _⟩ => ⟨S16x8448, .f32⟩
  | .hbm, ⟨56, _⟩ => ⟨S16x8448, .f32⟩
  | .hbm, ⟨57, _⟩ => ⟨S16x8448, .f32⟩
  | .hbm, ⟨58, _⟩ => ⟨S16x8448x1, .f32⟩
  | .hbm, ⟨59, _⟩ => ⟨S16x8448x8448, .f32⟩
  | .hbm, ⟨60, _⟩ => ⟨S16x8448x8448, .f32⟩
  | .hbm, ⟨61, _⟩ => ⟨S16x8448x8448, .f32⟩
  | .hbm, ⟨62, _⟩ => ⟨S_, .f32⟩
  | .hbm, ⟨63, _⟩ => ⟨S16x8448, .f32⟩
  | .hbm, ⟨64, _⟩ => ⟨S16x8448x1, .f32⟩
  | .hbm, ⟨65, _⟩ => ⟨S16x8448x8448, .f32⟩
  | .hbm, ⟨66, _⟩ => ⟨S16x8448x8448, .f32⟩
  | .hbm, ⟨67, _⟩ => ⟨S16x8448x1, .f32⟩
  | .hbm, ⟨68, _⟩ => ⟨S_, .f32⟩
  | .hbm, ⟨69, _⟩ => ⟨S16x8448x1, .f32⟩
  | .hbm, ⟨70, _⟩ => ⟨S16x8448x1, .f32⟩
  | .hbm, ⟨71, _⟩ => ⟨S8448x16x64, .f32⟩
  | .hbm, ⟨72, _⟩ => ⟨S16x8448x64, .f32⟩
  | .hbm, ⟨73, _⟩ => ⟨S16x8448x64, .f32⟩
  | .hbm, ⟨74, _⟩ => ⟨S8448x1024, .f32⟩
  | .hbm, ⟨75, _⟩ => ⟨S8448x16x64, .f32⟩
  | .hbm, ⟨76, _⟩ => ⟨S16x8448x64, .f32⟩
  | .hbm, ⟨77, _⟩ => ⟨S16x64x8448, .f32⟩
  | .hbm, ⟨78, _⟩ => ⟨S16x8448x64, .f32⟩
  | .hbm, ⟨79, _⟩ => ⟨S16x8448x8448, .f32⟩
  | .hbm, ⟨80, _⟩ => ⟨S8448x16x64, .f32⟩
  | .hbm, ⟨81, _⟩ => ⟨S8448x1024, .f32⟩
  | .hbm, ⟨82, _⟩ => ⟨S16x8448x8448, .f32⟩
  | .hbm, ⟨83, _⟩ => ⟨S16x8448x8448, .f32⟩
  | .hbm, ⟨84, _⟩ => ⟨S16x8448x8448, .f32⟩
  | .hbm, ⟨85, _⟩ => ⟨S_, .f32⟩
  | .hbm, ⟨86, _⟩ => ⟨S16x8448, .f32⟩
  | .hbm, ⟨87, _⟩ => ⟨S16x8448x1, .f32⟩
  | .hbm, ⟨88, _⟩ => ⟨S16x8448x1, .f32⟩
  | .hbm, ⟨89, _⟩ => ⟨S16x8448x8448, .f32⟩
  | .hbm, ⟨90, _⟩ => ⟨S16x8448x8448, .f32⟩
  | .hbm, ⟨91, _⟩ => ⟨S_, .f32⟩
  | .hbm, ⟨92, _⟩ => ⟨S16x8448, .f32⟩
  | .hbm, ⟨93, _⟩ => ⟨S16x8448x8448, .f32⟩
  | .hbm, ⟨94, _⟩ => ⟨S16x8448x8448, .f32⟩
  | .hbm, ⟨95, _⟩ => ⟨S16x8448x8448, .f32⟩
  | .hbm, ⟨96, _⟩ => ⟨S_, .f32⟩
  | .hbm, ⟨97, _⟩ => ⟨S16x8448x8448, .f32⟩
  | .hbm, ⟨98, _⟩ => ⟨S16x8448x8448, .f32⟩
  | .hbm, ⟨99, _⟩ => ⟨S16x8448x8448, .f32⟩
  | .hbm, ⟨100, _⟩ => ⟨S_, .f32⟩
  | .hbm, ⟨101, _⟩ => ⟨S16x8448, .f32⟩
  | .hbm, ⟨102, _⟩ => ⟨S16x1x8448, .f32⟩
  | .hbm, ⟨103, _⟩ => ⟨S_, .f32⟩
  | .hbm, ⟨104, _⟩ => ⟨S16x8448, .f32⟩
  | .hbm, ⟨105, _⟩ => ⟨S_, .f32⟩
  | .hbm, ⟨106, _⟩ => ⟨S16x8448, .f32⟩
  | .hbm, ⟨107, _⟩ => ⟨S16x8448x1, .f32⟩
  | .hbm, ⟨108, _⟩ => ⟨S_, .f32⟩
  | .hbm, ⟨109, _⟩ => ⟨S16x8448, .f32⟩
  | .hbm, ⟨110, _⟩ => ⟨S16x8448x64, .f32⟩
  | .hbm, ⟨111, _⟩ => ⟨S16x8448x64, .f32⟩
  | .hbm, ⟨112, _⟩ => ⟨S8448x16x64, .f32⟩
  | .hbm, ⟨113, _⟩ => ⟨S8448x1024, .f32⟩
  | .hbm, ⟨114, _⟩ => ⟨S8448x16x64, .f32⟩
  | .hbm, ⟨115, _⟩ => ⟨S8448x1024, .f32⟩
  | .hbm, ⟨116, _⟩ => ⟨S16x11x1x768, .f32⟩
  | .hbm, ⟨117, _⟩ => ⟨S16x11x1x768, .f32⟩
  | .hbm, ⟨118, _⟩ => ⟨S8448x1024, .bf16⟩
  | .hbm, ⟨119, _⟩ => ⟨S8448x1024, .bf16⟩
  | .hbm, ⟨120, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_call0_v0 : Ref sig .tc := ⟨.hbm, 27, rfl⟩
abbrev main_v22_1 : Ref sig .tc := ⟨.hbm, 28, rfl⟩
abbrev main_call0_v2 : Ref sig .tc := ⟨.hbm, 29, rfl⟩
abbrev main_v22_0 : Ref sig .tc := ⟨.hbm, 30, rfl⟩
abbrev main_call0_cst : Ref sig .tc := ⟨.hbm, 31, rfl⟩
abbrev main_v22_2 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_10 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call1_cst : Ref sig .tc := ⟨.hbm, 96, rfl⟩
abbrev main_call1_v0 : Ref sig .tc := ⟨.hbm, 97, rfl⟩
abbrev main_v74 : Ref sig .tc := ⟨.hbm, 98, rfl⟩
abbrev main_v75 : Ref sig .tc := ⟨.hbm, 99, rfl⟩
abbrev main_cst_12 : Ref sig .tc := ⟨.hbm, 100, rfl⟩
abbrev main_v76 : Ref sig .tc := ⟨.hbm, 101, rfl⟩
abbrev main_v77 : Ref sig .tc := ⟨.hbm, 102, rfl⟩
abbrev main_cst_13 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_v80 : Ref sig .tc := ⟨.hbm, 107, rfl⟩
abbrev main_cst_15 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]
-- ==== Up.lean ====
abbrev S8448x1024 : Shape := ⟨2, ![8448, 1024]⟩
abbrev S1024x5632 : Shape := ⟨2, ![1024, 5632]⟩
abbrev S8448x5632 : Shape := ⟨2, ![8448, 5632]⟩
abbrev S768x1024 : Shape := ⟨2, ![768, 1024]⟩
abbrev S1024x2816 : Shape := ⟨2, ![1024, 2816]⟩
abbrev S768x2816 : Shape := ⟨2, ![768, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S8448x5632, .f32⟩
  | .local _ .vmem, ⟨0, _⟩ => ⟨S768x1024, .bf16⟩
  | .local _ .vmem, ⟨1, _⟩ => ⟨S768x1024, .bf16⟩
  | .local _ .vmem, ⟨2, _⟩ => ⟨S1024x2816, .bf16⟩
  | .local _ .vmem, ⟨3, _⟩ => ⟨S1024x2816, .bf16⟩
  | .local _ .vmem, ⟨4, _⟩ => ⟨S768x2816, .f32⟩
  | .local _ .vmem, ⟨5, _⟩ => ⟨S768x2816, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8448x1024 : Shape := ⟨2, ![8448, 1024]⟩
abbrev S1024x5632 : Shape := ⟨2, ![1024, 5632]⟩
abbrev S8448x5632 : Shape := ⟨2, ![8448, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S8448x1024, .f32⟩
  | .hbm, ⟨3, _⟩ => ⟨S1024x5632, .f32⟩
  | .hbm, ⟨4, _⟩ => ⟨S8448x5632, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dact.lean ====
abbrev S8448x1024 : Shape := ⟨2, ![8448, 1024]⟩
abbrev S2816x1024 : Shape := ⟨2, ![2816, 1024]⟩
abbrev S8448x2816 : Shape := ⟨2, ![8448, 2816]⟩
abbrev S768x1024 : Shape := ⟨2, ![768, 1024]⟩
abbrev S768x2816 : Shape := ⟨2, ![768, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S8448x2816, .f32⟩
  | .local _ .vmem, ⟨0, _⟩ => ⟨S768x1024, .bf16⟩
  | .local _ .vmem, ⟨1, _⟩ => ⟨S768x1024, .bf16⟩
  | .local _ .vmem, ⟨2, _⟩ => ⟨S2816x1024, .bf16⟩
  | .local _ .vmem, ⟨3, _⟩ => ⟨S768x2816, .f32⟩
  | .local _ .vmem, ⟨4, _⟩ => ⟨S768x2816, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S768x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRefIdeal.lean ====
abbrev S8448x1024 : Shape := ⟨2, ![8448, 1024]⟩
abbrev S2816x1024 : Shape := ⟨2, ![2816, 1024]⟩
abbrev S_ : Shape := ⟨0, ![]⟩
abbrev S8448x2816 : Shape := ⟨2, ![8448, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S_, .f32⟩
  | .hbm, ⟨3, _⟩ => ⟨S8448x2816, .f32⟩
  | .hbm, ⟨4, _⟩ => ⟨S2816x1024, .f32⟩
  | .hbm, ⟨5, _⟩ => ⟨S8448x1024, .f32⟩
  | .hbm, ⟨6, _⟩ => ⟨S8448x1024, .f32⟩
  | .hbm, ⟨7, _⟩ => ⟨S8448x2816, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dwin.lean ====
abbrev S8448x1024 : Shape := ⟨2, ![8448, 1024]⟩
abbrev S2x8448x2816 : Shape := ⟨3, ![2, 8448, 2816]⟩
abbrev S2x4x1024x1408 : Shape := ⟨4, ![2, 4, 1024, 1408]⟩
abbrev S768x1024 : Shape := ⟨2, ![768, 1024]⟩
abbrev S1x768x1408 : Shape := ⟨3, ![1, 768, 1408]⟩
abbrev S1x1x1024x1408 : Shape := ⟨4, ![1, 1, 1024, 1408]⟩
abbrev S1024x1408 : Shape := ⟨2, ![1024, 1408]⟩
abbrev S768x1408 : Shape := ⟨2, ![768, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S2x8448x2816, .bf16⟩
  | .hbm, ⟨2, _⟩ => ⟨S2x4x1024x1408, .f32⟩
  | .hbm, ⟨3, _⟩ => ⟨S2x4x1024x1408, .f32⟩
  | .local _ .vmem, ⟨0, _⟩ => ⟨S768x1024, .bf16⟩
  | .local _ .vmem, ⟨1, _⟩ => ⟨S768x1024, .bf16⟩
  | .local _ .vmem, ⟨2, _⟩ => ⟨S1x768x1408, .bf16⟩
  | .local _ .vmem, ⟨3, _⟩ => ⟨S1x768x1408, .bf16⟩
  | .local _ .vmem, ⟨4, _⟩ => ⟨S1x1x1024x1408, .f32⟩
  | .local _ .vmem, ⟨5, _⟩ => ⟨S1x1x1024x1408, .f32⟩
  | .local _ .vmem, ⟨6, _⟩ => ⟨S1024x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 11], ![false, false, false]⟩

def k0_cond3 (i : grid0.Coords) : BitVec 1 :=
  let arg2 : BitVec 32 := BitVec.ofNat 32 (i 2).val
  let c10_i32 : BitVec 32 := 10#32
  let v10 : BitVec 1 := Scalar.cmpi .eq arg2 c10_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![c0_i32_12.toNat, v17.toNat, arg1.toNat, v27.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x768x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S8448x1024 : Shape := ⟨2, ![8448, 1024]⟩
abbrev S2x8448x2816 : Shape := ⟨3, ![2, 8448, 2816]⟩
abbrev S2x4x1024x1408 : Shape := ⟨4, ![2, 4, 1024, 1408]⟩
abbrev S_ : Shape := ⟨0, ![]⟩
abbrev S1024x5632 : Shape := ⟨2, ![1024, 5632]⟩
abbrev S1x8448x2816 : Shape := ⟨3, ![1, 8448, 2816]⟩
abbrev S8448x2816 : Shape := ⟨2, ![8448, 2816]⟩
abbrev S8448x5632 : Shape := ⟨2, ![8448, 5632]⟩
abbrev S5632x1024 : Shape := ⟨2, ![5632, 1024]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩

abbrev nBuf : Space → Nat
  | .hbm => 22
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2x8448x2816, .bf16⟩
  | .hbm, ⟨2, _⟩ => ⟨S2x4x1024x1408, .f32⟩
  | .hbm, ⟨3, _⟩ => ⟨S_, .f32⟩
  | .hbm, ⟨4, _⟩ => ⟨S1024x5632, .f32⟩
  | .hbm, ⟨5, _⟩ => ⟨S1x8448x2816, .bf16⟩
  | .hbm, ⟨6, _⟩ => ⟨S8448x2816, .bf16⟩
  | .hbm, ⟨7, _⟩ => ⟨S1x8448x2816, .bf16⟩
  | .hbm, ⟨8, _⟩ => ⟨S8448x2816, .bf16⟩
  | .hbm, ⟨9, _⟩ => ⟨S8448x5632, .bf16⟩
  | .hbm, ⟨10, _⟩ => ⟨S8448x5632, .f32⟩
  | .hbm, ⟨11, _⟩ => ⟨S8448x1024, .f32⟩
  | .hbm, ⟨12, _⟩ => ⟨S8448x5632, .f32⟩
  | .hbm, ⟨13, _⟩ => ⟨S5632x1024, .f32⟩
  | .hbm, ⟨14, _⟩ => ⟨S1024x5632, .f32⟩
  | .hbm, ⟨15, _⟩ => ⟨S1024x4x1408, .f32⟩
  | .hbm, ⟨16, _⟩ => ⟨S4x1024x1408, .f32⟩
  | .hbm, ⟨17, _⟩ => ⟨S1x4x1024x1408, .f32⟩
  | .hbm, ⟨18, _⟩ => ⟨S4x1024x1408, .f32⟩
  | .hbm, ⟨19, _⟩ => ⟨S1x4x1024x1408, .f32⟩
  | .hbm, ⟨20, _⟩ => ⟨S1x4x1024x1408, .f32⟩
  | .hbm, ⟨21, _⟩ => ⟨S2x4x1024x1408, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Dwout.lean ====
abbrev S8448x2816 : Shape := ⟨2, ![8448, 2816]⟩
abbrev S8448x1024 : Shape := ⟨2, ![8448, 1024]⟩
abbrev S2x2816x1024 : Shape := ⟨3, ![2, 2816, 1024]⟩
abbrev S768x1408 : Shape := ⟨2, ![768, 1408]⟩
abbrev S768x1024 : Shape := ⟨2, ![768, 1024]⟩
abbrev S1x1408x1024 : Shape := ⟨3, ![1, 1408, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2x2816x1024, .f32⟩
  | .hbm, ⟨3, _⟩ => ⟨S2x2816x1024, .f32⟩
  | .local _ .vmem, ⟨0, _⟩ => ⟨S768x1408, .bf16⟩
  | .local _ .vmem, ⟨1, _⟩ => ⟨S768x1408, .bf16⟩
  | .local _ .vmem, ⟨2, _⟩ => ⟨S768x1024, .bf16⟩
  | .local _ .vmem, ⟨3, _⟩ => ⟨S768x1024, .bf16⟩
  | .local _ .vmem, ⟨4, _⟩ => ⟨S1x1408x1024, .f32⟩
  | .local _ .vmem, ⟨5, _⟩ => ⟨S1x1408x1024, .f32⟩
  | .local _ .vmem, ⟨6, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoutRefIdeal.lean ====
abbrev S8448x2816 : Shape := ⟨2, ![8448, 2816]⟩
abbrev S8448x1024 : Shape := ⟨2, ![8448, 1024]⟩
abbrev S2x2816x1024 : Shape := ⟨3, ![2, 2816, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2x2816x1024, .f32⟩
  | .hbm, ⟨3, _⟩ => ⟨S_, .f32⟩
  | .hbm, ⟨4, _⟩ => ⟨S2816x1024, .f32⟩
  | .hbm, ⟨5, _⟩ => ⟨S8448x2816, .f32⟩
  | .hbm, ⟨6, _⟩ => ⟨S8448x1024, .f32⟩
  | .hbm, ⟨7, _⟩ => ⟨S8448x1024, .f32⟩
  | .hbm, ⟨8, _⟩ => ⟨S1024x2816, .f32⟩
  | .hbm, ⟨9, _⟩ => ⟨S2816x1024, .f32⟩
  | .hbm, ⟨10, _⟩ => ⟨S1x2816x1024, .f32⟩
  | .hbm, ⟨11, _⟩ => ⟨S2816x1024, .f32⟩
  | .hbm, ⟨12, _⟩ => ⟨S1x2816x1024, .f32⟩
  | .hbm, ⟨13, _⟩ => ⟨S1x2816x1024, .f32⟩
  | .hbm, ⟨14, _⟩ => ⟨S2x2816x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.Block.lean ====
/-
  What one grid point of the fused product-and-layer-norm-gradient leaves: the accumulator, the two row results and
  the two column sums, as the kernel's own block terms.
-/
module

public import proofs.«01_k».proof.Proof.Gen.KernelIdeal.Value

@[expose] public section

noncomputable section

namespace Cert.KernelIdeal.Block

open Cert.KernelIdeal Cert.KernelIdeal.Gen Cert.KernelIdeal.Value Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ)

/-- What is carried between grid points: the two row blocks, the two column sums and the accumulator. -/
abbrev Carried (F : FTy → Type) : Type :=
  Vec F S768x1024 .f32 × Vec F S768x1024 .bf16 × Vec F S1x1024 .f32 × Vec F S1x1024 .f32 × Vec F S768x1024 .f32

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator read back whole is what was put there. -/
theorem scratch_read (x : Vec F S768x1024 .f32) (h : scM0_0.IsWhole) :
    View.read (Elt F) (View.whole cc0_scratch0) (h.unread x) = x := h.read_unread x

/-- A first point of a row block leaves the product of its two blocks in the accumulator. -/
theorem acc_A (c : Dev nD) (t : Fin cfg0.N) (acc : Carried F) (h0 : t.val % 4 = 0) (h1 : ¬1 ≤ t.val % 4)
    (h2 : ¬t.val % 4 = 3) :
    (stAt0 m c t.val t.isLt acc).2.2.2.2 = k0_pay2 (iblk m c 0 t) (iblk m c 1 t) := by
  rw [stAt0_A m c t acc h0 h1 h2]; dsimp only
  unfold sout0_A_0
  rw [View.read_writes_eq_canon _ _ _ (fun y => scover0_A_0 (y := y) ..)]
  unfold kernelRun0_A; dsimp only; (sl_unfold_words)
  rw [View.canon_unit_zero hz2]
  simp only [View.readAt_eq_ld, Memref.IsWhole.read_unread, scratch_read, View.ld_unit_zero (S := S768x1024) hz2,
    View.ld_unit_zero (S := S768x1) hz2, View.ld_unit_zero (S := S1x1024) hz2, View.ld_unit_zero (S := S1x768x1408) hz3,
    View.ld_unit_zero (S := S1024x1408) hz2]

/-- A middle point adds its product to the accumulator. -/
theorem acc_B (c : Dev nD) (t : Fin cfg0.N) (acc : Carried F) (h0 : ¬t.val % 4 = 0) (h1 : 1 ≤ t.val % 4)
    (h2 : ¬t.val % 4 = 3) :
    (stAt0 m c t.val t.isLt acc).2.2.2.2 = k0_pay3 (iblk m c 0 t) (iblk m c 1 t) acc.2.2.2.2 := by
  rw [stAt0_B m c t acc h0 h1 h2]; dsimp only
  unfold sout0_B_0
  rw [View.read_writes_eq_canon _ _ _ (fun y => scover0_B_0 (y := y) ..)]
  unfold kernelRun0_B; dsimp only; (sl_unfold_words)
  rw [View.canon_unit_zero hz2]
  simp only [View.readAt_eq_ld, Memref.IsWhole.read_unread, scratch_read, View.ld_unit_zero (S := S768x1024) hz2,
    View.ld_unit_zero (S := S768x1) hz2, View.ld_unit_zero (S := S1x1024) hz2, View.ld_unit_zero (S := S1x768x1408) hz3,
    View.ld_unit_zero (S := S1024x1408) hz2]

/-- A last point adds its product to the accumulator as well. -/
theorem acc_C (c : Dev nD) (t : Fin cfg0.N) (acc : Carried F) (h0 : ¬t.val % 4 = 0) (h1 : 1 ≤ t.val % 4)
    (h2 : t.val % 4 = 3) (h3 : t.val < 4) :
    (stAt0 m c t.val t.isLt acc).2.2.2.2 = k0_pay3 (iblk m c 0 t) (iblk m c 1 t) acc.2.2.2.2 := by
  rw [stAt0_C m c t acc h0 h1 h2 h3]; dsimp only
  unfold sout0_C_0
  rw [View.read_writes_eq_canon _ _ _ (fun y => scover0_C_0 (y := y) ..)]
  unfold kernelRun0_C; dsimp only; (sl_unfold_words)
  rw [View.canon_unit_zero hz2]
  simp only [View.readAt_eq_ld, Memref.IsWhole.read_unread, scratch_read, View.ld_unit_zero (S := S768x1024) hz2,
    View.ld_unit_zero (S := S768x1) hz2, View.ld_unit_zero (S := S1x1024) hz2, View.ld_unit_zero (S := S1x768x1408) hz3,
    View.ld_unit_zero (S := S1024x1408) hz2]

/-- A last point leaves the rows' gradient. -/
theorem row_C (c : Dev nD) (t : Fin cfg0.N) (acc : Carried F) (h0 : ¬t.val % 4 = 0) (h1 : 1 ≤ t.val % 4)
    (h2 : t.val % 4 = 3) (h3 : t.val < 4) :
    (stAt0 m c t.val t.isLt acc).1 = k0_pay8 (k0_pay3 (iblk m c 0 t) (iblk m c 1 t) acc.2.2.2.2) (iblk m c 2 t) (iblk m c 3 t) (iblk m c 5 t) (iblk m c 4 t) := by
  rw [stAt0_C m c t acc h0 h1 h2 h3]; dsimp only
  unfold out0_C_6
  rw [View.read_writes_eq_canon _ _ _ (fun y => cover0_C_6 (y := y) ..)]
  unfold kernelRun0_C; dsimp only; (sl_unfold_words)
  rw [View.canon_unit_zero hz2]; simp only [View.readCov_unit_zero (S := S768x1024) _ hz2]
  simp only [View.readAt_eq_ld, Memref.IsWhole.read_unread, scratch_read, View.ld_unit_zero (S := S768x1024) hz2,
    View.ld_unit_zero (S := S768x1) hz2, View.ld_unit_zero (S := S1x1024) hz2, View.ld_unit_zero (S := S1x768x1408) hz3,
    View.ld_unit_zero (S := S1024x1408) hz2]

/-- … and the same in the narrow format. -/
theorem row16_C (c : Dev nD) (t : Fin cfg0.N) (acc : Carried F) (h0 : ¬t.val % 4 = 0) (h1 : 1 ≤ t.val % 4)
    (h2 : t.val % 4 = 3) (h3 : t.val < 4) :
    (stAt0 m c t.val t.isLt acc).2.1 = k0_pay9 (k0_pay3 (iblk m c 0 t) (iblk m c 1 t) acc.2.2.2.2) (iblk m c 2 t) (iblk m c 3 t) (iblk m c 5 t) (iblk m c 4 t) := by
  rw [stAt0_C m c t acc h0 h1 h2 h3]; dsimp only
  unfold out0_C_7
  rw [View.read_writes_eq_canon _ _ _ (fun y => cover0_C_7 (y := y) ..)]
  unfold kernelRun0_C; dsimp only; (sl_unfold_words)
  rw [View.canon_unit_zero hz2]; simp only [View.readCov_unit_zero (S := S768x1024) _ hz2]
  simp only [View.readAt_eq_ld, Memref.IsWhole.read_unread, scratch_read, View.ld_unit_zero (S := S768x1024) hz2,
    View.ld_unit_zero (S := S768x1) hz2, View.ld_unit_zero (S := S1x1024) hz2, View.ld_unit_zero (S := S1x768x1408) hz3,
    View.ld_unit_zero (S := S1024x1408) hz2]

/-- It adds its rows to the gradient of the scale. -/
theorem scale_C (c : Dev nD) (t : Fin cfg0.N) (acc : Carried F) (h0 : ¬t.val % 4 = 0) (h1 : 1 ≤ t.val % 4)
    (h2 : t.val % 4 = 3) (h3 : t.val < 4) :
    (stAt0 m c t.val t.isLt acc).2.2.1 = k0_pay4 (k0_pay6 (k0_pay3 (iblk m c 0 t) (iblk m c 1 t) acc.2.2.2.2) (iblk m c 2 t)) (k0_pay7 (iblk m c 3 t)) k0_pay10 := by
  rw [stAt0_C m c t acc h0 h1 h2 h3]; dsimp only
  unfold out0_C_8
  rw [View.read_writes_eq_canon _ _ _ (fun y => cover0_C_8 (y := y) ..)]
  unfold kernelRun0_C; dsimp only; (sl_unfold_words)
  rw [View.canon_cons_unit_zero (S := S1x1024) hz2]; simp only [View.readCov_unit_zero (S := S768x1024) _ hz2, View.readCov_unit_zero (S := S1x1024) _ hz2]
  simp only [View.readAt_eq_ld, Memref.IsWhole.read_unread, scratch_read, View.ld_unit_zero (S := S768x1024) hz2,
    View.ld_unit_zero (S := S768x1) hz2, View.ld_unit_zero (S := S1x1024) hz2, View.ld_unit_zero (S := S1x768x1408) hz3,
    View.ld_unit_zero (S := S1024x1408) hz2]

/-- It adds its rows to the gradient of the shift. -/
theorem shift_C (c : Dev nD) (t : Fin cfg0.N) (acc : Carried F) (h0 : ¬t.val % 4 = 0) (h1 : 1 ≤ t.val % 4)
    (h2 : t.val % 4 = 3) (h3 : t.val < 4) :
    (stAt0 m c t.val t.isLt acc).2.2.2.1 = k0_pay5 (k0_pay6 (k0_pay3 (iblk m c 0 t) (iblk m c 1 t) acc.2.2.2.2) (iblk m c 2 t)) k0_pay11 := by
  rw [stAt0_C m c t acc h0 h1 h2 h3]; dsimp only
  unfold out0_C_9
  rw [View.read_writes_eq_canon _ _ _ (fun y => cover0_C_9 (y := y) ..)]
  unfold kernelRun0_C; dsimp only; (sl_unfold_words)
  rw [View.canon_cons_unit_zero (S := S1x1024) hz2]; simp only [View.readCov_unit_zero (S := S768x1024) _ hz2, View.readCov_unit_zero (S := S1x1024) _ hz2]
  simp only [View.readAt_eq_ld, Memref.IsWhole.read_unread, scratch_read, View.ld_unit_zero (S := S768x1024) hz2,
    View.ld_unit_zero (S := S768x1) hz2, View.ld_unit_zero (S := S1x1024) hz2, View.ld_unit_zero (S := S1x768x1408) hz3,
    View.ld_unit_zero (S := S1024x1408) hz2]

/-- A last point adds its product to the accumulator as well. -/
theorem acc_D (c : Dev nD) (t : Fin cfg0.N) (acc : Carried F) (h0 : ¬t.val % 4 = 0) (h1 : 1 ≤ t.val % 4)
    (h2 : t.val % 4 = 3) (h3 : ¬t.val < 4) :
    (stAt0 m c t.val t.isLt acc).2.2.2.2 = k0_pay3 (iblk m c 0 t) (iblk m c 1 t) acc.2.2.2.2 := by
  rw [stAt0_D m c t acc h0 h1 h2 h3]; dsimp only
  unfold sout0_D_0
  rw [View.read_writes_eq_canon _ _ _ (fun y => scover0_D_0 (y := y) ..)]
  unfold kernelRun0_D; dsimp only; (sl_unfold_words)
  rw [View.canon_unit_zero hz2]
  simp only [View.readAt_eq_ld, Memref.IsWhole.read_unread, scratch_read, View.ld_unit_zero (S := S768x1024) hz2,
    View.ld_unit_zero (S := S768x1) hz2, View.ld_unit_zero (S := S1x1024) hz2, View.ld_unit_zero (S := S1x768x1408) hz3,
    View.ld_unit_zero (S := S1024x1408) hz2]

/-- A last point leaves the rows' gradient. -/
theorem row_D (c : Dev nD) (t : Fin cfg0.N) (acc : Carried F) (h0 : ¬t.val % 4 = 0) (h1 : 1 ≤ t.val % 4)
    (h2 : t.val % 4 = 3) (h3 : ¬t.val < 4) :
    (stAt0 m c t.val t.isLt acc).1 = k0_pay8 (k0_pay3 (iblk m c 0 t) (iblk m c 1 t) acc.2.2.2.2) (iblk m c 2 t) (iblk m c 3 t) (iblk m c 5 t) (iblk m c 4 t) := by
  rw [stAt0_D m c t acc h0 h1 h2 h3]; dsimp only
  unfold out0_D_6
  rw [View.read_writes_eq_canon _ _ _ (fun y => cover0_D_6 (y := y) ..)]
  unfold kernelRun0_D; dsimp only; (sl_unfold_words)
  rw [View.canon_unit_zero hz2]; simp only [View.readCov_unit_zero (S := S768x1024) _ hz2]
  simp only [View.readAt_eq_ld, Memref.IsWhole.read_unread, scratch_read, View.ld_unit_zero (S := S768x1024) hz2,
    View.ld_unit_zero (S := S768x1) hz2, View.ld_unit_zero (S := S1x1024) hz2, View.ld_unit_zero (S := S1x768x1408) hz3,
    View.ld_unit_zero (S := S1024x1408) hz2]

/-- … and the same in the narrow format. -/
theorem row16_D (c : Dev nD) (t : Fin cfg0.N) (acc : Carried F) (h0 : ¬t.val % 4 = 0) (h1 : 1 ≤ t.val % 4)
    (h2 : t.val % 4 = 3) (h3 : ¬t.val < 4) :
    (stAt0 m c t.val t.isLt acc).2.1 = k0_pay9 (k0_pay3 (iblk m c 0 t) (iblk m c 1 t) acc.2.2.2.2) (iblk m c 2 t) (iblk m c 3 t) (iblk m c 5 t) (iblk m c 4 t) := by
  rw [stAt0_D m c t acc h0 h1 h2 h3]; dsimp only
  unfold out0_D_7
  rw [View.read_writes_eq_canon _ _ _ (fun y => cover0_D_7 (y := y) ..)]
  unfold kernelRun0_D; dsimp only; (sl_unfold_words)
  rw [View.canon_unit_zero hz2]; simp only [View.readCov_unit_zero (S := S768x1024) _ hz2]
  simp only [View.readAt_eq_ld, Memref.IsWhole.read_unread, scratch_read, View.ld_unit_zero (S := S768x1024) hz2,
    View.ld_unit_zero (S := S768x1) hz2, View.ld_unit_zero (S := S1x1024) hz2, View.ld_unit_zero (S := S1x768x1408) hz3,
    View.ld_unit_zero (S := S1024x1408) hz2]

/-- It adds its rows to the gradient of the scale. -/
theorem scale_D (c : Dev nD) (t : Fin cfg0.N) (acc : Carried F) (h0 : ¬t.val % 4 = 0) (h1 : 1 ≤ t.val % 4)
    (h2 : t.val % 4 = 3) (h3 : ¬t.val < 4) :
    (stAt0 m c t.val t.isLt acc).2.2.1 = k0_pay4 (k0_pay6 (k0_pay3 (iblk m c 0 t) (iblk m c 1 t) acc.2.2.2.2) (iblk m c 2 t)) (k0_pay7 (iblk m c 3 t)) acc.2.2.1 := by
  rw [stAt0_D m c t acc h0 h1 h2 h3]; dsimp only
  unfold out0_D_8
  rw [View.read_writes_eq_canon _ _ _ (fun y => cover0_D_8 (y := y) ..)]
  unfold kernelRun0_D; dsimp only; (sl_unfold_words)
  rw [View.canon_unit_zero hz2]; simp only [View.readCov_unit_zero (S := S768x1024) _ hz2]
  simp only [View.readAt_eq_ld, Memref.IsWhole.read_unread, scratch_read, View.ld_unit_zero (S := S768x1024) hz2,
    View.ld_unit_zero (S := S768x1) hz2, View.ld_unit_zero (S := S1x1024) hz2, View.ld_unit_zero (S := S1x768x1408) hz3,
    View.ld_unit_zero (S := S1024x1408) hz2]

/-- It adds its rows to the gradient of the shift. -/
theorem shift_D (c : Dev nD) (t : Fin cfg0.N) (acc : Carried F) (h0 : ¬t.val % 4 = 0) (h1 : 1 ≤ t.val % 4)
    (h2 : t.val % 4 = 3) (h3 : ¬t.val < 4) :
    (stAt0 m c t.val t.isLt acc).2.2.2.1 = k0_pay5 (k0_pay6 (k0_pay3 (iblk m c 0 t) (iblk m c 1 t) acc.2.2.2.2) (iblk m c 2 t)) acc.2.2.2.1 := by
  rw [stAt0_D m c t acc h0 h1 h2 h3]; dsimp only
  unfold out0_D_9
  rw [View.read_writes_eq_canon _ _ _ (fun y => cover0_D_9 (y := y) ..)]
  unfold kernelRun0_D; dsimp only; (sl_unfold_words)
  rw [View.canon_unit_zero hz2]; simp only [View.readCov_unit_zero (S := S768x1024) _ hz2]
  simp only [View.readAt_eq_ld, Memref.IsWhole.read_unread, scratch_read, View.ld_unit_zero (S := S768x1024) hz2,
    View.ld_unit_zero (S := S768x1) hz2, View.ld_unit_zero (S := S1x1024) hz2, View.ld_unit_zero (S := S1x768x1408) hz3,
    View.ld_unit_zero (S := S1024x1408) hz2]

end Cert.KernelIdeal.Block
-- ==== Proof.Arrays.lean ====
/-
  Arrays read at natural numbers, and sums over ranges of them: what a blocked computation accumulates block by block.
-/
module

public import Idealize.ShloMosaic.Lib.Pointwise.Index
public import Mathlib.Algebra.BigOperators.Intervals

@[expose] public section

open Idealize.ShloMosaic

namespace Cert.Arrays

/-- A matrix read at two natural numbers; zero outside. -/
def at2 {M : Type} [Zero M] {n0 n1 : ℕ} (x : (⟨2, ![n0, n1]⟩ : Shape).Idx → M) (a b : ℕ) : M :=
  if h : a < n0 ∧ b < n1 then x (ix2 ⟨a, h.1⟩ ⟨b, h.2⟩) else 0

/-- A stack of matrices read at three natural numbers; zero outside. -/
def at3 {M : Type} [Zero M] {n0 n1 n2 : ℕ} (x : (⟨3, ![n0, n1, n2]⟩ : Shape).Idx → M) (a b c : ℕ) : M :=
  if h : a < n0 ∧ b < n1 ∧ c < n2 then x (ix3 ⟨a, h.1⟩ ⟨b, h.2.1⟩ ⟨c, h.2.2⟩) else 0

theorem at2_val {M : Type} [Zero M] {n0 n1 : ℕ} (x : (⟨2, ![n0, n1]⟩ : Shape).Idx → M) (a : Fin n0) (b : Fin n1) :
    at2 x a.val b.val = x (ix2 a b) := by
  unfold at2; rw [dif_pos ⟨a.isLt, b.isLt⟩]

/-- The matrix at any index whose coordinates are the two numbers. -/
theorem at2_eq {M : Type} [Zero M] {n0 n1 : ℕ} (x : (⟨2, ![n0, n1]⟩ : Shape).Idx → M) (j : (⟨2, ![n0, n1]⟩ : Shape).Idx)
    {a b : ℕ} (ha : (j 0).val = a) (hb : (j 1).val = b) : x j = at2 x a b := by
  subst ha; subst hb
  unfold at2; rw [dif_pos ⟨(j 0).isLt, (j 1).isLt⟩]; exact congrArg x (eq_ix2 j)

/-- The stack at any index whose coordinates are the three numbers. -/
theorem at3_eq {M : Type} [Zero M] {n0 n1 n2 : ℕ} (x : (⟨3, ![n0, n1, n2]⟩ : Shape).Idx → M)
    (j : (⟨3, ![n0, n1, n2]⟩ : Shape).Idx) {a b c : ℕ} (ha : (j 0).val = a) (hb : (j 1).val = b) (hc : (j 2).val = c) :
    x j = at3 x a b c := by
  subst ha; subst hb; subst hc
  unfold at3; rw [dif_pos ⟨(j 0).isLt, (j 1).isLt, (j 2).isLt⟩]; exact congrArg x (eq_ix3 j)

/-- One more block of `w` terms. -/
theorem sum_block {M : Type} [AddCommMonoid M] (f : ℕ → M) (n w : ℕ) :
    (∑ k ∈ Finset.range n, f k) + ∑ k : Fin w, f (n + k.val) = ∑ k ∈ Finset.range (n + w), f k := by
  rw [Finset.sum_range_add, Finset.sum_range fun k => f (n + k)]

/-- A first block of `w` terms. -/
theorem sum_first {M : Type} [AddCommMonoid M] (f : ℕ → M) (w : ℕ) :
    ∑ k : Fin w, f k.val = ∑ k ∈ Finset.range w, f k := (Finset.sum_range f).symm

end Cert.Arrays
-- ==== Proof.Fold.lean ====
/-
  The fold over the grid, read: after each point the accumulator holds a partial product, and after a row block's last
  point the column sums hold the rows met so far.
-/
module

public import proofs.«01_k».proof.Proof.Block
public import proofs.«01_k».proof.Proof.Arrays
public import Idealize.ShloMosaic.Lib.Pointwise
public import Idealize.ShloMosaic.Lib.Pointwise.Tactic

@[expose] public section

noncomputable section

namespace Cert.KernelIdeal.Fold

open Cert.KernelIdeal Cert.KernelIdeal.Gen Cert.KernelIdeal.Value Cert.KernelIdeal.Block Cert.Arrays
open Idealize.ShloMosaic Idealize.ShloMosaic.TcCoe
open Idealize.SL.Sem

variable (m : (ℓ : Loc nD τ sig) → Buf (Elt Ideal) ℓ)

/-- The arrays the call is given: both halves of the hidden gradient, the weight, the residual gradient, the normalised
    rows, their reciprocal deviations and the scale. -/
abbrev du (c : Dev nD) : S2x8448x2816.Idx → EReal := V m c main_arg0
abbrev wt (c : Dev nD) : S1024x5632.Idx → EReal := V m c main_arg1
abbrev dz (c : Dev nD) : S8448x1024.Idx → EReal := V m c main_arg2
abbrev xh (c : Dev nD) : S8448x1024.Idx → EReal := V m c main_v15
abbrev rs (c : Dev nD) : S8448x1.Idx → EReal := V m c main_v13
abbrev gn (c : Dev nD) : S1x1024.Idx → EReal := V m c main_arg4

/-- The hidden gradient with its halves side by side. -/
def hid (c : Dev nD) (r κ : ℕ) : EReal := at3 (du m c) (κ / 2816) r (κ % 2816)

theorem idx0 : ∀ t : Fin cfg0.N, win0_0.index t (0 : Fin 3) = t.val % 4 / 2 ∧ win0_0.index t (1 : Fin 3) = t.val / 4
    ∧ win0_0.index t (2 : Fin 3) = t.val % 4 % 2 := by decide +kernel
theorem idx1 : ∀ t : Fin cfg0.N, win0_1.index t (0 : Fin 2) = 0 ∧ win0_1.index t (1 : Fin 2) = t.val % 4 := by
  decide +kernel
theorem idx2 : ∀ t : Fin cfg0.N, win0_2.index t (0 : Fin 2) = t.val / 4 ∧ win0_2.index t (1 : Fin 2) = 0 := by
  decide +kernel
theorem idx3 : ∀ t : Fin cfg0.N, win0_3.index t (0 : Fin 2) = t.val / 4 ∧ win0_3.index t (1 : Fin 2) = 0 := by
  decide +kernel
theorem idx4 : ∀ t : Fin cfg0.N, win0_4.index t (0 : Fin 2) = t.val / 4 ∧ win0_4.index t (1 : Fin 2) = 0 := by
  decide +kernel
theorem idx5 : ∀ t : Fin cfg0.N, win0_5.index t (0 : Fin 2) = 0 ∧ win0_5.index t (1 : Fin 2) = 0 := by
  decide +kernel

theorem blk0 (c : Dev nD) (t : Fin cfg0.N) (r : Fin 768) (k : Fin 1408) :
    (iblk m c 0 t : S1x768x1408.Idx → EReal) (ix3 0 r k) = hid m c (768 * (t.val / 4) + r.val) (1408 * (t.val % 4) + k.val) := by
  obtain ⟨h0, h1, h2⟩ := idx0 t
  have hr := r.isLt
  have hk := k.isLt
  unfold iblk; rw [View.read_apply]; unfold hid
  refine at3_eq (du m c) _ ?_ ?_ ?_
  · show win0_0.index t 0 * 1 + 1 * 0 = _
    omega
  · show win0_0.index t 1 * 768 + 1 * r.val = _
    omega
  · show win0_0.index t 2 * 1408 + 1 * k.val = _
    omega

theorem blk1 (c : Dev nD) (t : Fin cfg0.N) (j : Fin 1024) (k : Fin 1408) :
    (iblk m c 1 t : S1024x1408.Idx → EReal) (ix2 j k) = at2 (wt m c) j.val (1408 * (t.val % 4) + k.val) := by
  obtain ⟨h0, h1⟩ := idx1 t
  unfold iblk; rw [View.read_apply]
  refine at2_eq (wt m c) _ ?_ ?_
  · show win0_1.index t 0 * 1024 + 1 * j.val = _
    omega
  · show win0_1.index t 1 * 1408 + 1 * k.val = _
    omega

theorem blk2 (c : Dev nD) (t : Fin cfg0.N) (r : Fin 768) (j : Fin 1024) :
    (iblk m c 2 t : S768x1024.Idx → EReal) (ix2 r j) = at2 (dz m c) (768 * (t.val / 4) + r.val) j.val := by
  obtain ⟨h0, h1⟩ := idx2 t
  unfold iblk; rw [View.read_apply]
  refine at2_eq (dz m c) _ ?_ ?_
  · show win0_2.index t 0 * 768 + 1 * r.val = _
    omega
  · show win0_2.index t 1 * 1024 + 1 * j.val = _
    omega

theorem blk3 (c : Dev nD) (t : Fin cfg0.N) (r : Fin 768) (j : Fin 1024) :
    (iblk m c 3 t : S768x1024.Idx → EReal) (ix2 r j) = at2 (xh m c) (768 * (t.val / 4) + r.val) j.val := by
  obtain ⟨h0, h1⟩ := idx3 t
  unfold iblk; rw [View.read_apply]
  refine at2_eq (xh m c) _ ?_ ?_
  · show win0_3.index t 0 * 768 + 1 * r.val = _
    omega
  · show win0_3.index t 1 * 1024 + 1 * j.val = _
    omega

theorem blk4 (c : Dev nD) (t : Fin cfg0.N) (r : Fin 768) :
    (iblk m c 4 t : S768x1.Idx → EReal) (ix2 r 0) = at2 (rs m c) (768 * (t.val / 4) + r.val) 0 := by
  obtain ⟨h0, h1⟩ := idx4 t
  unfold iblk; rw [View.read_apply]
  refine at2_eq (rs m c) _ ?_ ?_
  · show win0_4.index t 0 * 768 + 1 * r.val = _
    omega
  · show win0_4.index t 1 * 1 + 1 * 0 = _
    omega

theorem blk5 (c : Dev nD) (t : Fin cfg0.N) (j : Fin 1024) :
    (iblk m c 5 t : S1x1024.Idx → EReal) (ix2 0 j) = at2 (gn m c) 0 j.val := by
  obtain ⟨h0, h1⟩ := idx5 t
  unfold iblk; rw [View.read_apply]
  refine at2_eq (gn m c) _ ?_ ?_
  · show win0_5.index t 0 * 1 + 1 * 0 = _
    omega
  · show win0_5.index t 1 * 1024 + 1 * j.val = _
    omega

/-- One block product at an index. -/
theorem pay1_apply (v0 : S1x768x1408.Idx → EReal) (v2 : S1024x1408.Idx → EReal) (r : Fin 768) (j : Fin 1024) :
    k0_pay1 (F := Ideal) v0 v2 (ix2 r j) = ∑ k : Fin 1408, v0 (ix3 0 r k) * v2 (ix2 j k) := by
  pointwise [k0_pay1]

theorem pay2_apply (v0 : S1x768x1408.Idx → EReal) (v2 : S1024x1408.Idx → EReal) (r : Fin 768) (j : Fin 1024) :
    k0_pay2 (F := Ideal) v0 v2 (ix2 r j) = ∑ k : Fin 1408, v0 (ix3 0 r k) * v2 (ix2 j k) := by
  pointwise [k0_pay2, k0_pay1]

theorem pay3_apply (v0 : S1x768x1408.Idx → EReal) (v2 : S1024x1408.Idx → EReal) (v13 : S768x1024.Idx → EReal)
    (r : Fin 768) (j : Fin 1024) :
    k0_pay3 (F := Ideal) v0 v2 v13 (ix2 r j) = v13 (ix2 r j) + ∑ k : Fin 1408, v0 (ix3 0 r k) * v2 (ix2 j k) := by
  pointwise [k0_pay3, k0_pay1]

/-- The factor the residual is scaled by. -/
abbrev alpha : EReal := Ideal.ofBits .f32 0x3FB504F3#32

/-- The width of a row, as the number the means divide by. -/
abbrev width : EReal := Ideal.ofBits .f32 0x44800000#32

/-- The rows' gradient at an index. -/
theorem pay8_apply (y d x : S768x1024.Idx → EReal) (g : S1x1024.Idx → EReal) (s : S768x1.Idx → EReal)
    (r : Fin 768) (j : Fin 1024) :
    k0_pay8 (F := Ideal) y d x g s (ix2 r j)
      = s (ix2 r 0) * ((alpha * d (ix2 r j) + y (ix2 r j)) * g (ix2 0 j)
          - Ideal.div (∑ k : Fin 1024, (alpha * d (ix2 r k) + y (ix2 r k)) * g (ix2 0 k)) width
          - x (ix2 r j) * Ideal.div (∑ k : Fin 1024, (alpha * d (ix2 r k) + y (ix2 r k)) * g (ix2 0 k) * x (ix2 r k)) width) := by
  pointwise [k0_pay8, k0_pay7, k0_pay6]

theorem pay9_apply (y d x : S768x1024.Idx → EReal) (g : S1x1024.Idx → EReal) (s : S768x1.Idx → EReal)
    (r : Fin 768) (j : Fin 1024) :
    k0_pay9 (F := Ideal) y d x g s (ix2 r j) = k0_pay8 (F := Ideal) y d x g s (ix2 r j) := by
  unfold k0_pay9
  generalize k0_pay8 (F := Ideal) y d x g s = z
  pointwise

/-- The scale's gradient gains the block's rows. -/
theorem pay4_apply (y d x : S768x1024.Idx → EReal) (v : S1x1024.Idx → EReal) (j : Fin 1024) :
    k0_pay4 (F := Ideal) (k0_pay6 y d) (k0_pay7 x) v (ix2 0 j)
      = v (ix2 0 j) + ∑ r : Fin 768, (alpha * d (ix2 r j) + y (ix2 r j)) * x (ix2 r j) := by
  pointwise [k0_pay4, k0_pay6, k0_pay7]

/-- The shift's gradient gains the block's rows. -/
theorem pay5_apply (y d : S768x1024.Idx → EReal) (v : S1x1024.Idx → EReal) (j : Fin 1024) :
    k0_pay5 (F := Ideal) (k0_pay6 y d) v (ix2 0 j)
      = v (ix2 0 j) + ∑ r : Fin 768, (alpha * d (ix2 r j) + y (ix2 r j)) := by
  pointwise [k0_pay5, k0_pay6]

theorem pay10_apply (j : Fin 1024) : k0_pay10 (F := Ideal) (ix2 0 j) = 0 := by pointwise [k0_pay10]
theorem pay11_apply (j : Fin 1024) : k0_pay11 (F := Ideal) (ix2 0 j) = 0 := by pointwise [k0_pay11]

/-! ## The accumulator -/

/-- The product of the hidden gradient with the transposed weight, its first `n` terms. -/
def part (c : Dev nD) (n r j : ℕ) : EReal := ∑ κ ∈ Finset.range n, hid m c r κ * at2 (wt m c) j κ

/-- The accumulator after a point: the product's terms met so far in the row block. -/
theorem acc_eq (c : Dev nD) (n : ℕ) (hn : n < cfg0.N) (r : Fin 768) (j : Fin 1024) :
    (outsAt0 m c n hn).2.2.2.2 (ix2 r j) = part m c (1408 * (n % 4) + 1408) (768 * (n / 4) + r.val) j.val := by
  have first : ∀ (t : Fin cfg0.N) (acc : Carried Ideal), t.val % 4 = 0 →
      (stAt0 m c t.val t.isLt acc).2.2.2.2 (ix2 r j)
        = part m c (1408 * (t.val % 4) + 1408) (768 * (t.val / 4) + r.val) j.val := by
    intro t acc h0
    rw [acc_A m c t acc h0 (by omega) (by omega), pay2_apply]
    simp only [blk0, blk1]
    rw [h0]; unfold part
    simp only [Nat.mul_zero, Nat.zero_add]
    exact sum_first (fun κ => hid m c (768 * (t.val / 4) + r.val) κ * at2 (wt m c) j.val κ) 1408
  induction n with
  | zero => rw [outsAt0_zero]; exact first ⟨0, hn⟩ junk0 rfl
  | succ n ih =>
    rw [outsAt0_succ]
    have ih := ih (Nat.lt_of_succ_lt hn)
    generalize outsAt0 m c n (Nat.lt_of_succ_lt hn) = acc at ih ⊢
    by_cases h0 : (n + 1) % 4 = 0
    · exact first ⟨n + 1, hn⟩ acc h0
    · have key : (stAt0 m c (n + 1) hn acc).2.2.2.2
          = k0_pay3 (iblk m c 0 ⟨n + 1, hn⟩) (iblk m c 1 ⟨n + 1, hn⟩) acc.2.2.2.2 := by
        by_cases h2 : (n + 1) % 4 = 3
        · by_cases h3 : n + 1 < 4
          · exact acc_C m c ⟨n + 1, hn⟩ acc h0 (by show 1 ≤ (n + 1) % 4; omega) h2 h3
          · exact acc_D m c ⟨n + 1, hn⟩ acc h0 (by show 1 ≤ (n + 1) % 4; omega) h2 h3
        · exact acc_B m c ⟨n + 1, hn⟩ acc h0 (by show 1 ≤ (n + 1) % 4; omega) h2
      rw [key, pay3_apply, ih]
      simp only [blk0, blk1]
      have e1 : n / 4 = (n + 1) / 4 := by omega
      have e2 : 1408 * (n % 4) + 1408 = 1408 * ((n + 1) % 4) := by omega
      rw [e1, e2]
      exact sum_block (fun κ => hid m c (768 * ((n + 1) / 4) + r.val) κ * at2 (wt m c) j.val κ) _ 1408

/-! ## The row results and the column sums -/

/-- The gradient that reaches the layer norm: the residual's share and the product. -/
def dy (c : Dev nD) (r j : ℕ) : EReal := alpha * at2 (dz m c) r j + part m c 5632 r j

/-- The rows' gradient. -/
def rowGrad (c : Dev nD) (r j : ℕ) : EReal :=
  at2 (rs m c) r 0 * (dy m c r j * at2 (gn m c) 0 j
    - Ideal.div (∑ k : Fin 1024, dy m c r k.val * at2 (gn m c) 0 k.val) width
    - at2 (xh m c) r j * Ideal.div (∑ k : Fin 1024, dy m c r k.val * at2 (gn m c) 0 k.val * at2 (xh m c) r k.val) width)

/-- What a last point computes from the finished accumulator, in terms of the whole arrays. -/
theorem dy_block (c : Dev nD) (t : Fin cfg0.N) (y : S768x1024.Idx → EReal)
    (hy : ∀ (r : Fin 768) (j : Fin 1024), y (ix2 r j) = part m c 5632 (768 * (t.val / 4) + r.val) j.val)
    (r : Fin 768) (j : Fin 1024) :
    alpha * (iblk m c 2 t : S768x1024.Idx → EReal) (ix2 r j) + y (ix2 r j) = dy m c (768 * (t.val / 4) + r.val) j.val := by
  rw [blk2, hy]; rfl

/-- The state after a row block's last point: its row results and the column sums it adds to. -/
theorem last_eq (c : Dev nD) (n : ℕ) (hn : n + 1 < cfg0.N) (h : (n + 1) % 4 = 3) :
    (∀ (r : Fin 768) (j : Fin 1024), (outsAt0 m c (n + 1) hn).1 (ix2 r j) = rowGrad m c (768 * ((n + 1) / 4) + r.val) j.val)
    ∧ (∀ (r : Fin 768) (j : Fin 1024), (outsAt0 m c (n + 1) hn).2.1 (ix2 r j) = rowGrad m c (768 * ((n + 1) / 4) + r.val) j.val)
    ∧ (∀ j : Fin 1024, (outsAt0 m c (n + 1) hn).2.2.1 (ix2 0 j)
        = (if n + 1 < 4 then 0 else (outsAt0 m c n (Nat.lt_of_succ_lt hn)).2.2.1 (ix2 0 j))
          + ∑ r : Fin 768, dy m c (768 * ((n + 1) / 4) + r.val) j.val * at2 (xh m c) (768 * ((n + 1) / 4) + r.val) j.val)
    ∧ (∀ j : Fin 1024, (outsAt0 m c (n + 1) hn).2.2.2.1 (ix2 0 j)
        = (if n + 1 < 4 then 0 else (outsAt0 m c n (Nat.lt_of_succ_lt hn)).2.2.2.1 (ix2 0 j))
          + ∑ r : Fin 768, dy m c (768 * ((n + 1) / 4) + r.val) j.val) := by
  have h0 : ¬(n + 1) % 4 = 0 := by omega
  have h1 : 1 ≤ (n + 1) % 4 := by omega
  have hy := acc_eq m c (n + 1) hn
  rw [outsAt0_succ] at hy ⊢
  generalize outsAt0 m c n (Nat.lt_of_succ_lt hn) = acc at hy ⊢
  have e : 1408 * ((n + 1) % 4) + 1408 = 5632 := by omega
  rw [e] at hy
  by_cases h3 : n + 1 < 4
  · rw [acc_C m c ⟨n + 1, hn⟩ acc h0 h1 h h3] at hy
    rw [row_C m c ⟨n + 1, hn⟩ acc h0 h1 h h3, row16_C m c ⟨n + 1, hn⟩ acc h0 h1 h h3,
      scale_C m c ⟨n + 1, hn⟩ acc h0 h1 h h3, shift_C m c ⟨n + 1, hn⟩ acc h0 h1 h h3]
    generalize k0_pay3 (iblk m c 0 ⟨n + 1, hn⟩) (iblk m c 1 ⟨n + 1, hn⟩) acc.2.2.2.2 = y at hy ⊢
    have hd := dy_block m c ⟨n + 1, hn⟩ y hy
    refine ⟨fun r j => ?_, fun r j => ?_, fun j => ?_, fun j => ?_⟩
    · rw [pay8_apply]; simp only [hd, blk3, blk4, blk5]; rfl
    · rw [pay9_apply, pay8_apply]; simp only [hd, blk3, blk4, blk5]; rfl
    · rw [pay4_apply, pay10_apply]; simp only [hd, blk3]; rw [if_pos h3]
    · rw [pay5_apply, pay11_apply]; simp only [hd]; rw [if_pos h3]
  · rw [acc_D m c ⟨n + 1, hn⟩ acc h0 h1 h h3] at hy
    rw [row_D m c ⟨n + 1, hn⟩ acc h0 h1 h h3, row16_D m c ⟨n + 1, hn⟩ acc h0 h1 h h3,
      scale_D m c ⟨n + 1, hn⟩ acc h0 h1 h h3, shift_D m c ⟨n + 1, hn⟩ acc h0 h1 h h3]
    generalize k0_pay3 (iblk m c 0 ⟨n + 1, hn⟩) (iblk m c 1 ⟨n + 1, hn⟩) acc.2.2.2.2 = y at hy ⊢
    have hd := dy_block m c ⟨n + 1, hn⟩ y hy
    refine ⟨fun r j => ?_, fun r j => ?_, fun j => ?_, fun j => ?_⟩
    · rw [pay8_apply]; simp only [hd, blk3, blk4, blk5]; rfl
    · rw [pay9_apply, pay8_apply]; simp only [hd, blk3, blk4, blk5]; rfl
    · rw [pay4_apply]; simp only [hd, blk3]; rw [if_neg h3]
    · rw [pay5_apply]; simp only [hd]; rw [if_neg h3]

/-- A point that is not a row block's last carries the column sums along. -/
theorem carry (c : Dev nD) (n : ℕ) (hn : n + 1 < cfg0.N) (h : ¬(n + 1) % 4 = 3) :
    (outsAt0 m c (n + 1) hn).2.2.1 = (outsAt0 m c n (Nat.lt_of_succ_lt hn)).2.2.1
    ∧ (outsAt0 m c (n + 1) hn).2.2.2.1 = (outsAt0 m c n (Nat.lt_of_succ_lt hn)).2.2.2.1 := by
  rw [outsAt0_succ]
  generalize outsAt0 m c n (Nat.lt_of_succ_lt hn) = acc
  by_cases h0 : (n + 1) % 4 = 0
  · have e := stAt0_A m c ⟨n + 1, hn⟩ acc h0 (by show ¬1 ≤ (n + 1) % 4; omega) h
    dsimp only at e; rw [e]; exact ⟨rfl, rfl⟩
  · have e := stAt0_B m c ⟨n + 1, hn⟩ acc h0 (by show 1 ≤ (n + 1) % 4; omega) h
    dsimp only at e; rw [e]; exact ⟨rfl, rfl⟩

/-- The column sums after a point, over the rows of the row blocks finished. -/
theorem cols_eq (c : Dev nD) (n : ℕ) (hn : n < cfg0.N) (h3 : 3 ≤ n) (j : Fin 1024) :
    (outsAt0 m c n hn).2.2.1 (ix2 0 j)
        = ∑ r ∈ Finset.range (768 * ((n + 1) / 4)), dy m c r j.val * at2 (xh m c) r j.val
    ∧ (outsAt0 m c n hn).2.2.2.1 (ix2 0 j) = ∑ r ∈ Finset.range (768 * ((n + 1) / 4)), dy m c r j.val := by
  induction n with
  | zero => omega
  | succ n ih =>
    by_cases h : (n + 1) % 4 = 3
    · obtain ⟨-, -, a, b⟩ := last_eq m c n hn h
      rw [a, b]
      by_cases h4 : n + 1 < 4
      · have e : n = 2 := by omega
        subst e
        rw [if_pos h4, if_pos h4, zero_add, zero_add]
        simp only [show (2 + 1) / 4 = 0 from rfl, show 768 * ((2 + 1 + 1) / 4) = 768 from rfl, Nat.mul_zero, Nat.zero_add]
        exact ⟨sum_first (fun r => dy m c r j.val * at2 (xh m c) r j.val) 768, sum_first (fun r => dy m c r j.val) 768⟩
      · obtain ⟨i1, i2⟩ := ih (Nat.lt_of_succ_lt hn) (by omega)
        have e1 : (n + 1 + 1) / 4 = (n + 1) / 4 + 1 := by omega
        rw [if_neg h4, if_neg h4, i1, i2, e1, Nat.mul_add, Nat.mul_one]
        exact ⟨sum_block (fun r => dy m c r j.val * at2 (xh m c) r j.val) _ 768, sum_block (fun r => dy m c r j.val) _ 768⟩
    · obtain ⟨i1, i2⟩ := ih (Nat.lt_of_succ_lt hn) (by omega)
      obtain ⟨c1, c2⟩ := carry m c n hn h
      have e1 : (n + 1 + 1) / 4 = (n + 1) / 4 := by omega
      rw [c1, c2, e1]; exact ⟨i1, i2⟩

/-! ## The arrays after the run -/

theorem G6_eq (c : Dev nD) (r : Fin 8448) (j : Fin 1024) : (G6 m c : S8448x1024.Idx → EReal) (ix2 r j) = rowGrad m c r.val j.val := by
  have hr := r.isLt
  have hj := j.isLt
  have hp : pt6Of (ix2 r j) = 4 * (r.val / 768) + 2 + 1 := by
    show 4 * (1 * (r.val / 768 - 0) + 1 * (j.val / 1024 - 0)) + 3 = _; omega
  have hN : 4 * (r.val / 768) + 2 + 1 < cfg0.N := lt_of_lt_of_eq (by omega) N_0.symm
  have hl : loc6Of (ix2 r j) = ix2 ⟨r.val % 768, Nat.mod_lt _ (by decide)⟩ j := by
    funext a; apply Fin.ext
    match a with
    | ⟨0, _⟩ => rfl
    | ⟨1, _⟩ => show j.val % 1024 = j.val; omega
  unfold G6
  rw [dif_pos (by rw [hp]; exact hN), hl, fold0_congr m c _ _ _ (by omega) hp, ← outsAt0_sweep m c _ hN,
    (last_eq m c _ hN (by omega)).1]
  congr 1
  show 768 * ((4 * (r.val / 768) + 2 + 1) / 4) + r.val % 768 = r.val
  omega

theorem G7_eq (c : Dev nD) (r : Fin 8448) (j : Fin 1024) : (G7 m c : S8448x1024.Idx → EReal) (ix2 r j) = rowGrad m c r.val j.val := by
  have hr := r.isLt
  have hj := j.isLt
  have hp : pt7Of (ix2 r j) = 4 * (r.val / 768) + 2 + 1 := by
    show 4 * (1 * (r.val / 768 - 0) + 1 * (j.val / 1024 - 0)) + 3 = _; omega
  have hN : 4 * (r.val / 768) + 2 + 1 < cfg0.N := lt_of_lt_of_eq (by omega) N_0.symm
  have hl : loc7Of (ix2 r j) = ix2 ⟨r.val % 768, Nat.mod_lt _ (by decide)⟩ j := by
    funext a; apply Fin.ext
    match a with
    | ⟨0, _⟩ => rfl
    | ⟨1, _⟩ => show j.val % 1024 = j.val; omega
  unfold G7
  rw [dif_pos (by rw [hp]; exact hN), hl, fold0_congr m c _ _ _ (by omega) hp, ← outsAt0_sweep m c _ hN,
    (last_eq m c _ hN (by omega)).2.1]
  congr 1
  show 768 * ((4 * (r.val / 768) + 2 + 1) / 4) + r.val % 768 = r.val
  omega

theorem G8_eq (c : Dev nD) (j : Fin 1024) :
    (G8 m c : S1x1024.Idx → EReal) (ix2 0 j) = ∑ r ∈ Finset.range 8448, dy m c r j.val * at2 (xh m c) r j.val := by
  rw [G8_last, ← outsAt0_sweep m c 43 (lt_of_lt_of_eq (by decide) N_0.symm)]
  exact (cols_eq m c 43 _ (by decide) j).1

theorem G9_eq (c : Dev nD) (j : Fin 1024) :
    (G9 m c : S1x1024.Idx → EReal) (ix2 0 j) = ∑ r ∈ Finset.range 8448, dy m c r j.val := by
  rw [G9_last, ← outsAt0_sweep m c 43 (lt_of_lt_of_eq (by decide) N_0.symm)]
  exact (cols_eq m c 43 _ (by decide) j).2

end Cert.KernelIdeal.Fold
-- ==== Proof.Ref.lean ====
/-
  The reference's results read at an index, stage by stage.
-/
module

public import proofs.«01_k».proof.Proof.Gen.ReferenceIdeal.Read
public import proofs.«01_k».proof.Proof.Arrays
public import Idealize.ShloMosaic.Lib.Pointwise
public import Idealize.ShloMosaic.Lib.Pointwise.Tactic

@[expose] public section

noncomputable section

namespace Cert.ReferenceIdeal.Stages

open Cert.ReferenceIdeal Cert.ReferenceIdeal.Read Cert.Arrays
open Idealize.ShloMosaic

abbrev alpha : EReal := Ideal.ofBits .f32 0x3FB504F3#32
abbrev width : EReal := Ideal.ofBits .f32 0x44800000#32
abbrev eps : EReal := Ideal.ofBits .f32 0x3727C5AC#32
abbrev mhalf : EReal := Ideal.ofBits .f32 0xBF000000#32

variable (x0 : S2x8448x2816.Idx → EReal) (x1 : S1024x5632.Idx → EReal) (x2 x3 : S8448x1024.Idx → EReal)
  (x4 : S1x1024.Idx → EReal)

theorem v12_at (r : Fin 8448) (j : Fin 1024) :
    val_main_v12 (F := Ideal) x3 (ix2 r j) = x3 (ix2 r j) - Ideal.div (∑ k : Fin 1024, x3 (ix2 r k)) width := by
  pointwise [val_main_v12, val_main_v11, val_main_v10, val_main_v9, val_main_v8, val_main_v7, val_main_cst_0, val_main_cst_1]

theorem v19_at (r : Fin 8448) :
    val_main_v19 (F := Ideal) x3 (ix2 r 0)
      = Ideal.div (∑ k : Fin 1024, val_main_v12 (F := Ideal) x3 (ix2 r k) * val_main_v12 (F := Ideal) x3 (ix2 r k)) width + eps := by
  pointwise [val_main_v19, val_main_v18, val_main_v17, val_main_v16, val_main_v15, val_main_v14, val_main_v13, val_main_cst_2,
    val_main_cst_3, val_main_cst_4]

theorem v20_at (r : Fin 8448) :
    val_main_v20 (F := Ideal) x3 (ix2 r 0) = Ideal.rsqrt (val_main_v19 (F := Ideal) x3 (ix2 r 0)) := by
  pointwise [val_main_v20]

theorem v25_at (r : Fin 8448) (j : Fin 1024) :
    val_main_v25 (F := Ideal) x3 (ix2 r j) = val_main_v12 (F := Ideal) x3 (ix2 r j) * val_main_v20 (F := Ideal) x3 (ix2 r 0) := by
  pointwise [val_main_v25, val_main_v24]

theorem v4_at (r : Fin 8448) (κ : Fin 5632) :
    val_main_v4 (F := Ideal) x0 (ix2 r κ) = at3 x0 (κ.val / 2816) r.val (κ.val % 2816) := by
  pointwise [val_main_v4, val_main_v3, val_main_v2, val_main_v1, val_main_v0]
  have hκ := κ.isLt
  by_cases h : κ.val < 2816
  · rw [dif_pos h]
    refine at3_eq x0 _ ?_ ?_ ?_
    · show 0 = κ.val / 2816
      omega
    · rfl
    · show κ.val = κ.val % 2816
      omega
  · rw [dif_neg h]
    refine at3_eq x0 _ ?_ ?_ ?_
    · show 1 = κ.val / 2816
      omega
    · rfl
    · show κ.val - 2816 = κ.val % 2816
      omega

theorem v37_at (r : Fin 8448) (j : Fin 1024) :
    val_main_v37 (F := Ideal) x0 x1 x2 (ix2 r j)
      = (∑ κ : Fin 5632, val_main_v4 (F := Ideal) x0 (ix2 r κ) * x1 (ix2 j κ)) + alpha * x2 (ix2 r j) := by
  pointwise [val_main_v37, val_main_v36, val_main_v35, val_main_cst_7, val_main_v34, val_main_v5, val_main_v32]

theorem v39_at (j : Fin 1024) :
    val_main_v39 (F := Ideal) x0 x1 x2 (ix2 0 j) = ∑ r : Fin 8448, val_main_v37 (F := Ideal) x0 x1 x2 (ix2 r j) := by
  pointwise [val_main_v39, val_main_v38, val_main_cst_8]

theorem v42_at (j : Fin 1024) :
    val_main_v42 (F := Ideal) x0 x1 x2 x3 (ix2 0 j)
      = ∑ r : Fin 8448, val_main_v25 (F := Ideal) x3 (ix2 r j) * val_main_v37 (F := Ideal) x0 x1 x2 (ix2 r j) := by
  pointwise [val_main_v42, val_main_v41, val_main_v40, val_main_cst_9]

/-- The correction each entry of a row takes through the row's variance. -/
theorem v54_at (r : Fin 8448) (j : Fin 1024) :
    val_main_v54 (F := Ideal) x0 x1 x2 x3 x4 (ix2 r j)
      = Ideal.div ((∑ k : Fin 1024, val_main_v12 (F := Ideal) x3 (ix2 r k) * (val_main_v37 (F := Ideal) x0 x1 x2 (ix2 r k) * x4 (ix2 0 k)))
          * (mhalf * Ideal.div (val_main_v20 (F := Ideal) x3 (ix2 r 0)) (val_main_v19 (F := Ideal) x3 (ix2 r 0)))) width := by
  pointwise [val_main_v54, val_main_v53, val_main_v52, val_main_v51, val_main_v50, val_main_v47, val_main_v46, val_main_v45, val_main_v44,
    val_main_v43, val_main_v23, val_main_v22, val_main_v21, val_main_cst_5, val_main_cst_10, val_main_cst_11, val_main_cst_12]
  exact Fin.sum_univ_one _

theorem v58_at (r : Fin 8448) (j : Fin 1024) :
    val_main_v58 (F := Ideal) x0 x1 x2 x3 x4 (ix2 r j)
      = val_main_v37 (F := Ideal) x0 x1 x2 (ix2 r j) * x4 (ix2 0 j) * val_main_v20 (F := Ideal) x3 (ix2 r 0)
        + val_main_v12 (F := Ideal) x3 (ix2 r j) * val_main_v54 (F := Ideal) x0 x1 x2 x3 x4 (ix2 r j)
        + val_main_v54 (F := Ideal) x0 x1 x2 x3 x4 (ix2 r j) * val_main_v12 (F := Ideal) x3 (ix2 r j) := by
  pointwise [val_main_v58, val_main_v57, val_main_v56, val_main_v55, val_main_v49, val_main_v48, val_main_v44, val_main_v43]

theorem v66_at (r : Fin 8448) (j : Fin 1024) :
    val_main_v66 (F := Ideal) x0 x1 x2 x3 x4 (ix2 r j)
      = val_main_v58 (F := Ideal) x0 x1 x2 x3 x4 (ix2 r j)
        + Ideal.div (∑ k : Fin 1024, -val_main_v58 (F := Ideal) x0 x1 x2 x3 x4 (ix2 r k)) width := by
  pointwise [val_main_v66, val_main_v65, val_main_v64, val_main_v63, val_main_v62, val_main_v61, val_main_v60, val_main_v59, val_main_cst_13,
    val_main_cst_14, val_main_cst_15]
  exact congrArg (val_main_v58 (F := Ideal) x0 x1 x2 x3 x4 (ix2 r j) + ·) (Fin.sum_univ_one _)

theorem v67_at (r : Fin 8448) (j : Fin 1024) :
    val_main_v67 (F := Ideal) x0 x1 x2 x3 x4 (ix2 r j) = val_main_v66 (F := Ideal) x0 x1 x2 x3 x4 (ix2 r j) := by
  pointwise [val_main_v67]

end Cert.ReferenceIdeal.Stages
-- ==== Proof.Reals.lean ====
/-
  Extended reals that are real numbers, and the row equation of the gradient of a layer norm over them.
-/
module

public import Idealize.ShloMosaic.Lib.Pointwise.Tactic

@[expose] public section

open Idealize.ShloMosaic

namespace Cert.Reals

/-- The extended real is a real number. -/
def IsReal (x : EReal) : Prop := ∃ r : ℝ, x = (r : EReal)

theorem IsReal.coe (r : ℝ) : IsReal (r : EReal) := ⟨r, rfl⟩

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem IsReal.sub {x y : EReal} : IsReal x → IsReal y → IsReal (x - y) := by
  rintro ⟨a, rfl⟩ ⟨b, rfl⟩; exact ⟨a - b, (EReal.coe_sub a b).symm⟩

/-- A finite sum of reals, read as extended reals. -/
theorem coe_sum {ι : Type} (s : Finset ι) (f : ι → ℝ) :
    ((∑ k ∈ s, f k : ℝ) : EReal) = ∑ k ∈ s, (f k : EReal) := by
  classical
  induction s using Finset.induction_on with
  | empty => simp
  | insert a s h ih => rw [Finset.sum_insert h, Finset.sum_insert h, EReal.coe_add, ih]

theorem IsReal.sum {ι : Type} (s : Finset ι) (f : ι → EReal) (h : ∀ k, IsReal (f k)) :
    IsReal (∑ k ∈ s, f k) := by
  choose g hg using h
  exact ⟨∑ k ∈ s, g k, by rw [coe_sum]; exact Finset.sum_congr rfl fun k _ => hg k⟩

/-- Division by a real that is not zero is multiplication by its reciprocal. -/
theorem div_real {a b : ℝ} (h : b ≠ 0) : Ideal.div (a : EReal) (b : EReal) = ((a / b : ℝ) : EReal) := by
  rw [Ideal.div_coe h, ← EReal.coe_mul]; congr 1; ring

/-- The gradient of a layer norm at one row: what the fused rule `rs · (d − mean d − xh · mean (d · xh))` leaves is
    what differentiating mean, variance and reciprocal square root one after another leaves. -/
theorem ln_row {N : ℕ} (n : ℝ) (hn : n ≠ 0) (hN : (N : ℝ) = n) (xc d : Fin N → ℝ) (r v : ℝ) (hv : v ≠ 0)
    (hr : r * r * v = 1) (h0 : ∑ k, xc k = 0) (j : Fin N) :
    r * (d j - (∑ k, d k) / n - xc j * r * ((∑ k, d k * (xc k * r)) / n))
      = (d j * r + xc j * ((∑ k, xc k * d k) * (-(1/2) * (r / v)) / n)
          + ((∑ k, xc k * d k) * (-(1/2) * (r / v)) / n) * xc j)
        + (∑ k, -(d k * r + xc k * ((∑ l, xc l * d l) * (-(1/2) * (r / v)) / n)
          + ((∑ l, xc l * d l) * (-(1/2) * (r / v)) / n) * xc k)) / n := by
  set S := ∑ k, xc k * d k with hS
  set T := S * (-(1/2) * (r / v)) / n with hT
  have e1 : ∑ k, d k * (xc k * r) = r * S := by
    rw [hS, Finset.mul_sum]; exact Finset.sum_congr rfl fun k _ => by ring
  have e2 : ∑ k, -(d k * r + xc k * T + T * xc k) = -(r * ∑ k, d k) := by
    have : ∀ k, -(d k * r + xc k * T + T * xc k) = -(r * d k) + (-(2 * T)) * xc k := fun k => by ring
    simp only [this]
    rw [Finset.sum_add_distrib, ← Finset.mul_sum, h0, Finset.sum_neg_distrib, ← Finset.mul_sum]; ring
  have e3 : r / v = r * r * r := by
    field_simp
    linear_combination (-r) * hr
  rw [e1, e2, hT, e3]
  field_simp
  ring

/-- A number whose magnitude compares below infinity is real. -/
theorem isReal_of_finite (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

theorem width_eq : Ideal.ofBits .f32 0x44800000#32 = ((1024 : ℝ) : EReal) := by
  simp [Ideal.ofBits, Ideal.ieee, -EReal.coe_mul]; norm_num

theorem mhalf_eq : Ideal.ofBits .f32 0xBF000000#32 = ((-(1/2) : ℝ) : EReal) := by
  simp [Ideal.ofBits, Ideal.ieee, -EReal.coe_mul]; norm_num

/-- The number added to a variance is a positive real. -/
theorem eps_pos : ∃ e : ℝ, 0 < e ∧ Ideal.ofBits .f32 0x3727C5AC#32 = (e : EReal) := by
  refine ⟨_, ?_, by simp [Ideal.ofBits, Ideal.ieee, -EReal.coe_mul]; rfl⟩
  norm_num

theorem alpha_real : IsReal (Ideal.ofBits .f32 0x3FB504F3#32) := by
  refine ⟨_, by simp [Ideal.ofBits, Ideal.ieee, -EReal.coe_mul]; rfl⟩

/-- The reciprocal square root of a positive real. -/
theorem rsqrt_pos {v : ℝ} (h : 0 < v) :
    ∃ r : ℝ, Ideal.rsqrt (v : EReal) = (r : EReal) ∧ r * r * v = 1 := by
  refine ⟨(Real.sqrt v)⁻¹, ?_, ?_⟩
  · show (if v < 0 then (⊥ : EReal) else if v = 0 then ⊤ else (((Real.sqrt v)⁻¹ : ℝ) : EReal)) = _
    rw [if_neg (not_lt.mpr h.le), if_neg h.ne']
  · have e := Real.mul_self_sqrt h.le
    have : Real.sqrt v ≠ 0 := (Real.sqrt_pos.mpr h).ne'
    field_simp
    rw [sq, e]

/-- A row less its mean, and its variance with the added number: all real, the entries summing to zero and the variance
    positive. -/
theorem centred (x : Fin 1024 → EReal) (hx : ∀ k, IsReal (x k)) :
    ∃ (xc : Fin 1024 → ℝ) (v r : ℝ),
      (∀ j, x j - Ideal.div (∑ k, x k) (Ideal.ofBits .f32 0x44800000#32) = (xc j : EReal))
      ∧ (∑ k, xc k = 0) ∧ v ≠ 0 ∧ r * r * v = 1
      ∧ Ideal.div (∑ k, (xc k : EReal) * (xc k : EReal)) (Ideal.ofBits .f32 0x44800000#32)
          + Ideal.ofBits .f32 0x3727C5AC#32 = (v : EReal)
      ∧ Ideal.rsqrt (v : EReal) = (r : EReal) := by
  choose y hy using hx
  obtain ⟨e, he, hE⟩ := eps_pos
  have hv : 0 < (∑ k, (y k - (∑ l, y l) / 1024) * (y k - (∑ l, y l) / 1024)) / 1024 + e :=
    add_pos_of_nonneg_of_pos (div_nonneg (Finset.sum_nonneg fun k _ => mul_self_nonneg _) (by norm_num)) he
  obtain ⟨r, hr, hr1⟩ := rsqrt_pos hv
  refine ⟨fun j => y j - (∑ k, y k) / 1024, _, r, fun j => ?_, ?_, hv.ne', hr1, ?_, hr⟩
  · simp only [hy, width_eq]
    rw [← coe_sum, div_real (by norm_num), ← EReal.coe_sub]
  · rw [Finset.sum_sub_distrib, Finset.sum_const, Finset.card_univ, Fintype.card_fin]
    simp only [nsmul_eq_mul]; push_cast; ring
  · simp only [width_eq, hE, ← EReal.coe_mul]
    rw [← coe_sum, div_real (by norm_num), ← EReal.coe_add]

/-- The two forms of a row's gradient, over extended reals that are real. -/
theorem ln_row_ereal (xc : Fin 1024 → ℝ) (v r : ℝ) (h0 : ∑ k, xc k = 0) (hv : v ≠ 0) (hr : r * r * v = 1)
    (dy g : Fin 1024 → EReal) (hdy : ∀ k, IsReal (dy k)) (hg : ∀ k, IsReal (g k)) (j : Fin 1024) (T : EReal)
    (hT : T = Ideal.div ((∑ k, (xc k : EReal) * (dy k * g k))
      * (Ideal.ofBits .f32 0xBF000000#32 * Ideal.div (r : EReal) (v : EReal))) (Ideal.ofBits .f32 0x44800000#32)) :
    (r : EReal) * (dy j * g j - Ideal.div (∑ k, dy k * g k) (Ideal.ofBits .f32 0x44800000#32)
        - (xc j : EReal) * (r : EReal)
          * Ideal.div (∑ k, dy k * g k * ((xc k : EReal) * (r : EReal))) (Ideal.ofBits .f32 0x44800000#32))
      = (dy j * g j * (r : EReal) + (xc j : EReal) * T + T * (xc j : EReal))
        + Ideal.div (∑ k, -(dy k * g k * (r : EReal) + (xc k : EReal) * T + T * (xc k : EReal)))
            (Ideal.ofBits .f32 0x44800000#32) := by
  choose d hd using hdy
  choose a ha using hg
  have n0 : (1024 : ℝ) ≠ 0 := by norm_num
  have main := ln_row (N := 1024) 1024 n0 (by norm_num) xc (fun k => d k * a k) r v hv hr h0 j
  have hT' : T = (((∑ k, xc k * (d k * a k)) * (-(1/2) * (r / v)) / 1024 : ℝ) : EReal) := by
    rw [hT]
    simp only [hd, ha, mhalf_eq, width_eq, div_real hv, ← EReal.coe_mul]
    rw [← coe_sum, ← EReal.coe_mul, div_real n0]
  simp only [hT', hd, ha, width_eq, ← EReal.coe_mul, ← EReal.coe_add, ← EReal.coe_neg]
  rw [← coe_sum, ← coe_sum, ← coe_sum, div_real n0, div_real n0, div_real n0]
  simp only [← EReal.coe_sub, ← EReal.coe_mul, ← EReal.coe_add]
  exact congrArg Real.toEReal main

end Cert.Reals
-- ==== Proof.Equation.lean ====
/-
  The kernel's arrays are the reference's: the rows' gradient by the row equation, the column sums term by term.
-/
module

public import proofs.«01_k».proof.Proof.Fold
public import proofs.«01_k».proof.Proof.Ref
public import proofs.«01_k».proof.Proof.Reals

@[expose] public section

noncomputable section

namespace Cert.Equation

open Idealize.ShloMosaic Idealize.ShloMosaic.TcCoe Idealize.SL.Sem
open Cert.KernelIdeal Cert.KernelIdeal.Gen Cert.KernelIdeal.Fold Cert.Arrays Cert.Reals
open Cert.KernelIdeal.Value
open Cert.ReferenceIdeal.Read Cert.ReferenceIdeal.Stages

variable (m : (ℓ : Loc nD τ sig) → Buf (Elt Ideal) ℓ) (c : Dev nD)

abbrev a0 : S2x8448x2816.Idx → EReal := m ((c : Thread nD τ).loc main_arg0)
abbrev a1 : S1024x5632.Idx → EReal := m ((c : Thread nD τ).loc main_arg1)
abbrev a2 : S8448x1024.Idx → EReal := m ((c : Thread nD τ).loc main_arg2)
abbrev a3 : S8448x1024.Idx → EReal := m ((c : Thread nD τ).loc main_arg3)
abbrev a4 : S1x1024.Idx → EReal := m ((c : Thread nD τ).loc main_arg4)

/-- The normalised rows the kernel is handed are the reference's. -/
theorem xh_eq : xh m c = val_main_v25 (F := Ideal) (a3 m c) := by
  show V m c main_v15 = _
  dsimp only [V, hostOps0]; after_results; rfl

/-- So are the reciprocal deviations. -/
theorem rs_eq : rs m c = val_main_v20 (F := Ideal) (a3 m c) := by
  show V m c main_v13 = _
  dsimp only [V, hostOps0]; after_results; rfl

theorem dy_eq (r : Fin 8448) (j : Fin 1024) :
    dy m c r.val j.val = val_main_v37 (F := Ideal) (a0 m c) (a1 m c) (a2 m c) (ix2 r j) := by
  rw [v37_at]
  unfold dy part
  rw [add_comm, Finset.sum_range, at2_val]
  refine congrArg₂ (· + ·) ?_ ?_
  · refine Finset.sum_congr rfl fun κ _ => ?_
    rw [at2_val, v4_at]; unfold hid; rw [show du m c = a0 m c from V_main_arg0 m c, show wt m c = a1 m c from V_main_arg1 m c]
  · rw [show dz m c = a2 m c from V_main_arg2 m c]

/-- What reaches the layer norm is real when the arguments are. -/
theorem dy_real (h0 : ∀ i, IsReal (a0 m c i)) (h1 : ∀ i, IsReal (a1 m c i)) (h2 : ∀ i, IsReal (a2 m c i))
    (r : Fin 8448) (j : Fin 1024) : IsReal (val_main_v37 (F := Ideal) (a0 m c) (a1 m c) (a2 m c) (ix2 r j)) := by
  rw [v37_at]
  refine IsReal.add (IsReal.sum _ _ fun κ => IsReal.mul ?_ (h1 _)) (IsReal.mul alpha_real (h2 _))
  rw [v4_at]
  have hκ := κ.isLt
  have e := at3_eq (a0 m c) (ix3 ⟨κ.val / 2816, by omega⟩ r ⟨κ.val % 2816, Nat.mod_lt _ (by decide)⟩)
    (a := κ.val / 2816) (b := r.val) (c := κ.val % 2816) rfl rfl rfl
  rw [← e]; exact h0 _

theorem rows_eq (h0 : ∀ i, IsReal (a0 m c i)) (h1 : ∀ i, IsReal (a1 m c i)) (h2 : ∀ i, IsReal (a2 m c i))
    (h3 : ∀ i, IsReal (a3 m c i)) (h4 : ∀ i, IsReal (a4 m c i)) (r : Fin 8448) (j : Fin 1024) :
    rowGrad m c r.val j.val
      = val_main_v66 (F := Ideal) (a0 m c) (a1 m c) (a2 m c) (a3 m c) (a4 m c) (ix2 r j) := by
  obtain ⟨xc, v, s, hxc, hsum, hv, hs, hvar, hrs⟩ := centred (fun k => a3 m c (ix2 r k)) fun k => h3 _
  have e12 : ∀ k, val_main_v12 (F := Ideal) (a3 m c) (ix2 r k) = (xc k : EReal) := fun k => (v12_at _ r k).trans (hxc k)
  have e19 : val_main_v19 (F := Ideal) (a3 m c) (ix2 r 0) = (v : EReal) := by
    rw [v19_at]; simp only [e12]; exact hvar
  have e20 : val_main_v20 (F := Ideal) (a3 m c) (ix2 r 0) = (s : EReal) := by rw [v20_at, e19, hrs]
  have exh : ∀ k : Fin 1024, at2 (xh m c) r.val k.val = (xc k : EReal) * (s : EReal) := fun k => by
    rw [at2_val, xh_eq, v25_at, e12, e20]
  have ers : at2 (rs m c) r.val 0 = (s : EReal) := (at2_val (rs m c) r 0).trans (by rw [rs_eq, e20])
  have eg : ∀ k : Fin 1024, at2 (gn m c) 0 k.val = a4 m c (ix2 0 k) := fun k =>
    (at2_val (gn m c) 0 k).trans (by rw [show gn m c = a4 m c from V_main_arg4 m c])
  have e54 := fun k : Fin 1024 => v54_at (a0 m c) (a1 m c) (a2 m c) (a3 m c) (a4 m c) r k
  simp only [e12, e19, e20] at e54
  unfold rowGrad
  rw [v66_at]
  simp only [v58_at, e12, e20, exh, ers, eg, dy_eq, e54]
  exact ln_row_ereal xc v s hsum hv hs _ _ (fun k => dy_real m c h0 h1 h2 r k) (fun k => h4 _) j _ rfl

/-- The first result, in 32 bits. -/
theorem rows32 (h0 : ∀ i, IsReal (a0 m c i)) (h1 : ∀ i, IsReal (a1 m c i)) (h2 : ∀ i, IsReal (a2 m c i))
    (h3 : ∀ i, IsReal (a3 m c i)) (h4 : ∀ i, IsReal (a4 m c i)) :
    (G6 m c : S8448x1024.Idx → EReal) = val_main_v66 (F := Ideal) (a0 m c) (a1 m c) (a2 m c) (a3 m c) (a4 m c) := by
  funext i; rw [eq_ix2 i]; exact (G6_eq m c _ _).trans (rows_eq m c h0 h1 h2 h3 h4 _ _)

/-- The same rows rounded for the next product: on ideal values, the same array. -/
theorem rows16 (h0 : ∀ i, IsReal (a0 m c i)) (h1 : ∀ i, IsReal (a1 m c i)) (h2 : ∀ i, IsReal (a2 m c i))
    (h3 : ∀ i, IsReal (a3 m c i)) (h4 : ∀ i, IsReal (a4 m c i)) :
    (G7 m c : S8448x1024.Idx → EReal) = val_main_v67 (F := Ideal) (a0 m c) (a1 m c) (a2 m c) (a3 m c) (a4 m c) := by
  funext i; rw [eq_ix2 i]; exact (G7_eq m c _ _).trans ((rows_eq m c h0 h1 h2 h3 h4 _ _).trans (v67_at _ _ _ _ _ _ _).symm)

theorem scale_at (j : Fin 1024) :
    ∑ r ∈ Finset.range 8448, dy m c r j.val * at2 (xh m c) r j.val
      = val_main_v42 (F := Ideal) (a0 m c) (a1 m c) (a2 m c) (a3 m c) (ix2 0 j) := by
  rw [v42_at, Finset.sum_range]
  exact Finset.sum_congr rfl fun r _ => by rw [dy_eq, at2_val, xh_eq, mul_comm]

theorem shift_at (j : Fin 1024) :
    ∑ r ∈ Finset.range 8448, dy m c r j.val = val_main_v39 (F := Ideal) (a0 m c) (a1 m c) (a2 m c) (ix2 0 j) := by
  rw [v39_at, Finset.sum_range]
  exact Finset.sum_congr rfl fun r _ => by rw [dy_eq]

/-- The gradient of the layer norm's scale. -/
theorem scale :
    (G8 m c : S1x1024.Idx → EReal) = val_main_v42 (F := Ideal) (a0 m c) (a1 m c) (a2 m c) (a3 m c) := by
  funext i; rw [eq_ix2 i, show i 0 = (0 : Fin 1) from Subsingleton.elim (α := Fin 1) _ _]
  exact (G8_eq m c _).trans (scale_at m c _)

/-- The gradient of its shift. -/
theorem shift :
    (G9 m c : S1x1024.Idx → EReal) = val_main_v39 (F := Ideal) (a0 m c) (a1 m c) (a2 m c) := by
  funext i; rw [eq_ix2 i, show i 0 = (0 : Fin 1) from Subsingleton.elim (α := Fin 1) _ _]
  exact (G9_eq m c _).trans (shift_at m c _)

end Cert.Equation
-- ==== Proof.Up.lean ====
/-
  The feed-forward up product: each grid point writes one block of it, and the blocks make the array.
-/
module

public import proofs.«01_k».proof.Proof.Gen.UpIdeal.Value
public import proofs.«01_k».proof.Proof.Gen.UpRefIdeal.Read
public import proofs.«01_k».proof.Proof.Arrays
public import Idealize.ShloMosaic.Lib.Pointwise
public import Idealize.ShloMosaic.Lib.Pointwise.Tactic

@[expose] public section

noncomputable section

namespace Cert.UpIdeal.Hand

open Cert.UpIdeal Cert.UpIdeal.Gen Cert.UpIdeal.Value Cert.UpRefIdeal.Read Cert.Arrays
open Idealize.ShloMosaic Idealize.ShloMosaic.TcCoe Idealize.SL.Sem

variable (m : (ℓ : Loc nD τ sig) → Buf (Elt Ideal) ℓ) (c : Dev nD)

abbrev x : S8448x1024.Idx → EReal := m ((c : Thread nD τ).loc main_arg0)
abbrev w : S1024x5632.Idx → EReal := m ((c : Thread nD τ).loc main_arg1)

theorem hz : (![0, 0] : Fin 2 → Nat) = fun _ => 0 := funext fun a => by fin_cases a <;> rfl

/-- A point's block of the product. -/
theorem out_at (a : S768x1024.Idx → EReal) (b : S1024x2816.Idx → EReal) (r : Fin 768) (j : Fin 2816) :
    out0_2 (F := Ideal) a b (ix2 r j) = ∑ k : Fin 1024, a (ix2 r k) * b (ix2 k j) := by
  unfold out0_2
  rw [View.canon_unit_zero hz, View.ld_unit_zero (S := S768x1024) hz, View.ld_unit_zero (S := S1024x2816) hz]
  pointwise [k0_pay1]

theorem idx : ∀ t : Fin cfg0.N, (win0_0.index t (0 : Fin 2) = t.val % 11 ∧ win0_0.index t (1 : Fin 2) = 0)
    ∧ (win0_1.index t (0 : Fin 2) = 0 ∧ win0_1.index t (1 : Fin 2) = t.val / 11)
    ∧ win0_2.index t (0 : Fin 2) = t.val % 11 ∧ win0_2.index t (1 : Fin 2) = t.val / 11 := by decide +kernel

theorem blk0 (t : Fin cfg0.N) (r : Fin 768) (k : Fin 1024) :
    (iblk m c 0 t : S768x1024.Idx → EReal) (ix2 r k) = at2 (x m c) (768 * (t.val % 11) + r.val) k.val := by
  obtain ⟨⟨h0, h1⟩, -⟩ := idx t
  unfold iblk; rw [View.read_apply]
  refine at2_eq (x m c) _ ?_ ?_
  · show win0_0.index t 0 * 768 + 1 * r.val = _
    omega
  · show win0_0.index t 1 * 1024 + 1 * k.val = _
    omega

theorem blk1 (t : Fin cfg0.N) (k : Fin 1024) (j : Fin 2816) :
    (iblk m c 1 t : S1024x2816.Idx → EReal) (ix2 k j) = at2 (w m c) k.val (2816 * (t.val / 11) + j.val) := by
  obtain ⟨-, ⟨h0, h1⟩, -⟩ := idx t
  unfold iblk; rw [View.read_apply]
  refine at2_eq (w m c) _ ?_ ?_
  · show win0_1.index t 0 * 1024 + 1 * k.val = _
    omega
  · show win0_1.index t 1 * 2816 + 1 * j.val = _
    omega

/-- The array after the run is the product. -/
theorem equal : ((dats m 0 c).arrAt 2 cfg0.N : S8448x5632.Idx → EReal) = val_main_v2 (F := Ideal) (x m c) (w m c) := by
  funext i
  have hi0 : (i 0).val < 8448 := (i 0).isLt
  have hi1 : (i 1).val < 5632 := (i 1).isLt
  have hN : (i 1).val / 2816 * 11 + (i 0).val / 768 < cfg0.N := lt_of_lt_of_eq (by omega) N_0.symm
  obtain ⟨t, ht⟩ : ∃ t : Fin cfg0.N, t.val = (i 1).val / 2816 * 11 + (i 0).val / 768 := ⟨⟨_, hN⟩, rfl⟩
  obtain ⟨-, -, h0, h1⟩ := idx t
  have e := congrFun (blocks2 m c t (flush0_2 t))
    (ix2 (⟨(i 0).val % 768, Nat.mod_lt _ (by decide)⟩ : Fin 768) (⟨(i 1).val % 2816, Nat.mod_lt _ (by decide)⟩ : Fin 2816))
  rw [View.read_apply, flushed2] at e
  have hi : ((cfg0.win 2).blk t).view.emb
      (ix2 (⟨(i 0).val % 768, Nat.mod_lt _ (by decide)⟩ : Fin 768) (⟨(i 1).val % 2816, Nat.mod_lt _ (by decide)⟩ : Fin 2816)) = i := by
    funext a; apply Fin.ext
    match a with
    | ⟨0, _⟩ => show win0_2.index t 0 * 768 + 1 * ((i 0).val % 768) = (i 0).val; omega
    | ⟨1, _⟩ => show win0_2.index t 1 * 2816 + 1 * ((i 1).val % 2816) = (i 1).val; omega
  rw [hi] at e
  refine e.trans ((out_at _ _ _ _).trans ?_)
  rw [val_main_v2_apply]
  refine Finset.sum_congr rfl fun k _ => ?_
  rw [blk0, blk1]
  refine congrArg₂ (· * ·) (at2_eq (x m c) (lidx_main_v2 i k) ?_ rfl).symm (at2_eq (w m c) (ridx_main_v2 i k) rfl ?_).symm
  · show (i 0).val = 768 * (t.val % 11) + (i 0).val % 768; omega
  · show (i 1).val = 2816 * (t.val / 11) + (i 1).val % 2816; omega

end Cert.UpIdeal.Hand
-- ==== Proof.Dact.lean ====
/-
  The hidden rows' gradient: each grid point writes one row block of the product with the transposed weight.
-/
module

public import proofs.«01_k».proof.Proof.Gen.DactIdeal.Value
public import proofs.«01_k».proof.Proof.Gen.DactRefIdeal.Read
public import proofs.«01_k».proof.Proof.Arrays
public import Idealize.ShloMosaic.Lib.Pointwise
public import Idealize.ShloMosaic.Lib.Pointwise.Tactic

@[expose] public section

noncomputable section

namespace Cert.DactIdeal.Hand

open Cert.DactIdeal Cert.DactIdeal.Gen Cert.DactIdeal.Value Cert.DactRefIdeal.Read Cert.Arrays
open Idealize.ShloMosaic Idealize.ShloMosaic.TcCoe Idealize.SL.Sem

variable (m : (ℓ : Loc nD τ sig) → Buf (Elt Ideal) ℓ) (c : Dev nD)

abbrev x : S8448x1024.Idx → EReal := m ((c : Thread nD τ).loc main_arg0)
abbrev w : S2816x1024.Idx → EReal := m ((c : Thread nD τ).loc main_arg1)

theorem hz : (![0, 0] : Fin 2 → Nat) = fun _ => 0 := funext fun a => by fin_cases a <;> rfl

/-- A point's block of the product. -/
theorem out_at (a : S768x1024.Idx → EReal) (b : S2816x1024.Idx → EReal) (r : Fin 768) (j : Fin 2816) :
    out0_2 (F := Ideal) a b (ix2 r j) = ∑ k : Fin 1024, a (ix2 r k) * b (ix2 j k) := by
  unfold out0_2
  rw [View.canon_unit_zero hz, View.ld_unit_zero (S := S768x1024) hz, View.ld_unit_zero (S := S2816x1024) hz]
  pointwise [k0_pay1]

theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ win0_2.index t (0 : Fin 2) = t.val ∧ win0_2.index t (1 : Fin 2) = 0 := by decide +kernel

theorem blk0 (t : Fin cfg0.N) (r : Fin 768) (k : Fin 1024) :
    (iblk m c 0 t : S768x1024.Idx → EReal) (ix2 r k) = at2 (x m c) (768 * (t.val) + r.val) k.val := by
  obtain ⟨⟨h0, h1⟩, -⟩ := idx t
  unfold iblk; rw [View.read_apply]
  refine at2_eq (x m c) _ ?_ ?_
  · show win0_0.index t 0 * 768 + 1 * r.val = _
    omega
  · show win0_0.index t 1 * 1024 + 1 * k.val = _
    omega

theorem blk1 (t : Fin cfg0.N) (j : Fin 2816) (k : Fin 1024) :
    (iblk m c 1 t : S2816x1024.Idx → EReal) (ix2 j k) = at2 (w m c) j.val k.val := by
  obtain ⟨-, ⟨h0, h1⟩, -⟩ := idx t
  unfold iblk; rw [View.read_apply]
  refine at2_eq (w m c) _ ?_ ?_
  · show win0_1.index t 0 * 2816 + 1 * j.val = _
    omega
  · show win0_1.index t 1 * 1024 + 1 * k.val = _
    omega

/-- The array after the run is the product. -/
theorem equal : ((dats m 0 c).arrAt 2 cfg0.N : S8448x2816.Idx → EReal) = val_main_v4 (F := Ideal) (x m c) (w m c) := by
  funext i
  have hi0 : (i 0).val < 8448 := (i 0).isLt
  have hi1 : (i 1).val < 2816 := (i 1).isLt
  have hN : (i 0).val / 768 < cfg0.N := lt_of_lt_of_eq (by omega) N_0.symm
  obtain ⟨t, ht⟩ : ∃ t : Fin cfg0.N, t.val = (i 0).val / 768 := ⟨⟨_, hN⟩, rfl⟩
  obtain ⟨-, -, h0, h1⟩ := idx t
  have e := congrFun (blocks2 m c t (flush0_2 t))
    (ix2 (⟨(i 0).val % 768, Nat.mod_lt _ (by decide)⟩ : Fin 768) (⟨(i 1).val, hi1⟩ : Fin 2816))
  rw [View.read_apply, flushed2] at e
  have hi : ((cfg0.win 2).blk t).view.emb
      (ix2 (⟨(i 0).val % 768, Nat.mod_lt _ (by decide)⟩ : Fin 768) (⟨(i 1).val, hi1⟩ : Fin 2816)) = i := by
    funext a; apply Fin.ext
    match a with
    | ⟨0, _⟩ => show win0_2.index t 0 * 768 + 1 * ((i 0).val % 768) = (i 0).val; omega
    | ⟨1, _⟩ => show win0_2.index t 1 * 2816 + 1 * (i 1).val = (i 1).val; omega
  rw [hi] at e
  refine e.trans ((out_at _ _ _ _).trans ?_)
  rw [val_main_v4_apply]
  refine Finset.sum_congr rfl fun k _ => ?_
  rw [blk0, blk1]
  refine congrArg₂ (· * ·) (at2_eq (x m c) (lidx_main_v4 i k) ?_ rfl).symm (at2_eq (w m c) (ridx_main_v4 i k) rfl rfl).symm
  show (i 0).val = 768 * t.val + (i 0).val % 768; omega

end Cert.DactIdeal.Hand
-- ==== Proof.Dwin.lean ====
/-
  The up weight's gradient, one layer of the stack: the accumulator sums the blocks of positions, and its last point writes.
-/
module

public import proofs.«01_k».proof.Proof.Gen.DwinIdeal.Value
public import proofs.«01_k».proof.Proof.Gen.DwinRefIdeal.Read
public import proofs.«01_k».proof.Proof.Arrays
public import Idealize.ShloMosaic.Lib.Pointwise
public import Idealize.ShloMosaic.Lib.Pointwise.Tactic

@[expose] public section

noncomputable section

namespace Cert.DwinIdeal.Hand

open Cert.DwinIdeal Cert.DwinIdeal.Gen Cert.DwinIdeal.Value Cert.DwinRefIdeal.Read Cert.Arrays
open Idealize.ShloMosaic Idealize.ShloMosaic.TcCoe Idealize.SL.Sem

variable (m : (ℓ : Loc nD τ sig) → Buf (Elt Ideal) ℓ) (c : Dev nD)

abbrev x : S8448x1024.Idx → EReal := m ((c : Thread nD τ).loc main_arg0)
abbrev du : S2x8448x2816.Idx → EReal := m ((c : Thread nD τ).loc main_arg1)
abbrev old : S2x4x1024x1408.Idx → EReal := m ((c : Thread nD τ).loc main_arg2)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem scratch_read (y : Vec Ideal S1024x1408 .f32) (h : scM0_0.IsWhole) :
    View.read (Elt Ideal) (View.whole cc0_scratch0) (h.unread y) = y := h.read_unread y

theorem acc_A (t : Fin cfg0.N) (h0 : t.val % 11 = 0) :
    (outsAt0 m c t.val t.isLt).2 = k0_pay2 (iblk m c 0 t) (iblk m c 1 t) := by
  rw [outsAt0_A m c t h0 (by omega) (by omega)]; dsimp only
  unfold sout0_A_0
  rw [View.read_writes_eq_canon _ _ _ (fun y => scover0_A_0 (y := y) ..)]
  unfold kernelRun0_A; dsimp only; (sl_unfold_words)
  rw [View.canon_unit_zero hz2]
  simp only [View.readAt_eq_ld, Memref.IsWhole.read_unread, scratch_read, View.ld_unit_zero (S := S768x1024) hz2,
      View.ld_unit_zero (S := S1024x1408) hz2, View.ld_unit_zero (S := S1x768x1408) hz3]

theorem acc_B (t : Fin cfg0.N) (h0 : ¬t.val % 11 = 0) :
    (outsAt0 m c t.val t.isLt).2 = k0_pay3 (iblk m c 0 t) (iblk m c 1 t)
      (outsAt0 m c (t.val - 1) (Nat.lt_of_le_of_lt (Nat.sub_le _ _) t.isLt)).2 := by
  by_cases h2 : t.val % 11 = 10
  on_goal 1 =>
    rw [outsAt0_C m c t h0 (by omega) h2]; dsimp only
    unfold sout0_C_0
    rw [View.read_writes_eq_canon _ _ _ (fun y => scover0_C_0 (y := y) ..)]
    unfold kernelRun0_C
  on_goal 2 =>
    rw [outsAt0_B m c t h0 (by omega) h2]; dsimp only
    unfold sout0_B_0
    rw [View.read_writes_eq_canon _ _ _ (fun y => scover0_B_0 (y := y) ..)]
    unfold kernelRun0_B
  all_goals
    dsimp only; (sl_unfold_words)
    rw [View.canon_unit_zero hz2]
    simp only [View.readAt_eq_ld, Memref.IsWhole.read_unread, scratch_read, View.ld_unit_zero (S := S768x1024) hz2,
      View.ld_unit_zero (S := S1024x1408) hz2, View.ld_unit_zero (S := S1x768x1408) hz3]

/-- A last point writes the accumulator. -/
theorem out_C (t : Fin cfg0.N) (h2 : t.val % 11 = 10) :
    (outsAt0 m c t.val t.isLt).1 = k0_pay4 (outsAt0 m c t.val t.isLt).2 := by
  rw [acc_B m c t (by omega), outsAt0_C m c t (by omega) (by omega) h2]; dsimp only
  unfold out0_C_2
  rw [View.read_writes_eq_canon _ _ _ (fun y => cover0_C_2 (y := y) ..)]
  unfold kernelRun0_C; dsimp only; (sl_unfold_words)
  rw [View.canon_unit_zero hz4]; simp only [View.readCov_unit_zero (S := S1024x1408) _ hz2]
  simp only [View.readAt_eq_ld, Memref.IsWhole.read_unread, scratch_read, View.ld_unit_zero (S := S768x1024) hz2,
      View.ld_unit_zero (S := S1024x1408) hz2, View.ld_unit_zero (S := S1x768x1408) hz3]

theorem idx : ∀ t : Fin cfg0.N, (win0_0.index t (0 : Fin 2) = t.val % 11 ∧ win0_0.index t (1 : Fin 2) = 0)
    ∧ (win0_1.index t (0 : Fin 3) = t.val / 11 / 2 ∧ win0_1.index t (1 : Fin 3) = t.val % 11 ∧ win0_1.index t (2 : Fin 3) = t.val / 11 % 2)
    ∧ win0_2.index t (0 : Fin 4) = 0 ∧ win0_2.index t (1 : Fin 4) = t.val / 11 ∧ win0_2.index t (2 : Fin 4) = 0
    ∧ win0_2.index t (3 : Fin 4) = 0 := by decide +kernel

theorem blk0 (t : Fin cfg0.N) (k : Fin 768) (r : Fin 1024) :
    (iblk m c 0 t : S768x1024.Idx → EReal) (ix2 k r) = at2 (x m c) (768 * (t.val % 11) + k.val) r.val := by
  obtain ⟨⟨h0, h1⟩, -⟩ := idx t
  unfold iblk; rw [View.read_apply]
  refine at2_eq (x m c) _ ?_ ?_
  · show win0_0.index t 0 * 768 + 1 * k.val = _
    omega
  · show win0_0.index t 1 * 1024 + 1 * r.val = _
    omega

theorem blk1 (t : Fin cfg0.N) (k : Fin 768) (j : Fin 1408) : (iblk m c 1 t : S1x768x1408.Idx → EReal) (ix3 0 k j)
      = at3 (du m c) (t.val / 11 / 2) (768 * (t.val % 11) + k.val) (1408 * (t.val / 11 % 2) + j.val) := by
  obtain ⟨-, ⟨h0, h1, h2⟩, -⟩ := idx t
  unfold iblk; rw [View.read_apply]
  refine at3_eq (du m c) _ ?_ ?_ ?_
  · show win0_1.index t 0 * 1 + 1 * 0 = _
    omega
  · show win0_1.index t 1 * 768 + 1 * k.val = _
    omega
  · show win0_1.index t 2 * 1408 + 1 * j.val = _
    omega

theorem pay2_at (a : S768x1024.Idx → EReal) (b : S1x768x1408.Idx → EReal) (r : Fin 1024) (j : Fin 1408) :
    k0_pay2 (F := Ideal) a b (ix2 r j) = ∑ k : Fin 768, a (ix2 k r) * b (ix3 0 k j) := by
  pointwise [k0_pay2, k0_pay1]

theorem pay3_at (a : S768x1024.Idx → EReal) (b : S1x768x1408.Idx → EReal) (v : S1024x1408.Idx → EReal) (r : Fin 1024)
    (j : Fin 1408) : k0_pay3 (F := Ideal) a b v (ix2 r j) = v (ix2 r j) + ∑ k : Fin 768, a (ix2 k r) * b (ix3 0 k j) := by
  pointwise [k0_pay3, k0_pay1]

theorem pay4_at (v : S1024x1408.Idx → EReal) (r : Fin 1024) (j : Fin 1408) :
    k0_pay4 (F := Ideal) v (ix4 0 0 r j) = v (ix2 r j) := by
  pointwise [k0_pay4]

/-- One position's term of a column block's product. -/
def term (p r j κ : ℕ) : EReal := at2 (x m c) κ r * at3 (du m c) (p / 2) κ (1408 * (p % 2) + j)

theorem acc_eq (n : ℕ) (hn : n < cfg0.N) (r : Fin 1024) (j : Fin 1408) :
    (outsAt0 m c n hn).2 (ix2 r j) = ∑ κ ∈ Finset.range (768 * (n % 11) + 768), term m c (n / 11) r.val j.val κ := by
  induction n using Nat.strong_induction_on with
  | _ n ih =>
    by_cases h0 : n % 11 = 0
    · rw [acc_A m c ⟨n, hn⟩ h0, pay2_at]
      simp only [blk0, blk1, h0, Nat.mul_zero, Nat.zero_add]
      exact sum_first (term m c (n / 11) r.val j.val) 768
    · rw [acc_B m c ⟨n, hn⟩ h0, pay3_at, ih (n - 1) (by omega)]
      simp only [blk0, blk1]
      have e1 : (n - 1) / 11 = n / 11 := by omega
      have e2 : 768 * ((n - 1) % 11) + 768 = 768 * (n % 11) := by omega
      rw [e1, e2]
      exact sum_block (term m c (n / 11) r.val j.val) _ 768

theorem v5_at (κ : Fin 8448) (q : Fin 5632) :
    val_main_v6 (F := Ideal) (du m c) (ix2 κ q) = at3 (du m c) (q.val / 2816) κ.val (q.val % 2816) := by
  pointwise [val_main_v6, val_main_v5, val_main_v4, val_main_v3, val_main_v2, val_main_v1]
  have hq := q.isLt
  by_cases h : q.val < 2816
  · rw [dif_pos h]
    refine at3_eq (du m c) _ ?_ rfl ?_
    · show 0 = q.val / 2816
      omega
    · show q.val = q.val % 2816
      omega
  · rw [dif_neg h]
    refine at3_eq (du m c) _ ?_ rfl ?_
    · show 1 = q.val / 2816
      omega
    · show q.val - 2816 = q.val % 2816
      omega

theorem ref_at (q : Fin 2) (p : Fin 4) (r : Fin 1024) (j : Fin 1408) :
    val_main_v17 (F := Ideal) (x m c) (du m c) (old m c) (ix4 q p r j)
      = if q.val < 1 then ∑ κ ∈ Finset.range 8448, term m c p.val r.val j.val κ else old m c (ix4 1 p r j) := by
  pointwise [val_main_v17, val_main_v16, val_main_v15, val_main_v14, val_main_v13, val_main_v12, val_main_v11, val_main_v10]
  split
  · rw [val_main_v9_apply, Finset.sum_range]
    refine Finset.sum_congr rfl fun κ _ => ?_
    have hp := p.isLt
    have hj := j.isLt
    have e : val_main_v6 (F := Ideal) (du m c) (lidx_main_v9 (ix2 ⟨p.val * 1408 + j.val, by omega⟩ r) κ)
        = at3 (du m c) (p.val / 2) κ.val (1408 * (p.val % 2) + j.val) := by
      refine (congrArg _ (eq_ix2 _)).trans ((v5_at m c κ ⟨p.val * 1408 + j.val, by omega⟩).trans ?_)
      show at3 _ ((p.val * 1408 + j.val) / 2816) _ ((p.val * 1408 + j.val) % 2816) = _
      congr 1 <;> omega
    refine (congrArg₂ (· * ·) e (at2_eq (x m c) _ rfl rfl)).trans (mul_comm _ _)
  · rfl

theorem V_out : V m c main_v0 = m ((c : Thread nD τ).loc main_arg2) := by
  simp [V, hostOps0]
  exact StableHlo.unary_result ..

/-- The stack after the run is the reference's. -/
theorem equal : ((dats m 0 c).arrAt 2 cfg0.N : S2x4x1024x1408.Idx → EReal)
    = val_main_v17 (F := Ideal) (x m c) (du m c) (old m c) := by
  funext i
  obtain ⟨q, p, r, j, rfl⟩ : ∃ q p r j, i = ix4 q p r j := ⟨_, _, _, _, eq_ix4 i⟩
  have hp := p.isLt
  have emb : ∀ (t : Fin cfg0.N) (y : S1x1x1024x1408.Idx), ((cfg0.win 2).blk t).view.emb y
      = (ix4 (0 : Fin 2) (⟨t.val / 11, by have := lt_of_lt_of_eq t.isLt N_0; omega⟩ : Fin 4) (y 2) (y 3) : S2x4x1024x1408.Idx) := by
    intro t y
    obtain ⟨-, -, h0, h1, h2, h3⟩ := idx t
    have y0 : (y 0).val < 1 := (y 0).isLt
    have y1 : (y 1).val < 1 := (y 1).isLt
    funext a; apply Fin.ext
    match a with
    | ⟨0, _⟩ => show win0_2.index t 0 * 1 + 1 * (y 0).val = 0; omega
    | ⟨1, _⟩ => show win0_2.index t 1 * 1 + 1 * (y 1).val = t.val / 11; omega
    | ⟨2, _⟩ => show win0_2.index t 2 * 1024 + 1 * (y 2).val = (y 2).val; omega
    | ⟨3, _⟩ => show win0_2.index t 3 * 1408 + 1 * (y 3).val = (y 3).val; omega
  by_cases hq : q.val < 1
  · obtain rfl : q = 0 := Fin.ext (by omega)
    obtain ⟨t, ht⟩ : ∃ t : Fin cfg0.N, t.val = 11 * p.val + 10 := ⟨⟨_, lt_of_lt_of_eq (by omega) N_0.symm⟩, rfl⟩
    refine (?_ : _ = _).trans ((dats m 0 c).arrAt_apply_of_mem 2
      (val_main_v17 (F := Ideal) (x m c) (du m c) (old m c)) ?_ cfg0.N t (ix4 0 p r j) t.isLt ((flush0_2 t).mpr (by omega)) ?_)
    · rfl
    · intro t hf
      have h2 := (flush0_2 t).mp hf
      funext y
      obtain ⟨a, b, r, j, rfl⟩ : ∃ a b r j, y = (ix4 a b r j : S1x1x1024x1408.Idx) := ⟨_, _, _, _, eq_ix4 y⟩
      obtain rfl : a = 0 := Subsingleton.elim _ _
      obtain rfl : b = 0 := Subsingleton.elim _ _
      rw [View.read_apply, emb, flushed2, out_C m c t h2]
      refine (pay4_at _ r j).trans ?_
      rw [acc_eq, show 768 * (t.val % 11) + 768 = 8448 by omega]
      exact ((ref_at m c 0 ⟨t.val / 11, _⟩ r j).trans (if_pos (by decide))).symm
    · refine (congrArg (· ∈ _) (?_ : _ = ix4 0 p r j)).mp (((cfg0.win 2).blk t).view.emb_mem_set (ix4 0 0 r j))
      rw [emb]
      exact congrArg (fun b => ix4 (0 : Fin 2) b r j) (Fin.ext (by show t.val / 11 = p.val; omega))
  · obtain rfl : q = 1 := Fin.ext (by omega)
    rw [ref_at, if_neg hq]
    have e := entry2 m c (ix4 1 p r j) fun t _ hm => by
      obtain ⟨y, -, hy⟩ := Finset.mem_map.mp hm
      exact absurd (congrArg Fin.val (congrFun ((emb t y).symm.trans hy) 0)) (show ¬(0 = 1) by decide)
    exact e.trans (congrFun (V_out m c) _)

end Cert.DwinIdeal.Hand
-- ==== Proof.Dwout.lean ====
/-
  The down weight's gradient, one layer of the stack: the accumulator sums the blocks of positions, and its last point writes.
-/
module

public import proofs.«01_k».proof.Proof.Gen.DwoutIdeal.Value
public import proofs.«01_k».proof.Proof.Gen.DwoutRefIdeal.Read
public import proofs.«01_k».proof.Proof.Arrays
public import Idealize.ShloMosaic.Lib.Pointwise
public import Idealize.ShloMosaic.Lib.Pointwise.Tactic

@[expose] public section

noncomputable section

namespace Cert.DwoutIdeal.Hand

open Cert.DwoutIdeal Cert.DwoutIdeal.Gen Cert.DwoutIdeal.Value Cert.DwoutRefIdeal.Read Cert.Arrays
open Idealize.ShloMosaic Idealize.ShloMosaic.TcCoe Idealize.SL.Sem

variable (m : (ℓ : Loc nD τ sig) → Buf (Elt Ideal) ℓ) (c : Dev nD)

abbrev x : S8448x2816.Idx → EReal := m ((c : Thread nD τ).loc main_arg0)
abbrev dz : S8448x1024.Idx → EReal := m ((c : Thread nD τ).loc main_arg1)
abbrev old : S2x2816x1024.Idx → EReal := m ((c : Thread nD τ).loc main_arg2)

theorem hz2 : (![0, 0] : Fin 2 → Nat) = fun _ => 0 := funext fun a => by fin_cases a <;> rfl
theorem hz3 : (![0, 0, 0] : Fin 3 → Nat) = fun _ => 0 := funext fun a => by fin_cases a <;> rfl

theorem scratch_read (y : Vec Ideal S1408x1024 .f32) (h : scM0_0.IsWhole) :
    View.read (Elt Ideal) (View.whole cc0_scratch0) (h.unread y) = y := h.read_unread y

theorem acc_A (t : Fin cfg0.N) (h0 : t.val % 11 = 0) :
    (outsAt0 m c t.val t.isLt).2 = k0_pay2 (iblk m c 0 t) (iblk m c 1 t) := by
  rw [outsAt0_A m c t h0 (by omega) (by omega)]; dsimp only
  unfold sout0_A_0
  rw [View.read_writes_eq_canon _ _ _ (fun y => scover0_A_0 (y := y) ..)]
  unfold kernelRun0_A; dsimp only; (sl_unfold_words)
  rw [View.canon_unit_zero hz2]
  simp only [View.readAt_eq_ld, Memref.IsWhole.read_unread, scratch_read, View.ld_unit_zero (S := S768x1408) hz2,
      View.ld_unit_zero (S := S1408x1024) hz2, View.ld_unit_zero (S := S768x1024) hz2]

theorem acc_B (t : Fin cfg0.N) (h0 : ¬t.val % 11 = 0) :
    (outsAt0 m c t.val t.isLt).2 = k0_pay3 (iblk m c 0 t) (iblk m c 1 t)
      (outsAt0 m c (t.val - 1) (Nat.lt_of_le_of_lt (Nat.sub_le _ _) t.isLt)).2 := by
  by_cases h2 : t.val % 11 = 10
  on_goal 1 =>
    rw [outsAt0_C m c t h0 (by omega) h2]; dsimp only
    unfold sout0_C_0
    rw [View.read_writes_eq_canon _ _ _ (fun y => scover0_C_0 (y := y) ..)]
    unfold kernelRun0_C
  on_goal 2 =>
    rw [outsAt0_B m c t h0 (by omega) h2]; dsimp only
    unfold sout0_B_0
    rw [View.read_writes_eq_canon _ _ _ (fun y => scover0_B_0 (y := y) ..)]
    unfold kernelRun0_B
  all_goals
    dsimp only; (sl_unfold_words)
    rw [View.canon_unit_zero hz2]
    simp only [View.readAt_eq_ld, Memref.IsWhole.read_unread, scratch_read, View.ld_unit_zero (S := S768x1408) hz2,
      View.ld_unit_zero (S := S1408x1024) hz2, View.ld_unit_zero (S := S768x1024) hz2]

/-- A last point writes the accumulator. -/
theorem out_C (t : Fin cfg0.N) (h2 : t.val % 11 = 10) :
    (outsAt0 m c t.val t.isLt).1 = k0_pay4 (outsAt0 m c t.val t.isLt).2 := by
  rw [acc_B m c t (by omega), outsAt0_C m c t (by omega) (by omega) h2]; dsimp only
  unfold out0_C_2
  rw [View.read_writes_eq_canon _ _ _ (fun y => cover0_C_2 (y := y) ..)]
  unfold kernelRun0_C; dsimp only; (sl_unfold_words)
  rw [View.canon_unit_zero hz3]; simp only [View.readCov_unit_zero (S := S1408x1024) _ hz2]
  simp only [View.readAt_eq_ld, Memref.IsWhole.read_unread, scratch_read, View.ld_unit_zero (S := S768x1408) hz2,
      View.ld_unit_zero (S := S1408x1024) hz2, View.ld_unit_zero (S := S768x1024) hz2]

theorem idx : ∀ t : Fin cfg0.N, (win0_0.index t (0 : Fin 2) = t.val % 11 ∧ win0_0.index t (1 : Fin 2) = t.val / 11)
    ∧ (win0_1.index t (0 : Fin 2) = t.val % 11 ∧ win0_1.index t (1 : Fin 2) = 0)
    ∧ win0_2.index t (0 : Fin 3) = 0 ∧ win0_2.index t (1 : Fin 3) = t.val / 11 ∧ win0_2.index t (2 : Fin 3) = 0 := by
  decide +kernel

theorem blk0 (t : Fin cfg0.N) (k : Fin 768) (r : Fin 1408) : (iblk m c 0 t : S768x1408.Idx → EReal) (ix2 k r)
      = at2 (x m c) (768 * (t.val % 11) + k.val) (1408 * (t.val / 11) + r.val) := by
  obtain ⟨⟨h0, h1⟩, -⟩ := idx t
  unfold iblk; rw [View.read_apply]
  refine at2_eq (x m c) _ ?_ ?_
  · show win0_0.index t 0 * 768 + 1 * k.val = _
    omega
  · show win0_0.index t 1 * 1408 + 1 * r.val = _
    omega

theorem blk1 (t : Fin cfg0.N) (k : Fin 768) (j : Fin 1024) :
    (iblk m c 1 t : S768x1024.Idx → EReal) (ix2 k j) = at2 (dz m c) (768 * (t.val % 11) + k.val) j.val := by
  obtain ⟨-, ⟨h0, h1⟩, -⟩ := idx t
  unfold iblk; rw [View.read_apply]
  refine at2_eq (dz m c) _ ?_ ?_
  · show win0_1.index t 0 * 768 + 1 * k.val = _
    omega
  · show win0_1.index t 1 * 1024 + 1 * j.val = _
    omega

theorem pay2_at (a : S768x1408.Idx → EReal) (b : S768x1024.Idx → EReal) (r : Fin 1408) (j : Fin 1024) :
    k0_pay2 (F := Ideal) a b (ix2 r j) = ∑ k : Fin 768, a (ix2 k r) * b (ix2 k j) := by
  pointwise [k0_pay2, k0_pay1]

theorem pay3_at (a : S768x1408.Idx → EReal) (b : S768x1024.Idx → EReal) (v : S1408x1024.Idx → EReal) (r : Fin 1408)
    (j : Fin 1024) : k0_pay3 (F := Ideal) a b v (ix2 r j) = v (ix2 r j) + ∑ k : Fin 768, a (ix2 k r) * b (ix2 k j) := by
  pointwise [k0_pay3, k0_pay1]

theorem pay4_at (v : S1408x1024.Idx → EReal) (r : Fin 1408) (j : Fin 1024) :
    k0_pay4 (F := Ideal) v (ix3 0 r j) = v (ix2 r j) := by
  pointwise [k0_pay4]

/-- One position's term of a product of row block `p`. -/
def term (p r j κ : ℕ) : EReal := at2 (x m c) κ (1408 * p + r) * at2 (dz m c) κ j

theorem acc_eq (n : ℕ) (hn : n < cfg0.N) (r : Fin 1408) (j : Fin 1024) :
    (outsAt0 m c n hn).2 (ix2 r j) = ∑ κ ∈ Finset.range (768 * (n % 11) + 768), term m c (n / 11) r.val j.val κ := by
  induction n using Nat.strong_induction_on with
  | _ n ih =>
    by_cases h0 : n % 11 = 0
    · rw [acc_A m c ⟨n, hn⟩ h0, pay2_at]
      simp only [blk0, blk1, h0, Nat.mul_zero, Nat.zero_add]
      exact sum_first (term m c (n / 11) r.val j.val) 768
    · rw [acc_B m c ⟨n, hn⟩ h0, pay3_at, ih (n - 1) (by omega)]
      simp only [blk0, blk1]
      have e1 : (n - 1) / 11 = n / 11 := by omega
      have e2 : 768 * ((n - 1) % 11) + 768 = 768 * (n % 11) := by omega
      rw [e1, e2]
      exact sum_block (term m c (n / 11) r.val j.val) _ 768

theorem ref_at (q : Fin 2) (r : Fin 2816) (j : Fin 1024) :
    val_main_v10 (F := Ideal) (x m c) (dz m c) (old m c) (ix3 q r j)
      = if q.val < 1 then ∑ κ ∈ Finset.range 8448, term m c (r.val / 1408) (r.val % 1408) j.val κ
        else old m c (ix3 1 r j) := by
  pointwise [val_main_v10, val_main_v9, val_main_v8, val_main_v7, val_main_v6, val_main_v5]
  split
  · rw [val_main_v4_apply, Finset.sum_range]
    refine Finset.sum_congr rfl fun κ _ => ?_
    refine (mul_comm _ _).trans (congrArg₂ (· * ·) (at2_eq (x m c) _ rfl ?_) (at2_eq (dz m c) _ rfl rfl))
    exact (Nat.div_add_mod r.val 1408).symm
  · rfl

theorem V_out : V m c main_v0 = m ((c : Thread nD τ).loc main_arg2) := by
  simp [V, hostOps0]
  exact StableHlo.unary_result ..

/-- The stack after the run is the reference's. -/
theorem equal : ((dats m 0 c).arrAt 2 cfg0.N : S2x2816x1024.Idx → EReal)
    = val_main_v10 (F := Ideal) (x m c) (dz m c) (old m c) := by
  funext i
  obtain ⟨q, r, j, rfl⟩ : ∃ q r j, i = ix3 q r j := ⟨_, _, _, eq_ix3 i⟩
  have hr := r.isLt
  have lt : ∀ (t : Fin cfg0.N) (r : Fin 1408), 1408 * (t.val / 11) + r.val < 2816 := fun t r => by
    have := lt_of_lt_of_eq t.isLt N_0; omega
  have emb : ∀ (t : Fin cfg0.N) (y : S1x1408x1024.Idx), ((cfg0.win 2).blk t).view.emb y
      = (ix3 (0 : Fin 2) (⟨_, lt t (y 1)⟩ : Fin 2816) (y 2) : S2x2816x1024.Idx) := by
    intro t y
    obtain ⟨-, -, h0, h1, h2⟩ := idx t
    have y0 : (y 0).val < 1 := (y 0).isLt
    funext a; apply Fin.ext
    match a with
    | ⟨0, _⟩ => show win0_2.index t 0 * 1 + 1 * (y 0).val = 0; omega
    | ⟨1, _⟩ => show win0_2.index t 1 * 1408 + 1 * (y 1).val = 1408 * (t.val / 11) + (y 1).val; omega
    | ⟨2, _⟩ => show win0_2.index t 2 * 1024 + 1 * (y 2).val = (y 2).val; omega
  by_cases hq : q.val < 1
  · obtain rfl : q = 0 := Fin.ext (by omega)
    obtain ⟨t, ht⟩ : ∃ t : Fin cfg0.N, t.val = 11 * (r.val / 1408) + 10 := ⟨⟨_, lt_of_lt_of_eq (by omega) N_0.symm⟩, rfl⟩
    refine (dats m 0 c).arrAt_apply_of_mem 2 (val_main_v10 (F := Ideal) (x m c) (dz m c) (old m c)) ?_ cfg0.N t
      (ix3 0 r j) t.isLt ((flush0_2 t).mpr (by omega)) ?_
    · intro t hf
      have h2 := (flush0_2 t).mp hf
      funext y
      obtain ⟨a, r, j, rfl⟩ : ∃ a r j, y = (ix3 a r j : S1x1408x1024.Idx) := ⟨_, _, _, eq_ix3 y⟩
      obtain rfl : a = 0 := Subsingleton.elim _ _
      have hr := r.isLt
      rw [View.read_apply, emb, flushed2, out_C m c t h2]
      refine (pay4_at _ r j).trans ?_
      rw [acc_eq, show 768 * (t.val % 11) + 768 = 8448 by omega]
      refine Eq.symm (((ref_at m c 0 ⟨_, lt t r⟩ j).trans (if_pos (by decide))).trans ?_)
      rw [show (1408 * (t.val / 11) + r.val) / 1408 = t.val / 11 by omega,
        show (1408 * (t.val / 11) + r.val) % 1408 = r.val by omega]
    · refine (congrArg (· ∈ _) (?_ : _ = ix3 0 r j)).mp
        (((cfg0.win 2).blk t).view.emb_mem_set (ix3 0 ⟨r.val % 1408, Nat.mod_lt _ (by decide)⟩ j))
      rw [emb]
      exact congrArg (fun b => ix3 (0 : Fin 2) b j) (Fin.ext (by show 1408 * (t.val / 11) + r.val % 1408 = r.val; omega))
  · obtain rfl : q = 1 := Fin.ext (by omega)
    rw [ref_at, if_neg hq]
    have e := entry2 m c (ix3 1 r j) fun t _ hm => by
      obtain ⟨y, -, hy⟩ := Finset.mem_map.mp hm
      exact absurd (congrArg Fin.val (congrFun ((emb t y).symm.trans hy) 0)) (show ¬(0 = 1) by decide)
    exact e.trans (congrFun (V_out m c) _)

end Cert.DwoutIdeal.Hand
-- ==== Proof.AttnI.Parts.lean ====
module

public import proofs.«01_k».proof.Proof.Gen.AttnBwdIdeal.Loops

@[expose] public section

/-! Each part of the printed body is its skeleton, stated over the parts' own leading arguments. -/

set_option maxRecDepth 65536

noncomputable section

namespace Cert.AttnBwdIdeal

open Idealize.ShloMosaic

variable {F : FTy → Type} [FloatOps F] [Facts]

theorem k0_part1_eq_skeleton : k0_part1 (F := F) = Gen.k0_part1_skel (F := F) := rfl
theorem k0_part2_eq_skeleton : k0_part2 (F := F) = Gen.k0_part2_skel (F := F) := rfl
theorem k0_part3_eq_skeleton : k0_part3 (F := F) = Gen.k0_part3_skel (F := F) := rfl
theorem k0_part4_eq_skeleton : k0_part4 (F := F) = Gen.k0_part4_skel (F := F) := rfl
theorem k0_part5_eq_skeleton : k0_part5 (F := F) = Gen.k0_part5_skel (F := F) := rfl
theorem k0_part6_eq_skeleton : k0_part6 (F := F) = Gen.k0_part6_skel (F := F) := rfl
theorem k0_part7_eq_skeleton : k0_part7 (F := F) = Gen.k0_part7_skel (F := F) := rfl
theorem k0_part8_eq_skeleton : k0_part8 (F := F) = Gen.k0_part8_skel (F := F) := rfl
theorem k0_part9_eq_skeleton : k0_part9 (F := F) = Gen.k0_part9_skel (F := F) := rfl
theorem k0_part10_eq_skeleton : k0_part10 (F := F) = Gen.k0_part10_skel (F := F) := rfl
theorem k0_part11_eq_skeleton : k0_part11 (F := F) = Gen.k0_part11_skel (F := F) := rfl
theorem k0_part12_eq_skeleton : k0_part12 (F := F) = Gen.k0_part12_skel (F := F) := rfl
theorem k0_part13_eq_skeleton : k0_part13 (F := F) = Gen.k0_part13_skel (F := F) := rfl
theorem k0_part14_eq_skeleton : k0_part14 (F := F) = Gen.k0_part14_skel (F := F) := rfl
theorem k0_part15_eq_skeleton : k0_part15 (F := F) = Gen.k0_part15_skel (F := F) := rfl
theorem k0_part16_eq_skeleton : k0_part16 (F := F) = Gen.k0_part16_skel (F := F) := rfl
theorem k0_part17_eq_skeleton : k0_part17 (F := F) = Gen.k0_part17_skel (F := F) := rfl
theorem k0_part18_eq_skeleton : k0_part18 (F := F) = Gen.k0_part18_skel (F := F) := rfl
theorem k0_part19_eq_skeleton : k0_part19 (F := F) = Gen.k0_part19_skel (F := F) := rfl
theorem k0_part20_eq_skeleton : k0_part20 (F := F) = Gen.k0_part20_skel (F := F) := rfl
theorem k0_part21_eq_skeleton : k0_part21 (F := F) = Gen.k0_part21_skel (F := F) := rfl
theorem k0_part22_eq_skeleton : k0_part22 (F := F) = Gen.k0_part22_skel (F := F) := rfl
theorem k0_part23_eq_skeleton : k0_part23 (F := F) = Gen.k0_part23_skel (F := F) := rfl
theorem k0_part24_eq_skeleton : k0_part24 (F := F) = Gen.k0_part24_skel (F := F) := rfl
theorem k0_part25_eq_skeleton : k0_part25 (F := F) = Gen.k0_part25_skel (F := F) := rfl
theorem k0_part26_eq_skeleton : k0_part26 (F := F) = Gen.k0_part26_skel (F := F) := rfl
theorem k0_part27_eq_skeleton : k0_part27 (F := F) = Gen.k0_part27_skel (F := F) := rfl
theorem k0_part28_eq_skeleton : k0_part28 (F := F) = Gen.k0_part28_skel (F := F) := rfl
theorem k0_part29_eq_skeleton : k0_part29 (F := F) = Gen.k0_part29_skel (F := F) := rfl
theorem k0_part30_eq_skeleton : k0_part30 (F := F) = Gen.k0_part30_skel (F := F) := rfl
theorem k0_part31_eq_skeleton : k0_part31 (F := F) = Gen.k0_part31_skel (F := F) := rfl
theorem k0_part32_eq_skeleton : k0_part32 (F := F) = Gen.k0_part32_skel (F := F) := rfl
theorem k0_part33_eq_skeleton : k0_part33 (F := F) = Gen.k0_part33_skel (F := F) := rfl
theorem k0_part34_eq_skeleton : k0_part34 (F := F) = Gen.k0_part34_skel (F := F) := rfl
theorem k0_part35_eq_skeleton : k0_part35 (F := F) = Gen.k0_part35_skel (F := F) := rfl
theorem k0_part36_eq_skeleton : k0_part36 (F := F) = Gen.k0_part36_skel (F := F) := rfl
theorem k0_part37_eq_skeleton : k0_part37 (F := F) = Gen.k0_part37_skel (F := F) := rfl
theorem k0_part38_eq_skeleton : k0_part38 (F := F) = Gen.k0_part38_skel (F := F) := rfl
theorem k0_part39_eq_skeleton : k0_part39 (F := F) = Gen.k0_part39_skel (F := F) := rfl
theorem k0_part40_eq_skeleton : k0_part40 (F := F) = Gen.k0_part40_skel (F := F) := rfl
theorem k0_part41_eq_skeleton : k0_part41 (F := F) = Gen.k0_part41_skel (F := F) := rfl
theorem k0_part42_eq_skeleton : k0_part42 (F := F) = Gen.k0_part42_skel (F := F) := rfl
theorem k0_part43_eq_skeleton : k0_part43 (F := F) = Gen.k0_part43_skel (F := F) := rfl
theorem k0_part44_eq_skeleton : k0_part44 (F := F) = Gen.k0_part44_skel (F := F) := rfl
theorem k0_part45_eq_skeleton : k0_part45 (F := F) = Gen.k0_part45_skel (F := F) := rfl
theorem k0_part46_eq_skeleton : k0_part46 (F := F) = Gen.k0_part46_skel (F := F) := rfl
theorem k0_part47_eq_skeleton : k0_part47 (F := F) = Gen.k0_part47_skel (F := F) := rfl
theorem k0_part48_eq_skeleton : k0_part48 (F := F) = Gen.k0_part48_skel (F := F) := rfl
theorem k0_part49_eq_skeleton : k0_part49 (F := F) = Gen.k0_part49_skel (F := F) := rfl
theorem k0_part50_eq_skeleton : k0_part50 (F := F) = Gen.k0_part50_skel (F := F) := rfl
theorem k0_part51_eq_skeleton : k0_part51 (F := F) = Gen.k0_part51_skel (F := F) := rfl
theorem k0_part52_eq_skeleton : k0_part52 (F := F) = Gen.k0_part52_skel (F := F) := rfl
theorem k0_part53_eq_skeleton : k0_part53 (F := F) = Gen.k0_part53_skel (F := F) := rfl
theorem k0_part54_eq_skeleton : k0_part54 (F := F) = Gen.k0_part54_skel (F := F) := rfl
theorem k0_part55_eq_skeleton : k0_part55 (F := F) = Gen.k0_part55_skel (F := F) := rfl
theorem k0_part56_eq_skeleton : k0_part56 (F := F) = Gen.k0_part56_skel (F := F) := rfl
theorem k0_part57_eq_skeleton : k0_part57 (F := F) = Gen.k0_part57_skel (F := F) := rfl
theorem k0_part58_eq_skeleton : k0_part58 (F := F) = Gen.k0_part58_skel (F := F) := rfl
theorem k0_part59_eq_skeleton : k0_part59 (F := F) = Gen.k0_part59_skel (F := F) := rfl
theorem k0_part60_eq_skeleton : k0_part60 (F := F) = Gen.k0_part60_skel (F := F) := rfl
theorem k0_part61_eq_skeleton : k0_part61 (F := F) = Gen.k0_part61_skel (F := F) := rfl
theorem k0_part62_eq_skeleton : k0_part62 (F := F) = Gen.k0_part62_skel (F := F) := rfl
theorem k0_part63_eq_skeleton : k0_part63 (F := F) = Gen.k0_part63_skel (F := F) := rfl
theorem k0_part64_eq_skeleton : k0_part64 (F := F) = Gen.k0_part64_skel (F := F) := rfl
theorem k0_part65_eq_skeleton : k0_part65 (F := F) = Gen.k0_part65_skel (F := F) := rfl
theorem k0_part66_eq_skeleton : k0_part66 (F := F) = Gen.k0_part66_skel (F := F) := rfl
theorem k0_part67_eq_skeleton : k0_part67 (F := F) = Gen.k0_part67_skel (F := F) := rfl
theorem k0_part68_eq_skeleton : k0_part68 (F := F) = Gen.k0_part68_skel (F := F) := rfl
theorem k0_part69_eq_skeleton : k0_part69 (F := F) = Gen.k0_part69_skel (F := F) := rfl
theorem k0_part70_eq_skeleton : k0_part70 (F := F) = Gen.k0_part70_skel (F := F) := rfl
theorem k0_part71_eq_skeleton : k0_part71 (F := F) = Gen.k0_part71_skel (F := F) := rfl
theorem k0_part72_eq_skeleton : k0_part72 (F := F) = Gen.k0_part72_skel (F := F) := rfl
theorem k0_part73_eq_skeleton : k0_part73 (F := F) = Gen.k0_part73_skel (F := F) := rfl
theorem k0_part74_eq_skeleton : k0_part74 (F := F) = Gen.k0_part74_skel (F := F) := rfl
theorem k0_part75_eq_skeleton : k0_part75 (F := F) = Gen.k0_part75_skel (F := F) := rfl
theorem k0_part76_eq_skeleton : k0_part76 (F := F) = Gen.k0_part76_skel (F := F) := rfl
theorem k0_part77_eq_skeleton : k0_part77 (F := F) = Gen.k0_part77_skel (F := F) := rfl
theorem k0_part78_eq_skeleton : k0_part78 (F := F) = Gen.k0_part78_skel (F := F) := rfl
theorem k0_part79_eq_skeleton : k0_part79 (F := F) = Gen.k0_part79_skel (F := F) := rfl
theorem k0_part80_eq_skeleton : k0_part80 (F := F) = Gen.k0_part80_skel (F := F) := rfl
theorem k0_part81_eq_skeleton : k0_part81 (F := F) = Gen.k0_part81_skel (F := F) := rfl
theorem k0_part82_eq_skeleton : k0_part82 (F := F) = Gen.k0_part82_skel (F := F) := rfl
theorem k0_part83_eq_skeleton : k0_part83 (F := F) = Gen.k0_part83_skel (F := F) := rfl
theorem k0_part84_eq_skeleton : k0_part84 (F := F) = Gen.k0_part84_skel (F := F) := rfl
theorem k0_part85_eq_skeleton : k0_part85 (F := F) = Gen.k0_part85_skel (F := F) := rfl
theorem k0_part86_eq_skeleton : k0_part86 (F := F) = Gen.k0_part86_skel (F := F) := rfl
theorem k0_part87_eq_skeleton : k0_part87 (F := F) = Gen.k0_part87_skel (F := F) := rfl
theorem k0_part88_eq_skeleton : k0_part88 (F := F) = Gen.k0_part88_skel (F := F) := rfl
theorem k0_part89_eq_skeleton : k0_part89 (F := F) = Gen.k0_part89_skel (F := F) := rfl
theorem k0_part90_eq_skeleton : k0_part90 (F := F) = Gen.k0_part90_skel (F := F) := rfl
theorem k0_part91_eq_skeleton : k0_part91 (F := F) = Gen.k0_part91_skel (F := F) := rfl
theorem k0_part92_eq_skeleton : k0_part92 (F := F) = Gen.k0_part92_skel (F := F) := rfl
theorem k0_part93_eq_skeleton : k0_part93 (F := F) = Gen.k0_part93_skel (F := F) := rfl
theorem k0_part94_eq_skeleton : k0_part94 (F := F) = Gen.k0_part94_skel (F := F) := rfl
theorem k0_part95_eq_skeleton : k0_part95 (F := F) = Gen.k0_part95_skel (F := F) := rfl
theorem k0_part120_eq_skeleton : k0_part120 (F := F) = Gen.k0_part120_skel (F := F) := rfl
theorem k0_part125_eq_skeleton : k0_part125 (F := F) = Gen.k0_part125_skel (F := F) := rfl
theorem k0_part146_eq_skeleton : k0_part146 (F := F) = Gen.k0_part146_skel (F := F) := rfl
theorem k0_part147_eq_skeleton : k0_part147 (F := F) = Gen.k0_part147_skel (F := F) := rfl

end Cert.AttnBwdIdeal

end
-- ==== Proof.AttnI.Trip.lean ====
module

public import proofs.«01_k».proof.Proof.AttnI.Parts
public import proofs.«01_k».proof.Proof.Gen.AttnBwdIdeal.Frame

@[expose] public section

/-! One trip of the loop over the later query blocks, run once: what it stores. -/

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕧" => Memref sig Kind.tc Space.vmem
local notation "𝕋" => Thread nD τ

variable {F : FTy → Type} [FloatOps F] [Named F]

local notation "𝕄" => MT nD τ sig Unit (Elt F) ℕ (UR sig nD τ) ℕ

/-- The contents of the eight buffers a trip carries on: the gradient of the cumulative gate at the query rows, the
    transposed query gradient, and per head the key, value and column sums. -/
structure Carried (F : FTy → Type) (c : Dev nD) (a13 : 𝕧 S2x11x1x768 .f32) (a14 : 𝕧 S11x128x768 .f32) (a16 : 𝕧 S768x128 .f32) (a17 : 𝕧 S768x128 .f32) (a18 : 𝕧 S768x1 .f32) (a24 : 𝕧 S768x128 .f32) (a25 : 𝕧 S768x128 .f32) (a26 : 𝕧 S768x1 .f32) where
  /-- The contents of `a13`. -/
  dcq : Buf (Elt F) (a13.view.loc (c : 𝕋))
  /-- The contents of `a14`. -/
  dqt : Buf (Elt F) (a14.view.loc (c : 𝕋))
  /-- The contents of `a16`. -/
  dk0 : Buf (Elt F) (a16.view.loc (c : 𝕋))
  /-- The contents of `a17`. -/
  dv0 : Buf (Elt F) (a17.view.loc (c : 𝕋))
  /-- The contents of `a18`. -/
  dc0 : Buf (Elt F) (a18.view.loc (c : 𝕋))
  /-- The contents of `a24`. -/
  dk1 : Buf (Elt F) (a24.view.loc (c : 𝕋))
  /-- The contents of `a25`. -/
  dv1 : Buf (Elt F) (a25.view.loc (c : 𝕋))
  /-- The contents of `a26`. -/
  dc1 : Buf (Elt F) (a26.view.loc (c : 𝕋))

/-- What a trip touches: the blocks it reads, the carried buffers at `s`, the score buffers at anything. -/
abbrev loopRes (c : Dev nD) (a2 : 𝕧 S8448x128 .bf16) (a3 : 𝕧 S8448x128 .bf16) (a6 : 𝕧 S2x11x1x768 .f32) (a7 : 𝕧 S2x11x1x768 .f32) (a8 : 𝕧 S2x11x1x768 .f32) (a13 : 𝕧 S2x11x1x768 .f32) (a14 : 𝕧 S11x128x768 .f32) (a15 : 𝕧 S128x768 .bf16) (a16 : 𝕧 S768x128 .f32) (a17 : 𝕧 S768x128 .f32) (a18 : 𝕧 S768x1 .f32) (a19 : 𝕧 S768x768 .f32) (a20 : 𝕧 S768x768 .f32) (a21 : 𝕧 S768x768 .bf16) (a22 : 𝕧 S768x768 .bf16) (a23 : 𝕧 S768x128 .f32) (a24 : 𝕧 S768x128 .f32) (a25 : 𝕧 S768x128 .f32) (a26 : 𝕧 S768x1 .f32) (a27 : 𝕧 S768x768 .f32) (a28 : 𝕧 S768x768 .f32) (a29 : 𝕧 S768x768 .bf16) (a30 : 𝕧 S768x768 .bf16) (a31 : 𝕧 S768x128 .f32) (g2 : Buf (Elt F) (a2.view.loc (c : 𝕋))) (g3 : Buf (Elt F) (a3.view.loc (c : 𝕋))) (g6 : Buf (Elt F) (a6.view.loc (c : 𝕋))) (g7 : Buf (Elt F) (a7.view.loc (c : 𝕋))) (g8 : Buf (Elt F) (a8.view.loc (c : 𝕋))) (g15 : Buf (Elt F) (a15.view.loc (c : 𝕋))) (g23 : Buf (Elt F) (a23.view.loc (c : 𝕋))) (g31 : Buf (Elt F) (a31.view.loc (c : 𝕋))) (s : Carried F c a13 a14 a16 a17 a18 a24 a25 a26) : sProp 𝕄 :=
  iprop((a2.view.loc (c : 𝕋) ↦[a2.view.set]{fullShare} g2) ∗ (a3.view.loc (c : 𝕋) ↦[a3.view.set]{fullShare} g3) ∗ (a6.view.loc (c : 𝕋) ↦[a6.view.set]{fullShare} g6) ∗ (a7.view.loc (c : 𝕋) ↦[a7.view.set]{fullShare} g7) ∗ (a8.view.loc (c : 𝕋) ↦[a8.view.set]{fullShare} g8) ∗ (a15.view.loc (c : 𝕋) ↦[a15.view.set]{fullShare} g15) ∗ (a23.view.loc (c : 𝕋) ↦[a23.view.set]{fullShare} g23) ∗ (a31.view.loc (c : 𝕋) ↦[a31.view.set]{fullShare} g31) ∗ (a13.view.loc (c : 𝕋) ↦[a13.view.set]{fullShare} (s.dcq)) ∗ (a14.view.loc (c : 𝕋) ↦[a14.view.set]{fullShare} (s.dqt)) ∗ (a16.view.loc (c : 𝕋) ↦[a16.view.set]{fullShare} (s.dk0)) ∗ (a17.view.loc (c : 𝕋) ↦[a17.view.set]{fullShare} (s.dv0)) ∗ (a18.view.loc (c : 𝕋) ↦[a18.view.set]{fullShare} (s.dc0)) ∗ (a24.view.loc (c : 𝕋) ↦[a24.view.set]{fullShare} (s.dk1)) ∗ (a25.view.loc (c : 𝕋) ↦[a25.view.set]{fullShare} (s.dv1)) ∗ (a26.view.loc (c : 𝕋) ↦[a26.view.set]{fullShare} (s.dc1)) ∗ (∃ f, (a19.view.loc (c : 𝕋) ↦[a19.view.set]{fullShare} f)) ∗ (∃ f, (a20.view.loc (c : 𝕋) ↦[a20.view.set]{fullShare} f)) ∗ (∃ f, (a21.view.loc (c : 𝕋) ↦[a21.view.set]{fullShare} f)) ∗ (∃ f, (a22.view.loc (c : 𝕋) ↦[a22.view.set]{fullShare} f)) ∗ (∃ f, (a27.view.loc (c : 𝕋) ↦[a27.view.set]{fullShare} f)) ∗ (∃ f, (a28.view.loc (c : 𝕋) ↦[a28.view.set]{fullShare} f)) ∗ (∃ f, (a29.view.loc (c : 𝕋) ↦[a29.view.set]{fullShare} f)) ∗ (∃ f, (a30.view.loc (c : 𝕋) ↦[a30.view.set]{fullShare} f)))

set_option maxHeartbeats 0 in
/-- One trip on query block `k`, from any contents: what it leaves in the carried buffers. -/
def trip (c : Dev nD) (i : grid0.Coords) (a2 : 𝕧 S8448x128 .bf16) (p2 : a2.IsWhole) (a3 : 𝕧 S8448x128 .bf16) (p3 : a3.IsWhole) (a4 : 𝕧 S768x128 .bf16) (p4 : a4.IsWhole) (a5 : 𝕧 S768x128 .bf16) (p5 : a5.IsWhole) (a6 : 𝕧 S2x11x1x768 .f32) (p6 : a6.IsWhole) (a7 : 𝕧 S2x11x1x768 .f32) (p7 : a7.IsWhole) (a8 : 𝕧 S2x11x1x768 .f32) (p8 : a8.IsWhole) (a9 : 𝕧 S8448x128 .bf16) (p9 : a9.IsWhole) (a10 : 𝕧 S768x128 .bf16) (p10 : a10.IsWhole) (a11 : 𝕧 S768x128 .bf16) (p11 : a11.IsWhole) (a12 : 𝕧 S2x1x1x768 .f32) (p12 : a12.IsWhole) (a13 : 𝕧 S2x11x1x768 .f32) (p13 : a13.IsWhole) (a14 : 𝕧 S11x128x768 .f32) (p14 : a14.IsWhole) (a15 : 𝕧 S128x768 .bf16) (p15 : a15.IsWhole) (a16 : 𝕧 S768x128 .f32) (p16 : a16.IsWhole) (a17 : 𝕧 S768x128 .f32) (p17 : a17.IsWhole) (a18 : 𝕧 S768x1 .f32) (p18 : a18.IsWhole) (a19 : 𝕧 S768x768 .f32) (p19 : a19.IsWhole) (a20 : 𝕧 S768x768 .f32) (p20 : a20.IsWhole) (a21 : 𝕧 S768x768 .bf16) (p21 : a21.IsWhole) (a22 : 𝕧 S768x768 .bf16) (p22 : a22.IsWhole) (a23 : 𝕧 S768x128 .f32) (p23 : a23.IsWhole) (a24 : 𝕧 S768x128 .f32) (p24 : a24.IsWhole) (a25 : 𝕧 S768x128 .f32) (p25 : a25.IsWhole) (a26 : 𝕧 S768x1 .f32) (p26 : a26.IsWhole) (a27 : 𝕧 S768x768 .f32) (p27 : a27.IsWhole) (a28 : 𝕧 S768x768 .f32) (p28 : a28.IsWhole) (a29 : 𝕧 S768x768 .bf16) (p29 : a29.IsWhole) (a30 : 𝕧 S768x768 .bf16) (p30 : a30.IsWhole) (a31 : 𝕧 S768x128 .f32) (p31 : a31.IsWhole) (a1 : BitVec 32) (v2 : IVec S768x128 1) (v6 : Vec F S768x128 .bf16) (v7 : Vec F S768x128 .bf16) (v16 : IVec S128x768 1) (v1108 : FVec F S128x768 .f32) (v2130 : FVec F S128x768 .f32) (v2140 : BitVec 32) (k : Fin (k0_t1_loop i).trips) (u : Unit)
    (g2 : Buf (Elt F) (a2.view.loc (c : 𝕋))) (g3 : Buf (Elt F) (a3.view.loc (c : 𝕋))) (g6 : Buf (Elt F) (a6.view.loc (c : 𝕋))) (g7 : Buf (Elt F) (a7.view.loc (c : 𝕋))) (g8 : Buf (Elt F) (a8.view.loc (c : 𝕋))) (g15 : Buf (Elt F) (a15.view.loc (c : 𝕋))) (g23 : Buf (Elt F) (a23.view.loc (c : 𝕋))) (g31 : Buf (Elt F) (a31.view.loc (c : 𝕋))) (s : Carried F c a13 a14 a16 a17 a18 a24 a25 a26) :
    { s' : Carried F c a13 a14 a16 a17 a18 a24 a25 a26 // ∀ (E : Set ℕ),
        loopRes (F := F) c a2 a3 a6 a7 a8 a13 a14 a15 a16 a17 a18 a19 a20 a21 a22 a23 a24 a25 a26 a27 a28 a29 a30 a31 g2 g3 g6 g7 g8 g15 g23 g31 s
        ⊢ wp frame (wpE (defs₀ (F := F)) Variants.none c none) E (k0_t1_body i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 k u)
          (fun _ => loopRes (F := F) c a2 a3 a6 a7 a8 a13 a14 a15 a16 a17 a18 a19 a20 a21 a22 a23 a24 a25 a26 a27 a28 a29 a30 a31 g2 g3 g6 g7 g8 g15 g23 g31 s') } := by
  refine ⟨⟨?_, ?_, ?_, ?_, ?_, ?_, ?_, ?_⟩, fun E => ?run⟩
  case run =>
    dsimp only [loopRes]
    iintro ⟨H2, H3, H6, H7, H8, H15, H23, H31, H13, H14, H16, H17, H18, H24, H25, H26, ⟨%t19, H19⟩, ⟨%t20, H20⟩, ⟨%t21, H21⟩, ⟨%t22, H22⟩, ⟨%t27, H27⟩, ⟨%t28, H28⟩, ⟨%t29, H29⟩, ⟨%t30, H30⟩⟩
    unfold k0_t1_body
    sl_exec_parts
    sl_step
    isplitl [H2]; · iexact H2
    isplitl [H3]; · iexact H3
    isplitl [H6]; · iexact H6
    isplitl [H7]; · iexact H7
    isplitl [H8]; · iexact H8
    isplitl [H15]; · iexact H15
    isplitl [H23]; · iexact H23
    isplitl [H31]; · iexact H31
    isplitl [H13]; · iexact H13
    isplitl [H14]; · iexact H14
    isplitl [H16]; · iexact H16
    isplitl [H17]; · iexact H17
    isplitl [H18]; · iexact H18
    isplitl [H24]; · iexact H24
    isplitl [H25]; · iexact H25
    isplitl [H26]; · iexact H26
    isplitl [H19]; · iexists _; iexact H19
    isplitl [H20]; · iexists _; iexact H20
    isplitl [H21]; · iexists _; iexact H21
    isplitl [H22]; · iexists _; iexact H22
    isplitl [H27]; · iexists _; iexact H27
    isplitl [H28]; · iexists _; iexact H28
    isplitl [H29]; · iexists _; iexact H29
    iexists _; iexact H30
  all_goals exact []

end Cert.AttnBwdIdeal.Hand

end
-- ==== Proof.AttnI.Loop.lean ====
module

public import proofs.«01_k».proof.Proof.AttnI.Trip

@[expose] public section

/-! The two counted loops of the body: the loop over the later query blocks carries the contents its trips build up; the remainder loop has no trips. -/

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕧" => Memref sig Kind.tc Space.vmem
local notation "𝕋" => Thread nD τ

variable {F : FTy → Type} [FloatOps F] [Named F]

local notation "𝕄" => MT nD τ sig Unit (Elt F) ℕ (UR sig nD τ) ℕ

section
variable (c : Dev nD) (i : grid0.Coords) (a2 : 𝕧 S8448x128 .bf16) (p2 : a2.IsWhole) (a3 : 𝕧 S8448x128 .bf16) (p3 : a3.IsWhole) (a4 : 𝕧 S768x128 .bf16) (p4 : a4.IsWhole) (a5 : 𝕧 S768x128 .bf16) (p5 : a5.IsWhole) (a6 : 𝕧 S2x11x1x768 .f32) (p6 : a6.IsWhole) (a7 : 𝕧 S2x11x1x768 .f32) (p7 : a7.IsWhole) (a8 : 𝕧 S2x11x1x768 .f32) (p8 : a8.IsWhole) (a9 : 𝕧 S8448x128 .bf16) (p9 : a9.IsWhole) (a10 : 𝕧 S768x128 .bf16) (p10 : a10.IsWhole) (a11 : 𝕧 S768x128 .bf16) (p11 : a11.IsWhole) (a12 : 𝕧 S2x1x1x768 .f32) (p12 : a12.IsWhole) (a13 : 𝕧 S2x11x1x768 .f32) (p13 : a13.IsWhole) (a14 : 𝕧 S11x128x768 .f32) (p14 : a14.IsWhole) (a15 : 𝕧 S128x768 .bf16) (p15 : a15.IsWhole) (a16 : 𝕧 S768x128 .f32) (p16 : a16.IsWhole) (a17 : 𝕧 S768x128 .f32) (p17 : a17.IsWhole) (a18 : 𝕧 S768x1 .f32) (p18 : a18.IsWhole) (a19 : 𝕧 S768x768 .f32) (p19 : a19.IsWhole) (a20 : 𝕧 S768x768 .f32) (p20 : a20.IsWhole) (a21 : 𝕧 S768x768 .bf16) (p21 : a21.IsWhole) (a22 : 𝕧 S768x768 .bf16) (p22 : a22.IsWhole) (a23 : 𝕧 S768x128 .f32) (p23 : a23.IsWhole) (a24 : 𝕧 S768x128 .f32) (p24 : a24.IsWhole) (a25 : 𝕧 S768x128 .f32) (p25 : a25.IsWhole) (a26 : 𝕧 S768x1 .f32) (p26 : a26.IsWhole) (a27 : 𝕧 S768x768 .f32) (p27 : a27.IsWhole) (a28 : 𝕧 S768x768 .f32) (p28 : a28.IsWhole) (a29 : 𝕧 S768x768 .bf16) (p29 : a29.IsWhole) (a30 : 𝕧 S768x768 .bf16) (p30 : a30.IsWhole) (a31 : 𝕧 S768x128 .f32) (p31 : a31.IsWhole) (a1 : BitVec 32) (v2 : IVec S768x128 1) (v6 : Vec F S768x128 .bf16) (v7 : Vec F S768x128 .bf16) (v16 : IVec S128x768 1) (v1108 : FVec F S128x768 .f32) (v2130 : FVec F S128x768 .f32) (v2140 : BitVec 32)
  (g2 : Buf (Elt F) (a2.view.loc (c : 𝕋))) (g3 : Buf (Elt F) (a3.view.loc (c : 𝕋))) (g6 : Buf (Elt F) (a6.view.loc (c : 𝕋))) (g7 : Buf (Elt F) (a7.view.loc (c : 𝕋))) (g8 : Buf (Elt F) (a8.view.loc (c : 𝕋))) (g15 : Buf (Elt F) (a15.view.loc (c : 𝕋))) (g23 : Buf (Elt F) (a23.view.loc (c : 𝕋))) (g31 : Buf (Elt F) (a31.view.loc (c : 𝕋)))

/-- The carried contents before trip `k` of the loop entered at `s`. -/
def carried (s : Carried F c a13 a14 a16 a17 a18 a24 a25 a26) : ℕ → Carried F c a13 a14 a16 a17 a18 a24 a25 a26
  | 0 => s
  | k + 1 => if h : k < (k0_t1_loop i).trips then (trip c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 ⟨k, h⟩ () g2 g3 g6 g7 g8 g15 g23 g31 (carried s k)).1 else carried s k

theorem carried_succ (s : Carried F c a13 a14 a16 a17 a18 a24 a25 a26) (k : Fin (k0_t1_loop i).trips) (u : Unit) :
    carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 s (k.val + 1) = (trip c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 k u g2 g3 g6 g7 g8 g15 g23 g31 (carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 s k.val)).1 := by
  rw [carried, dif_pos k.isLt]

/-- The remainder loop has no trips. -/
theorem trips2_eq : (k0_t2_loop i).trips = 0 := by
  have key : ∀ j : Fin 11, Scf.trips (Scalar.addi (Scalar.addi (BitVec.ofNat 32 j.val) 1#32) (Scalar.muli (Scalar.divsi (Scalar.subi 11#32 (Scalar.addi (BitVec.ofNat 32 j.val) 1#32)) 1#32) 1#32))
      (Scalar.addi (Scalar.addi (BitVec.ofNat 32 j.val) 1#32) (Scalar.subi 11#32 (Scalar.addi (BitVec.ofNat 32 j.val) 1#32))) 1#32 = 0 := by decide +kernel
  exact key (i 1)

/-- The main loop of row `j` has `10 - j` trips. -/
theorem trips1_eq : (k0_t1_loop i).trips = 10 - (i 1).val := by
  have key : ∀ j : Fin 11, Scf.trips (Scalar.addi (BitVec.ofNat 32 j.val) 1#32)
      (Scalar.addi (Scalar.addi (BitVec.ofNat 32 j.val) 1#32) (Scalar.muli (Scalar.divsi (Scalar.subi 11#32 (Scalar.addi (BitVec.ofNat 32 j.val) 1#32)) 1#32) 1#32)) 1#32 = 10 - j.val := by decide +kernel
  exact key (i 1)

/-- The contents at loop entry, or those `t` after the trips so far. -/
@[reducible] def pick {α : Type} (f : α) (k : ℕ) (t : α) : α :=
  match k with
  | 0 => f
  | _ + 1 => t

theorem pick_gen (a13 : 𝕧 S2x11x1x768 .f32) (a14 : 𝕧 S11x128x768 .f32) (a16 : 𝕧 S768x128 .f32) (a17 : 𝕧 S768x128 .f32) (a18 : 𝕧 S768x1 .f32) (a24 : 𝕧 S768x128 .f32) (a25 : 𝕧 S768x128 .f32) (a26 : 𝕧 S768x1 .f32) (s t : Carried F c a13 a14 a16 a17 a18 a24 a25 a26) (k : ℕ) (h : k = 0 → t = s) :
    (⟨pick s.dcq k t.dcq, pick s.dqt k t.dqt, pick s.dk0 k t.dk0, pick s.dv0 k t.dv0, pick s.dc0 k t.dc0, pick s.dk1 k t.dk1, pick s.dv1 k t.dv1, pick s.dc1 k t.dc1⟩ : Carried F c a13 a14 a16 a17 a18 a24 a25 a26) = t := by
  cases k with
  | zero => obtain rfl := h rfl; rfl
  | succ n => rfl

theorem carried_zero (s : Carried F c a13 a14 a16 a17 a18 a24 a25 a26) : carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 s 0 = s := by rw [carried]

theorem pick_eq (f13 : Buf (Elt F) (a13.view.loc (c : 𝕋))) (f14 : Buf (Elt F) (a14.view.loc (c : 𝕋))) (f16 : Buf (Elt F) (a16.view.loc (c : 𝕋))) (f17 : Buf (Elt F) (a17.view.loc (c : 𝕋))) (f18 : Buf (Elt F) (a18.view.loc (c : 𝕋))) (f24 : Buf (Elt F) (a24.view.loc (c : 𝕋))) (f25 : Buf (Elt F) (a25.view.loc (c : 𝕋))) (f26 : Buf (Elt F) (a26.view.loc (c : 𝕋))) (k : ℕ) :
    (⟨pick f13 k (carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 ⟨f13,f14,f16,f17,f18,f24,f25,f26⟩ k).dcq, pick f14 k (carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 ⟨f13,f14,f16,f17,f18,f24,f25,f26⟩ k).dqt, pick f16 k (carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 ⟨f13,f14,f16,f17,f18,f24,f25,f26⟩ k).dk0, pick f17 k (carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 ⟨f13,f14,f16,f17,f18,f24,f25,f26⟩ k).dv0, pick f18 k (carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 ⟨f13,f14,f16,f17,f18,f24,f25,f26⟩ k).dc0, pick f24 k (carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 ⟨f13,f14,f16,f17,f18,f24,f25,f26⟩ k).dk1, pick f25 k (carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 ⟨f13,f14,f16,f17,f18,f24,f25,f26⟩ k).dv1, pick f26 k (carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 ⟨f13,f14,f16,f17,f18,f24,f25,f26⟩ k).dc1⟩ : Carried F c a13 a14 a16 a17 a18 a24 a25 a26)
      = carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 ⟨f13, f14, f16, f17, f18, f24, f25, f26⟩ k :=
  pick_gen c a13 a14 a16 a17 a18 a24 a25 a26 ⟨f13, f14, f16, f17, f18, f24, f25, f26⟩ _ k fun h => by rw [h, carried_zero]

set_option warn.classDefReducibility false in
set_option maxHeartbeats 1600000 in
/-- The main loop: before trip `k` the carried buffers hold `carried … k`. -/
@[sl_loop] def loopMain (E : Set ℕ) (f13 : Buf (Elt F) (a13.view.loc (c : 𝕋))) (f14 : Buf (Elt F) (a14.view.loc (c : 𝕋))) (f16 : Buf (Elt F) (a16.view.loc (c : 𝕋))) (f17 : Buf (Elt F) (a17.view.loc (c : 𝕋))) (f18 : Buf (Elt F) (a18.view.loc (c : 𝕋))) (f24 : Buf (Elt F) (a24.view.loc (c : 𝕋))) (f25 : Buf (Elt F) (a25.view.loc (c : 𝕋))) (f26 : Buf (Elt F) (a26.view.loc (c : 𝕋))) :
    LoopInvTy_k0_t1 (F := F) Unit ℕ (UR sig nD τ) ℕ Variants.none c none E i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 where
  inv k _ := loopRes (F := F) c a2 a3 a6 a7 a8 a13 a14 a15 a16 a17 a18 a19 a20 a21 a22 a23 a24 a25 a26 a27 a28 a29 a30 a31 g2 g3 g6 g7 g8 g15 g23 g31 ⟨pick f13 k (carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 ⟨f13,f14,f16,f17,f18,f24,f25,f26⟩ k).dcq, pick f14 k (carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 ⟨f13,f14,f16,f17,f18,f24,f25,f26⟩ k).dqt, pick f16 k (carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 ⟨f13,f14,f16,f17,f18,f24,f25,f26⟩ k).dk0, pick f17 k (carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 ⟨f13,f14,f16,f17,f18,f24,f25,f26⟩ k).dv0, pick f18 k (carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 ⟨f13,f14,f16,f17,f18,f24,f25,f26⟩ k).dc0, pick f24 k (carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 ⟨f13,f14,f16,f17,f18,f24,f25,f26⟩ k).dk1, pick f25 k (carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 ⟨f13,f14,f16,f17,f18,f24,f25,f26⟩ k).dv1, pick f26 k (carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 ⟨f13,f14,f16,f17,f18,f24,f25,f26⟩ k).dc1⟩
  step k u := by
    rw [pick_eq c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 f13 f14 f16 f17 f18 f24 f25 f26 k.val, pick_eq c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 f13 f14 f16 f17 f18 f24 f25 f26 (k.val + 1), carried_succ c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 g2 g3 g6 g7 g8 g15 g23 g31 _ k u]
    exact (trip c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 k u g2 g3 g6 g7 g8 g15 g23 g31 _).2 E

set_option warn.classDefReducibility false in
/-- The remainder loop: nothing to show, there being no trip. -/
@[sl_loop] def loopRest (E : Set ℕ) :
    LoopInvTy_k0_t2 (F := F) Unit ℕ (UR sig nD τ) ℕ Variants.none c none E i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 where
  inv _ _ := iprop(emp)
  step k _ := (Nat.not_lt_zero _ (Nat.lt_of_lt_of_eq k.isLt (trips2_eq i))).elim

end

end Cert.AttnBwdIdeal.Hand

end
-- ==== Proof.AttnI.Left.lean ====
module

public import proofs.«01_k».proof.Proof.AttnI.Loop

@[expose] public section

/-! What a run of the body leaves, and the conditions of its two branches. -/

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The body starts a column of query blocks: the grid's second coordinate is 0. -/
abbrev condFirst (i : grid0.Coords) : Prop := (Scalar.cmpi .ne (Scalar.extui (Scalar.cmpi .eq (BitVec.ofNat 32 (i 1).val) 0#32)) 0#32) = 1#1
/-- The body ends it: the second coordinate is 10. -/
abbrev condLast (i : grid0.Coords) : Prop := k0_cond2 i = 1#1

/-- What a run leaves: the pieces stored in the four outputs it stores anew, and the contents of the two buffers it
    carries from point to point. -/
structure Left (F : FTy → Type) (c : Dev nD) (a13 : Memref sig .tc .vmem S2x11x1x768 .f32) (a14 : Memref sig .tc .vmem S11x128x768 .f32) where
  dq : List (View.Piece (Elt F) S8448x128 .bf16)
  dk : List (View.Piece (Elt F) S768x128 .bf16)
  dv : List (View.Piece (Elt F) S768x128 .bf16)
  dcs : List (View.Piece (Elt F) S2x1x1x768 .f32)
  dcq : Buf (Elt F) (a13.view.loc (c : Thread nD τ))
  dqt : Buf (Elt F) (a14.view.loc (c : Thread nD τ))

end Cert.AttnBwdIdeal.Hand

end
-- ==== Proof.AttnI.RunA.lean ====
module

public import proofs.«01_k».proof.Proof.AttnI.Left

@[expose] public section

/-! The body run once at the first point of a row of the grid. -/

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕧" => Memref sig Kind.tc Space.vmem
local notation "𝕋" => Thread nD τ

variable {F : FTy → Type} [FloatOps F] [Named F]

local notation "𝕄" => MT nD τ sig Unit (Elt F) ℕ (UR sig nD τ) ℕ

set_option maxHeartbeats 0 in
/-- The body at the first point of a row of the grid: what it leaves in the outputs and the two carried buffers. -/
def runA (c : Dev nD) (i : grid0.Coords) (a2 : 𝕧 S8448x128 .bf16) (p2 : a2.IsWhole) (a3 : 𝕧 S8448x128 .bf16) (p3 : a3.IsWhole) (a4 : 𝕧 S768x128 .bf16) (p4 : a4.IsWhole) (a5 : 𝕧 S768x128 .bf16) (p5 : a5.IsWhole) (a6 : 𝕧 S2x11x1x768 .f32) (p6 : a6.IsWhole) (a7 : 𝕧 S2x11x1x768 .f32) (p7 : a7.IsWhole) (a8 : 𝕧 S2x11x1x768 .f32) (p8 : a8.IsWhole) (a9 : 𝕧 S8448x128 .bf16) (p9 : a9.IsWhole) (a10 : 𝕧 S768x128 .bf16) (p10 : a10.IsWhole) (a11 : 𝕧 S768x128 .bf16) (p11 : a11.IsWhole) (a12 : 𝕧 S2x1x1x768 .f32) (p12 : a12.IsWhole) (a13 : 𝕧 S2x11x1x768 .f32) (p13 : a13.IsWhole) (a14 : 𝕧 S11x128x768 .f32) (p14 : a14.IsWhole) (a15 : 𝕧 S128x768 .bf16) (p15 : a15.IsWhole) (a16 : 𝕧 S768x128 .f32) (p16 : a16.IsWhole) (a17 : 𝕧 S768x128 .f32) (p17 : a17.IsWhole) (a18 : 𝕧 S768x1 .f32) (p18 : a18.IsWhole) (a19 : 𝕧 S768x768 .f32) (p19 : a19.IsWhole) (a20 : 𝕧 S768x768 .f32) (p20 : a20.IsWhole) (a21 : 𝕧 S768x768 .bf16) (p21 : a21.IsWhole) (a22 : 𝕧 S768x768 .bf16) (p22 : a22.IsWhole) (a23 : 𝕧 S768x128 .f32) (p23 : a23.IsWhole) (a24 : 𝕧 S768x128 .f32) (p24 : a24.IsWhole) (a25 : 𝕧 S768x128 .f32) (p25 : a25.IsWhole) (a26 : 𝕧 S768x1 .f32) (p26 : a26.IsWhole) (a27 : 𝕧 S768x768 .f32) (p27 : a27.IsWhole) (a28 : 𝕧 S768x768 .f32) (p28 : a28.IsWhole) (a29 : 𝕧 S768x768 .bf16) (p29 : a29.IsWhole) (a30 : 𝕧 S768x768 .bf16) (p30 : a30.IsWhole) (a31 : 𝕧 S768x128 .f32) (p31 : a31.IsWhole) (hc0 : condFirst i) (hc1 : ¬ condLast i)
    (g2 : Buf (Elt F) (a2.view.loc (c : 𝕋))) (g3 : Buf (Elt F) (a3.view.loc (c : 𝕋))) (g4 : Buf (Elt F) (a4.view.loc (c : 𝕋))) (g5 : Buf (Elt F) (a5.view.loc (c : 𝕋))) (g6 : Buf (Elt F) (a6.view.loc (c : 𝕋))) (g7 : Buf (Elt F) (a7.view.loc (c : 𝕋))) (g8 : Buf (Elt F) (a8.view.loc (c : 𝕋))) :
    { r : Left F c a13 a14 // ∀ (E : Set ℕ) (K : PUnit → sProp 𝕄) (f9 : Buf (Elt F) (a9.view.loc (c : 𝕋))) (f10 : Buf (Elt F) (a10.view.loc (c : 𝕋))) (f11 : Buf (Elt F) (a11.view.loc (c : 𝕋))) (f12 : Buf (Elt F) (a12.view.loc (c : 𝕋))) (f13 : Buf (Elt F) (a13.view.loc (c : 𝕋))) (f14 : Buf (Elt F) (a14.view.loc (c : 𝕋))) (f15 : Buf (Elt F) (a15.view.loc (c : 𝕋))) (f16 : Buf (Elt F) (a16.view.loc (c : 𝕋))) (f17 : Buf (Elt F) (a17.view.loc (c : 𝕋))) (f18 : Buf (Elt F) (a18.view.loc (c : 𝕋))) (f19 : Buf (Elt F) (a19.view.loc (c : 𝕋))) (f20 : Buf (Elt F) (a20.view.loc (c : 𝕋))) (f21 : Buf (Elt F) (a21.view.loc (c : 𝕋))) (f22 : Buf (Elt F) (a22.view.loc (c : 𝕋))) (f23 : Buf (Elt F) (a23.view.loc (c : 𝕋))) (f24 : Buf (Elt F) (a24.view.loc (c : 𝕋))) (f25 : Buf (Elt F) (a25.view.loc (c : 𝕋))) (f26 : Buf (Elt F) (a26.view.loc (c : 𝕋))) (f27 : Buf (Elt F) (a27.view.loc (c : 𝕋))) (f28 : Buf (Elt F) (a28.view.loc (c : 𝕋))) (f29 : Buf (Elt F) (a29.view.loc (c : 𝕋))) (f30 : Buf (Elt F) (a30.view.loc (c : 𝕋))) (f31 : Buf (Elt F) (a31.view.loc (c : 𝕋))),
        (iprop((a2.view.loc (c : 𝕋) ↦[a2.view.set]{fullShare} g2) ∗ (a3.view.loc (c : 𝕋) ↦[a3.view.set]{fullShare} g3) ∗ (a4.view.loc (c : 𝕋) ↦[a4.view.set]{fullShare} g4) ∗ (a5.view.loc (c : 𝕋) ↦[a5.view.set]{fullShare} g5) ∗ (a6.view.loc (c : 𝕋) ↦[a6.view.set]{fullShare} g6) ∗ (a7.view.loc (c : 𝕋) ↦[a7.view.set]{fullShare} g7) ∗ (a8.view.loc (c : 𝕋) ↦[a8.view.set]{fullShare} g8) ∗ (a9.view.loc (c : 𝕋) ↦[a9.view.set]{fullShare} f9) ∗ (a10.view.loc (c : 𝕋) ↦[a10.view.set]{fullShare} f10) ∗ (a11.view.loc (c : 𝕋) ↦[a11.view.set]{fullShare} f11) ∗ (a12.view.loc (c : 𝕋) ↦[a12.view.set]{fullShare} f12) ∗ (a13.view.loc (c : 𝕋) ↦[a13.view.set]{fullShare} f13) ∗ (a14.view.loc (c : 𝕋) ↦[a14.view.set]{fullShare} f14) ∗ (a15.view.loc (c : 𝕋) ↦[a15.view.set]{fullShare} f15) ∗ (a16.view.loc (c : 𝕋) ↦[a16.view.set]{fullShare} f16) ∗ (a17.view.loc (c : 𝕋) ↦[a17.view.set]{fullShare} f17) ∗ (a18.view.loc (c : 𝕋) ↦[a18.view.set]{fullShare} f18) ∗ (a19.view.loc (c : 𝕋) ↦[a19.view.set]{fullShare} f19) ∗ (a20.view.loc (c : 𝕋) ↦[a20.view.set]{fullShare} f20) ∗ (a21.view.loc (c : 𝕋) ↦[a21.view.set]{fullShare} f21) ∗ (a22.view.loc (c : 𝕋) ↦[a22.view.set]{fullShare} f22) ∗ (a23.view.loc (c : 𝕋) ↦[a23.view.set]{fullShare} f23) ∗ (a24.view.loc (c : 𝕋) ↦[a24.view.set]{fullShare} f24) ∗ (a25.view.loc (c : 𝕋) ↦[a25.view.set]{fullShare} f25) ∗ (a26.view.loc (c : 𝕋) ↦[a26.view.set]{fullShare} f26) ∗ (a27.view.loc (c : 𝕋) ↦[a27.view.set]{fullShare} f27) ∗ (a28.view.loc (c : 𝕋) ↦[a28.view.set]{fullShare} f28) ∗ (a29.view.loc (c : 𝕋) ↦[a29.view.set]{fullShare} f29) ∗ (a30.view.loc (c : 𝕋) ↦[a30.view.set]{fullShare} f30) ∗ (a31.view.loc (c : 𝕋) ↦[a31.view.set]{fullShare} f31) ∗ (((a2.view.loc (c : 𝕋) ↦[a2.view.set]{fullShare} g2) ∗ (a3.view.loc (c : 𝕋) ↦[a3.view.set]{fullShare} g3) ∗ (a4.view.loc (c : 𝕋) ↦[a4.view.set]{fullShare} g4) ∗ (a5.view.loc (c : 𝕋) ↦[a5.view.set]{fullShare} g5) ∗ (a6.view.loc (c : 𝕋) ↦[a6.view.set]{fullShare} g6) ∗ (a7.view.loc (c : 𝕋) ↦[a7.view.set]{fullShare} g7) ∗ (a8.view.loc (c : 𝕋) ↦[a8.view.set]{fullShare} g8) ∗ (a9.view.loc (c : 𝕋) ↦[a9.view.set]{fullShare} f9) ∗ (a10.view.loc (c : 𝕋) ↦[a10.view.set]{fullShare} (a10.view.writes (Elt F) f10 r.dk)) ∗ (a11.view.loc (c : 𝕋) ↦[a11.view.set]{fullShare} (a11.view.writes (Elt F) f11 r.dv)) ∗ (a12.view.loc (c : 𝕋) ↦[a12.view.set]{fullShare} (a12.view.writes (Elt F) f12 r.dcs)) ∗ (a13.view.loc (c : 𝕋) ↦[a13.view.set]{fullShare} (r.dcq)) ∗ (a14.view.loc (c : 𝕋) ↦[a14.view.set]{fullShare} (r.dqt)) ∗ (∃ f, (a15.view.loc (c : 𝕋) ↦[a15.view.set]{fullShare} f)) ∗ (∃ f, (a16.view.loc (c : 𝕋) ↦[a16.view.set]{fullShare} f)) ∗ (∃ f, (a17.view.loc (c : 𝕋) ↦[a17.view.set]{fullShare} f)) ∗ (∃ f, (a18.view.loc (c : 𝕋) ↦[a18.view.set]{fullShare} f)) ∗ (∃ f, (a19.view.loc (c : 𝕋) ↦[a19.view.set]{fullShare} f)) ∗ (∃ f, (a20.view.loc (c : 𝕋) ↦[a20.view.set]{fullShare} f)) ∗ (∃ f, (a21.view.loc (c : 𝕋) ↦[a21.view.set]{fullShare} f)) ∗ (∃ f, (a22.view.loc (c : 𝕋) ↦[a22.view.set]{fullShare} f)) ∗ (∃ f, (a23.view.loc (c : 𝕋) ↦[a23.view.set]{fullShare} f)) ∗ (∃ f, (a24.view.loc (c : 𝕋) ↦[a24.view.set]{fullShare} f)) ∗ (∃ f, (a25.view.loc (c : 𝕋) ↦[a25.view.set]{fullShare} f)) ∗ (∃ f, (a26.view.loc (c : 𝕋) ↦[a26.view.set]{fullShare} f)) ∗ (∃ f, (a27.view.loc (c : 𝕋) ↦[a27.view.set]{fullShare} f)) ∗ (∃ f, (a28.view.loc (c : 𝕋) ↦[a28.view.set]{fullShare} f)) ∗ (∃ f, (a29.view.loc (c : 𝕋) ↦[a29.view.set]{fullShare} f)) ∗ (∃ f, (a30.view.loc (c : 𝕋) ↦[a30.view.set]{fullShare} f)) ∗ (∃ f, (a31.view.loc (c : 𝕋) ↦[a31.view.set]{fullShare} f))) -∗ K ⟨⟩)) : sProp 𝕄)
        ⊢ wp frame (wpE (defs₀ (F := F)) Variants.none c none) E (cc0_attn_bwd i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31) K } := by
  refine ⟨⟨[], ?_, ?_, ?_, ?_, ?_⟩, fun E K f9 f10 f11 f12 f13 f14 f15 f16 f17 f18 f19 f20 f21 f22 f23 f24 f25 f26 f27 f28 f29 f30 f31 => ?run⟩
  case run =>
    simp only [cc0_attn_bwd_eq_skeleton]
    unfold cc0_attn_bwd_skel
    simp only [k0_part148_eq_skeleton]
    unfold k0_part148_skel
    simp only [Cert.AttnBwdIdeal.k0_part147_eq_skeleton]
    unfold k0_part147_skel
    iintro ⟨H2, H3, H4, H5, H6, H7, H8, H9, H10, H11, H12, H13, H14, H15, H16, H17, H18, H19, H20, H21, H22, H23, H24, H25, H26, H27, H28, H29, H30, H31, Hk⟩
    sl_exec_parts (disch := first | sl_exact hc0 | sl_exact hc1)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    iexists _; iexact H31
  all_goals exact []

end Cert.AttnBwdIdeal.Hand

end
-- ==== Proof.AttnI.RunB.lean ====
module

public import proofs.«01_k».proof.Proof.AttnI.Left

@[expose] public section

/-! The body run once at an inner point of a row of the grid. -/

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕧" => Memref sig Kind.tc Space.vmem
local notation "𝕋" => Thread nD τ

variable {F : FTy → Type} [FloatOps F] [Named F]

local notation "𝕄" => MT nD τ sig Unit (Elt F) ℕ (UR sig nD τ) ℕ

set_option maxHeartbeats 0 in
/-- The body at an inner point of a row of the grid: what it leaves in the outputs and the two carried buffers. -/
def runB (c : Dev nD) (i : grid0.Coords) (a2 : 𝕧 S8448x128 .bf16) (p2 : a2.IsWhole) (a3 : 𝕧 S8448x128 .bf16) (p3 : a3.IsWhole) (a4 : 𝕧 S768x128 .bf16) (p4 : a4.IsWhole) (a5 : 𝕧 S768x128 .bf16) (p5 : a5.IsWhole) (a6 : 𝕧 S2x11x1x768 .f32) (p6 : a6.IsWhole) (a7 : 𝕧 S2x11x1x768 .f32) (p7 : a7.IsWhole) (a8 : 𝕧 S2x11x1x768 .f32) (p8 : a8.IsWhole) (a9 : 𝕧 S8448x128 .bf16) (p9 : a9.IsWhole) (a10 : 𝕧 S768x128 .bf16) (p10 : a10.IsWhole) (a11 : 𝕧 S768x128 .bf16) (p11 : a11.IsWhole) (a12 : 𝕧 S2x1x1x768 .f32) (p12 : a12.IsWhole) (a13 : 𝕧 S2x11x1x768 .f32) (p13 : a13.IsWhole) (a14 : 𝕧 S11x128x768 .f32) (p14 : a14.IsWhole) (a15 : 𝕧 S128x768 .bf16) (p15 : a15.IsWhole) (a16 : 𝕧 S768x128 .f32) (p16 : a16.IsWhole) (a17 : 𝕧 S768x128 .f32) (p17 : a17.IsWhole) (a18 : 𝕧 S768x1 .f32) (p18 : a18.IsWhole) (a19 : 𝕧 S768x768 .f32) (p19 : a19.IsWhole) (a20 : 𝕧 S768x768 .f32) (p20 : a20.IsWhole) (a21 : 𝕧 S768x768 .bf16) (p21 : a21.IsWhole) (a22 : 𝕧 S768x768 .bf16) (p22 : a22.IsWhole) (a23 : 𝕧 S768x128 .f32) (p23 : a23.IsWhole) (a24 : 𝕧 S768x128 .f32) (p24 : a24.IsWhole) (a25 : 𝕧 S768x128 .f32) (p25 : a25.IsWhole) (a26 : 𝕧 S768x1 .f32) (p26 : a26.IsWhole) (a27 : 𝕧 S768x768 .f32) (p27 : a27.IsWhole) (a28 : 𝕧 S768x768 .f32) (p28 : a28.IsWhole) (a29 : 𝕧 S768x768 .bf16) (p29 : a29.IsWhole) (a30 : 𝕧 S768x768 .bf16) (p30 : a30.IsWhole) (a31 : 𝕧 S768x128 .f32) (p31 : a31.IsWhole) (hc0 : ¬ condFirst i) (hc1 : ¬ condLast i)
    (g2 : Buf (Elt F) (a2.view.loc (c : 𝕋))) (g3 : Buf (Elt F) (a3.view.loc (c : 𝕋))) (g4 : Buf (Elt F) (a4.view.loc (c : 𝕋))) (g5 : Buf (Elt F) (a5.view.loc (c : 𝕋))) (g6 : Buf (Elt F) (a6.view.loc (c : 𝕋))) (g7 : Buf (Elt F) (a7.view.loc (c : 𝕋))) (g8 : Buf (Elt F) (a8.view.loc (c : 𝕋))) (f13 : Buf (Elt F) (a13.view.loc (c : 𝕋))) (f14 : Buf (Elt F) (a14.view.loc (c : 𝕋))) :
    { r : Left F c a13 a14 // ∀ (E : Set ℕ) (K : PUnit → sProp 𝕄) (f9 : Buf (Elt F) (a9.view.loc (c : 𝕋))) (f10 : Buf (Elt F) (a10.view.loc (c : 𝕋))) (f11 : Buf (Elt F) (a11.view.loc (c : 𝕋))) (f12 : Buf (Elt F) (a12.view.loc (c : 𝕋))) (f15 : Buf (Elt F) (a15.view.loc (c : 𝕋))) (f16 : Buf (Elt F) (a16.view.loc (c : 𝕋))) (f17 : Buf (Elt F) (a17.view.loc (c : 𝕋))) (f18 : Buf (Elt F) (a18.view.loc (c : 𝕋))) (f19 : Buf (Elt F) (a19.view.loc (c : 𝕋))) (f20 : Buf (Elt F) (a20.view.loc (c : 𝕋))) (f21 : Buf (Elt F) (a21.view.loc (c : 𝕋))) (f22 : Buf (Elt F) (a22.view.loc (c : 𝕋))) (f23 : Buf (Elt F) (a23.view.loc (c : 𝕋))) (f24 : Buf (Elt F) (a24.view.loc (c : 𝕋))) (f25 : Buf (Elt F) (a25.view.loc (c : 𝕋))) (f26 : Buf (Elt F) (a26.view.loc (c : 𝕋))) (f27 : Buf (Elt F) (a27.view.loc (c : 𝕋))) (f28 : Buf (Elt F) (a28.view.loc (c : 𝕋))) (f29 : Buf (Elt F) (a29.view.loc (c : 𝕋))) (f30 : Buf (Elt F) (a30.view.loc (c : 𝕋))) (f31 : Buf (Elt F) (a31.view.loc (c : 𝕋))),
        (iprop((a2.view.loc (c : 𝕋) ↦[a2.view.set]{fullShare} g2) ∗ (a3.view.loc (c : 𝕋) ↦[a3.view.set]{fullShare} g3) ∗ (a4.view.loc (c : 𝕋) ↦[a4.view.set]{fullShare} g4) ∗ (a5.view.loc (c : 𝕋) ↦[a5.view.set]{fullShare} g5) ∗ (a6.view.loc (c : 𝕋) ↦[a6.view.set]{fullShare} g6) ∗ (a7.view.loc (c : 𝕋) ↦[a7.view.set]{fullShare} g7) ∗ (a8.view.loc (c : 𝕋) ↦[a8.view.set]{fullShare} g8) ∗ (a9.view.loc (c : 𝕋) ↦[a9.view.set]{fullShare} f9) ∗ (a10.view.loc (c : 𝕋) ↦[a10.view.set]{fullShare} f10) ∗ (a11.view.loc (c : 𝕋) ↦[a11.view.set]{fullShare} f11) ∗ (a12.view.loc (c : 𝕋) ↦[a12.view.set]{fullShare} f12) ∗ (a13.view.loc (c : 𝕋) ↦[a13.view.set]{fullShare} f13) ∗ (a14.view.loc (c : 𝕋) ↦[a14.view.set]{fullShare} f14) ∗ (a15.view.loc (c : 𝕋) ↦[a15.view.set]{fullShare} f15) ∗ (a16.view.loc (c : 𝕋) ↦[a16.view.set]{fullShare} f16) ∗ (a17.view.loc (c : 𝕋) ↦[a17.view.set]{fullShare} f17) ∗ (a18.view.loc (c : 𝕋) ↦[a18.view.set]{fullShare} f18) ∗ (a19.view.loc (c : 𝕋) ↦[a19.view.set]{fullShare} f19) ∗ (a20.view.loc (c : 𝕋) ↦[a20.view.set]{fullShare} f20) ∗ (a21.view.loc (c : 𝕋) ↦[a21.view.set]{fullShare} f21) ∗ (a22.view.loc (c : 𝕋) ↦[a22.view.set]{fullShare} f22) ∗ (a23.view.loc (c : 𝕋) ↦[a23.view.set]{fullShare} f23) ∗ (a24.view.loc (c : 𝕋) ↦[a24.view.set]{fullShare} f24) ∗ (a25.view.loc (c : 𝕋) ↦[a25.view.set]{fullShare} f25) ∗ (a26.view.loc (c : 𝕋) ↦[a26.view.set]{fullShare} f26) ∗ (a27.view.loc (c : 𝕋) ↦[a27.view.set]{fullShare} f27) ∗ (a28.view.loc (c : 𝕋) ↦[a28.view.set]{fullShare} f28) ∗ (a29.view.loc (c : 𝕋) ↦[a29.view.set]{fullShare} f29) ∗ (a30.view.loc (c : 𝕋) ↦[a30.view.set]{fullShare} f30) ∗ (a31.view.loc (c : 𝕋) ↦[a31.view.set]{fullShare} f31) ∗ (((a2.view.loc (c : 𝕋) ↦[a2.view.set]{fullShare} g2) ∗ (a3.view.loc (c : 𝕋) ↦[a3.view.set]{fullShare} g3) ∗ (a4.view.loc (c : 𝕋) ↦[a4.view.set]{fullShare} g4) ∗ (a5.view.loc (c : 𝕋) ↦[a5.view.set]{fullShare} g5) ∗ (a6.view.loc (c : 𝕋) ↦[a6.view.set]{fullShare} g6) ∗ (a7.view.loc (c : 𝕋) ↦[a7.view.set]{fullShare} g7) ∗ (a8.view.loc (c : 𝕋) ↦[a8.view.set]{fullShare} g8) ∗ (a9.view.loc (c : 𝕋) ↦[a9.view.set]{fullShare} f9) ∗ (a10.view.loc (c : 𝕋) ↦[a10.view.set]{fullShare} (a10.view.writes (Elt F) f10 r.dk)) ∗ (a11.view.loc (c : 𝕋) ↦[a11.view.set]{fullShare} (a11.view.writes (Elt F) f11 r.dv)) ∗ (a12.view.loc (c : 𝕋) ↦[a12.view.set]{fullShare} (a12.view.writes (Elt F) f12 r.dcs)) ∗ (a13.view.loc (c : 𝕋) ↦[a13.view.set]{fullShare} (r.dcq)) ∗ (a14.view.loc (c : 𝕋) ↦[a14.view.set]{fullShare} (r.dqt)) ∗ (∃ f, (a15.view.loc (c : 𝕋) ↦[a15.view.set]{fullShare} f)) ∗ (∃ f, (a16.view.loc (c : 𝕋) ↦[a16.view.set]{fullShare} f)) ∗ (∃ f, (a17.view.loc (c : 𝕋) ↦[a17.view.set]{fullShare} f)) ∗ (∃ f, (a18.view.loc (c : 𝕋) ↦[a18.view.set]{fullShare} f)) ∗ (∃ f, (a19.view.loc (c : 𝕋) ↦[a19.view.set]{fullShare} f)) ∗ (∃ f, (a20.view.loc (c : 𝕋) ↦[a20.view.set]{fullShare} f)) ∗ (∃ f, (a21.view.loc (c : 𝕋) ↦[a21.view.set]{fullShare} f)) ∗ (∃ f, (a22.view.loc (c : 𝕋) ↦[a22.view.set]{fullShare} f)) ∗ (∃ f, (a23.view.loc (c : 𝕋) ↦[a23.view.set]{fullShare} f)) ∗ (∃ f, (a24.view.loc (c : 𝕋) ↦[a24.view.set]{fullShare} f)) ∗ (∃ f, (a25.view.loc (c : 𝕋) ↦[a25.view.set]{fullShare} f)) ∗ (∃ f, (a26.view.loc (c : 𝕋) ↦[a26.view.set]{fullShare} f)) ∗ (∃ f, (a27.view.loc (c : 𝕋) ↦[a27.view.set]{fullShare} f)) ∗ (∃ f, (a28.view.loc (c : 𝕋) ↦[a28.view.set]{fullShare} f)) ∗ (∃ f, (a29.view.loc (c : 𝕋) ↦[a29.view.set]{fullShare} f)) ∗ (∃ f, (a30.view.loc (c : 𝕋) ↦[a30.view.set]{fullShare} f)) ∗ (∃ f, (a31.view.loc (c : 𝕋) ↦[a31.view.set]{fullShare} f))) -∗ K ⟨⟩)) : sProp 𝕄)
        ⊢ wp frame (wpE (defs₀ (F := F)) Variants.none c none) E (cc0_attn_bwd i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31) K } := by
  refine ⟨⟨[], ?_, ?_, ?_, ?_, ?_⟩, fun E K f9 f10 f11 f12 f15 f16 f17 f18 f19 f20 f21 f22 f23 f24 f25 f26 f27 f28 f29 f30 f31 => ?run⟩
  case run =>
    simp only [cc0_attn_bwd_eq_skeleton]
    unfold cc0_attn_bwd_skel
    simp only [k0_part148_eq_skeleton]
    unfold k0_part148_skel
    simp only [Cert.AttnBwdIdeal.k0_part147_eq_skeleton]
    unfold k0_part147_skel
    iintro ⟨H2, H3, H4, H5, H6, H7, H8, H9, H10, H11, H12, H13, H14, H15, H16, H17, H18, H19, H20, H21, H22, H23, H24, H25, H26, H27, H28, H29, H30, H31, Hk⟩
    sl_exec_parts (disch := first | sl_exact hc0 | sl_exact hc1)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    iexists _; iexact H31
  all_goals exact []

end Cert.AttnBwdIdeal.Hand

end
-- ==== Proof.AttnI.RunC.lean ====
module

public import proofs.«01_k».proof.Proof.AttnI.Left

@[expose] public section

/-! The body run once at the last point of a row of the grid. -/

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕧" => Memref sig Kind.tc Space.vmem
local notation "𝕋" => Thread nD τ

variable {F : FTy → Type} [FloatOps F] [Named F]

local notation "𝕄" => MT nD τ sig Unit (Elt F) ℕ (UR sig nD τ) ℕ

set_option maxHeartbeats 0 in
/-- The body at the last point of a row of the grid: what it leaves in the outputs and the two carried buffers. -/
def runC (c : Dev nD) (i : grid0.Coords) (a2 : 𝕧 S8448x128 .bf16) (p2 : a2.IsWhole) (a3 : 𝕧 S8448x128 .bf16) (p3 : a3.IsWhole) (a4 : 𝕧 S768x128 .bf16) (p4 : a4.IsWhole) (a5 : 𝕧 S768x128 .bf16) (p5 : a5.IsWhole) (a6 : 𝕧 S2x11x1x768 .f32) (p6 : a6.IsWhole) (a7 : 𝕧 S2x11x1x768 .f32) (p7 : a7.IsWhole) (a8 : 𝕧 S2x11x1x768 .f32) (p8 : a8.IsWhole) (a9 : 𝕧 S8448x128 .bf16) (p9 : a9.IsWhole) (a10 : 𝕧 S768x128 .bf16) (p10 : a10.IsWhole) (a11 : 𝕧 S768x128 .bf16) (p11 : a11.IsWhole) (a12 : 𝕧 S2x1x1x768 .f32) (p12 : a12.IsWhole) (a13 : 𝕧 S2x11x1x768 .f32) (p13 : a13.IsWhole) (a14 : 𝕧 S11x128x768 .f32) (p14 : a14.IsWhole) (a15 : 𝕧 S128x768 .bf16) (p15 : a15.IsWhole) (a16 : 𝕧 S768x128 .f32) (p16 : a16.IsWhole) (a17 : 𝕧 S768x128 .f32) (p17 : a17.IsWhole) (a18 : 𝕧 S768x1 .f32) (p18 : a18.IsWhole) (a19 : 𝕧 S768x768 .f32) (p19 : a19.IsWhole) (a20 : 𝕧 S768x768 .f32) (p20 : a20.IsWhole) (a21 : 𝕧 S768x768 .bf16) (p21 : a21.IsWhole) (a22 : 𝕧 S768x768 .bf16) (p22 : a22.IsWhole) (a23 : 𝕧 S768x128 .f32) (p23 : a23.IsWhole) (a24 : 𝕧 S768x128 .f32) (p24 : a24.IsWhole) (a25 : 𝕧 S768x128 .f32) (p25 : a25.IsWhole) (a26 : 𝕧 S768x1 .f32) (p26 : a26.IsWhole) (a27 : 𝕧 S768x768 .f32) (p27 : a27.IsWhole) (a28 : 𝕧 S768x768 .f32) (p28 : a28.IsWhole) (a29 : 𝕧 S768x768 .bf16) (p29 : a29.IsWhole) (a30 : 𝕧 S768x768 .bf16) (p30 : a30.IsWhole) (a31 : 𝕧 S768x128 .f32) (p31 : a31.IsWhole) (hc0 : ¬ condFirst i) (hc1 : condLast i)
    (g2 : Buf (Elt F) (a2.view.loc (c : 𝕋))) (g3 : Buf (Elt F) (a3.view.loc (c : 𝕋))) (g4 : Buf (Elt F) (a4.view.loc (c : 𝕋))) (g5 : Buf (Elt F) (a5.view.loc (c : 𝕋))) (g6 : Buf (Elt F) (a6.view.loc (c : 𝕋))) (g7 : Buf (Elt F) (a7.view.loc (c : 𝕋))) (g8 : Buf (Elt F) (a8.view.loc (c : 𝕋))) (f13 : Buf (Elt F) (a13.view.loc (c : 𝕋))) (f14 : Buf (Elt F) (a14.view.loc (c : 𝕋))) :
    { r : Left F c a13 a14 // ∀ (E : Set ℕ) (K : PUnit → sProp 𝕄) (f9 : Buf (Elt F) (a9.view.loc (c : 𝕋))) (f10 : Buf (Elt F) (a10.view.loc (c : 𝕋))) (f11 : Buf (Elt F) (a11.view.loc (c : 𝕋))) (f12 : Buf (Elt F) (a12.view.loc (c : 𝕋))) (f15 : Buf (Elt F) (a15.view.loc (c : 𝕋))) (f16 : Buf (Elt F) (a16.view.loc (c : 𝕋))) (f17 : Buf (Elt F) (a17.view.loc (c : 𝕋))) (f18 : Buf (Elt F) (a18.view.loc (c : 𝕋))) (f19 : Buf (Elt F) (a19.view.loc (c : 𝕋))) (f20 : Buf (Elt F) (a20.view.loc (c : 𝕋))) (f21 : Buf (Elt F) (a21.view.loc (c : 𝕋))) (f22 : Buf (Elt F) (a22.view.loc (c : 𝕋))) (f23 : Buf (Elt F) (a23.view.loc (c : 𝕋))) (f24 : Buf (Elt F) (a24.view.loc (c : 𝕋))) (f25 : Buf (Elt F) (a25.view.loc (c : 𝕋))) (f26 : Buf (Elt F) (a26.view.loc (c : 𝕋))) (f27 : Buf (Elt F) (a27.view.loc (c : 𝕋))) (f28 : Buf (Elt F) (a28.view.loc (c : 𝕋))) (f29 : Buf (Elt F) (a29.view.loc (c : 𝕋))) (f30 : Buf (Elt F) (a30.view.loc (c : 𝕋))) (f31 : Buf (Elt F) (a31.view.loc (c : 𝕋))),
        (iprop((a2.view.loc (c : 𝕋) ↦[a2.view.set]{fullShare} g2) ∗ (a3.view.loc (c : 𝕋) ↦[a3.view.set]{fullShare} g3) ∗ (a4.view.loc (c : 𝕋) ↦[a4.view.set]{fullShare} g4) ∗ (a5.view.loc (c : 𝕋) ↦[a5.view.set]{fullShare} g5) ∗ (a6.view.loc (c : 𝕋) ↦[a6.view.set]{fullShare} g6) ∗ (a7.view.loc (c : 𝕋) ↦[a7.view.set]{fullShare} g7) ∗ (a8.view.loc (c : 𝕋) ↦[a8.view.set]{fullShare} g8) ∗ (a9.view.loc (c : 𝕋) ↦[a9.view.set]{fullShare} f9) ∗ (a10.view.loc (c : 𝕋) ↦[a10.view.set]{fullShare} f10) ∗ (a11.view.loc (c : 𝕋) ↦[a11.view.set]{fullShare} f11) ∗ (a12.view.loc (c : 𝕋) ↦[a12.view.set]{fullShare} f12) ∗ (a13.view.loc (c : 𝕋) ↦[a13.view.set]{fullShare} f13) ∗ (a14.view.loc (c : 𝕋) ↦[a14.view.set]{fullShare} f14) ∗ (a15.view.loc (c : 𝕋) ↦[a15.view.set]{fullShare} f15) ∗ (a16.view.loc (c : 𝕋) ↦[a16.view.set]{fullShare} f16) ∗ (a17.view.loc (c : 𝕋) ↦[a17.view.set]{fullShare} f17) ∗ (a18.view.loc (c : 𝕋) ↦[a18.view.set]{fullShare} f18) ∗ (a19.view.loc (c : 𝕋) ↦[a19.view.set]{fullShare} f19) ∗ (a20.view.loc (c : 𝕋) ↦[a20.view.set]{fullShare} f20) ∗ (a21.view.loc (c : 𝕋) ↦[a21.view.set]{fullShare} f21) ∗ (a22.view.loc (c : 𝕋) ↦[a22.view.set]{fullShare} f22) ∗ (a23.view.loc (c : 𝕋) ↦[a23.view.set]{fullShare} f23) ∗ (a24.view.loc (c : 𝕋) ↦[a24.view.set]{fullShare} f24) ∗ (a25.view.loc (c : 𝕋) ↦[a25.view.set]{fullShare} f25) ∗ (a26.view.loc (c : 𝕋) ↦[a26.view.set]{fullShare} f26) ∗ (a27.view.loc (c : 𝕋) ↦[a27.view.set]{fullShare} f27) ∗ (a28.view.loc (c : 𝕋) ↦[a28.view.set]{fullShare} f28) ∗ (a29.view.loc (c : 𝕋) ↦[a29.view.set]{fullShare} f29) ∗ (a30.view.loc (c : 𝕋) ↦[a30.view.set]{fullShare} f30) ∗ (a31.view.loc (c : 𝕋) ↦[a31.view.set]{fullShare} f31) ∗ (((a2.view.loc (c : 𝕋) ↦[a2.view.set]{fullShare} g2) ∗ (a3.view.loc (c : 𝕋) ↦[a3.view.set]{fullShare} g3) ∗ (a4.view.loc (c : 𝕋) ↦[a4.view.set]{fullShare} g4) ∗ (a5.view.loc (c : 𝕋) ↦[a5.view.set]{fullShare} g5) ∗ (a6.view.loc (c : 𝕋) ↦[a6.view.set]{fullShare} g6) ∗ (a7.view.loc (c : 𝕋) ↦[a7.view.set]{fullShare} g7) ∗ (a8.view.loc (c : 𝕋) ↦[a8.view.set]{fullShare} g8) ∗ (a9.view.loc (c : 𝕋) ↦[a9.view.set]{fullShare} (a9.view.writes (Elt F) f9 r.dq)) ∗ (a10.view.loc (c : 𝕋) ↦[a10.view.set]{fullShare} (a10.view.writes (Elt F) f10 r.dk)) ∗ (a11.view.loc (c : 𝕋) ↦[a11.view.set]{fullShare} (a11.view.writes (Elt F) f11 r.dv)) ∗ (a12.view.loc (c : 𝕋) ↦[a12.view.set]{fullShare} (a12.view.writes (Elt F) f12 r.dcs)) ∗ (a13.view.loc (c : 𝕋) ↦[a13.view.set]{fullShare} (r.dcq)) ∗ (a14.view.loc (c : 𝕋) ↦[a14.view.set]{fullShare} (r.dqt)) ∗ (∃ f, (a15.view.loc (c : 𝕋) ↦[a15.view.set]{fullShare} f)) ∗ (∃ f, (a16.view.loc (c : 𝕋) ↦[a16.view.set]{fullShare} f)) ∗ (∃ f, (a17.view.loc (c : 𝕋) ↦[a17.view.set]{fullShare} f)) ∗ (∃ f, (a18.view.loc (c : 𝕋) ↦[a18.view.set]{fullShare} f)) ∗ (∃ f, (a19.view.loc (c : 𝕋) ↦[a19.view.set]{fullShare} f)) ∗ (∃ f, (a20.view.loc (c : 𝕋) ↦[a20.view.set]{fullShare} f)) ∗ (∃ f, (a21.view.loc (c : 𝕋) ↦[a21.view.set]{fullShare} f)) ∗ (∃ f, (a22.view.loc (c : 𝕋) ↦[a22.view.set]{fullShare} f)) ∗ (∃ f, (a23.view.loc (c : 𝕋) ↦[a23.view.set]{fullShare} f)) ∗ (∃ f, (a24.view.loc (c : 𝕋) ↦[a24.view.set]{fullShare} f)) ∗ (∃ f, (a25.view.loc (c : 𝕋) ↦[a25.view.set]{fullShare} f)) ∗ (∃ f, (a26.view.loc (c : 𝕋) ↦[a26.view.set]{fullShare} f)) ∗ (∃ f, (a27.view.loc (c : 𝕋) ↦[a27.view.set]{fullShare} f)) ∗ (∃ f, (a28.view.loc (c : 𝕋) ↦[a28.view.set]{fullShare} f)) ∗ (∃ f, (a29.view.loc (c : 𝕋) ↦[a29.view.set]{fullShare} f)) ∗ (∃ f, (a30.view.loc (c : 𝕋) ↦[a30.view.set]{fullShare} f)) ∗ (∃ f, (a31.view.loc (c : 𝕋) ↦[a31.view.set]{fullShare} f))) -∗ K ⟨⟩)) : sProp 𝕄)
        ⊢ wp frame (wpE (defs₀ (F := F)) Variants.none c none) E (cc0_attn_bwd i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31) K } := by
  refine ⟨⟨?_, ?_, ?_, ?_, ?_, ?_⟩, fun E K f9 f10 f11 f12 f15 f16 f17 f18 f19 f20 f21 f22 f23 f24 f25 f26 f27 f28 f29 f30 f31 => ?run⟩
  case run =>
    simp only [cc0_attn_bwd_eq_skeleton]
    unfold cc0_attn_bwd_skel
    simp only [k0_part148_eq_skeleton]
    unfold k0_part148_skel
    simp only [Cert.AttnBwdIdeal.k0_part147_eq_skeleton]
    unfold k0_part147_skel
    iintro ⟨H2, H3, H4, H5, H6, H7, H8, H9, H10, H11, H12, H13, H14, H15, H16, H17, H18, H19, H20, H21, H22, H23, H24, H25, H26, H27, H28, H29, H30, H31, Hk⟩
    sl_exec_parts (disch := first | sl_exact hc0 | sl_exact hc1)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    iexists _; iexact H31
  all_goals exact []

end Cert.AttnBwdIdeal.Hand

end
-- ==== Proof.AttnI.Point.lean ====
module

public import proofs.«01_k».proof.Proof.AttnI.RunA
public import proofs.«01_k».proof.Proof.AttnI.RunB
public import proofs.«01_k».proof.Proof.AttnI.RunC

@[expose] public section

/-! What the body leaves at each point of the grid: the case of the point, at the memrefs and blocks of the point. -/

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕧" => Memref sig Kind.tc Space.vmem

variable {F : FTy → Type} [FloatOps F] [Named F]

local notation "𝕄" => MT nD τ sig Unit (Elt F) ℕ (UR sig nD τ) ℕ

variable (m : (ℓ : Loc nD τ sig) → Buf (Elt F) ℓ)

/-- The grid's second coordinate is 0 at the points ≡ 0 (mod 11). -/
theorem hcondFirst : ∀ t : Fin cfg0.N, condFirst (grid0.coords t) ↔ t.val % 11 = 0 :=
  (fun t => by
    have ht : t.val < 88 := Nat.lt_of_lt_of_eq t.isLt N_0
    have e1 : (grid0.coords t 1).val = t.val / 1 % 11 := Pipeline.Grid.coords_val t 1 (by decide) rfl
    simp only [condFirst, e1]
    word_cmp
   : ∀ t : Fin grid0.N, condFirst (grid0.coords t) ↔ t.val % 11 = 0)
/-- It is 10 at the points ≡ 10 (mod 11). -/
theorem hcondLast : ∀ t : Fin cfg0.N, condLast (grid0.coords t) ↔ t.val % 11 = 10 :=
  (fun t => by
    have ht : t.val < 88 := Nat.lt_of_lt_of_eq t.isLt N_0
    have e1 : (grid0.coords t 1).val = t.val / 1 % 11 := Pipeline.Grid.coords_val t 1 (by decide) rfl
    simp only [condLast, k0_cond2, e1]
    word_cmp
   : ∀ t : Fin grid0.N, condLast (grid0.coords t) ↔ t.val % 11 = 10)

abbrev ms0_0 (t : Fin cfg0.N) : 𝕧 S8448x128 .bf16 := win0_0.stage (cfg0.slots t 0)
abbrev hs0_0 (t : Fin cfg0.N) : (ms0_0 t).IsWhole := hstage0_0 ((cfg0.slots t 0).cast nbuf0_0)
abbrev ms0_1 (t : Fin cfg0.N) : 𝕧 S8448x128 .bf16 := win0_1.stage (cfg0.slots t 1)
abbrev hs0_1 (t : Fin cfg0.N) : (ms0_1 t).IsWhole := hstage0_1 ((cfg0.slots t 1).cast nbuf0_1)
abbrev ms0_2 (t : Fin cfg0.N) : 𝕧 S768x128 .bf16 := win0_2.stage (cfg0.slots t 2)
abbrev hs0_2 (t : Fin cfg0.N) : (ms0_2 t).IsWhole := hstage0_2 ((cfg0.slots t 2).cast nbuf0_2)
abbrev ms0_3 (t : Fin cfg0.N) : 𝕧 S768x128 .bf16 := win0_3.stage (cfg0.slots t 3)
abbrev hs0_3 (t : Fin cfg0.N) : (ms0_3 t).IsWhole := hstage0_3 ((cfg0.slots t 3).cast nbuf0_3)
abbrev ms0_4 (t : Fin cfg0.N) : 𝕧 S2x11x1x768 .f32 := win0_4.stage (cfg0.slots t 4)
abbrev hs0_4 (t : Fin cfg0.N) : (ms0_4 t).IsWhole := hstage0_4 ((cfg0.slots t 4).cast nbuf0_4)
abbrev ms0_5 (t : Fin cfg0.N) : 𝕧 S2x11x1x768 .f32 := win0_5.stage (cfg0.slots t 5)
abbrev hs0_5 (t : Fin cfg0.N) : (ms0_5 t).IsWhole := hstage0_5 ((cfg0.slots t 5).cast nbuf0_5)
abbrev ms0_6 (t : Fin cfg0.N) : 𝕧 S2x11x1x768 .f32 := win0_6.stage (cfg0.slots t 6)
abbrev hs0_6 (t : Fin cfg0.N) : (ms0_6 t).IsWhole := hstage0_6 ((cfg0.slots t 6).cast nbuf0_6)
abbrev ms0_7 (t : Fin cfg0.N) : 𝕧 S8448x128 .bf16 := win0_7.stage (cfg0.slots t 7)
abbrev hs0_7 (t : Fin cfg0.N) : (ms0_7 t).IsWhole := hstage0_7 ((cfg0.slots t 7).cast nbuf0_7)
abbrev ms0_8 (t : Fin cfg0.N) : 𝕧 S768x128 .bf16 := win0_8.stage (cfg0.slots t 8)
abbrev hs0_8 (t : Fin cfg0.N) : (ms0_8 t).IsWhole := hstage0_8 ((cfg0.slots t 8).cast nbuf0_8)
abbrev ms0_9 (t : Fin cfg0.N) : 𝕧 S768x128 .bf16 := win0_9.stage (cfg0.slots t 9)
abbrev hs0_9 (t : Fin cfg0.N) : (ms0_9 t).IsWhole := hstage0_9 ((cfg0.slots t 9).cast nbuf0_9)
abbrev ms0_10 (t : Fin cfg0.N) : 𝕧 S2x1x1x768 .f32 := win0_10.stage (cfg0.slots t 10)
abbrev hs0_10 (t : Fin cfg0.N) : (ms0_10 t).IsWhole := hstage0_10 ((cfg0.slots t 10).cast nbuf0_10)
abbrev ms0_11 (t : Fin cfg0.N) : 𝕧 S2x11x1x768 .f32 := win0_11.stage (cfg0.slots t 11)
abbrev hs0_11 (t : Fin cfg0.N) : (ms0_11 t).IsWhole := hstage0_11 ((cfg0.slots t 11).cast nbuf0_11)
abbrev scM0_0 : 𝕧 S11x128x768 .f32 := Memref.whole cc0_scratch0
abbrev scM0_1 : 𝕧 S128x768 .bf16 := Memref.whole cc0_scratch1
abbrev scM0_2 : 𝕧 S768x128 .f32 := Memref.whole cc0_scratch2
abbrev scM0_3 : 𝕧 S768x128 .f32 := Memref.whole cc0_scratch3
abbrev scM0_4 : 𝕧 S768x1 .f32 := Memref.whole cc0_scratch4
abbrev scM0_5 : 𝕧 S768x768 .f32 := Memref.whole cc0_scratch5
abbrev scM0_6 : 𝕧 S768x768 .f32 := Memref.whole cc0_scratch6
abbrev scM0_7 : 𝕧 S768x768 .bf16 := Memref.whole cc0_scratch7
abbrev scM0_8 : 𝕧 S768x768 .bf16 := Memref.whole cc0_scratch8
abbrev scM0_9 : 𝕧 S768x128 .f32 := Memref.whole cc0_scratch9
abbrev scM0_10 : 𝕧 S768x128 .f32 := Memref.whole cc0_scratch10
abbrev scM0_11 : 𝕧 S768x128 .f32 := Memref.whole cc0_scratch11
abbrev scM0_12 : 𝕧 S768x1 .f32 := Memref.whole cc0_scratch12
abbrev scM0_13 : 𝕧 S768x768 .f32 := Memref.whole cc0_scratch13
abbrev scM0_14 : 𝕧 S768x768 .f32 := Memref.whole cc0_scratch14
abbrev scM0_15 : 𝕧 S768x768 .bf16 := Memref.whole cc0_scratch15
abbrev scM0_16 : 𝕧 S768x768 .bf16 := Memref.whole cc0_scratch16
abbrev scM0_17 : 𝕧 S768x128 .f32 := Memref.whole cc0_scratch17
abbrev VO0_7 : View sig .tc .vmem S8448x128 .bf16 := (Memref.whole cc0_stg7_0 : 𝕧 S8448x128 .bf16).view
abbrev VO0_8 : View sig .tc .vmem S768x128 .bf16 := (Memref.whole cc0_stg8_0 : 𝕧 S768x128 .bf16).view
abbrev VO0_9 : View sig .tc .vmem S768x128 .bf16 := (Memref.whole cc0_stg9_0 : 𝕧 S768x128 .bf16).view
abbrev VO0_10 : View sig .tc .vmem S2x1x1x768 .f32 := (Memref.whole cc0_stg10_0 : 𝕧 S2x1x1x768 .f32).view

/-- What the five outputs' buffers and the transposed query gradient hold after a point. -/
structure Outs (F : FTy → Type) where
  dq : Vec F S8448x128 .bf16
  dk : Vec F S768x128 .bf16
  dv : Vec F S768x128 .bf16
  dcs : Vec F S2x1x1x768 .f32
  dcq : Vec F S2x11x1x768 .f32
  dqt : Vec F S11x128x768 .f32

/-- A run's result read back. -/
def outsOf {c : Dev nD} (t : Fin cfg0.N) (l : Left F c (ms0_11 t) scM0_0) : Outs F where
  dq := VO0_7.read (Elt F) (VO0_7.writes (Elt F) VO0_7.junk l.dq)
  dk := VO0_8.read (Elt F) (VO0_8.writes (Elt F) VO0_8.junk l.dk)
  dv := VO0_9.read (Elt F) (VO0_9.writes (Elt F) VO0_9.junk l.dv)
  dcs := VO0_10.read (Elt F) (VO0_10.writes (Elt F) VO0_10.junk l.dcs)
  dcq := (ms0_11 t).view.read (Elt F) l.dcq
  dqt := scM0_0.view.read (Elt F) l.dqt

/-- The run of case A at point `t`. -/
def leftA (c : Dev nD) (t : Fin cfg0.N) (h0 : t.val % 11 = 0) : Left F c (ms0_11 t) scM0_0 :=
  (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) ((hcondFirst t).mpr h0) (fun h => by have := (hcondLast t).mp h; omega) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t))).1

theorem coverA_8 (c : Dev nD) (t : Fin cfg0.N) (h0 : t.val % 11 = 0) (y : S768x128.Idx) :
    ∃ pc ∈ (leftA m c t h0).dk, y ∈ pc.1.set :=
  View.cover_of_tiledL (leftA m c t h0).dk S768x128.size (by sl_kernel_rfl) y

theorem coverA_9 (c : Dev nD) (t : Fin cfg0.N) (h0 : t.val % 11 = 0) (y : S768x128.Idx) :
    ∃ pc ∈ (leftA m c t h0).dv, y ∈ pc.1.set :=
  View.cover_of_tiledL (leftA m c t h0).dv S768x128.size (by sl_kernel_rfl) y

theorem coverA_10 (c : Dev nD) (t : Fin cfg0.N) (h0 : t.val % 11 = 0) (y : S2x1x1x768.Idx) :
    ∃ pc ∈ (leftA m c t h0).dcs, y ∈ pc.1.set :=
  View.cover_of_tiledL (leftA m c t h0).dcs S1x1x1x768.size (by sl_kernel_rfl) y

/-- The run of case B at point `t`. -/
def leftB (c : Dev nD) (t : Fin cfg0.N) (h0 : ¬ t.val % 11 = 0) (h1 : ¬ t.val % 11 = 10) (prev : Outs F) : Left F c (ms0_11 t) scM0_0 :=
  (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) (fun h => h0 ((hcondFirst t).mp h)) (fun h => h1 ((hcondLast t).mp h)) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_11 t).unread prev.dcq) ((Memref.isWhole_whole cc0_scratch0).unread prev.dqt)).1

theorem coverB_8 (c : Dev nD) (t : Fin cfg0.N) (h0 : ¬ t.val % 11 = 0) (h1 : ¬ t.val % 11 = 10) (prev : Outs F) (y : S768x128.Idx) :
    ∃ pc ∈ (leftB m c t h0 h1 prev).dk, y ∈ pc.1.set :=
  View.cover_of_tiledL (leftB m c t h0 h1 prev).dk S768x128.size (by sl_kernel_rfl) y

theorem coverB_9 (c : Dev nD) (t : Fin cfg0.N) (h0 : ¬ t.val % 11 = 0) (h1 : ¬ t.val % 11 = 10) (prev : Outs F) (y : S768x128.Idx) :
    ∃ pc ∈ (leftB m c t h0 h1 prev).dv, y ∈ pc.1.set :=
  View.cover_of_tiledL (leftB m c t h0 h1 prev).dv S768x128.size (by sl_kernel_rfl) y

theorem coverB_10 (c : Dev nD) (t : Fin cfg0.N) (h0 : ¬ t.val % 11 = 0) (h1 : ¬ t.val % 11 = 10) (prev : Outs F) (y : S2x1x1x768.Idx) :
    ∃ pc ∈ (leftB m c t h0 h1 prev).dcs, y ∈ pc.1.set :=
  View.cover_of_tiledL (leftB m c t h0 h1 prev).dcs S1x1x1x768.size (by sl_kernel_rfl) y

/-- The run of case C at point `t`. -/
def leftC (c : Dev nD) (t : Fin cfg0.N) (h0 : ¬ t.val % 11 = 0) (h1 : t.val % 11 = 10) (prev : Outs F) : Left F c (ms0_11 t) scM0_0 :=
  (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) (fun h => h0 ((hcondFirst t).mp h)) ((hcondLast t).mpr h1) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_11 t).unread prev.dcq) ((Memref.isWhole_whole cc0_scratch0).unread prev.dqt)).1

theorem coverC_7 (c : Dev nD) (t : Fin cfg0.N) (h0 : ¬ t.val % 11 = 0) (h1 : t.val % 11 = 10) (prev : Outs F) (y : S8448x128.Idx) :
    ∃ pc ∈ (leftC m c t h0 h1 prev).dq, y ∈ pc.1.set :=
  View.cover_of_tiledL (leftC m c t h0 h1 prev).dq S768x128.size (by sl_kernel_rfl) y

theorem coverC_8 (c : Dev nD) (t : Fin cfg0.N) (h0 : ¬ t.val % 11 = 0) (h1 : t.val % 11 = 10) (prev : Outs F) (y : S768x128.Idx) :
    ∃ pc ∈ (leftC m c t h0 h1 prev).dk, y ∈ pc.1.set :=
  View.cover_of_tiledL (leftC m c t h0 h1 prev).dk S768x128.size (by sl_kernel_rfl) y

theorem coverC_9 (c : Dev nD) (t : Fin cfg0.N) (h0 : ¬ t.val % 11 = 0) (h1 : t.val % 11 = 10) (prev : Outs F) (y : S768x128.Idx) :
    ∃ pc ∈ (leftC m c t h0 h1 prev).dv, y ∈ pc.1.set :=
  View.cover_of_tiledL (leftC m c t h0 h1 prev).dv S768x128.size (by sl_kernel_rfl) y

theorem coverC_10 (c : Dev nD) (t : Fin cfg0.N) (h0 : ¬ t.val % 11 = 0) (h1 : t.val % 11 = 10) (prev : Outs F) (y : S2x1x1x768.Idx) :
    ∃ pc ∈ (leftC m c t h0 h1 prev).dcs, y ∈ pc.1.set :=
  View.cover_of_tiledL (leftC m c t h0 h1 prev).dcs S1x1x1x768.size (by sl_kernel_rfl) y

/-- What the point at position `n` leaves, over what the one before left. -/
def outsAt (c : Dev nD) : (n : ℕ) → n < cfg0.N → Outs F
  | 0, hn => outsOf ⟨0, hn⟩ (leftA m c ⟨0, hn⟩ (Nat.zero_mod _))
  | n + 1, hn =>
    if h0 : (n + 1) % 11 = 0 then outsOf ⟨n + 1, hn⟩ (leftA m c ⟨n + 1, hn⟩ h0)
    else if h1 : (n + 1) % 11 = 10 then outsOf ⟨n + 1, hn⟩ (leftC m c ⟨n + 1, hn⟩ h0 h1 (outsAt c n (Nat.lt_of_succ_lt hn)))
    else outsOf ⟨n + 1, hn⟩ (leftB m c ⟨n + 1, hn⟩ h0 h1 (outsAt c n (Nat.lt_of_succ_lt hn)))

/-- What the point before `t` left. -/
abbrev outsBefore (c : Dev nD) (t : Fin cfg0.N) : Outs F := outsAt m c (t.val - 1) (Nat.lt_of_le_of_lt (Nat.sub_le _ _) t.isLt)

theorem outsAt_A (c : Dev nD) (t : Fin cfg0.N) (h0 : t.val % 11 = 0) :
    outsAt m c t.val t.isLt = outsOf t (leftA m c t h0) := by
  obtain ⟨n, hn⟩ := t
  cases n with
  | zero => rw [outsAt]
  | succ n => rw [outsAt]; exact dif_pos h0

theorem outsAt_B (c : Dev nD) (t : Fin cfg0.N) (h0 : ¬ t.val % 11 = 0) (h1 : ¬ t.val % 11 = 10) :
    outsAt m c t.val t.isLt = outsOf t (leftB m c t h0 h1 (outsBefore m c t)) := by
  obtain ⟨n, hn⟩ := t
  cases n with
  | zero => exact absurd (Nat.zero_mod _) h0
  | succ n => rw [outsAt]; exact (dif_neg h0).trans (dif_neg h1)

theorem outsAt_C (c : Dev nD) (t : Fin cfg0.N) (h0 : ¬ t.val % 11 = 0) (h1 : t.val % 11 = 10) :
    outsAt m c t.val t.isLt = outsOf t (leftC m c t h0 h1 (outsBefore m c t)) := by
  obtain ⟨n, hn⟩ := t
  cases n with
  | zero => exact absurd (Nat.zero_mod _) h0
  | succ n => rw [outsAt]; exact (dif_neg h0).trans (dif_pos h1)

end Cert.AttnBwdIdeal.Hand

end
-- ==== Proof.AttnI.Data.lean ====
module

public import proofs.«01_k».proof.Proof.AttnI.Point

@[expose] public section

/-! The proof data of the grid of the attention gradient: its invariant and what each window holds before and after a point. -/

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch buffers no point hands to the next, at anything. -/
def scRest (c : Dev nD) : sProp 𝕄 :=
  iprop((∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d))

theorem PhiA0_eq (c : Dev nD) :
    (Pipeline.ΦA spec0 c : sProp 𝕄)
      = iprop(((∃ d, owns (c : Thread nD τ) scM0_0 fullShare d) ∗ scRest c) ∗ (∃ r, prngReg c r)) := by
  unfold Pipeline.ΦA scRest; rw [scopedRest0_eq]; simp only [scM0_0, scM0_1, scM0_2, scM0_3, scM0_4, scM0_5, scM0_6, scM0_7, scM0_8, scM0_9, scM0_10, scM0_11, scM0_12, scM0_13, scM0_14, scM0_15, scM0_16, scM0_17, owns_whole]; try rfl

/-- The invariant before position `n`: the transposed query gradient at what the point before left. -/
def PhiS (c : Dev nD) : (n : ℕ) → n ≤ cfg0.N → sProp 𝕄
  | 0, _ => Pipeline.ΦA spec0 c
  | n + 1, hn => iprop((owns (c : Thread nD τ) scM0_0 fullShare (outsAt m c n hn).dqt ∗ scRest c) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop((owns (c : Thread nD τ) scM0_0 fullShare (outsAt m c n hn).dqt ∗ scRest c) ∗ (∃ r, prngReg c r)) := rfl

theorem PhiS_pos (c : Dev nD) (n : ℕ) (h : n ≤ cfg0.N) (hz : n ≠ 0) :
    PhiS m c n h = iprop((owns (c : Thread nD τ) scM0_0 fullShare (outsAt m c (n - 1) (by omega)).dqt ∗ scRest c) ∗ (∃ r, prngReg c r)) := by
  cases n with
  | zero => exact absurd rfl hz
  | succ n => rfl

/-- Whatever the point, the invariant gives every scratch at something. -/
theorem PhiS_loose (c : Dev nD) (n : ℕ) (h : n ≤ cfg0.N) :
    PhiS m c n h ⊢ iprop(((∃ d, owns (c : Thread nD τ) scM0_0 fullShare d) ∗ scRest c) ∗ (∃ r, prngReg c r)) := by
  cases n with
  | zero => rw [PhiS_zero m c 0 h rfl, PhiA0_eq]
  | succ n =>
    rw [PhiS_succ]
    iintro ⟨⟨HS, HR⟩, Hg⟩
    isplitl [HS HR]
    · isplitl [HS]
      · iexists _; iexact HS
      iexact HR
    iexact Hg

/-- The proof data of the grid: the arrays as launched, after each point what the body leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).dq
    | ⟨8, _⟩ => (outsAt m c t.val t.isLt).dk
    | ⟨9, _⟩ => (outsAt m c t.val t.isLt).dv
    | ⟨10, _⟩ => (outsAt m c t.val t.isLt).dcs
    | ⟨11, _⟩ => (outsAt m c t.val t.isLt).dcq
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt m c t.val t.isLt).dq := by dsimp only [dats]
theorem after0_8 (c : Dev nD) (t : Fin cfg0.N) : (dats m 0 c).after 8 t = (outsAt m c t.val t.isLt).dk := by dsimp only [dats]
theorem after0_9 (c : Dev nD) (t : Fin cfg0.N) : (dats m 0 c).after 9 t = (outsAt m c t.val t.isLt).dv := by dsimp only [dats]
theorem after0_10 (c : Dev nD) (t : Fin cfg0.N) : (dats m 0 c).after 10 t = (outsAt m c t.val t.isLt).dcs := by dsimp only [dats]
theorem after0_11 (c : Dev nD) (t : Fin cfg0.N) : (dats m 0 c).after 11 t = (outsAt m c t.val t.isLt).dcq := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem idleAt0_7 (t : Fin cfg0.N) (h : ¬ condLast (grid0.coords t)) : cfg0.idle 7 (grid0.coords t) = true := by
  show (!(k0_cond2 (grid0.coords t) == 1#1)) = true
  rw [beq_false_of_ne h]; rfl
theorem liveAt0_7 (t : Fin cfg0.N) (h : condLast (grid0.coords t)) : cfg0.idle 7 (grid0.coords t) = false := by
  show (!(k0_cond2 (grid0.coords t) == 1#1)) = false
  rw [show k0_cond2 (grid0.coords t) = 1#1 from h]; rfl
theorem noFlush0_7 (t : Fin cfg0.N) (h : ¬ t.val % 11 = 10) : (cfg0.win 7).flush t = false :=
  Bool.eq_false_iff.mpr fun e => h ((flush0_7 t).mp e)

/-- Inside a row the gate gradient's buffer holds what the point before left. -/
theorem before0_11 (c : Dev nD) (t : Fin cfg0.N) (h0 : ¬ t.val % 11 = 0) (d) :
    (dats m 0 c).before 11 t d = (outsBefore m c t).dcq :=
  (Dat.before_out_kept _ 11 rfl t (fun h => h0 (by rw [h]))
    (Bool.eq_false_iff.mpr fun e => by have := (flush0_11 _).mp e; simp only at this; omega)
    (fun _ => rfl) (fun _ _ => rfl) d).trans (after0_11 m c _)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

end Cert.AttnBwdIdeal.Hand

end
-- ==== Proof.AttnI.SoundA.lean ====
module

public import proofs.«01_k».proof.Proof.AttnI.Data

@[expose] public section

/-! The body at a point of case A: it takes the invariant and the windows to the next. -/

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 12800000 in
theorem soundA (c : Dev nD) (t : Fin cfg0.N) (h0 : t.val % 11 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [Dat.leavesExact_idle (dats m 0 c) 7 t (idleAt0_7 t (fun h => by have := (hcondLast t).mp h; omega)) (noFlush0_7 t (by omega))]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [outsAt_A m c t h0]
  rw [PhiS_castSucc m c t]
  refine (BIClass.sep_mono (PhiS_loose m c _ _) (Entails.refl _)).trans ?_
  unfold scRest owns; dsimp only [outsOf]
  iintro ⟨⟨⟨⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, ⟨%ds15, %fs15, -, HS15⟩, ⟨%ds16, %fs16, -, HS16⟩, ⟨%ds17, %fs17, -, HS17⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, -, H8⟩, ⟨%d9, %f9, -, H9⟩, ⟨%d10, %f10, -, H10⟩, ⟨%d11, %f11, -, H11⟩⟩
  obtain rfl := (hs0_0 t).eq_unread hf0; obtain rfl := (hs0_1 t).eq_unread hf1; obtain rfl := (hs0_2 t).eq_unread hf2; obtain rfl := (hs0_3 t).eq_unread hf3; obtain rfl := (hs0_4 t).eq_unread hf4; obtain rfl := (hs0_5 t).eq_unread hf5; obtain rfl := (hs0_6 t).eq_unread hf6
  iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) ((hcondFirst t).mpr h0) (fun h => by have := (hcondLast t).mp h; omega) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t))).2 Set.univ _ f7 f8 f9 f10 f11 fs0 fs1 fs2 fs3 fs4 fs5 fs6 fs7 fs8 fs9 fs10 fs11 fs12 fs13 fs14 fs15 fs16 fs17)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  iintro ⟨H0, H1, H2, H3, H4, H5, H6, H7, H8, H9, H10, H11, HS0, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩, ⟨%es10, HS10⟩, ⟨%es11, HS11⟩, ⟨%es12, HS12⟩, ⟨%es13, HS13⟩, ⟨%es14, HS14⟩, ⟨%es15, HS15⟩, ⟨%es16, HS16⟩, ⟨%es17, HS17⟩⟩
  isplitl [Hg HS0 HS1 HS2 HS3 HS4 HS5 HS6 HS7 HS8 HS9 HS10 HS11 HS12 HS13 HS14 HS15 HS16 HS17]
  · isplitl [HS0 HS1 HS2 HS3 HS4 HS5 HS6 HS7 HS8 HS9 HS10 HS11 HS12 HS13 HS14 HS15 HS16 HS17]
    · isplitl [HS0]
      · iexists _; isplitr; · ipureintro; rfl
        iexact HS0
      isplitl [HS1]
      · iexists (scM0_1.view.read (Elt F) es1); iexists es1; isplitr; · ipureintro; rfl
        iexact HS1
      isplitl [HS2]
      · iexists (scM0_2.view.read (Elt F) es2); iexists es2; isplitr; · ipureintro; rfl
        iexact HS2
      isplitl [HS3]
      · iexists (scM0_3.view.read (Elt F) es3); iexists es3; isplitr; · ipureintro; rfl
        iexact HS3
      isplitl [HS4]
      · iexists (scM0_4.view.read (Elt F) es4); iexists es4; isplitr; · ipureintro; rfl
        iexact HS4
      isplitl [HS5]
      · iexists (scM0_5.view.read (Elt F) es5); iexists es5; isplitr; · ipureintro; rfl
        iexact HS5
      isplitl [HS6]
      · iexists (scM0_6.view.read (Elt F) es6); iexists es6; isplitr; · ipureintro; rfl
        iexact HS6
      isplitl [HS7]
      · iexists (scM0_7.view.read (Elt F) es7); iexists es7; isplitr; · ipureintro; rfl
        iexact HS7
      isplitl [HS8]
      · iexists (scM0_8.view.read (Elt F) es8); iexists es8; isplitr; · ipureintro; rfl
        iexact HS8
      isplitl [HS9]
      · iexists (scM0_9.view.read (Elt F) es9); iexists es9; isplitr; · ipureintro; rfl
        iexact HS9
      isplitl [HS10]
      · iexists (scM0_10.view.read (Elt F) es10); iexists es10; isplitr; · ipureintro; rfl
        iexact HS10
      isplitl [HS11]
      · iexists (scM0_11.view.read (Elt F) es11); iexists es11; isplitr; · ipureintro; rfl
        iexact HS11
      isplitl [HS12]
      · iexists (scM0_12.view.read (Elt F) es12); iexists es12; isplitr; · ipureintro; rfl
        iexact HS12
      isplitl [HS13]
      · iexists (scM0_13.view.read (Elt F) es13); iexists es13; isplitr; · ipureintro; rfl
        iexact HS13
      isplitl [HS14]
      · iexists (scM0_14.view.read (Elt F) es14); iexists es14; isplitr; · ipureintro; rfl
        iexact HS14
      isplitl [HS15]
      · iexists (scM0_15.view.read (Elt F) es15); iexists es15; isplitr; · ipureintro; rfl
        iexact HS15
      isplitl [HS16]
      · iexists (scM0_16.view.read (Elt F) es16); iexists es16; isplitr; · ipureintro; rfl
        iexact HS16
      iexists (scM0_17.view.read (Elt F) es17); iexists es17; isplitr; · ipureintro; rfl
      iexact HS17
    iexact Hg
  isplitl [Ho]; · iexact Ho
  isplitl [H0]
  · iexists _; isplitr; · ipureintro; exact (hs0_0 t).read_unread _
    iexact H0
  isplitl [H1]
  · iexists _; isplitr; · ipureintro; exact (hs0_1 t).read_unread _
    iexact H1
  isplitl [H2]
  · iexists _; isplitr; · ipureintro; exact (hs0_2 t).read_unread _
    iexact H2
  isplitl [H3]
  · iexists _; isplitr; · ipureintro; exact (hs0_3 t).read_unread _
    iexact H3
  isplitl [H4]
  · iexists _; isplitr; · ipureintro; exact (hs0_4 t).read_unread _
    iexact H4
  isplitl [H5]
  · iexists _; isplitr; · ipureintro; exact (hs0_5 t).read_unread _
    iexact H5
  isplitl [H6]
  · iexists _; isplitr; · ipureintro; exact (hs0_6 t).read_unread _
    iexact H6
  isplitl [H7]
  · iexists d7; iexists f7; isplitr; · ipureintro; exact hf7
    iexact H7
  isplitl [H8]
  · iexists _; isplitr; swap; · iexact H8
    ipureintro; exact View.read_writes_of_cover _ _ _ _ _ (coverA_8 m c t h0)
  isplitl [H9]
  · iexists _; isplitr; swap; · iexact H9
    ipureintro; exact View.read_writes_of_cover _ _ _ _ _ (coverA_9 m c t h0)
  isplitl [H10]
  · iexists _; isplitr; swap; · iexact H10
    ipureintro; exact View.read_writes_of_cover _ _ _ _ _ (coverA_10 m c t h0)
  iexists _; isplitr; · ipureintro; rfl
  iexact H11

end Cert.AttnBwdIdeal.Hand

end
-- ==== Proof.AttnI.SoundB.lean ====
module

public import proofs.«01_k».proof.Proof.AttnI.Data

@[expose] public section

/-! The body at a point of case B: it takes the invariant and the windows to the next. -/

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 12800000 in
theorem soundB (c : Dev nD) (t : Fin cfg0.N) (h0 : ¬ t.val % 11 = 0) (h1 : ¬ t.val % 11 = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_11 m c t h0]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [Dat.leavesExact_idle (dats m 0 c) 7 t (idleAt0_7 t (fun h => h1 ((hcondLast t).mp h))) (noFlush0_7 t (by omega))]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [outsAt_B m c t h0 h1]
  rw [PhiS_castSucc m c t]
  rw [PhiS_pos m c _ _ (fun h => h0 (by rw [h]))]
  unfold scRest owns; dsimp only [outsOf]
  iintro ⟨⟨⟨⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, ⟨%ds15, %fs15, -, HS15⟩, ⟨%ds16, %fs16, -, HS16⟩, ⟨%ds17, %fs17, -, HS17⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, -, H8⟩, ⟨%d9, %f9, -, H9⟩, ⟨%d10, %f10, -, H10⟩, ⟨%d11, %f11, %hf11, H11⟩⟩
  obtain rfl := (hs0_0 t).eq_unread hf0; obtain rfl := (hs0_1 t).eq_unread hf1; obtain rfl := (hs0_2 t).eq_unread hf2; obtain rfl := (hs0_3 t).eq_unread hf3; obtain rfl := (hs0_4 t).eq_unread hf4; obtain rfl := (hs0_5 t).eq_unread hf5; obtain rfl := (hs0_6 t).eq_unread hf6
  obtain rfl := (hs0_11 t).eq_unread hf11; obtain rfl := (Memref.isWhole_whole cc0_scratch0).eq_unread hfs0
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) (fun h => h0 ((hcondFirst t).mp h)) (fun h => h1 ((hcondLast t).mp h)) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_11 t).unread (outsBefore m c t).dcq) ((Memref.isWhole_whole cc0_scratch0).unread (outsBefore m c t).dqt)).2 Set.univ _ f7 f8 f9 f10 fs1 fs2 fs3 fs4 fs5 fs6 fs7 fs8 fs9 fs10 fs11 fs12 fs13 fs14 fs15 fs16 fs17)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  iintro ⟨H0, H1, H2, H3, H4, H5, H6, H7, H8, H9, H10, H11, HS0, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩, ⟨%es10, HS10⟩, ⟨%es11, HS11⟩, ⟨%es12, HS12⟩, ⟨%es13, HS13⟩, ⟨%es14, HS14⟩, ⟨%es15, HS15⟩, ⟨%es16, HS16⟩, ⟨%es17, HS17⟩⟩
  isplitl [Hg HS0 HS1 HS2 HS3 HS4 HS5 HS6 HS7 HS8 HS9 HS10 HS11 HS12 HS13 HS14 HS15 HS16 HS17]
  · isplitl [HS0 HS1 HS2 HS3 HS4 HS5 HS6 HS7 HS8 HS9 HS10 HS11 HS12 HS13 HS14 HS15 HS16 HS17]
    · isplitl [HS0]
      · iexists _; isplitr; · ipureintro; rfl
        iexact HS0
      isplitl [HS1]
      · iexists (scM0_1.view.read (Elt F) es1); iexists es1; isplitr; · ipureintro; rfl
        iexact HS1
      isplitl [HS2]
      · iexists (scM0_2.view.read (Elt F) es2); iexists es2; isplitr; · ipureintro; rfl
        iexact HS2
      isplitl [HS3]
      · iexists (scM0_3.view.read (Elt F) es3); iexists es3; isplitr; · ipureintro; rfl
        iexact HS3
      isplitl [HS4]
      · iexists (scM0_4.view.read (Elt F) es4); iexists es4; isplitr; · ipureintro; rfl
        iexact HS4
      isplitl [HS5]
      · iexists (scM0_5.view.read (Elt F) es5); iexists es5; isplitr; · ipureintro; rfl
        iexact HS5
      isplitl [HS6]
      · iexists (scM0_6.view.read (Elt F) es6); iexists es6; isplitr; · ipureintro; rfl
        iexact HS6
      isplitl [HS7]
      · iexists (scM0_7.view.read (Elt F) es7); iexists es7; isplitr; · ipureintro; rfl
        iexact HS7
      isplitl [HS8]
      · iexists (scM0_8.view.read (Elt F) es8); iexists es8; isplitr; · ipureintro; rfl
        iexact HS8
      isplitl [HS9]
      · iexists (scM0_9.view.read (Elt F) es9); iexists es9; isplitr; · ipureintro; rfl
        iexact HS9
      isplitl [HS10]
      · iexists (scM0_10.view.read (Elt F) es10); iexists es10; isplitr; · ipureintro; rfl
        iexact HS10
      isplitl [HS11]
      · iexists (scM0_11.view.read (Elt F) es11); iexists es11; isplitr; · ipureintro; rfl
        iexact HS11
      isplitl [HS12]
      · iexists (scM0_12.view.read (Elt F) es12); iexists es12; isplitr; · ipureintro; rfl
        iexact HS12
      isplitl [HS13]
      · iexists (scM0_13.view.read (Elt F) es13); iexists es13; isplitr; · ipureintro; rfl
        iexact HS13
      isplitl [HS14]
      · iexists (scM0_14.view.read (Elt F) es14); iexists es14; isplitr; · ipureintro; rfl
        iexact HS14
      isplitl [HS15]
      · iexists (scM0_15.view.read (Elt F) es15); iexists es15; isplitr; · ipureintro; rfl
        iexact HS15
      isplitl [HS16]
      · iexists (scM0_16.view.read (Elt F) es16); iexists es16; isplitr; · ipureintro; rfl
        iexact HS16
      iexists (scM0_17.view.read (Elt F) es17); iexists es17; isplitr; · ipureintro; rfl
      iexact HS17
    iexact Hg
  isplitl [Ho]; · iexact Ho
  isplitl [H0]
  · iexists _; isplitr; · ipureintro; exact (hs0_0 t).read_unread _
    iexact H0
  isplitl [H1]
  · iexists _; isplitr; · ipureintro; exact (hs0_1 t).read_unread _
    iexact H1
  isplitl [H2]
  · iexists _; isplitr; · ipureintro; exact (hs0_2 t).read_unread _
    iexact H2
  isplitl [H3]
  · iexists _; isplitr; · ipureintro; exact (hs0_3 t).read_unread _
    iexact H3
  isplitl [H4]
  · iexists _; isplitr; · ipureintro; exact (hs0_4 t).read_unread _
    iexact H4
  isplitl [H5]
  · iexists _; isplitr; · ipureintro; exact (hs0_5 t).read_unread _
    iexact H5
  isplitl [H6]
  · iexists _; isplitr; · ipureintro; exact (hs0_6 t).read_unread _
    iexact H6
  isplitl [H7]
  · iexists d7; iexists f7; isplitr; · ipureintro; exact hf7
    iexact H7
  isplitl [H8]
  · iexists _; isplitr; swap; · iexact H8
    ipureintro; exact View.read_writes_of_cover _ _ _ _ _ (coverB_8 m c t h0 h1 (outsBefore m c t))
  isplitl [H9]
  · iexists _; isplitr; swap; · iexact H9
    ipureintro; exact View.read_writes_of_cover _ _ _ _ _ (coverB_9 m c t h0 h1 (outsBefore m c t))
  isplitl [H10]
  · iexists _; isplitr; swap; · iexact H10
    ipureintro; exact View.read_writes_of_cover _ _ _ _ _ (coverB_10 m c t h0 h1 (outsBefore m c t))
  iexists _; isplitr; · ipureintro; rfl
  iexact H11

end Cert.AttnBwdIdeal.Hand

end
-- ==== Proof.AttnI.SoundC.lean ====
module

public import proofs.«01_k».proof.Proof.AttnI.Data

@[expose] public section

/-! The body at a point of case C: it takes the invariant and the windows to the next. -/

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 12800000 in
theorem soundC (c : Dev nD) (t : Fin cfg0.N) (h0 : ¬ t.val % 11 = 0) (h1 : t.val % 11 = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_11 m c t h0]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t ((hcondLast t).mpr h1)], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [outsAt_C m c t h0 h1]
  rw [PhiS_castSucc m c t]
  rw [PhiS_pos m c _ _ (fun h => h0 (by rw [h]))]
  unfold scRest owns; dsimp only [outsOf]
  iintro ⟨⟨⟨⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, ⟨%ds15, %fs15, -, HS15⟩, ⟨%ds16, %fs16, -, HS16⟩, ⟨%ds17, %fs17, -, HS17⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩, ⟨%d8, %f8, -, H8⟩, ⟨%d9, %f9, -, H9⟩, ⟨%d10, %f10, -, H10⟩, ⟨%d11, %f11, %hf11, H11⟩⟩
  obtain rfl := (hs0_0 t).eq_unread hf0; obtain rfl := (hs0_1 t).eq_unread hf1; obtain rfl := (hs0_2 t).eq_unread hf2; obtain rfl := (hs0_3 t).eq_unread hf3; obtain rfl := (hs0_4 t).eq_unread hf4; obtain rfl := (hs0_5 t).eq_unread hf5; obtain rfl := (hs0_6 t).eq_unread hf6
  obtain rfl := (hs0_11 t).eq_unread hf11; obtain rfl := (Memref.isWhole_whole cc0_scratch0).eq_unread hfs0
  iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) (fun h => h0 ((hcondFirst t).mp h)) ((hcondLast t).mpr h1) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_11 t).unread (outsBefore m c t).dcq) ((Memref.isWhole_whole cc0_scratch0).unread (outsBefore m c t).dqt)).2 Set.univ _ f7 f8 f9 f10 fs1 fs2 fs3 fs4 fs5 fs6 fs7 fs8 fs9 fs10 fs11 fs12 fs13 fs14 fs15 fs16 fs17)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  iintro ⟨H0, H1, H2, H3, H4, H5, H6, H7, H8, H9, H10, H11, HS0, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩, ⟨%es10, HS10⟩, ⟨%es11, HS11⟩, ⟨%es12, HS12⟩, ⟨%es13, HS13⟩, ⟨%es14, HS14⟩, ⟨%es15, HS15⟩, ⟨%es16, HS16⟩, ⟨%es17, HS17⟩⟩
  isplitl [Hg HS0 HS1 HS2 HS3 HS4 HS5 HS6 HS7 HS8 HS9 HS10 HS11 HS12 HS13 HS14 HS15 HS16 HS17]
  · isplitl [HS0 HS1 HS2 HS3 HS4 HS5 HS6 HS7 HS8 HS9 HS10 HS11 HS12 HS13 HS14 HS15 HS16 HS17]
    · isplitl [HS0]
      · iexists _; isplitr; · ipureintro; rfl
        iexact HS0
      isplitl [HS1]
      · iexists (scM0_1.view.read (Elt F) es1); iexists es1; isplitr; · ipureintro; rfl
        iexact HS1
      isplitl [HS2]
      · iexists (scM0_2.view.read (Elt F) es2); iexists es2; isplitr; · ipureintro; rfl
        iexact HS2
      isplitl [HS3]
      · iexists (scM0_3.view.read (Elt F) es3); iexists es3; isplitr; · ipureintro; rfl
        iexact HS3
      isplitl [HS4]
      · iexists (scM0_4.view.read (Elt F) es4); iexists es4; isplitr; · ipureintro; rfl
        iexact HS4
      isplitl [HS5]
      · iexists (scM0_5.view.read (Elt F) es5); iexists es5; isplitr; · ipureintro; rfl
        iexact HS5
      isplitl [HS6]
      · iexists (scM0_6.view.read (Elt F) es6); iexists es6; isplitr; · ipureintro; rfl
        iexact HS6
      isplitl [HS7]
      · iexists (scM0_7.view.read (Elt F) es7); iexists es7; isplitr; · ipureintro; rfl
        iexact HS7
      isplitl [HS8]
      · iexists (scM0_8.view.read (Elt F) es8); iexists es8; isplitr; · ipureintro; rfl
        iexact HS8
      isplitl [HS9]
      · iexists (scM0_9.view.read (Elt F) es9); iexists es9; isplitr; · ipureintro; rfl
        iexact HS9
      isplitl [HS10]
      · iexists (scM0_10.view.read (Elt F) es10); iexists es10; isplitr; · ipureintro; rfl
        iexact HS10
      isplitl [HS11]
      · iexists (scM0_11.view.read (Elt F) es11); iexists es11; isplitr; · ipureintro; rfl
        iexact HS11
      isplitl [HS12]
      · iexists (scM0_12.view.read (Elt F) es12); iexists es12; isplitr; · ipureintro; rfl
        iexact HS12
      isplitl [HS13]
      · iexists (scM0_13.view.read (Elt F) es13); iexists es13; isplitr; · ipureintro; rfl
        iexact HS13
      isplitl [HS14]
      · iexists (scM0_14.view.read (Elt F) es14); iexists es14; isplitr; · ipureintro; rfl
        iexact HS14
      isplitl [HS15]
      · iexists (scM0_15.view.read (Elt F) es15); iexists es15; isplitr; · ipureintro; rfl
        iexact HS15
      isplitl [HS16]
      · iexists (scM0_16.view.read (Elt F) es16); iexists es16; isplitr; · ipureintro; rfl
        iexact HS16
      iexists (scM0_17.view.read (Elt F) es17); iexists es17; isplitr; · ipureintro; rfl
      iexact HS17
    iexact Hg
  isplitl [Ho]; · iexact Ho
  isplitl [H0]
  · iexists _; isplitr; · ipureintro; exact (hs0_0 t).read_unread _
    iexact H0
  isplitl [H1]
  · iexists _; isplitr; · ipureintro; exact (hs0_1 t).read_unread _
    iexact H1
  isplitl [H2]
  · iexists _; isplitr; · ipureintro; exact (hs0_2 t).read_unread _
    iexact H2
  isplitl [H3]
  · iexists _; isplitr; · ipureintro; exact (hs0_3 t).read_unread _
    iexact H3
  isplitl [H4]
  · iexists _; isplitr; · ipureintro; exact (hs0_4 t).read_unread _
    iexact H4
  isplitl [H5]
  · iexists _; isplitr; · ipureintro; exact (hs0_5 t).read_unread _
    iexact H5
  isplitl [H6]
  · iexists _; isplitr; · ipureintro; exact (hs0_6 t).read_unread _
    iexact H6
  isplitl [H7]
  · iexists _; isplitr; swap; · iexact H7
    ipureintro; exact View.read_writes_of_cover _ _ _ _ _ (coverC_7 m c t h0 h1 (outsBefore m c t))
  isplitl [H8]
  · iexists _; isplitr; swap; · iexact H8
    ipureintro; exact View.read_writes_of_cover _ _ _ _ _ (coverC_8 m c t h0 h1 (outsBefore m c t))
  isplitl [H9]
  · iexists _; isplitr; swap; · iexact H9
    ipureintro; exact View.read_writes_of_cover _ _ _ _ _ (coverC_9 m c t h0 h1 (outsBefore m c t))
  isplitl [H10]
  · iexists _; isplitr; swap; · iexact H10
    ipureintro; exact View.read_writes_of_cover _ _ _ _ _ (coverC_10 m c t h0 h1 (outsBefore m c t))
  iexists _; isplitr; · ipureintro; rfl
  iexact H11

end Cert.AttnBwdIdeal.Hand

end
-- ==== Proof.AttnI.Frame.lean ====
module

public import proofs.«01_k».proof.Proof.AttnI.SoundA
public import proofs.«01_k».proof.Proof.AttnI.SoundB
public import proofs.«01_k».proof.Proof.AttnI.SoundC

public import Idealize.ShloMosaic.Lib.Claim

@[expose] public section

/-! The frame of the attention gradient: the body at every point, and the run. -/

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h0 : t.val % 11 = 0
  · exact soundA m c t h0
  · by_cases h1 : t.val % 11 = 10
    · exact soundC m c t h0 h1
    · exact soundB m c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA0_eq]
  exact PhiS_loose m c _ _

set_option backward.isDefEq.respectTransparency.types false in
/-- The run: every array at what the proof data make of it, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame at any values: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.AttnBwdIdeal.Hand

end
-- ==== Proof.AttnI.Strip.lean ====
/-
  One pair of a key block and a query block, as the kernel works it: 24 strips of 32 key rows, each giving its softmax
  weights and the gradient of its scores.
-/
module

public import proofs.«01_k».proof.Proof.AttnI.Trip

@[expose] public section

set_option maxRecDepth 16384

noncomputable section

namespace Cert.AttnBwdIdeal.Hand

open Cert.AttnBwdIdeal Cert.AttnBwdIdeal.Gen
open Idealize.ShloMosaic Idealize.ShloMosaic.TcCoe

local notation "𝕧" => Memref sig Kind.tc Space.vmem
local notation "𝕋" => Thread nD τ

variable {F : FTy → Type} [FloatOps F] [Named F]

/-- The strips, last first. -/
abbrev stripsR : List (Fin 24) := [23, 22, 21, 20, 19, 18, 17, 16, 15, 14, 13, 12, 11, 10, 9, 8, 7, 6, 5, 4, 3, 2, 1, 0]

theorem inbS (n : Fin 24) : ∀ a, (![32 * n.val, 0] : Fin 2 → ℕ) a + S32x768.size a ≤ S768x768.size a := by
  revert n; decide
theorem inbC (n : Fin 24) : ∀ a, (![32 * n.val, 0] : Fin 2 → ℕ) a + S32x128.size a ≤ S768x128.size a := by
  revert n; decide
theorem inb1 (n : Fin 24) : ∀ a, (![32 * n.val, 0] : Fin 2 → ℕ) a + S32x1.size a ≤ S768x1.size a := by
  revert n; decide

/-- Strip `n` of a score block, of a block of 128 lanes, of a column. -/
abbrev boxS (n : Fin 24) : Rect S768x768 := Rect.unit (s := S768x768) ![32 * n.val, 0] S32x768.size (inbS n)
abbrev boxC (n : Fin 24) : Rect S768x128 := Rect.unit (s := S768x128) ![32 * n.val, 0] S32x128.size (inbC n)
abbrev box1 (n : Fin 24) : Rect S768x1 := Rect.unit (s := S768x1) ![32 * n.val, 0] S32x1.size (inb1 n)

/-- The scores of a strip, those of later keys masked in the block on the diagonal. -/
def maskOf (b : Bool) (n : Fin 24) (x : FVec F S32x768 .f32) : FVec F S32x768 .f32 :=
  match b with
  | false => x
  | true => select (cmpi .sge (iota .tc S32x768 32 [1] iota_S32x768_d1_w32)
      (addi (broadcast S32x768 (BitVec.ofNat 32 (32 * n.val))) (iota .tc S32x768 32 [0] iota_S32x768_d0_w32))) x
      (broadcast S32x768 (Named.named κ "mask" 0xF149F2CA#32))

/-- The softmax weights of a strip. -/
def wgt (b : Bool) (bias : FVec F S1x768 .f32) (st : Fin 24 → Vec F S32x768 .f32) (cs : Fin 24 → Vec F S32x128 .f32)
    (n : Fin 24) : FVec F S32x768 .f32 :=
  exp (maskOf b n (addf (st n) (subf (broadcastTo S32x768 bias broadcasts_S1x768_S32x768)
    (concatenate S32x768 1 [⟨S32x128, cs n⟩, ⟨S32x128, cs n⟩, ⟨S32x128, cs n⟩, ⟨S32x128, cs n⟩, ⟨S32x128, cs n⟩, ⟨S32x128, cs n⟩] concatenates_S32x128_S32x128_S32x128_S32x128_S32x128_S32x128_S32x768_d1))))

/-- The gradient of a strip's scores. -/
def dsc (b : Bool) (bias delta : FVec F S1x768 .f32) (st : Fin 24 → Vec F S32x768 .f32)
    (cs : Fin 24 → Vec F S32x128 .f32) (dp : Fin 24 → Vec F S32x768 .f32) (n : Fin 24) : FVec F S32x768 .f32 :=
  mulf (wgt b bias st cs n) (subf (dp n) (broadcastTo S32x768 delta broadcasts_S1x768_S32x768))

/-- The strips as stored in the narrow format, last first. -/
abbrev narrowL (x : Fin 24 → FVec F S32x768 .f32) : List (View.Piece (Elt F) S768x768 .bf16) :=
  stripsR.map fun n => ⟨boxS n, shapeCast S32x768 (truncf .bf16 (x n) bitsLt_bf16_f32) shapeCasts_S32x768_S32x768⟩

/-- The row sums of a strip added to what was there. -/
def rowAdd (old : Vec F S32x1 .f32) (d : FVec F S32x768 .f32) : FVec F S32x1 .f32 :=
  shapeCast S32x1 (addf old (shapeCast S32x1 (multiReduction .add [1] S32 d 0x00000000#32 reduces_S32x768_S32 (.inl rfl) rfl) shapeCasts_S32_S32x1)) shapeCasts_S32x1_S32x1

/-- The row sums of the strips, each added to what the buffer held, last first. -/
abbrev rowL (old : Fin 24 → Vec F S32x1 .f32) (d : Fin 24 → FVec F S32x768 .f32) :
    List (View.Piece (Elt F) S768x1 .f32) :=
  stripsR.map fun n => ⟨box1 n, rowAdd (old n) (d n)⟩

/-- … where the buffer is read back after the strips stored before. -/
abbrev rowRec (v : 𝕧 S768x1 .f32) (init : List (View.Piece (Elt F) S768x1 .f32))
    (d : Fin 24 → FVec F S32x768 .f32) : List (Fin 24) → List (View.Piece (Elt F) S768x1 .f32)
  | [] => init
  | n :: ns => ⟨box1 n, rowAdd (v.view.readCov (rowRec v init d ns) (box1 n).toLoadRect) (d n)⟩ :: rowRec v init d ns

/-- Eight running sums per column, a strip of four groups of eight rows added. -/
def colStep (x : FVec F S8x768 .f32) (d : FVec F S32x768 .f32) : FVec F S8x768 .f32 :=
  addf (addf (addf (addf x (extractStridedSlice S8x768 ![0, 0] d slices_S32x768_o0_0_S8x768))
    (extractStridedSlice S8x768 ![8, 0] d slices_S32x768_o8_0_S8x768))
    (extractStridedSlice S8x768 ![16, 0] d slices_S32x768_o16_0_S8x768))
    (extractStridedSlice S8x768 ![24, 0] d slices_S32x768_o24_0_S8x768)

/-- The running column sums of all strips. -/
def colSum (d : Fin 24 → FVec F S32x768 .f32) : FVec F S8x768 .f32 :=
  colStep (colStep (colStep (colStep (colStep (colStep (colStep (colStep (colStep (colStep (colStep (colStep (colStep (colStep (colStep (colStep (colStep (colStep (colStep (colStep (colStep (colStep (colStep (colStep (broadcast S8x768 (Scalar.ofBits .f32 0x00000000#32)) (d 0)) (d 1)) (d 2)) (d 3)) (d 4)) (d 5)) (d 6)) (d 7)) (d 8)) (d 9)) (d 10)) (d 11)) (d 12)) (d 13)) (d 14)) (d 15)) (d 16)) (d 17)) (d 18)) (d 19)) (d 20)) (d 21)) (d 22)) (d 23)

/-- The strips of a score block stored whole, and of a block of 128 lanes as it stands. -/
abbrev stripsOf (v : 𝕧 S768x768 .f32) (x : FVec F S768x768 .f32) (n : Fin 24) : Vec F S32x768 .f32 :=
  v.view.readCov [⟨Rect.unit (s := S768x768) ![0, 0] S768x768.size inb_S768x768_S768x768_0_0, x⟩] (boxS n).toLoadRect
abbrev lanesOf (v : 𝕧 S768x128 .f32) (x : FVec F S768x128 .f32) (n : Fin 24) : Vec F S32x128 .f32 :=
  v.view.readCov [⟨Rect.unit (s := S768x128) ![0, 0] S768x128.size inb_S768x128_S768x128_0_0, x⟩] (boxC n).toLoadRect

/-- The weights of one head of a pair: `x` the scores, `cs` the key rows of the cumulative gate, `cl` and `ll` the
    query block's cumulative gate and log of the sum. -/
abbrev wH (b : Bool) (v : 𝕧 S768x768 .f32) (x : FVec F S768x768 .f32)
    (cs : Fin 24 → Vec F S32x128 .f32) (cl ll : Vec F S1x1x1x768 .f32) : Fin 24 → FVec F S32x768 .f32 :=
  wgt b (k0_pay170 cl ll) (stripsOf v x) cs

/-- The score gradients of one head of a pair: `y` the products with the values, `dl` the query block's row dots. -/
abbrev dH (b : Bool) (v v' : 𝕧 S768x768 .f32) (x y : FVec F S768x768 .f32)
    (cs : Fin 24 → Vec F S32x128 .f32) (cl ll dl : Vec F S1x1x1x768 .f32) : Fin 24 → FVec F S32x768 .f32 :=
  dsc b (k0_pay170 cl ll) (k0_pay11 dl) (stripsOf v x) cs (stripsOf v' y)

/-- A narrow block stored by strips, read back whole. -/
abbrev narrowOf (v : 𝕧 S768x768 .bf16) (x : Fin 24 → FVec F S32x768 .f32) : Vec F S768x768 .bf16 :=
  v.view.readCov (narrowL x) (Rect.unit (s := S768x768) ![0, 0] S768x768.size inb_S768x768_S768x768_0_0).toLoadRect

/-- A block read whole. -/
abbrev whole128 {e : EltTy} (v : 𝕧 S768x128 e) {c : Dev nD}
    (f : Buf (Elt F) (v.view.loc (c : 𝕋))) : Vec F S768x128 e :=
  View.readAt (Elt F) v.view (Rect.unit (s := S768x128) ![0, 0] S768x128.size inb_S768x128_S768x128_0_0).toLoadRect f

/-- One block stored whole. -/
abbrev put128 (x : FVec F S768x128 .f32) : List (View.Piece (Elt F) S768x128 .f32) :=
  [⟨Rect.unit (s := S768x128) ![0, 0] S768x128.size inb_S768x128_S768x128_0_0, x⟩]

/-- One row of a buffer of rows, and one block of the transposed query gradient, at an offset. -/
abbrev put13 (off : Fin 4 → ℕ) (inb : ∀ a, off a + S1x1x1x768.size a ≤ S2x11x1x768.size a)
    (x : FVec F S1x1x1x768 .f32) : View.Piece (Elt F) S2x11x1x768 .f32 :=
  ⟨Rect.unit (s := S2x11x1x768) off S1x1x1x768.size inb, x⟩
abbrev at13 (v : 𝕧 S2x11x1x768 .f32) {c : Dev nD}
    (f : Buf (Elt F) (v.view.loc (c : 𝕋))) (off : Fin 4 → ℕ)
    (inb : ∀ a, off a + S1x1x1x768.size a ≤ S2x11x1x768.size a) : Vec F S1x1x1x768 .f32 :=
  View.readAt (Elt F) v.view (Rect.unit (s := S2x11x1x768) off S1x1x1x768.size inb).toLoadRect f
abbrev put14 (off : Fin 3 → ℕ) (inb : ∀ a, off a + S1x128x768.size a ≤ S11x128x768.size a)
    (x : FVec F S1x128x768 .f32) : View.Piece (Elt F) S11x128x768 .f32 :=
  ⟨Rect.unit (s := S11x128x768) off S1x128x768.size inb, x⟩
abbrev at14 (v : 𝕧 S11x128x768 .f32) {c : Dev nD}
    (f : Buf (Elt F) (v.view.loc (c : 𝕋))) (off : Fin 3 → ℕ)
    (inb : ∀ a, off a + S1x128x768.size a ≤ S11x128x768.size a) : Vec F S1x128x768 .f32 :=
  View.readAt (Elt F) v.view (Rect.unit (s := S11x128x768) off S1x128x768.size inb).toLoadRect f
abbrev wholeT {e : EltTy} (v : 𝕧 S128x768 e) {c : Dev nD}
    (f : Buf (Elt F) (v.view.loc (c : 𝕋))) : Vec F S128x768 e :=
  View.readAt (Elt F) v.view (Rect.unit (s := S128x768) ![0, 0] S128x768.size inb_S128x768_S128x768_0_0).toLoadRect f

/-- The query gradient's block with the two heads' products added, lanes of the first head from the first. -/
abbrev qAdd (v16 : IVec S128x768 1) (kt : Vec F S128x768 .bf16) (d0 d1 : Vec F S768x768 .bf16)
    (old : Vec F S1x128x768 .f32) : FVec F S1x128x768 .f32 :=
  k0_pay1021 v16 (k0_pay169 kt d0) (k0_pay327 kt d1) old

end Cert.AttnBwdIdeal.Hand
-- ==== Proof.AttnI.Mat.lean ====
/-
  The strips read at a row and a column, over extended reals: the weights, the narrow blocks, the row and column sums,
  the products.
-/
module

public import proofs.«01_k».proof.Proof.AttnI.Strip
public import proofs.«01_k».proof.Proof.Arrays
public import Idealize.ShloMosaic.Lib.Pointwise
public import Idealize.ShloMosaic.Lib.Pointwise.Tactic
public import Idealize.ShloMosaic.Lib.WritesUnit

@[expose] public section

set_option maxRecDepth 16384

noncomputable section

namespace Cert.AttnBwdIdeal.Hand

open Cert.AttnBwdIdeal Cert.AttnBwdIdeal.Gen Cert.Arrays
open Idealize.ShloMosaic Idealize.ShloMosaic.TcCoe

theorem hz2 : (![0, 0] : Fin 2 → Nat) = fun _ => 0 := funext fun a => by fin_cases a <;> rfl

/-- The masked score. -/
theorem mask_eq : (Named.named (F := Ideal) κ "mask" (0xF149F2CA#32 : BitVec (FTy.bits .f32)) : Ideal .f32) = (⊥ : EReal) := rfl

theorem strip_mem (n : Fin 24) : n ∈ stripsR := by revert n; decide

theorem narrow_at (x : FVec Ideal S32x768 .f32) (r : Fin 32) (c : Fin 768) :
    (shapeCast S32x768 (truncf .bf16 x bitsLt_bf16_f32) shapeCasts_S32x768_S32x768 : FVec Ideal S32x768 .bf16) (ix2 r c) = x (ix2 r c) := by
  pointwise

/-- A block stored strip by strip, read back. -/
theorem narrow_read (v : Memref sig .tc .vmem S768x768 .bf16) (d : Fin 24 → FVec Ideal S32x768 .f32) (W : ℕ → ℕ → EReal)
    (h : ∀ (n : Fin 24) (r : Fin 32) (c : Fin 768), d n (ix2 r c) = W (32 * n.val + r.val) c.val) (r c : Fin 768) :
    (narrowOf v d : S768x768.Idx → EReal) (ix2 r c) = W r.val c.val := by
  have e : narrowOf v d = View.ld (v.view.read (Elt Ideal) (v.view.writes (Elt Ideal) v.view.junk (narrowL d)))
      (Rect.unit (s := S768x768) ![0, 0] S768x768.size inb_S768x768_S768x768_0_0) := rfl
  rw [e, View.ld_unit_zero hz2]
  refine View.read_writes_apply_of_pieces v.view v.view.junk (fun y => W (y 0).val (y 1).val) (narrowL d) ?_ (ix2 r c) ?_
  · intro p hp
    obtain ⟨n, -, rfl⟩ := List.mem_map.mp hp
    intro (x : S32x768.Idx)
    rw [eq_ix2 x]
    refine (narrow_at (d n) _ _).trans ((h n _ _).trans ?_)
    show W _ _ = W (32 * n.val + 1 * (x 0).val) (0 + 1 * (x 1).val)
    rw [Nat.one_mul, Nat.one_mul, Nat.zero_add]
  · have hr := r.isLt
    have hc := c.isLt
    have hm : ix2 r c ∈ (boxS ⟨r.val / 32, by omega⟩).set := by
      unfold boxS
      refine Rect.mem_set_unit.mpr fun a => ?_
      fin_cases a
      · show 32 * (r.val / 32) ≤ r.val ∧ r.val < 32 * (r.val / 32) + 32
        omega
      · show 0 ≤ c.val ∧ c.val < 0 + 768
        omega
    exact ⟨_, List.mem_map.mpr ⟨⟨r.val / 32, by omega⟩, strip_mem _, rfl⟩, hm⟩

theorem rowAdd_at (old : Vec Ideal S32x1 .f32) (d : FVec Ideal S32x768 .f32) (r : Fin 32) :
    rowAdd old d (ix2 r 0) = old (ix2 r 0) + ∑ c : Fin 768, d (ix2 r c) := by
  pointwise [rowAdd]

theorem box1_idx (n : Fin 24) (r : Fin 768) (hn : n.val = r.val / 32) :
    (box1 n).toLoadRect.idx (ix2 (⟨r.val % 32, Nat.mod_lt _ (by decide)⟩ : Fin 32) (0 : Fin 1)) = ix2 r (0 : Fin 1) := by
  funext a
  fin_cases a
  · refine Fin.ext ?_
    show 32 * n.val + 1 * (r.val % 32) = r.val
    omega
  · exact Fin.ext (by show 0 + 1 * 0 = 0; rfl)

/-- Row sums added strip by strip to what the column held. -/
theorem rows_read (v : Memref sig .tc .vmem S768x1 .f32) {c : Dev nD} (f : Buf (Elt Ideal) (v.view.loc (c : Thread nD τ)))
    (d : Fin 24 → FVec Ideal S32x768 .f32) (W : ℕ → ℕ → EReal)
    (h : ∀ (n : Fin 24) (r : Fin 32) (c : Fin 768), d n (ix2 r c) = W (32 * n.val + r.val) c.val) (r : Fin 768) :
    (v.view.read (Elt Ideal) (v.view.writes (Elt Ideal) f (rowL (fun n => View.readAt (Elt Ideal) v.view (box1 n).toLoadRect f) d)) : S768x1.Idx → EReal) (ix2 r 0)
      = (v.view.read (Elt Ideal) f : S768x1.Idx → EReal) (ix2 r 0) + ∑ k : Fin 768, W r.val k.val := by
  refine View.read_writes_apply_of_pieces v.view f
    (fun y => (v.view.read (Elt Ideal) f : S768x1.Idx → EReal) y + ∑ k : Fin 768, W (y 0).val k.val) _ ?_ (ix2 r 0) ?_
  · intro p hp
    obtain ⟨n, -, rfl⟩ := List.mem_map.mp hp
    intro (x : S32x1.Idx)
    obtain ⟨a, b, rfl⟩ : ∃ (a : Fin 32) (b : Fin 1), x = ix2 a b := ⟨_, _, eq_ix2 x⟩
    obtain rfl : b = 0 := Subsingleton.elim _ _
    refine (rowAdd_at _ _ _).trans ?_
    refine congrArg₂ (· + ·) rfl (Finset.sum_congr rfl fun k _ => (h n _ k).trans ?_)
    show W _ _ = W (32 * n.val + 1 * a.val) k.val
    rw [Nat.one_mul]
  · have hr := r.isLt
    have hm : ix2 r (0 : Fin 1) ∈ (box1 ⟨r.val / 32, by omega⟩).set := by
      unfold box1
      refine Rect.mem_set_unit.mpr fun a => ?_
      fin_cases a
      · show 32 * (r.val / 32) ≤ r.val ∧ r.val < 32 * (r.val / 32) + 32
        omega
      · show 0 ≤ 0 ∧ 0 < 0 + 1
        omega
    exact ⟨_, List.mem_map.mpr ⟨⟨r.val / 32, by omega⟩, strip_mem _, rfl⟩, hm⟩

/-- … and where each strip reads the column back after the strips before. -/
theorem rowRec_read (v : Memref sig .tc .vmem S768x1 .f32) (init : List (View.Piece (Elt Ideal) S768x1 .f32))
    (d : Fin 24 → FVec Ideal S32x768 .f32) (W : ℕ → ℕ → EReal)
    (h : ∀ (n : Fin 24) (r : Fin 32) (c : Fin 768), d n (ix2 r c) = W (32 * n.val + r.val) c.val) (r : Fin 768) :
    ∀ ns : List (Fin 24), ns.Nodup →
    (v.view.read (Elt Ideal) (v.view.writes (Elt Ideal) v.view.junk (rowRec v init d ns)) : S768x1.Idx → EReal) (ix2 r 0)
      = (v.view.read (Elt Ideal) (v.view.writes (Elt Ideal) v.view.junk init) : S768x1.Idx → EReal) (ix2 r 0)
        + if ∃ n ∈ ns, n.val = r.val / 32 then ∑ k : Fin 768, W r.val k.val else 0
  | [], _ => by
    rw [if_neg (by simp), add_zero]
  | n :: ns, hn => by
    have hr := r.isLt
    have ih := rowRec_read v init d W h r ns (List.nodup_cons.mp hn).2
    by_cases hr' : n.val = r.val / 32
    · rw [if_pos ⟨n, List.mem_cons_self, hr'⟩]
      have hno : ¬ ∃ m ∈ ns, m.val = r.val / 32 := by
        rintro ⟨m, hm, e⟩
        exact (List.nodup_cons.mp hn).1 (by rwa [show n = m from Fin.ext (hr'.trans e.symm)])
      rw [if_neg hno, add_zero] at ih
      refine (View.read_writes_cons_unit_of_mem v.view v.view.junk (inb1 n) _ (rowRec v init d ns) (ix2 r 0)
        (ix2 (⟨r.val % 32, Nat.mod_lt _ (by decide)⟩ : Fin 32) (0 : Fin 1)) rfl ?_).trans ?_
      · intro a
        fin_cases a
        · show r.val = 32 * n.val + r.val % 32
          omega
        · rfl
      · refine (rowAdd_at _ _ _).trans (congrArg₂ (· + ·) ?_ (Finset.sum_congr rfl fun k _ => (h n _ k).trans ?_))
        · rw [← ih, ← box1_idx n r hr']; rfl
        · show W (32 * n.val + r.val % 32) k.val = _
          rw [show 32 * n.val + r.val % 32 = r.val from by omega]
    · refine (View.read_writes_cons_unit_of_not_mem v.view v.view.junk (inb1 n) _ (rowRec v init d ns) (ix2 r 0) rfl
        (0 : Fin 2) ?_).trans ?_
      · show r.val < 32 * n.val ∨ 32 * n.val + 32 ≤ r.val
        omega
      · rw [ih]
        congr 1
        refine if_congr ⟨fun ⟨m, hm, e⟩ => ⟨m, List.mem_cons_of_mem _ hm, e⟩, fun ⟨m, hm, e⟩ => ?_⟩ rfl rfl
        rcases List.mem_cons.mp hm with rfl | hm
        · exact absurd e hr'
        · exact ⟨m, hm, e⟩

theorem colStep_at (x : FVec Ideal S8x768 .f32) (d : FVec Ideal S32x768 .f32) (a : Fin 8) (c : Fin 768) :
    colStep x d (ix2 a c) = x (ix2 a c) + d (ix2 ⟨a.val, by omega⟩ c) + d (ix2 ⟨8 + a.val, by omega⟩ c)
      + d (ix2 ⟨16 + a.val, by omega⟩ c) + d (ix2 ⟨24 + a.val, by omega⟩ c) := by
  pointwise [colStep]

theorem colStep_sum (x : FVec Ideal S8x768 .f32) (d : FVec Ideal S32x768 .f32) (W : ℕ → EReal) (N : ℕ) (c : Fin 768)
    (hd : ∀ r : Fin 32, d (ix2 r c) = W (N + r.val)) (hx : ∑ a : Fin 8, x (ix2 a c) = ∑ k ∈ Finset.range N, W k) :
    ∑ a : Fin 8, colStep x d (ix2 a c) = ∑ k ∈ Finset.range (N + 32), W k := by
  simp only [colStep_at, hd, Finset.sum_add_distrib, hx]
  rw [sum_block W N 8]
  have e1 := sum_block W (N + 8) 8
  have e2 := sum_block W (N + 8 + 8) 8
  have e3 := sum_block W (N + 8 + 8 + 8) 8
  simp only [Nat.add_assoc, Nat.reduceAdd] at e1 e2 e3 ⊢
  rw [e1]
  simp only [← Nat.add_assoc, Nat.reduceAdd] at e2 e3 ⊢
  rw [e2, e3]

theorem colSum_sum (d : Fin 24 → FVec Ideal S32x768 .f32) (W : ℕ → EReal) (c : Fin 768)
    (h : ∀ (n : Fin 24) (r : Fin 32), d n (ix2 r c) = W (32 * n.val + r.val)) :
    ∑ a : Fin 8, colSum d (ix2 a c) = ∑ k ∈ Finset.range 768, W k := by
  have base : ∑ a : Fin 8, (broadcast S8x768 (Scalar.ofBits .f32 0x00000000#32) : FVec Ideal S8x768 .f32) (ix2 a c) = ∑ k ∈ Finset.range 0, W k := by
    rw [Finset.sum_range_zero]
    refine Finset.sum_eq_zero fun a _ => ?_
    pointwise
  exact (colStep_sum _ (d 23) W 736 c (h 23) (colStep_sum _ (d 22) W 704 c (h 22) (colStep_sum _ (d 21) W 672 c (h 21) (colStep_sum _ (d 20) W 640 c (h 20) (colStep_sum _ (d 19) W 608 c (h 19) (colStep_sum _ (d 18) W 576 c (h 18) (colStep_sum _ (d 17) W 544 c (h 17) (colStep_sum _ (d 16) W 512 c (h 16) (colStep_sum _ (d 15) W 480 c (h 15) (colStep_sum _ (d 14) W 448 c (h 14) (colStep_sum _ (d 13) W 416 c (h 13) (colStep_sum _ (d 12) W 384 c (h 12) (colStep_sum _ (d 11) W 352 c (h 11) (colStep_sum _ (d 10) W 320 c (h 10) (colStep_sum _ (d 9) W 288 c (h 9) (colStep_sum _ (d 8) W 256 c (h 8) (colStep_sum _ (d 7) W 224 c (h 7) (colStep_sum _ (d 6) W 192 c (h 6) (colStep_sum _ (d 5) W 160 c (h 5) (colStep_sum _ (d 4) W 128 c (h 4) (colStep_sum _ (d 3) W 96 c (h 3) (colStep_sum _ (d 2) W 64 c (h 2) (colStep_sum _ (d 1) W 32 c (h 1) (colStep_sum _ (d 0) W 0 c (h 0) base))))))))))))))))))))))))

theorem pay166_at (x : FVec Ideal S8x768 .f32) (old : Vec Ideal S1x1x1x768 .f32) (c : Fin 768) :
    k0_pay166 x old (ix4 0 0 0 c) = old (ix4 0 0 0 c) + ∑ a : Fin 8, x (ix2 a c) := by
  pointwise [k0_pay166]

theorem pay665_at (c : Fin 768) (l : Fin 128) : k0_pay665 (ix2 c l) = if l.val < 64 then 1#1 else 0#1 := by
  pointwise [k0_pay665]
  revert l; decide +kernel

theorem pay669_at (l : Fin 128) (c : Fin 768) : k0_pay669 (ix2 l c) = if l.val < 64 then 1#1 else 0#1 := by
  pointwise [k0_pay669]
  revert l; decide +kernel

theorem half_select {α : Type} (l : Fin 128) (x y : α) :
    Scalar.select (if l.val < 64 then 1#1 else 0#1) x y = if l.val / 64 = 0 then x else y := by
  by_cases hl : l.val < 64
  · rw [if_pos hl, if_pos (by omega)]; rfl
  · rw [if_neg hl, if_neg (by omega)]; rfl

theorem pay5_at (k q : Vec Ideal S768x128 .bf16) (r c : Fin 768) :
    k0_pay5 k0_pay665 k q (ix2 r c) = ∑ l : Fin 128, k (ix2 r l) * (if l.val / 64 = 0 then q (ix2 c l) else 0) := by
  pointwise [k0_pay5, k0_pay3]
  refine Finset.sum_congr rfl fun l _ => ?_
  rw [pay665_at, half_select]
  split_ifs
  · rfl
  · exact (mul_zero _).symm

theorem pay7_at (k q : Vec Ideal S768x128 .bf16) (r c : Fin 768) :
    k0_pay7 k0_pay665 k q (ix2 r c) = ∑ l : Fin 128, k (ix2 r l) * (if l.val / 64 = 1 then q (ix2 c l) else 0) := by
  pointwise [k0_pay7, k0_pay3]
  refine Finset.sum_congr rfl fun l _ => ?_
  have hl := l.isLt
  rw [pay665_at, half_select]
  by_cases h : l.val / 64 = 0
  · rw [if_pos h, if_neg (by omega)]
    exact (mul_zero _).symm
  · rw [if_neg h, if_pos (by omega)]

theorem pay6_at (k q : Vec Ideal S768x128 .bf16) (r c : Fin 768) :
    k0_pay6 k0_pay665 k q (ix2 r c) = ∑ l : Fin 128, k (ix2 r l) * (if l.val / 64 = 0 then q (ix2 c l) else 0) := pay5_at k q r c

theorem pay8_at (k q : Vec Ideal S768x128 .bf16) (r c : Fin 768) :
    k0_pay8 k0_pay665 k q (ix2 r c) = ∑ l : Fin 128, k (ix2 r l) * (if l.val / 64 = 1 then q (ix2 c l) else 0) := pay7_at k q r c

theorem pay167_at (b : Vec Ideal S768x128 .bf16) (old : Vec Ideal S768x128 .f32) (w : Vec Ideal S768x768 .bf16) (r : Fin 768) (l : Fin 128) :
    k0_pay167 b old w (ix2 r l) = old (ix2 r l) + ∑ c : Fin 768, w (ix2 r c) * b (ix2 c l) := by
  pointwise [k0_pay167]

theorem pay168_at (b : Vec Ideal S768x128 .bf16) (old : Vec Ideal S768x128 .f32) (w : Vec Ideal S768x768 .bf16) (r : Fin 768) (l : Fin 128) :
    k0_pay168 b old w (ix2 r l) = old (ix2 r l) + ∑ c : Fin 768, w (ix2 r c) * b (ix2 c l) := by
  pointwise [k0_pay168]

theorem pay169_at (kt : Vec Ideal S128x768 .bf16) (w : Vec Ideal S768x768 .bf16) (l : Fin 128) (c : Fin 768) :
    k0_pay169 kt w (ix2 l c) = ∑ k : Fin 768, kt (ix2 l k) * w (ix2 k c) := by
  pointwise [k0_pay169]

theorem pay327_at (kt : Vec Ideal S128x768 .bf16) (w : Vec Ideal S768x768 .bf16) (l : Fin 128) (c : Fin 768) :
    k0_pay327 kt w (ix2 l c) = ∑ k : Fin 768, kt (ix2 l k) * w (ix2 k c) := by
  pointwise [k0_pay327]

theorem pay1021_at (a b : FVec Ideal S128x768 .f32) (old : Vec Ideal S1x128x768 .f32) (l : Fin 128) (c : Fin 768) :
    k0_pay1021 k0_pay669 a b old (ix3 0 l c) = old (ix3 0 l c) + if l.val / 64 = 0 then a (ix2 l c) else b (ix2 l c) := by
  pointwise [k0_pay1021]
  rw [pay669_at, half_select]

theorem pay668_at (k : Vec Ideal S768x128 .bf16) (l : Fin 128) (r : Fin 768) : k0_pay668 k (ix2 l r) = k (ix2 r l) := by
  pointwise [k0_pay668]

theorem pay653_at (x : Vec Ideal S1x128x768 .f32) (c : Fin 768) (l : Fin 128) : k0_pay653 x (ix2 c l) = x (ix3 0 l c) := by
  pointwise [k0_pay653]

theorem pay1023_at (a b : Vec Ideal S768x128 .f32) (r : Fin 768) (l : Fin 128) :
    k0_pay1023 k0_pay665 a b (ix2 r l) = if l.val / 64 = 0 then a (ix2 r l) else b (ix2 r l) := by
  pointwise [k0_pay1023]
  rw [pay665_at, half_select]

theorem pay2_at (a : Vec Ideal S768x1 .f32) (c : Fin 768) : k0_pay2 a (ix4 0 0 0 c) = 0 - a (ix2 c 0) := by
  pointwise [k0_pay2]

theorem pay1_at (a : Vec Ideal S768x1 .f32) (c : Fin 768) :
    k0_pay1 (k0_pay1026 (k0_pay1025 a) (Scalar.ofBits .f32 0x00000000#32)) (ix4 0 0 0 c) = 0 - a (ix2 c 0) := by
  pointwise [k0_pay1, k0_pay1026, k0_pay1025]

theorem pay673_at (x : Vec Ideal S1x1x1x768 .f32) (r : Fin 768) (l : Fin 128) : k0_pay673 x (ix2 r l) = x (ix4 0 0 0 r) := by
  pointwise [k0_pay673]

theorem pay170_at (x y : Vec Ideal S1x1x1x768 .f32) (c : Fin 768) : k0_pay170 x y (ix2 0 c) = x (ix4 0 0 0 c) - y (ix4 0 0 0 c) := by
  pointwise [k0_pay170]

theorem pay11_at (x : Vec Ideal S1x1x1x768 .f32) (c : Fin 768) : k0_pay11 x (ix2 0 c) = x (ix4 0 0 0 c) := by
  pointwise [k0_pay11]

theorem pay670_at (r : Fin 768) (l : Fin 128) : (k0_pay670 : FVec Ideal S768x128 .f32) (ix2 r l) = 0 := by
  pointwise [k0_pay670]
theorem pay672_at (r : Fin 768) : (k0_pay672 : FVec Ideal S768x1 .f32) (ix2 r 0) = 0 := by
  pointwise [k0_pay672]
theorem pay666_at (y : S11x128x768.Idx) : (k0_pay666 : FVec Ideal S11x128x768 .f32) y = 0 := by
  pointwise [k0_pay666]
theorem pay667_at (y : S2x11x1x768.Idx) : (k0_pay667 : FVec Ideal S2x11x1x768 .f32) y = 0 := by
  pointwise [k0_pay667]

theorem keep_eq (n : Fin 24) (r : Fin 32) (c : Fin 768) :
    IntOp.cmpi .sge (BitVec.ofNat 32 c.val) (IntOp.addi (BitVec.ofNat 32 (32 * n.val)) (BitVec.ofNat 32 r.val))
      = if 32 * n.val + r.val ≤ c.val then 1#1 else 0#1 := by
  have hn := n.isLt
  have hr := r.isLt
  have hc := c.isLt
  have e : IntOp.addi (BitVec.ofNat 32 (32 * n.val)) (BitVec.ofNat 32 r.val) = BitVec.ofNat 32 (32 * n.val + r.val) :=
    (BitVec.ofNat_add _ _).symm
  rw [e]
  have ha : 32 * n.val + r.val < 1024 := by omega
  generalize 32 * n.val + r.val = a at ha ⊢
  by_cases hk : a ≤ c.val
  · rw [if_pos hk]
    exact (WordCmp.cmpi_sge_ofNat_eq_one_iff (by omega) (by omega)).mpr hk
  · rw [if_neg hk]
    exact (WordCmp.cmpi_sge_ofNat_eq_zero_iff (by omega) (by omega)).mpr hk

/-- The weights at a row of a strip and a column: the key rows of the gate are the same in every lane. -/
theorem wgt_at (b : Bool) (bias : FVec Ideal S1x768 .f32) (st : Fin 24 → Vec Ideal S32x768 .f32)
    (cs : Fin 24 → Vec Ideal S32x128 .f32) (n : Fin 24) (r : Fin 32) (c : Fin 768) (ck : EReal)
    (hcs : ∀ l : Fin 128, cs n (ix2 r l) = ck) :
    wgt b bias st cs n (ix2 r c)
      = if b = true ∧ ¬ 32 * n.val + r.val ≤ c.val then 0 else Ideal.exp (st n (ix2 r c) + (bias (ix2 0 c) - ck)) := by
  cases b
  · rw [if_neg (by simp)]
    pointwise [wgt, maskOf]
    simp only [hcs, dite_eq_ite, ite_self]
  · pointwise [wgt, maskOf]
    simp only [hcs, dite_eq_ite, ite_self]
    rw [mask_eq, keep_eq n r c]
    by_cases hk : 32 * n.val + r.val ≤ c.val
    · rw [if_pos hk, if_neg (fun h => h hk)]; rfl
    · rw [if_neg hk, if_pos hk]; rfl

end Cert.AttnBwdIdeal.Hand
-- ==== Proof.AttnI.Reads.lean ====
/-
  Blocks read out of the buffers, and one pair of a key block and a query block in terms of the rows of the sequence:
  the weights and the gradients of the scores, and what their sums add.
-/
module

public import proofs.«01_k».proof.Proof.AttnI.Mat

@[expose] public section

set_option maxRecDepth 16384

noncomputable section

namespace Cert.AttnBwdIdeal.Hand

open Cert.AttnBwdIdeal Cert.AttnBwdIdeal.Gen Cert.Arrays
open Idealize.ShloMosaic Idealize.ShloMosaic.TcCoe

local notation "𝕧" => Memref sig Kind.tc Space.vmem
local notation "𝕋" => Thread nD τ

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- A pair of heads: queries, output gradients, keys and values by row and lane; cumulative gates, logs of the sums and
    row dots by head and row. -/
structure Glob where
  Q : ℕ → ℕ → EReal
  DO : ℕ → ℕ → EReal
  K : ℕ → ℕ → EReal
  V : ℕ → ℕ → EReal
  C : ℕ → ℕ → EReal
  L : ℕ → ℕ → EReal
  Dl : ℕ → ℕ → EReal

namespace Glob

variable (G : Glob)

/-- The product of key `u` and query `t` over the lanes of head `h`. -/
def S (h t u : ℕ) : EReal := ∑ l : Fin 128, G.K u l.val * (if l.val / 64 = h then G.Q t l.val else 0)
/-- … of value `u` and output gradient `t`. -/
def DP (h t u : ℕ) : EReal := ∑ l : Fin 128, G.V u l.val * (if l.val / 64 = h then G.DO t l.val else 0)
/-- The softmax weight of key `u` for query `t`. -/
def W (h t u : ℕ) : EReal := if u ≤ t then Ideal.exp (G.S h t u + ((G.C h t - G.L h t) - G.C h u)) else 0
/-- The gradient of the score. -/
def Dm (h t u : ℕ) : EReal := G.W h t u * (G.DP h t u - G.Dl h t)

theorem W_late (h : ℕ) {t u : ℕ} (htu : t < u) : G.W h t u = 0 := if_neg (Nat.not_le.mpr htu)
theorem Dm_late (h : ℕ) {t u : ℕ} (htu : t < u) : G.Dm h t u = 0 := by rw [Dm, W_late G h htu, zero_mul]

end Glob

section reads

variable {c : Dev nD}

/-- A store of the whole buffer is what is read. -/
theorem whole_top {κ : Kind} {sp : Space} {s : Shape} {e : EltTy} (v : View sig κ sp s e) (f : BufTy.Contents (Elt Ideal) v.ty)
    {off : Fin s.rank → ℕ} (h0 : off = fun _ => 0) (inb : ∀ a, off a + s.size a ≤ s.size a) (w : s.Idx → Elt Ideal e)
    (L : List (View.Piece (Elt Ideal) s e)) (y : s.Idx) :
    v.read (Elt Ideal) (v.writes (Elt Ideal) f (⟨Rect.unit (s := s) off s.size inb, w⟩ :: L)) y = w y := by
  refine View.read_writes_cons_unit_of_mem v f inb w L y y rfl fun a => ?_
  have e0 : off a = 0 := congrFun h0 a
  exact (Nat.zero_add _).symm.trans (congrArg (· + _) e0.symm)

theorem whole128_at {e : EltTy} (v : 𝕧 S768x128 e) (f : Buf (Elt Ideal) (v.view.loc (c : 𝕋))) (y : S768x128.Idx) :
    whole128 v f y = v.view.read (Elt Ideal) f y := by
  have e : whole128 v f = View.ld (v.view.read (Elt Ideal) f) (Rect.unit (s := S768x128) ![0, 0] S768x128.size inb_S768x128_S768x128_0_0) := rfl
  rw [e, View.ld_unit_zero hz2]

theorem wholeT_at {e : EltTy} (v : 𝕧 S128x768 e) (f : Buf (Elt Ideal) (v.view.loc (c : 𝕋))) (y : S128x768.Idx) :
    wholeT v f y = v.view.read (Elt Ideal) f y := by
  have e : wholeT v f = View.ld (v.view.read (Elt Ideal) f) (Rect.unit (s := S128x768) ![0, 0] S128x768.size inb_S128x768_S128x768_0_0) := rfl
  rw [e, View.ld_unit_zero hz2]

theorem put128_read (v : 𝕧 S768x128 .f32) (f : Buf (Elt Ideal) (v.view.loc (c : 𝕋)))
    (x : FVec Ideal S768x128 .f32) (y : S768x128.Idx) : v.view.read (Elt Ideal) (v.view.writes (Elt Ideal) f (put128 x)) y = x y :=
  whole_top v.view f hz2 _ x [] y

/-- A block stored whole and read back whole. -/
theorem cov128 (v : 𝕧 S768x128 .f32) (x : FVec Ideal S768x128 .f32) (y : S768x128.Idx) :
    v.view.readCov (put128 x) (Rect.unit (s := S768x128) ![0, 0] S768x128.size inb_S768x128_S768x128_0_0).toLoadRect y = x y := by
  have e : v.view.readCov (put128 x) (Rect.unit (s := S768x128) ![0, 0] S768x128.size inb_S768x128_S768x128_0_0).toLoadRect
      = View.ld (v.view.read (Elt Ideal) (v.view.writes (Elt Ideal) v.view.junk (put128 x))) (Rect.unit (s := S768x128) ![0, 0] S768x128.size inb_S768x128_S768x128_0_0) := rfl
  rw [e, View.ld_unit_zero hz2]
  exact whole_top v.view v.view.junk hz2 _ x [] y

theorem covT (v : 𝕧 S128x768 .bf16) (x : FVec Ideal S128x768 .bf16) (y : S128x768.Idx) :
    View.readCov (Val := Elt Ideal) v.view [⟨Rect.unit (s := S128x768) ![0, 0] S128x768.size inb_S128x768_S128x768_0_0, x⟩] (Rect.unit (s := S128x768) ![0, 0] S128x768.size inb_S128x768_S128x768_0_0).toLoadRect y = x y := by
  have e : View.readCov (Val := Elt Ideal) v.view [⟨Rect.unit (s := S128x768) ![0, 0] S128x768.size inb_S128x768_S128x768_0_0, x⟩] (Rect.unit (s := S128x768) ![0, 0] S128x768.size inb_S128x768_S128x768_0_0).toLoadRect
      = View.ld (v.view.read (Elt Ideal) (v.view.writes (Elt Ideal) v.view.junk [⟨Rect.unit (s := S128x768) ![0, 0] S128x768.size inb_S128x768_S128x768_0_0, x⟩])) (Rect.unit (s := S128x768) ![0, 0] S128x768.size inb_S128x768_S128x768_0_0) := rfl
  rw [e, View.ld_unit_zero hz2]
  exact whole_top v.view v.view.junk hz2 _ x [] y

/-- 768 rows from row `768 q` on. -/
theorem rd128 (v : 𝕧 S8448x128 .bf16) (f : Buf (Elt Ideal) (v.view.loc (c : 𝕋)))
    (off : Fin 2 → ℕ) (inb : ∀ a, off a + S768x128.size a ≤ S8448x128.size a) (q : Fin 11) (h : off = ![768 * q.val, 0])
    (r : Fin 768) (l : Fin 128) :
    View.readAt (Elt Ideal) v.view (Rect.unit (s := S8448x128) off S768x128.size inb).toLoadRect f (ix2 r l)
      = v.view.read (Elt Ideal) f (ix2 (⟨768 * q.val + r.val, by omega⟩ : Fin 8448) l) := by
  subst h
  refine congrArg (v.view.read (Elt Ideal) f) ?_
  funext a
  fin_cases a
  · exact Fin.ext (by show 768 * q.val + 1 * r.val = 768 * q.val + r.val; omega)
  · exact Fin.ext (by show 0 + 1 * l.val = l.val; omega)

theorem idx13 (off : Fin 4 → ℕ) (inb : ∀ a, off a + S1x1x1x768.size a ≤ S2x11x1x768.size a) (h : Fin 2) (q : Fin 11)
    (ho : off = ![h.val, q.val, 0, 0]) (k : Fin 768) :
    (Rect.unit (s := S2x11x1x768) off S1x1x1x768.size inb).toLoadRect.idx (ix4 (0 : Fin 1) (0 : Fin 1) (0 : Fin 1) k) = ix4 h q (0 : Fin 1) k := by
  subst ho
  funext a
  fin_cases a
  · exact Fin.ext (by show h.val + 1 * 0 = h.val; omega)
  · exact Fin.ext (by show q.val + 1 * 0 = q.val; omega)
  · exact Fin.ext (by show 0 + 1 * 0 = 0; omega)
  · exact Fin.ext (by show 0 + 1 * k.val = k.val; omega)

theorem at13_at (v : 𝕧 S2x11x1x768 .f32) (f : Buf (Elt Ideal) (v.view.loc (c : 𝕋)))
    (off : Fin 4 → ℕ) (inb : ∀ a, off a + S1x1x1x768.size a ≤ S2x11x1x768.size a) (h : Fin 2) (q : Fin 11)
    (ho : off = ![h.val, q.val, 0, 0]) (k : Fin 768) :
    at13 v f off inb (ix4 0 0 0 k) = v.view.read (Elt Ideal) f (ix4 h q (0 : Fin 1) k) :=
  congrArg (v.view.read (Elt Ideal) f) (idx13 off inb h q ho k)

theorem at14_at (v : 𝕧 S11x128x768 .f32) (f : Buf (Elt Ideal) (v.view.loc (c : 𝕋)))
    (off : Fin 3 → ℕ) (inb : ∀ a, off a + S1x128x768.size a ≤ S11x128x768.size a) (q : Fin 11)
    (ho : off = ![q.val, 0, 0]) (l : Fin 128) (k : Fin 768) :
    at14 v f off inb (ix3 0 l k) = v.view.read (Elt Ideal) f (ix3 q l k) := by
  subst ho
  refine congrArg (v.view.read (Elt Ideal) f) ?_
  funext a
  fin_cases a
  · exact Fin.ext (by show q.val + 1 * 0 = q.val; omega)
  · exact Fin.ext (by show 0 + 1 * l.val = l.val; omega)
  · exact Fin.ext (by show 0 + 1 * k.val = k.val; omega)

theorem put13_read (v : 𝕧 S2x11x1x768 .f32) (f : Buf (Elt Ideal) (v.view.loc (c : 𝕋)))
    (off : Fin 4 → ℕ) (inb : ∀ a, off a + S1x1x1x768.size a ≤ S2x11x1x768.size a) (h : Fin 2) (q : Fin 11)
    (ho : off = ![h.val, q.val, 0, 0]) (x : FVec Ideal S1x1x1x768 .f32) (L : List (View.Piece (Elt Ideal) S2x11x1x768 .f32))
    (h' : Fin 2) (q' : Fin 11) (k : Fin 768) :
    v.view.read (Elt Ideal) (v.view.writes (Elt Ideal) f (put13 off inb x :: L)) (ix4 h' q' (0 : Fin 1) k)
      = if h' = h ∧ q' = q then x (ix4 0 0 0 k) else v.view.read (Elt Ideal) (v.view.writes (Elt Ideal) f L) (ix4 h' q' (0 : Fin 1) k) := by
  subst ho
  by_cases e : h' = h ∧ q' = q
  · rw [if_pos e]
    obtain ⟨rfl, rfl⟩ := e
    refine View.read_writes_cons_unit_of_mem v.view f inb x L _ (ix4 (0 : Fin 1) (0 : Fin 1) (0 : Fin 1) k) rfl fun a => ?_
    fin_cases a
    · exact (Nat.add_zero _).symm
    · exact (Nat.add_zero _).symm
    · rfl
    · exact (Nat.zero_add _).symm
  · rw [if_neg e]
    by_cases e0 : h' = h
    · have e1 : q'.val ≠ q.val := fun h1 => e ⟨e0, Fin.ext h1⟩
      refine View.read_writes_cons_unit_of_not_mem v.view f inb x L _ rfl (1 : Fin 4) ?_
      show q'.val < q.val ∨ q.val + 1 ≤ q'.val
      omega
    · have e1 : h'.val ≠ h.val := fun h1 => e0 (Fin.ext h1)
      refine View.read_writes_cons_unit_of_not_mem v.view f inb x L _ rfl (0 : Fin 4) ?_
      show h'.val < h.val ∨ h.val + 1 ≤ h'.val
      omega

theorem put14_read (v : 𝕧 S11x128x768 .f32) (f : Buf (Elt Ideal) (v.view.loc (c : 𝕋)))
    (off : Fin 3 → ℕ) (inb : ∀ a, off a + S1x128x768.size a ≤ S11x128x768.size a) (q : Fin 11)
    (ho : off = ![q.val, 0, 0]) (x : FVec Ideal S1x128x768 .f32) (L : List (View.Piece (Elt Ideal) S11x128x768 .f32))
    (q' : Fin 11) (l : Fin 128) (k : Fin 768) :
    v.view.read (Elt Ideal) (v.view.writes (Elt Ideal) f (put14 off inb x :: L)) (ix3 q' l k)
      = if q' = q then x (ix3 0 l k) else v.view.read (Elt Ideal) (v.view.writes (Elt Ideal) f L) (ix3 q' l k) := by
  subst ho
  by_cases e : q' = q
  · rw [if_pos e]
    obtain rfl := e
    refine View.read_writes_cons_unit_of_mem v.view f inb x L _ (ix3 (0 : Fin 1) l k) rfl fun a => ?_
    fin_cases a
    · exact (Nat.add_zero _).symm
    · exact (Nat.zero_add _).symm
    · exact (Nat.zero_add _).symm
  · rw [if_neg e]
    have e1 : q'.val ≠ q.val := fun h1 => e (Fin.ext h1)
    refine View.read_writes_cons_unit_of_not_mem v.view f inb x L _ rfl (0 : Fin 3) ?_
    show q'.val < q.val ∨ q.val + 1 ≤ q'.val
    omega

theorem strips_at (v : 𝕧 S768x768 .f32) (x : FVec Ideal S768x768 .f32) (n : Fin 24) (r : Fin 32) (k : Fin 768) :
    stripsOf v x n (ix2 r k) = x (ix2 (⟨32 * n.val + r.val, by omega⟩ : Fin 768) k) := by
  refine (whole_top v.view v.view.junk hz2 inb_S768x768_S768x768_0_0 x [] ((boxS n).toLoadRect.idx (ix2 r k))).trans (congrArg x ?_)
  funext a
  fin_cases a
  · exact Fin.ext (by show 32 * n.val + 1 * r.val = 32 * n.val + r.val; omega)
  · exact Fin.ext (by show 0 + 1 * k.val = k.val; omega)

theorem idxC (n : Fin 24) (r : Fin 32) (l : Fin 128) :
    (boxC n).toLoadRect.idx (ix2 r l) = ix2 (⟨32 * n.val + r.val, by omega⟩ : Fin 768) l := by
  funext a
  fin_cases a
  · exact Fin.ext (by show 32 * n.val + 1 * r.val = 32 * n.val + r.val; omega)
  · exact Fin.ext (by show 0 + 1 * l.val = l.val; omega)

theorem lanes_at (v : 𝕧 S768x128 .f32) (x : FVec Ideal S768x128 .f32) (n : Fin 24) (r : Fin 32) (l : Fin 128) :
    lanesOf v x n (ix2 r l) = x (ix2 (⟨32 * n.val + r.val, by omega⟩ : Fin 768) l) :=
  (whole_top v.view v.view.junk hz2 inb_S768x128_S768x128_0_0 x [] _).trans (congrArg x (idxC n r l))

end reads

section pair

variable (G : Glob) (h j q : ℕ)

theorem S0_at (k x : Vec Ideal S768x128 .bf16) (hk : ∀ (r : Fin 768) (l : Fin 128), k (ix2 r l) = G.K (768 * j + r.val) l.val)
    (hx : ∀ (r : Fin 768) (l : Fin 128), x (ix2 r l) = G.Q (768 * q + r.val) l.val) (r p : Fin 768) :
    k0_pay5 k0_pay665 k x (ix2 r p) = G.S 0 (768 * q + p.val) (768 * j + r.val) := by
  rw [pay5_at]; simp only [hk, hx]; rfl
theorem S1_at (k x : Vec Ideal S768x128 .bf16) (hk : ∀ (r : Fin 768) (l : Fin 128), k (ix2 r l) = G.K (768 * j + r.val) l.val)
    (hx : ∀ (r : Fin 768) (l : Fin 128), x (ix2 r l) = G.Q (768 * q + r.val) l.val) (r p : Fin 768) :
    k0_pay7 k0_pay665 k x (ix2 r p) = G.S 1 (768 * q + p.val) (768 * j + r.val) := by
  rw [pay7_at]; simp only [hk, hx]; rfl
theorem DP0_at (k x : Vec Ideal S768x128 .bf16) (hk : ∀ (r : Fin 768) (l : Fin 128), k (ix2 r l) = G.V (768 * j + r.val) l.val)
    (hx : ∀ (r : Fin 768) (l : Fin 128), x (ix2 r l) = G.DO (768 * q + r.val) l.val) (r p : Fin 768) :
    k0_pay6 k0_pay665 k x (ix2 r p) = G.DP 0 (768 * q + p.val) (768 * j + r.val) := by
  rw [pay6_at]; simp only [hk, hx]; rfl
theorem DP1_at (k x : Vec Ideal S768x128 .bf16) (hk : ∀ (r : Fin 768) (l : Fin 128), k (ix2 r l) = G.V (768 * j + r.val) l.val)
    (hx : ∀ (r : Fin 768) (l : Fin 128), x (ix2 r l) = G.DO (768 * q + r.val) l.val) (r p : Fin 768) :
    k0_pay8 k0_pay665 k x (ix2 r p) = G.DP 1 (768 * q + p.val) (768 * j + r.val) := by
  rw [pay8_at]; simp only [hk, hx]; rfl

variable (b : Bool) (hb : b = true → q = j) (hb' : b = false → j < q)
  (v v' : 𝕧 S768x768 .f32) (x y : FVec Ideal S768x768 .f32) (cs : Fin 24 → Vec Ideal S32x128 .f32)
  (cl ll dl : Vec Ideal S1x1x1x768 .f32)
  (hx : ∀ r p : Fin 768, x (ix2 r p) = G.S h (768 * q + p.val) (768 * j + r.val))
  (hy : ∀ r p : Fin 768, y (ix2 r p) = G.DP h (768 * q + p.val) (768 * j + r.val))
  (hcs : ∀ (n : Fin 24) (r : Fin 32) (l : Fin 128), cs n (ix2 r l) = G.C h (768 * j + (32 * n.val + r.val)))
  (hcl : ∀ p : Fin 768, cl (ix4 0 0 0 p) = G.C h (768 * q + p.val))
  (hll : ∀ p : Fin 768, ll (ix4 0 0 0 p) = G.L h (768 * q + p.val))
  (hdl : ∀ p : Fin 768, dl (ix4 0 0 0 p) = G.Dl h (768 * q + p.val))

include hb hb' hx hcs hcl hll in
/-- The weights of the pair. -/
theorem wH_at (n : Fin 24) (r : Fin 32) (p : Fin 768) :
    wH b v x cs cl ll n (ix2 r p) = G.W h (768 * q + p.val) (768 * j + (32 * n.val + r.val)) := by
  have hn := n.isLt
  have hr := r.isLt
  have hp := p.isLt
  show wgt b (k0_pay170 cl ll) (stripsOf v x) cs n (ix2 r p) = _
  rw [wgt_at b _ _ _ n r p _ (hcs n r), strips_at, hx, pay170_at, hcl, hll]
  unfold Glob.W
  cases b
  · have := hb' rfl
    rw [if_neg (fun e => absurd e.1 (by decide)), if_pos (by omega)]
  · have := hb rfl
    by_cases hk : 32 * n.val + r.val ≤ p.val
    · rw [if_neg (fun e => e.2 hk), if_pos (by omega)]
    · rw [if_pos ⟨rfl, hk⟩, if_neg (by omega)]

theorem dsc_at (bias delta : FVec Ideal S1x768 .f32) (st : Fin 24 → Vec Ideal S32x768 .f32) (dp : Fin 24 → Vec Ideal S32x768 .f32)
    (n : Fin 24) (r : Fin 32) (p : Fin 768) :
    dsc b bias delta st cs dp n (ix2 r p) = wgt b bias st cs n (ix2 r p) * (dp n (ix2 r p) - delta (ix2 0 p)) := by
  pointwise [dsc]

include hb hb' hx hy hcs hcl hll hdl in
/-- The gradients of the pair's scores. -/
theorem dH_at (n : Fin 24) (r : Fin 32) (p : Fin 768) :
    dH b v v' x y cs cl ll dl n (ix2 r p) = G.Dm h (768 * q + p.val) (768 * j + (32 * n.val + r.val)) := by
  show dsc b (k0_pay170 cl ll) (k0_pay11 dl) (stripsOf v x) cs (stripsOf v' y) n (ix2 r p) = _
  rw [dsc_at, strips_at, hy, pay11_at, hdl]
  exact congrArg (· * _) (wH_at G h j q b hb hb' v x cs cl ll hx hcs hcl hll n r p)

end pair

end Cert.AttnBwdIdeal.Hand
-- ==== Proof.AttnI.PairT.lean ====
/-
  What one trip of the loop leaves, in the terms of the strips.
-/
module

public import proofs.«01_k».proof.Proof.AttnI.Strip

@[expose] public section

set_option maxHeartbeats 400000
set_option maxRecDepth 16384

noncomputable section

namespace Cert.AttnBwdIdeal.Hand

open Cert.AttnBwdIdeal Cert.AttnBwdIdeal.Gen
open Idealize.ShloMosaic Idealize.ShloMosaic.TcCoe

local notation "𝕧" => Memref sig Kind.tc Space.vmem
local notation "𝕋" => Thread nD τ

variable {F : FTy → Type} [FloatOps F] [Named F]

variable (c : Dev nD) (i : grid0.Coords) (a2 : 𝕧 S8448x128 .bf16) (p2 : a2.IsWhole) (a3 : 𝕧 S8448x128 .bf16) (p3 : a3.IsWhole) (a4 : 𝕧 S768x128 .bf16) (p4 : a4.IsWhole) (a5 : 𝕧 S768x128 .bf16) (p5 : a5.IsWhole) (a6 : 𝕧 S2x11x1x768 .f32) (p6 : a6.IsWhole) (a7 : 𝕧 S2x11x1x768 .f32) (p7 : a7.IsWhole) (a8 : 𝕧 S2x11x1x768 .f32) (p8 : a8.IsWhole) (a9 : 𝕧 S8448x128 .bf16) (p9 : a9.IsWhole) (a10 : 𝕧 S768x128 .bf16) (p10 : a10.IsWhole) (a11 : 𝕧 S768x128 .bf16) (p11 : a11.IsWhole) (a12 : 𝕧 S2x1x1x768 .f32) (p12 : a12.IsWhole) (a13 : 𝕧 S2x11x1x768 .f32) (p13 : a13.IsWhole) (a14 : 𝕧 S11x128x768 .f32) (p14 : a14.IsWhole) (a15 : 𝕧 S128x768 .bf16) (p15 : a15.IsWhole) (a16 : 𝕧 S768x128 .f32) (p16 : a16.IsWhole) (a17 : 𝕧 S768x128 .f32) (p17 : a17.IsWhole) (a18 : 𝕧 S768x1 .f32) (p18 : a18.IsWhole) (a19 : 𝕧 S768x768 .f32) (p19 : a19.IsWhole) (a20 : 𝕧 S768x768 .f32) (p20 : a20.IsWhole) (a21 : 𝕧 S768x768 .bf16) (p21 : a21.IsWhole) (a22 : 𝕧 S768x768 .bf16) (p22 : a22.IsWhole) (a23 : 𝕧 S768x128 .f32) (p23 : a23.IsWhole) (a24 : 𝕧 S768x128 .f32) (p24 : a24.IsWhole) (a25 : 𝕧 S768x128 .f32) (p25 : a25.IsWhole) (a26 : 𝕧 S768x1 .f32) (p26 : a26.IsWhole) (a27 : 𝕧 S768x768 .f32) (p27 : a27.IsWhole) (a28 : 𝕧 S768x768 .f32) (p28 : a28.IsWhole) (a29 : 𝕧 S768x768 .bf16) (p29 : a29.IsWhole) (a30 : 𝕧 S768x768 .bf16) (p30 : a30.IsWhole) (a31 : 𝕧 S768x128 .f32) (p31 : a31.IsWhole) (a1 : BitVec 32) (v2 : IVec S768x128 1) (v6 : Vec F S768x128 .bf16) (v7 : Vec F S768x128 .bf16) (v16 : IVec S128x768 1) (v1108 : FVec F S128x768 .f32) (v2130 : FVec F S128x768 .f32) (v2140 : BitVec 32) (k : Fin (k0_t1_loop i).trips) (u : Unit)
  (g2 : Buf (Elt F) (a2.view.loc (c : 𝕋))) (g3 : Buf (Elt F) (a3.view.loc (c : 𝕋))) (g6 : Buf (Elt F) (a6.view.loc (c : 𝕋))) (g7 : Buf (Elt F) (a7.view.loc (c : 𝕋))) (g8 : Buf (Elt F) (a8.view.loc (c : 𝕋))) (g15 : Buf (Elt F) (a15.view.loc (c : 𝕋))) (g23 : Buf (Elt F) (a23.view.loc (c : 𝕋))) (g31 : Buf (Elt F) (a31.view.loc (c : 𝕋))) (s : Carried F c a13 a14 a16 a17 a18 a24 a25 a26)

/-- The value sum of head 0. -/
theorem trip_dv0 : (trip c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 k u g2 g3 g6 g7 g8 g15 g23 g31 s).1.dv0 = a17.view.writes (Elt F) s.dv0 (put128 (k0_pay167 (View.readAt (Elt F) a3.view (Rect.unit (s := S8448x128) (k0_off5 i k) S768x128.size (k0_off5_inb i k)).toLoadRect g3) (whole128 a17 s.dv0) (narrowOf a21 (wH false a19 (k0_pay5 v2 v6 (View.readAt (Elt F) a2.view (Rect.unit (s := S8448x128) (k0_off5 i k) S768x128.size (k0_off5_inb i k)).toLoadRect g2)) (fun n => View.readAt (Elt F) a23.view (boxC n).toLoadRect g23) (View.readAt (Elt F) a8.view (Rect.unit (s := S2x11x1x768) (k0_off6 i k) S1x1x1x768.size (k0_off6_inb i k)).toLoadRect g8) (View.readAt (Elt F) a6.view (Rect.unit (s := S2x11x1x768) (k0_off6 i k) S1x1x1x768.size (k0_off6_inb i k)).toLoadRect g6))))) := rfl

/-- The key sum of head 0. -/
theorem trip_dk0 : (trip c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 k u g2 g3 g6 g7 g8 g15 g23 g31 s).1.dk0 = a16.view.writes (Elt F) s.dk0 (put128 (k0_pay168 (View.readAt (Elt F) a2.view (Rect.unit (s := S8448x128) (k0_off5 i k) S768x128.size (k0_off5_inb i k)).toLoadRect g2) (whole128 a16 s.dk0) (narrowOf a22 (dH false a19 a20 (k0_pay5 v2 v6 (View.readAt (Elt F) a2.view (Rect.unit (s := S8448x128) (k0_off5 i k) S768x128.size (k0_off5_inb i k)).toLoadRect g2)) (k0_pay6 v2 v7 (View.readAt (Elt F) a3.view (Rect.unit (s := S8448x128) (k0_off5 i k) S768x128.size (k0_off5_inb i k)).toLoadRect g3)) (fun n => View.readAt (Elt F) a23.view (boxC n).toLoadRect g23) (View.readAt (Elt F) a8.view (Rect.unit (s := S2x11x1x768) (k0_off6 i k) S1x1x1x768.size (k0_off6_inb i k)).toLoadRect g8) (View.readAt (Elt F) a6.view (Rect.unit (s := S2x11x1x768) (k0_off6 i k) S1x1x1x768.size (k0_off6_inb i k)).toLoadRect g6) (View.readAt (Elt F) a7.view (Rect.unit (s := S2x11x1x768) (k0_off6 i k) S1x1x1x768.size (k0_off6_inb i k)).toLoadRect g7))))) := rfl

/-- The row sum of head 0. -/
theorem trip_dc0 : (trip c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 k u g2 g3 g6 g7 g8 g15 g23 g31 s).1.dc0 = a18.view.writes (Elt F) s.dc0 (rowL (fun n => View.readAt (Elt F) a18.view (box1 n).toLoadRect s.dc0) (dH false a19 a20 (k0_pay5 v2 v6 (View.readAt (Elt F) a2.view (Rect.unit (s := S8448x128) (k0_off5 i k) S768x128.size (k0_off5_inb i k)).toLoadRect g2)) (k0_pay6 v2 v7 (View.readAt (Elt F) a3.view (Rect.unit (s := S8448x128) (k0_off5 i k) S768x128.size (k0_off5_inb i k)).toLoadRect g3)) (fun n => View.readAt (Elt F) a23.view (boxC n).toLoadRect g23) (View.readAt (Elt F) a8.view (Rect.unit (s := S2x11x1x768) (k0_off6 i k) S1x1x1x768.size (k0_off6_inb i k)).toLoadRect g8) (View.readAt (Elt F) a6.view (Rect.unit (s := S2x11x1x768) (k0_off6 i k) S1x1x1x768.size (k0_off6_inb i k)).toLoadRect g6) (View.readAt (Elt F) a7.view (Rect.unit (s := S2x11x1x768) (k0_off6 i k) S1x1x1x768.size (k0_off6_inb i k)).toLoadRect g7))) := rfl

/-- The value sum of head 1. -/
theorem trip_dv1 : (trip c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 k u g2 g3 g6 g7 g8 g15 g23 g31 s).1.dv1 = a25.view.writes (Elt F) s.dv1 (put128 (k0_pay167 (View.readAt (Elt F) a3.view (Rect.unit (s := S8448x128) (k0_off5 i k) S768x128.size (k0_off5_inb i k)).toLoadRect g3) (whole128 a25 s.dv1) (narrowOf a29 (wH false a27 (k0_pay7 v2 v6 (View.readAt (Elt F) a2.view (Rect.unit (s := S8448x128) (k0_off5 i k) S768x128.size (k0_off5_inb i k)).toLoadRect g2)) (fun n => View.readAt (Elt F) a31.view (boxC n).toLoadRect g31) (View.readAt (Elt F) a8.view (Rect.unit (s := S2x11x1x768) (k0_off7 i k) S1x1x1x768.size (k0_off7_inb i k)).toLoadRect g8) (View.readAt (Elt F) a6.view (Rect.unit (s := S2x11x1x768) (k0_off7 i k) S1x1x1x768.size (k0_off7_inb i k)).toLoadRect g6))))) := rfl

/-- The key sum of head 1. -/
theorem trip_dk1 : (trip c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 k u g2 g3 g6 g7 g8 g15 g23 g31 s).1.dk1 = a24.view.writes (Elt F) s.dk1 (put128 (k0_pay168 (View.readAt (Elt F) a2.view (Rect.unit (s := S8448x128) (k0_off5 i k) S768x128.size (k0_off5_inb i k)).toLoadRect g2) (whole128 a24 s.dk1) (narrowOf a30 (dH false a27 a28 (k0_pay7 v2 v6 (View.readAt (Elt F) a2.view (Rect.unit (s := S8448x128) (k0_off5 i k) S768x128.size (k0_off5_inb i k)).toLoadRect g2)) (k0_pay8 v2 v7 (View.readAt (Elt F) a3.view (Rect.unit (s := S8448x128) (k0_off5 i k) S768x128.size (k0_off5_inb i k)).toLoadRect g3)) (fun n => View.readAt (Elt F) a31.view (boxC n).toLoadRect g31) (View.readAt (Elt F) a8.view (Rect.unit (s := S2x11x1x768) (k0_off7 i k) S1x1x1x768.size (k0_off7_inb i k)).toLoadRect g8) (View.readAt (Elt F) a6.view (Rect.unit (s := S2x11x1x768) (k0_off7 i k) S1x1x1x768.size (k0_off7_inb i k)).toLoadRect g6) (View.readAt (Elt F) a7.view (Rect.unit (s := S2x11x1x768) (k0_off7 i k) S1x1x1x768.size (k0_off7_inb i k)).toLoadRect g7))))) := rfl

/-- The row sum of head 1. -/
theorem trip_dc1 : (trip c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 k u g2 g3 g6 g7 g8 g15 g23 g31 s).1.dc1 = a26.view.writes (Elt F) s.dc1 (rowL (fun n => View.readAt (Elt F) a26.view (box1 n).toLoadRect s.dc1) (dH false a27 a28 (k0_pay7 v2 v6 (View.readAt (Elt F) a2.view (Rect.unit (s := S8448x128) (k0_off5 i k) S768x128.size (k0_off5_inb i k)).toLoadRect g2)) (k0_pay8 v2 v7 (View.readAt (Elt F) a3.view (Rect.unit (s := S8448x128) (k0_off5 i k) S768x128.size (k0_off5_inb i k)).toLoadRect g3)) (fun n => View.readAt (Elt F) a31.view (boxC n).toLoadRect g31) (View.readAt (Elt F) a8.view (Rect.unit (s := S2x11x1x768) (k0_off7 i k) S1x1x1x768.size (k0_off7_inb i k)).toLoadRect g8) (View.readAt (Elt F) a6.view (Rect.unit (s := S2x11x1x768) (k0_off7 i k) S1x1x1x768.size (k0_off7_inb i k)).toLoadRect g6) (View.readAt (Elt F) a7.view (Rect.unit (s := S2x11x1x768) (k0_off7 i k) S1x1x1x768.size (k0_off7_inb i k)).toLoadRect g7))) := rfl

/-- The column sums. -/
theorem trip_dcq : (trip c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 k u g2 g3 g6 g7 g8 g15 g23 g31 s).1.dcq = a13.view.writes (Elt F) s.dcq [put13 (k0_off7 i k) (k0_off7_inb i k) (k0_pay166 (colSum (dH false a27 a28 (k0_pay7 v2 v6 (View.readAt (Elt F) a2.view (Rect.unit (s := S8448x128) (k0_off5 i k) S768x128.size (k0_off5_inb i k)).toLoadRect g2)) (k0_pay8 v2 v7 (View.readAt (Elt F) a3.view (Rect.unit (s := S8448x128) (k0_off5 i k) S768x128.size (k0_off5_inb i k)).toLoadRect g3)) (fun n => View.readAt (Elt F) a31.view (boxC n).toLoadRect g31) (View.readAt (Elt F) a8.view (Rect.unit (s := S2x11x1x768) (k0_off7 i k) S1x1x1x768.size (k0_off7_inb i k)).toLoadRect g8) (View.readAt (Elt F) a6.view (Rect.unit (s := S2x11x1x768) (k0_off7 i k) S1x1x1x768.size (k0_off7_inb i k)).toLoadRect g6) (View.readAt (Elt F) a7.view (Rect.unit (s := S2x11x1x768) (k0_off7 i k) S1x1x1x768.size (k0_off7_inb i k)).toLoadRect g7))) (at13 a13 s.dcq (k0_off7 i k) (k0_off7_inb i k))),
    put13 (k0_off6 i k) (k0_off6_inb i k) (k0_pay166 (colSum (dH false a19 a20 (k0_pay5 v2 v6 (View.readAt (Elt F) a2.view (Rect.unit (s := S8448x128) (k0_off5 i k) S768x128.size (k0_off5_inb i k)).toLoadRect g2)) (k0_pay6 v2 v7 (View.readAt (Elt F) a3.view (Rect.unit (s := S8448x128) (k0_off5 i k) S768x128.size (k0_off5_inb i k)).toLoadRect g3)) (fun n => View.readAt (Elt F) a23.view (boxC n).toLoadRect g23) (View.readAt (Elt F) a8.view (Rect.unit (s := S2x11x1x768) (k0_off6 i k) S1x1x1x768.size (k0_off6_inb i k)).toLoadRect g8) (View.readAt (Elt F) a6.view (Rect.unit (s := S2x11x1x768) (k0_off6 i k) S1x1x1x768.size (k0_off6_inb i k)).toLoadRect g6) (View.readAt (Elt F) a7.view (Rect.unit (s := S2x11x1x768) (k0_off6 i k) S1x1x1x768.size (k0_off6_inb i k)).toLoadRect g7))) (at13 a13 s.dcq (k0_off6 i k) (k0_off6_inb i k)))] := by
  delta trip; dsimp only
  refine congrArg (a13.view.writes (Elt F) s.dcq) ?_
  refine congrArg₂ List.cons (congrArg (put13 (k0_off7 i k) (k0_off7_inb i k)) ?_) (congrArg₂ List.cons (congrArg (put13 (k0_off6 i k) (k0_off6_inb i k)) ?_) rfl)
  · change k0_pay166 _ _ = k0_pay166 _ _
    refine congrArg₂ k0_pay166 ?_ rfl
    dsimp only [colSum, colStep]
    rfl
  · refine congrArg₂ k0_pay166 ?_ rfl
    dsimp only [colSum, colStep]
    rfl

/-- The transposed query gradient. -/
theorem trip_dqt : (trip c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 v2 v6 v7 v16 v1108 v2130 v2140 k u g2 g3 g6 g7 g8 g15 g23 g31 s).1.dqt = a14.view.writes (Elt F) s.dqt [put14 (k0_off8 i k) (k0_off8_inb i k) (qAdd v16 (wholeT a15 g15) (narrowOf a22 (dH false a19 a20 (k0_pay5 v2 v6 (View.readAt (Elt F) a2.view (Rect.unit (s := S8448x128) (k0_off5 i k) S768x128.size (k0_off5_inb i k)).toLoadRect g2)) (k0_pay6 v2 v7 (View.readAt (Elt F) a3.view (Rect.unit (s := S8448x128) (k0_off5 i k) S768x128.size (k0_off5_inb i k)).toLoadRect g3)) (fun n => View.readAt (Elt F) a23.view (boxC n).toLoadRect g23) (View.readAt (Elt F) a8.view (Rect.unit (s := S2x11x1x768) (k0_off6 i k) S1x1x1x768.size (k0_off6_inb i k)).toLoadRect g8) (View.readAt (Elt F) a6.view (Rect.unit (s := S2x11x1x768) (k0_off6 i k) S1x1x1x768.size (k0_off6_inb i k)).toLoadRect g6) (View.readAt (Elt F) a7.view (Rect.unit (s := S2x11x1x768) (k0_off6 i k) S1x1x1x768.size (k0_off6_inb i k)).toLoadRect g7))) (narrowOf a30 (dH false a27 a28 (k0_pay7 v2 v6 (View.readAt (Elt F) a2.view (Rect.unit (s := S8448x128) (k0_off5 i k) S768x128.size (k0_off5_inb i k)).toLoadRect g2)) (k0_pay8 v2 v7 (View.readAt (Elt F) a3.view (Rect.unit (s := S8448x128) (k0_off5 i k) S768x128.size (k0_off5_inb i k)).toLoadRect g3)) (fun n => View.readAt (Elt F) a31.view (boxC n).toLoadRect g31) (View.readAt (Elt F) a8.view (Rect.unit (s := S2x11x1x768) (k0_off7 i k) S1x1x1x768.size (k0_off7_inb i k)).toLoadRect g8) (View.readAt (Elt F) a6.view (Rect.unit (s := S2x11x1x768) (k0_off7 i k) S1x1x1x768.size (k0_off7_inb i k)).toLoadRect g6) (View.readAt (Elt F) a7.view (Rect.unit (s := S2x11x1x768) (k0_off7 i k) S1x1x1x768.size (k0_off7_inb i k)).toLoadRect g7))) (at14 a14 s.dqt (k0_off8 i k) (k0_off8_inb i k)))] := by
  delta trip; dsimp only
  refine congrArg (fun z => a14.view.writes (Elt F) s.dqt [z]) ?_
  refine congrArg (put14 (k0_off8 i k) (k0_off8_inb i k)) ?_
  refine congrArg₂ (fun a b => k0_pay1021 v16 a b (at14 a14 s.dqt (k0_off8 i k) (k0_off8_inb i k))) ?_ ?_
  · refine congrArg (k0_pay169 (wholeT a15 g15)) ?_
    rfl
  · refine congrArg (k0_pay327 (wholeT a15 g15)) ?_
    rfl

end Cert.AttnBwdIdeal.Hand
-- ==== Proof.AttnI.Holds.lean ====
/-
  What the carried buffers hold after each block of queries, in terms of the rows of the sequence: the sums over the
  queries so far for a block of keys, and over the keys so far for every query.
-/
module

public import proofs.«01_k».proof.Proof.AttnI.Reads
public import proofs.«01_k».proof.Proof.AttnI.PairT
public import proofs.«01_k».proof.Proof.AttnI.Loop

@[expose] public section

set_option maxRecDepth 16384

noncomputable section

namespace Cert.AttnBwdIdeal.Hand

open Cert.AttnBwdIdeal Cert.AttnBwdIdeal.Gen Cert.Arrays
open Idealize.ShloMosaic Idealize.ShloMosaic.TcCoe

local notation "𝕧" => Memref sig Kind.tc Space.vmem
local notation "𝕋" => Thread nD τ

section offsets

variable (i : grid0.Coords) (k : Fin (k0_t1_loop i).trips)

theorem row_lt : (i 1).val < 11 := (i 1).isLt
theorem query_lt : (i 1).val + 1 + k.val < 11 := by
  have h : k.val < 10 - (i 1).val := Nat.lt_of_lt_of_eq k.isLt (trips1_eq (i := i))
  have := row_lt i
  omega

theorem off1_eq : k0_off1 i = ![0, (i 1).val, 0, 0] :=
  congrArg (fun n => ![0, n, 0, 0]) ((by decide +kernel : ∀ j : Fin 11, (Scalar.indexCast (BitVec.ofNat 32 j.val) : Index).toNat = j.val) (i 1))
theorem off2_eq : k0_off2 i = ![1, (i 1).val, 0, 0] :=
  congrArg (fun n => ![1, n, 0, 0]) ((by decide +kernel : ∀ j : Fin 11, (Scalar.indexCast (BitVec.ofNat 32 j.val) : Index).toNat = j.val) (i 1))
theorem off3_eq : k0_off3 i = ![768 * (i 1).val, 0] :=
  congrArg (fun n => ![n, 0]) ((by decide +kernel : ∀ j : Fin 11, (Scalar.indexCast (Scalar.muli (BitVec.ofNat 32 j.val) 768#32) : Index).toNat = 768 * j.val) (i 1))
theorem off4_eq : k0_off4 i = ![(i 1).val, 0, 0] :=
  congrArg (fun n => ![n, 0, 0]) ((by decide +kernel : ∀ j : Fin 11, (Scalar.indexCast (BitVec.ofNat 32 j.val) : Index).toNat = j.val) (i 1))

theorem iv_eq : (Scalar.indexCast (Scf.iv (Scalar.addi (BitVec.ofNat 32 (i 1).val) 1#32) 1#32 k.val) : Index).toNat = (i 1).val + 1 + k.val := by
  have key : ∀ j n : Fin 11, (Scalar.indexCast (Scf.iv (Scalar.addi (BitVec.ofNat 32 j.val) 1#32) 1#32 n.val) : Index).toNat = j.val + 1 + n.val := by
    decide +kernel
  have hq := query_lt i k
  exact key (i 1) ⟨k.val, by omega⟩
theorem iv768_eq : (Scalar.indexCast (Scalar.muli (Scf.iv (Scalar.addi (BitVec.ofNat 32 (i 1).val) 1#32) 1#32 k.val) 768#32) : Index).toNat = 768 * ((i 1).val + 1 + k.val) := by
  have key : ∀ j n : Fin 11, (Scalar.indexCast (Scalar.muli (Scf.iv (Scalar.addi (BitVec.ofNat 32 j.val) 1#32) 1#32 n.val) 768#32) : Index).toNat = 768 * (j.val + 1 + n.val) := by
    decide +kernel
  have hq := query_lt i k
  exact key (i 1) ⟨k.val, by omega⟩

theorem off5_eq : k0_off5 i k = ![768 * ((i 1).val + 1 + k.val), 0] := congrArg (fun n => ![n, 0]) (iv768_eq i k)
theorem off6_eq : k0_off6 i k = ![0, (i 1).val + 1 + k.val, 0, 0] := congrArg (fun n => ![0, n, 0, 0]) (iv_eq i k)
theorem off7_eq : k0_off7 i k = ![1, (i 1).val + 1 + k.val, 0, 0] := congrArg (fun n => ![1, n, 0, 0]) (iv_eq i k)
theorem off8_eq : k0_off8 i k = ![(i 1).val + 1 + k.val, 0, 0] := congrArg (fun n => ![n, 0, 0]) (iv_eq i k)

end offsets

/-- The keys that query block `q` has met once the key block `j` has met the query blocks up to `m`. -/
def met (j m q : ℕ) : ℕ := if q ≤ m then 768 * (j + 1) else 768 * j

section sums

variable {c : Dev nD} (G : Glob) (h j q : ℕ)

/-- The value sum of a key block takes in a query block. -/
theorem dv_step (v' : 𝕧 S768x768 .bf16) (b : Vec Ideal S768x128 .bf16) (w : Fin 24 → FVec Ideal S32x768 .f32)
    (hw : ∀ (n : Fin 24) (r : Fin 32) (p : Fin 768), w n (ix2 r p) = G.W h (768 * q + p.val) (768 * j + (32 * n.val + r.val)))
    (hbl : ∀ (r : Fin 768) (l : Fin 128), b (ix2 r l) = G.DO (768 * q + r.val) l.val)
    (old : Vec Ideal S768x128 .f32)
    (ho : ∀ (r : Fin 768) (l : Fin 128), old (ix2 r l) = ∑ t ∈ Finset.range (768 * q), G.W h t (768 * j + r.val) * G.DO t l.val)
    (r : Fin 768) (l : Fin 128) :
    k0_pay167 b old (narrowOf v' w) (ix2 r l) = ∑ t ∈ Finset.range (768 * (q + 1)), G.W h t (768 * j + r.val) * G.DO t l.val := by
  rw [pay167_at, ho]
  have hn := narrow_read v' w (fun a p => G.W h (768 * q + p) (768 * j + a)) hw
  refine (congrArg (_ + ·) (Finset.sum_congr rfl fun p _ => congrArg₂ (· * ·) (hn r p) (hbl p l))).trans ?_
  exact sum_block (fun t => G.W h t (768 * j + r.val) * G.DO t l.val) (768 * q) 768

/-- The key sum of a key block takes in a query block. -/
theorem dk_step (v' : 𝕧 S768x768 .bf16) (b : Vec Ideal S768x128 .bf16) (w : Fin 24 → FVec Ideal S32x768 .f32)
    (hw : ∀ (n : Fin 24) (r : Fin 32) (p : Fin 768), w n (ix2 r p) = G.Dm h (768 * q + p.val) (768 * j + (32 * n.val + r.val)))
    (hbl : ∀ (r : Fin 768) (l : Fin 128), b (ix2 r l) = G.Q (768 * q + r.val) l.val)
    (old : Vec Ideal S768x128 .f32)
    (ho : ∀ (r : Fin 768) (l : Fin 128), old (ix2 r l) = ∑ t ∈ Finset.range (768 * q), G.Dm h t (768 * j + r.val) * G.Q t l.val)
    (r : Fin 768) (l : Fin 128) :
    k0_pay168 b old (narrowOf v' w) (ix2 r l) = ∑ t ∈ Finset.range (768 * (q + 1)), G.Dm h t (768 * j + r.val) * G.Q t l.val := by
  rw [pay168_at, ho]
  have hn := narrow_read v' w (fun a p => G.Dm h (768 * q + p) (768 * j + a)) hw
  refine (congrArg (_ + ·) (Finset.sum_congr rfl fun p _ => congrArg₂ (· * ·) (hn r p) (hbl p l))).trans ?_
  exact sum_block (fun t => G.Dm h t (768 * j + r.val) * G.Q t l.val) (768 * q) 768

/-- A row of the query blocks takes in a key block. -/
theorem col_step (w : Fin 24 → FVec Ideal S32x768 .f32)
    (hw : ∀ (n : Fin 24) (r : Fin 32) (p : Fin 768), w n (ix2 r p) = G.Dm h (768 * q + p.val) (768 * j + (32 * n.val + r.val)))
    (old : Vec Ideal S1x1x1x768 .f32) (p : Fin 768)
    (ho : old (ix4 0 0 0 p) = ∑ u ∈ Finset.range (768 * j), G.Dm h (768 * q + p.val) u) :
    k0_pay166 (colSum w) old (ix4 0 0 0 p) = ∑ u ∈ Finset.range (768 * (j + 1)), G.Dm h (768 * q + p.val) u := by
  rw [pay166_at, ho, colSum_sum w (fun k => G.Dm h (768 * q + p.val) (768 * j + k)) p (fun n r => hw n r p),
    ← sum_first (fun k => G.Dm h (768 * q + p.val) (768 * j + k)) 768]
  exact sum_block (fun u => G.Dm h (768 * q + p.val) u) (768 * j) 768

/-- The query gradient of a query block takes in a key block. -/
theorem q_step (v0 v1 : 𝕧 S768x768 .bf16) (kt : Vec Ideal S128x768 .bf16)
    (hkt : ∀ (l : Fin 128) (r : Fin 768), kt (ix2 l r) = G.K (768 * j + r.val) l.val)
    (w0 w1 : Fin 24 → FVec Ideal S32x768 .f32)
    (hw0 : ∀ (n : Fin 24) (r : Fin 32) (p : Fin 768), w0 n (ix2 r p) = G.Dm 0 (768 * q + p.val) (768 * j + (32 * n.val + r.val)))
    (hw1 : ∀ (n : Fin 24) (r : Fin 32) (p : Fin 768), w1 n (ix2 r p) = G.Dm 1 (768 * q + p.val) (768 * j + (32 * n.val + r.val)))
    (old : Vec Ideal S1x128x768 .f32) (l : Fin 128) (p : Fin 768)
    (ho : old (ix3 0 l p) = ∑ u ∈ Finset.range (768 * j), G.K u l.val * G.Dm (l.val / 64) (768 * q + p.val) u) :
    k0_pay1021 k0_pay669 (k0_pay169 kt (narrowOf v0 w0)) (k0_pay327 kt (narrowOf v1 w1)) old (ix3 0 l p)
      = ∑ u ∈ Finset.range (768 * (j + 1)), G.K u l.val * G.Dm (l.val / 64) (768 * q + p.val) u := by
  rw [pay1021_at, ho, pay169_at, pay327_at]
  have hn0 := narrow_read v0 w0 (fun a p => G.Dm 0 (768 * q + p) (768 * j + a)) hw0
  have hn1 := narrow_read v1 w1 (fun a p => G.Dm 1 (768 * q + p) (768 * j + a)) hw1
  have hl := l.isLt
  refine Eq.trans (congrArg (_ + ·) ?_) (sum_block (fun u => G.K u l.val * G.Dm (l.val / 64) (768 * q + p.val) u) (768 * j) 768)
  by_cases e : l.val / 64 = 0
  · rw [if_pos e, e]
    exact Finset.sum_congr rfl fun r _ => congrArg₂ (· * ·) (hkt l r) (hn0 r p)
  · rw [if_neg e, show l.val / 64 = 1 from by omega]
    exact Finset.sum_congr rfl fun r _ => congrArg₂ (· * ·) (hkt l r) (hn1 r p)

end sums

/-- The carried buffers once the key block `j` has met the query blocks up to `m`. -/
structure Holds (G : Glob) (j m : ℕ) {c : Dev nD} {a13 : 𝕧 S2x11x1x768 .f32} {a14 : 𝕧 S11x128x768 .f32} {a16 a17 : 𝕧 S768x128 .f32} {a18 : 𝕧 S768x1 .f32} {a24 a25 : 𝕧 S768x128 .f32} {a26 : 𝕧 S768x1 .f32}
    (s : Carried Ideal c a13 a14 a16 a17 a18 a24 a25 a26) : Prop where
  dv0 : ∀ (r : Fin 768) (l : Fin 128), a17.view.read (Elt Ideal) s.dv0 (ix2 r l) = ∑ t ∈ Finset.range (768 * (m + 1)), G.W 0 t (768 * j + r.val) * G.DO t l.val
  dv1 : ∀ (r : Fin 768) (l : Fin 128), a25.view.read (Elt Ideal) s.dv1 (ix2 r l) = ∑ t ∈ Finset.range (768 * (m + 1)), G.W 1 t (768 * j + r.val) * G.DO t l.val
  dk0 : ∀ (r : Fin 768) (l : Fin 128), a16.view.read (Elt Ideal) s.dk0 (ix2 r l) = ∑ t ∈ Finset.range (768 * (m + 1)), G.Dm 0 t (768 * j + r.val) * G.Q t l.val
  dk1 : ∀ (r : Fin 768) (l : Fin 128), a24.view.read (Elt Ideal) s.dk1 (ix2 r l) = ∑ t ∈ Finset.range (768 * (m + 1)), G.Dm 1 t (768 * j + r.val) * G.Q t l.val
  dc0 : ∀ r : Fin 768, a18.view.read (Elt Ideal) s.dc0 (ix2 r (0 : Fin 1)) = ∑ t ∈ Finset.range (768 * (m + 1)), G.Dm 0 t (768 * j + r.val)
  dc1 : ∀ r : Fin 768, a26.view.read (Elt Ideal) s.dc1 (ix2 r (0 : Fin 1)) = ∑ t ∈ Finset.range (768 * (m + 1)), G.Dm 1 t (768 * j + r.val)
  dcq : ∀ (h : Fin 2) (q : Fin 11) (p : Fin 768), a13.view.read (Elt Ideal) s.dcq (ix4 h q (0 : Fin 1) p) = ∑ u ∈ Finset.range (met j m q.val), G.Dm h.val (768 * q.val + p.val) u
  dqt : ∀ (q : Fin 11) (l : Fin 128) (p : Fin 768), a14.view.read (Elt Ideal) s.dqt (ix3 q l p) = ∑ u ∈ Finset.range (met j m q.val), G.K u l.val * G.Dm (l.val / 64) (768 * q.val + p.val) u

section trip

variable (c : Dev nD) (i : grid0.Coords) (a2 : 𝕧 S8448x128 .bf16) (p2 : a2.IsWhole) (a3 : 𝕧 S8448x128 .bf16) (p3 : a3.IsWhole) (a4 : 𝕧 S768x128 .bf16) (p4 : a4.IsWhole) (a5 : 𝕧 S768x128 .bf16) (p5 : a5.IsWhole) (a6 : 𝕧 S2x11x1x768 .f32) (p6 : a6.IsWhole) (a7 : 𝕧 S2x11x1x768 .f32) (p7 : a7.IsWhole) (a8 : 𝕧 S2x11x1x768 .f32) (p8 : a8.IsWhole) (a9 : 𝕧 S8448x128 .bf16) (p9 : a9.IsWhole) (a10 : 𝕧 S768x128 .bf16) (p10 : a10.IsWhole) (a11 : 𝕧 S768x128 .bf16) (p11 : a11.IsWhole) (a12 : 𝕧 S2x1x1x768 .f32) (p12 : a12.IsWhole) (a13 : 𝕧 S2x11x1x768 .f32) (p13 : a13.IsWhole) (a14 : 𝕧 S11x128x768 .f32) (p14 : a14.IsWhole) (a15 : 𝕧 S128x768 .bf16) (p15 : a15.IsWhole) (a16 : 𝕧 S768x128 .f32) (p16 : a16.IsWhole) (a17 : 𝕧 S768x128 .f32) (p17 : a17.IsWhole) (a18 : 𝕧 S768x1 .f32) (p18 : a18.IsWhole) (a19 : 𝕧 S768x768 .f32) (p19 : a19.IsWhole) (a20 : 𝕧 S768x768 .f32) (p20 : a20.IsWhole) (a21 : 𝕧 S768x768 .bf16) (p21 : a21.IsWhole) (a22 : 𝕧 S768x768 .bf16) (p22 : a22.IsWhole) (a23 : 𝕧 S768x128 .f32) (p23 : a23.IsWhole) (a24 : 𝕧 S768x128 .f32) (p24 : a24.IsWhole) (a25 : 𝕧 S768x128 .f32) (p25 : a25.IsWhole) (a26 : 𝕧 S768x1 .f32) (p26 : a26.IsWhole) (a27 : 𝕧 S768x768 .f32) (p27 : a27.IsWhole) (a28 : 𝕧 S768x768 .f32) (p28 : a28.IsWhole) (a29 : 𝕧 S768x768 .bf16) (p29 : a29.IsWhole) (a30 : 𝕧 S768x768 .bf16) (p30 : a30.IsWhole) (a31 : 𝕧 S768x128 .f32) (p31 : a31.IsWhole) (a1 : BitVec 32) (v2 : IVec S768x128 1) (v6 : Vec Ideal S768x128 .bf16) (v7 : Vec Ideal S768x128 .bf16) (v16 : IVec S128x768 1) (v1108 : FVec Ideal S128x768 .f32) (v2130 : FVec Ideal S128x768 .f32) (v2140 : BitVec 32) (k : Fin (k0_t1_loop i).trips) (u : Unit)
  (g2 : Buf (Elt Ideal) (a2.view.loc (c : 𝕋))) (g3 : Buf (Elt Ideal) (a3.view.loc (c : 𝕋))) (g6 : Buf (Elt Ideal) (a6.view.loc (c : 𝕋))) (g7 : Buf (Elt Ideal) (a7.view.loc (c : 𝕋))) (g8 : Buf (Elt Ideal) (a8.view.loc (c : 𝕋))) (g15 : Buf (Elt Ideal) (a15.view.loc (c : 𝕋))) (g23 : Buf (Elt Ideal) (a23.view.loc (c : 𝕋))) (g31 : Buf (Elt Ideal) (a31.view.loc (c : 𝕋))) (s : Carried Ideal c a13 a14 a16 a17 a18 a24 a25 a26)
  (G : Glob)

/-- What the loop reads is what it stands for: `v6`, `v7` and the transposed keys are key block `(i 1)` of the pair. -/
structure Feeds : Prop where
  hQ : ∀ (t : Fin 8448) (l : Fin 128), a2.view.read (Elt Ideal) g2 (ix2 t l) = G.Q t.val l.val
  hDO : ∀ (t : Fin 8448) (l : Fin 128), a3.view.read (Elt Ideal) g3 (ix2 t l) = G.DO t.val l.val
  hL : ∀ (h : Fin 2) (q : Fin 11) (p : Fin 768), a6.view.read (Elt Ideal) g6 (ix4 h q (0 : Fin 1) p) = G.L h.val (768 * q.val + p.val)
  hDl : ∀ (h : Fin 2) (q : Fin 11) (p : Fin 768), a7.view.read (Elt Ideal) g7 (ix4 h q (0 : Fin 1) p) = G.Dl h.val (768 * q.val + p.val)
  hC : ∀ (h : Fin 2) (q : Fin 11) (p : Fin 768), a8.view.read (Elt Ideal) g8 (ix4 h q (0 : Fin 1) p) = G.C h.val (768 * q.val + p.val)
  hK : ∀ (r : Fin 768) (l : Fin 128), v6 (ix2 r l) = G.K (768 * (i 1).val + r.val) l.val
  hV : ∀ (r : Fin 768) (l : Fin 128), v7 (ix2 r l) = G.V (768 * (i 1).val + r.val) l.val
  hT : ∀ (l : Fin 128) (r : Fin 768), a15.view.read (Elt Ideal) g15 (ix2 l r) = G.K (768 * (i 1).val + r.val) l.val
  hC0 : ∀ (r : Fin 768) (l : Fin 128), a23.view.read (Elt Ideal) g23 (ix2 r l) = G.C 0 (768 * (i 1).val + r.val)
  hC1 : ∀ (r : Fin 768) (l : Fin 128), a31.view.read (Elt Ideal) g31 (ix2 r l) = G.C 1 (768 * (i 1).val + r.val)

variable (m : ℕ) (hm : m + 1 = (i 1).val + 1 + k.val)
  (hf : Feeds c i a2 a3 a6 a7 a8 a15 a23 a31 v6 v7 g2 g3 g6 g7 g8 g15 g23 g31 G)

include hm in
theorem qlt : m + 1 < 11 := hm ▸ query_lt i k

include hm hf in
theorem w0_at (n : Fin 24) (r : Fin 32) (p : Fin 768) :
    wH false a19 (k0_pay5 k0_pay665 v6 (View.readAt (Elt Ideal) a2.view (Rect.unit (s := S8448x128) (k0_off5 i k) S768x128.size (k0_off5_inb i k)).toLoadRect g2)) (fun n => View.readAt (Elt Ideal) a23.view (boxC n).toLoadRect g23) (View.readAt (Elt Ideal) a8.view (Rect.unit (s := S2x11x1x768) (k0_off6 i k) S1x1x1x768.size (k0_off6_inb i k)).toLoadRect g8) (View.readAt (Elt Ideal) a6.view (Rect.unit (s := S2x11x1x768) (k0_off6 i k) S1x1x1x768.size (k0_off6_inb i k)).toLoadRect g6) n (ix2 r p) = G.W 0 (768 * (m + 1) + p.val) (768 * (i 1).val + (32 * n.val + r.val)) :=
  wH_at G 0 (i 1).val (m + 1) false (fun e => absurd e (by decide)) (fun _ => by omega) a19 _ _ _ _ (S0_at G (i 1).val (m + 1) v6 _ hf.hK (fun r l => (rd128 a2 g2 _ _ ⟨m + 1, qlt i k m hm⟩ ((off5_eq i k).trans (by rw [← hm])) r l).trans (hf.hQ _ l))) (fun n r l => (congrArg (a23.view.read (Elt Ideal) g23) (idxC n r l)).trans (hf.hC0 _ l)) (fun p => (at13_at a8 g8 _ _ 0 ⟨m + 1, qlt i k m hm⟩ ((off6_eq i k).trans (by rw [← hm]; rfl)) p).trans (hf.hC 0 _ p)) (fun p => (at13_at a6 g6 _ _ 0 ⟨m + 1, qlt i k m hm⟩ ((off6_eq i k).trans (by rw [← hm]; rfl)) p).trans (hf.hL 0 _ p)) n r p

include hm hf in
theorem d0_at (n : Fin 24) (r : Fin 32) (p : Fin 768) :
    dH false a19 a20 (k0_pay5 k0_pay665 v6 (View.readAt (Elt Ideal) a2.view (Rect.unit (s := S8448x128) (k0_off5 i k) S768x128.size (k0_off5_inb i k)).toLoadRect g2)) (k0_pay6 k0_pay665 v7 (View.readAt (Elt Ideal) a3.view (Rect.unit (s := S8448x128) (k0_off5 i k) S768x128.size (k0_off5_inb i k)).toLoadRect g3)) (fun n => View.readAt (Elt Ideal) a23.view (boxC n).toLoadRect g23) (View.readAt (Elt Ideal) a8.view (Rect.unit (s := S2x11x1x768) (k0_off6 i k) S1x1x1x768.size (k0_off6_inb i k)).toLoadRect g8) (View.readAt (Elt Ideal) a6.view (Rect.unit (s := S2x11x1x768) (k0_off6 i k) S1x1x1x768.size (k0_off6_inb i k)).toLoadRect g6) (View.readAt (Elt Ideal) a7.view (Rect.unit (s := S2x11x1x768) (k0_off6 i k) S1x1x1x768.size (k0_off6_inb i k)).toLoadRect g7) n (ix2 r p) = G.Dm 0 (768 * (m + 1) + p.val) (768 * (i 1).val + (32 * n.val + r.val)) :=
  dH_at G 0 (i 1).val (m + 1) false (fun e => absurd e (by decide)) (fun _ => by omega) a19 a20 _ _ _ _ _ _ (S0_at G (i 1).val (m + 1) v6 _ hf.hK (fun r l => (rd128 a2 g2 _ _ ⟨m + 1, qlt i k m hm⟩ ((off5_eq i k).trans (by rw [← hm])) r l).trans (hf.hQ _ l))) (DP0_at G (i 1).val (m + 1) v7 _ hf.hV (fun r l => (rd128 a3 g3 _ _ ⟨m + 1, qlt i k m hm⟩ ((off5_eq i k).trans (by rw [← hm])) r l).trans (hf.hDO _ l))) (fun n r l => (congrArg (a23.view.read (Elt Ideal) g23) (idxC n r l)).trans (hf.hC0 _ l)) (fun p => (at13_at a8 g8 _ _ 0 ⟨m + 1, qlt i k m hm⟩ ((off6_eq i k).trans (by rw [← hm]; rfl)) p).trans (hf.hC 0 _ p)) (fun p => (at13_at a6 g6 _ _ 0 ⟨m + 1, qlt i k m hm⟩ ((off6_eq i k).trans (by rw [← hm]; rfl)) p).trans (hf.hL 0 _ p)) (fun p => (at13_at a7 g7 _ _ 0 ⟨m + 1, qlt i k m hm⟩ ((off6_eq i k).trans (by rw [← hm]; rfl)) p).trans (hf.hDl 0 _ p)) n r p

include hm hf in
theorem w1_at (n : Fin 24) (r : Fin 32) (p : Fin 768) :
    wH false a27 (k0_pay7 k0_pay665 v6 (View.readAt (Elt Ideal) a2.view (Rect.unit (s := S8448x128) (k0_off5 i k) S768x128.size (k0_off5_inb i k)).toLoadRect g2)) (fun n => View.readAt (Elt Ideal) a31.view (boxC n).toLoadRect g31) (View.readAt (Elt Ideal) a8.view (Rect.unit (s := S2x11x1x768) (k0_off7 i k) S1x1x1x768.size (k0_off7_inb i k)).toLoadRect g8) (View.readAt (Elt Ideal) a6.view (Rect.unit (s := S2x11x1x768) (k0_off7 i k) S1x1x1x768.size (k0_off7_inb i k)).toLoadRect g6) n (ix2 r p) = G.W 1 (768 * (m + 1) + p.val) (768 * (i 1).val + (32 * n.val + r.val)) :=
  wH_at G 1 (i 1).val (m + 1) false (fun e => absurd e (by decide)) (fun _ => by omega) a27 _ _ _ _ (S1_at G (i 1).val (m + 1) v6 _ hf.hK (fun r l => (rd128 a2 g2 _ _ ⟨m + 1, qlt i k m hm⟩ ((off5_eq i k).trans (by rw [← hm])) r l).trans (hf.hQ _ l))) (fun n r l => (congrArg (a31.view.read (Elt Ideal) g31) (idxC n r l)).trans (hf.hC1 _ l)) (fun p => (at13_at a8 g8 _ _ 1 ⟨m + 1, qlt i k m hm⟩ ((off7_eq i k).trans (by rw [← hm]; rfl)) p).trans (hf.hC 1 _ p)) (fun p => (at13_at a6 g6 _ _ 1 ⟨m + 1, qlt i k m hm⟩ ((off7_eq i k).trans (by rw [← hm]; rfl)) p).trans (hf.hL 1 _ p)) n r p

include hm hf in
theorem d1_at (n : Fin 24) (r : Fin 32) (p : Fin 768) :
    dH false a27 a28 (k0_pay7 k0_pay665 v6 (View.readAt (Elt Ideal) a2.view (Rect.unit (s := S8448x128) (k0_off5 i k) S768x128.size (k0_off5_inb i k)).toLoadRect g2)) (k0_pay8 k0_pay665 v7 (View.readAt (Elt Ideal) a3.view (Rect.unit (s := S8448x128) (k0_off5 i k) S768x128.size (k0_off5_inb i k)).toLoadRect g3)) (fun n => View.readAt (Elt Ideal) a31.view (boxC n).toLoadRect g31) (View.readAt (Elt Ideal) a8.view (Rect.unit (s := S2x11x1x768) (k0_off7 i k) S1x1x1x768.size (k0_off7_inb i k)).toLoadRect g8) (View.readAt (Elt Ideal) a6.view (Rect.unit (s := S2x11x1x768) (k0_off7 i k) S1x1x1x768.size (k0_off7_inb i k)).toLoadRect g6) (View.readAt (Elt Ideal) a7.view (Rect.unit (s := S2x11x1x768) (k0_off7 i k) S1x1x1x768.size (k0_off7_inb i k)).toLoadRect g7) n (ix2 r p) = G.Dm 1 (768 * (m + 1) + p.val) (768 * (i 1).val + (32 * n.val + r.val)) :=
  dH_at G 1 (i 1).val (m + 1) false (fun e => absurd e (by decide)) (fun _ => by omega) a27 a28 _ _ _ _ _ _ (S1_at G (i 1).val (m + 1) v6 _ hf.hK (fun r l => (rd128 a2 g2 _ _ ⟨m + 1, qlt i k m hm⟩ ((off5_eq i k).trans (by rw [← hm])) r l).trans (hf.hQ _ l))) (DP1_at G (i 1).val (m + 1) v7 _ hf.hV (fun r l => (rd128 a3 g3 _ _ ⟨m + 1, qlt i k m hm⟩ ((off5_eq i k).trans (by rw [← hm])) r l).trans (hf.hDO _ l))) (fun n r l => (congrArg (a31.view.read (Elt Ideal) g31) (idxC n r l)).trans (hf.hC1 _ l)) (fun p => (at13_at a8 g8 _ _ 1 ⟨m + 1, qlt i k m hm⟩ ((off7_eq i k).trans (by rw [← hm]; rfl)) p).trans (hf.hC 1 _ p)) (fun p => (at13_at a6 g6 _ _ 1 ⟨m + 1, qlt i k m hm⟩ ((off7_eq i k).trans (by rw [← hm]; rfl)) p).trans (hf.hL 1 _ p)) (fun p => (at13_at a7 g7 _ _ 1 ⟨m + 1, qlt i k m hm⟩ ((off7_eq i k).trans (by rw [← hm]; rfl)) p).trans (hf.hDl 1 _ p)) n r p

variable (hs : Holds G (i 1).val m s)

set_option maxHeartbeats 800000 in
include hm hf hs in
/-- One more query block. -/
theorem holds_trip : Holds G (i 1).val (m + 1) (trip c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 k0_pay665 v6 v7 k0_pay669 v1108 v2130 v2140 k u g2 g3 g6 g7 g8 g15 g23 g31 s).1 where
  dv0 := fun r l => by
    rw [trip_dv0]
    exact (put128_read a17 s.dv0 _ (ix2 r l)).trans (dv_step G 0 (i 1).val (m + 1) a21 _ _ (fun n r p => w0_at (m := m) (hm := hm) (hf := hf) (n := n) (r := r) (p := p) ..)
      (fun r l => (rd128 a3 g3 _ _ ⟨m + 1, qlt i k m hm⟩ ((off5_eq i k).trans (by rw [← hm])) r l).trans (hf.hDO _ l)) _ (fun r l => (whole128_at a17 s.dv0 _).trans (hs.dv0 r l)) r l)
  dk0 := fun r l => by
    rw [trip_dk0]
    exact (put128_read a16 s.dk0 _ (ix2 r l)).trans (dk_step G 0 (i 1).val (m + 1) a22 _ _ (fun n r p => d0_at (m := m) (hm := hm) (hf := hf) (n := n) (r := r) (p := p) ..)
      (fun r l => (rd128 a2 g2 _ _ ⟨m + 1, qlt i k m hm⟩ ((off5_eq i k).trans (by rw [← hm])) r l).trans (hf.hQ _ l)) _ (fun r l => (whole128_at a16 s.dk0 _).trans (hs.dk0 r l)) r l)
  dc0 := fun r => by
    rw [trip_dc0]
    refine (rows_read a18 s.dc0 _ (fun a p => G.Dm 0 (768 * (m + 1) + p) (768 * (i 1).val + a)) (fun n r p => d0_at (m := m) (hm := hm) (hf := hf) (n := n) (r := r) (p := p) ..) r).trans ?_
    rw [hs.dc0 r]
    exact sum_block (fun t => G.Dm 0 t (768 * (i 1).val + r.val)) (768 * (m + 1)) 768
  dv1 := fun r l => by
    rw [trip_dv1]
    exact (put128_read a25 s.dv1 _ (ix2 r l)).trans (dv_step G 1 (i 1).val (m + 1) a29 _ _ (fun n r p => w1_at (m := m) (hm := hm) (hf := hf) (n := n) (r := r) (p := p) ..)
      (fun r l => (rd128 a3 g3 _ _ ⟨m + 1, qlt i k m hm⟩ ((off5_eq i k).trans (by rw [← hm])) r l).trans (hf.hDO _ l)) _ (fun r l => (whole128_at a25 s.dv1 _).trans (hs.dv1 r l)) r l)
  dk1 := fun r l => by
    rw [trip_dk1]
    exact (put128_read a24 s.dk1 _ (ix2 r l)).trans (dk_step G 1 (i 1).val (m + 1) a30 _ _ (fun n r p => d1_at (m := m) (hm := hm) (hf := hf) (n := n) (r := r) (p := p) ..)
      (fun r l => (rd128 a2 g2 _ _ ⟨m + 1, qlt i k m hm⟩ ((off5_eq i k).trans (by rw [← hm])) r l).trans (hf.hQ _ l)) _ (fun r l => (whole128_at a24 s.dk1 _).trans (hs.dk1 r l)) r l)
  dc1 := fun r => by
    rw [trip_dc1]
    refine (rows_read a26 s.dc1 _ (fun a p => G.Dm 1 (768 * (m + 1) + p) (768 * (i 1).val + a)) (fun n r p => d1_at (m := m) (hm := hm) (hf := hf) (n := n) (r := r) (p := p) ..) r).trans ?_
    rw [hs.dc1 r]
    exact sum_block (fun t => G.Dm 1 t (768 * (i 1).val + r.val)) (768 * (m + 1)) 768
  dcq := fun h q p => by
    rw [trip_dcq]
    refine (put13_read a13 s.dcq _ _ 1 ⟨m + 1, qlt i k m hm⟩ ((off7_eq i k).trans (by rw [← hm]; rfl)) _ _ h q p).trans ?_
    by_cases e1 : h = 1 ∧ q = ⟨m + 1, qlt i k m hm⟩
    · rw [if_pos e1]
      obtain ⟨rfl, rfl⟩ := e1
      refine (col_step G 1 (i 1).val (m + 1) _ (fun n r p => d1_at (m := m) (hm := hm) (hf := hf) (n := n) (r := r) (p := p) ..) _ p ((at13_at a13 s.dcq _ _ 1 ⟨m + 1, qlt i k m hm⟩ ((off7_eq i k).trans (by rw [← hm]; rfl)) p).trans ((hs.dcq 1 ⟨m + 1, qlt i k m hm⟩ p).trans (by rw [show met (i 1).val m (m + 1) = 768 * (i 1).val from if_neg (by omega)]; rfl)))).trans ?_
      rw [show met (i 1).val (m + 1) (m + 1) = 768 * ((i 1).val + 1) from if_pos (Nat.le_refl _)]; rfl
    · rw [if_neg e1]
      refine (put13_read a13 s.dcq _ _ 0 ⟨m + 1, qlt i k m hm⟩ ((off6_eq i k).trans (by rw [← hm]; rfl)) _ _ h q p).trans ?_
      by_cases e0 : h = 0 ∧ q = ⟨m + 1, qlt i k m hm⟩
      · rw [if_pos e0]
        obtain ⟨rfl, rfl⟩ := e0
        refine (col_step G 0 (i 1).val (m + 1) _ (fun n r p => d0_at (m := m) (hm := hm) (hf := hf) (n := n) (r := r) (p := p) ..) _ p ((at13_at a13 s.dcq _ _ 0 ⟨m + 1, qlt i k m hm⟩ ((off6_eq i k).trans (by rw [← hm]; rfl)) p).trans ((hs.dcq 0 ⟨m + 1, qlt i k m hm⟩ p).trans (by rw [show met (i 1).val m (m + 1) = 768 * (i 1).val from if_neg (by omega)]; rfl)))).trans ?_
        rw [show met (i 1).val (m + 1) (m + 1) = 768 * ((i 1).val + 1) from if_pos (Nat.le_refl _)]; rfl
      · rw [if_neg e0]
        refine (hs.dcq h q p).trans ?_
        have hq : q.val ≠ m + 1 := fun e => by
          have hq' : q = ⟨m + 1, qlt i k m hm⟩ := Fin.ext e
          rcases (by omega : h.val = 0 ∨ h.val = 1) with e2 | e2
          · exact e0 ⟨Fin.ext e2, hq'⟩
          · exact e1 ⟨Fin.ext e2, hq'⟩
        rw [show met (i 1).val (m + 1) q.val = met (i 1).val m q.val from if_congr (by omega) rfl rfl]
  dqt := fun q l p => by
    rw [trip_dqt]
    refine (put14_read a14 s.dqt _ _ ⟨m + 1, qlt i k m hm⟩ ((off8_eq i k).trans (by rw [← hm])) _ _ q l p).trans ?_
    by_cases e : q = ⟨m + 1, qlt i k m hm⟩
    · rw [if_pos e]
      obtain rfl := e
      refine (q_step G (i 1).val (m + 1) a22 a30 _ (fun l r => (wholeT_at a15 g15 _).trans (hf.hT l r)) _ _
        (fun n r p => d0_at (m := m) (hm := hm) (hf := hf) (n := n) (r := r) (p := p) ..) (fun n r p => d1_at (m := m) (hm := hm) (hf := hf) (n := n) (r := r) (p := p) ..) _ l p
        ((at14_at a14 s.dqt _ _ ⟨m + 1, qlt i k m hm⟩ ((off8_eq i k).trans (by rw [← hm])) l p).trans ((hs.dqt ⟨m + 1, qlt i k m hm⟩ l p).trans (by rw [show met (i 1).val m (m + 1) = 768 * (i 1).val from if_neg (by omega)])))).trans ?_
      rw [show met (i 1).val (m + 1) (m + 1) = 768 * ((i 1).val + 1) from if_pos (Nat.le_refl _)]
    · rw [if_neg e]
      refine (hs.dqt q l p).trans ?_
      have hq : q.val ≠ m + 1 := fun e' => e (Fin.ext e')
      rw [show met (i 1).val (m + 1) q.val = met (i 1).val m q.val from if_congr (by omega) rfl rfl]

end trip

end Cert.AttnBwdIdeal.Hand
-- ==== Proof.AttnI.Enter.lean ====
/-
  What the block on the diagonal leaves before the loop is entered, in the terms of the strips.
-/
module

public import proofs.«01_k».proof.Proof.AttnI.Strip
public import proofs.«01_k».proof.Proof.AttnI.Left

@[expose] public section

set_option maxRecDepth 16384

noncomputable section

namespace Cert.AttnBwdIdeal.Hand

open Cert.AttnBwdIdeal Cert.AttnBwdIdeal.Gen
open Idealize.ShloMosaic Idealize.ShloMosaic.TcCoe

local notation "𝕧" => Memref sig Kind.tc Space.vmem
local notation "𝕋" => Thread nD τ

variable {F : FTy → Type} [FloatOps F] [Named F]

/-- The softmax weights of head 0 in the block on the diagonal. -/
def eW0 (c : Dev nD) (i : grid0.Coords) (a2 : 𝕧 S8448x128 .bf16) (a4 : 𝕧 S768x128 .bf16) (a6 : 𝕧 S2x11x1x768 .f32) (a8 : 𝕧 S2x11x1x768 .f32) (a19 : 𝕧 S768x768 .f32) (a23 : 𝕧 S768x128 .f32) (g2 : Buf (Elt F) (a2.view.loc (c : 𝕋))) (g4 : Buf (Elt F) (a4.view.loc (c : 𝕋))) (g6 : Buf (Elt F) (a6.view.loc (c : 𝕋))) (g8 : Buf (Elt F) (a8.view.loc (c : 𝕋))) : Fin 24 → FVec F S32x768 .f32 :=
  wH true a19 (k0_pay5 k0_pay665 (whole128 a4 g4) (View.readAt (Elt F) a2.view (Rect.unit (s := S8448x128) (k0_off3 i) S768x128.size (k0_off3_inb i)).toLoadRect g2)) (lanesOf a23 (k0_pay673 (at13 a8 g8 (k0_off1 i) (k0_off1_inb i)))) (at13 a8 g8 (k0_off1 i) (k0_off1_inb i)) (at13 a6 g6 (k0_off1 i) (k0_off1_inb i))

/-- The score gradients of head 0 there. -/
def eD0 (c : Dev nD) (i : grid0.Coords) (a2 : 𝕧 S8448x128 .bf16) (a3 : 𝕧 S8448x128 .bf16) (a4 : 𝕧 S768x128 .bf16) (a5 : 𝕧 S768x128 .bf16) (a6 : 𝕧 S2x11x1x768 .f32) (a7 : 𝕧 S2x11x1x768 .f32) (a8 : 𝕧 S2x11x1x768 .f32) (a19 : 𝕧 S768x768 .f32) (a20 : 𝕧 S768x768 .f32) (a23 : 𝕧 S768x128 .f32) (g2 : Buf (Elt F) (a2.view.loc (c : 𝕋))) (g3 : Buf (Elt F) (a3.view.loc (c : 𝕋))) (g4 : Buf (Elt F) (a4.view.loc (c : 𝕋))) (g5 : Buf (Elt F) (a5.view.loc (c : 𝕋))) (g6 : Buf (Elt F) (a6.view.loc (c : 𝕋))) (g7 : Buf (Elt F) (a7.view.loc (c : 𝕋))) (g8 : Buf (Elt F) (a8.view.loc (c : 𝕋))) : Fin 24 → FVec F S32x768 .f32 :=
  dH true a19 a20 (k0_pay5 k0_pay665 (whole128 a4 g4) (View.readAt (Elt F) a2.view (Rect.unit (s := S8448x128) (k0_off3 i) S768x128.size (k0_off3_inb i)).toLoadRect g2)) (k0_pay6 k0_pay665 (whole128 a5 g5) (View.readAt (Elt F) a3.view (Rect.unit (s := S8448x128) (k0_off3 i) S768x128.size (k0_off3_inb i)).toLoadRect g3)) (lanesOf a23 (k0_pay673 (at13 a8 g8 (k0_off1 i) (k0_off1_inb i)))) (at13 a8 g8 (k0_off1 i) (k0_off1_inb i)) (at13 a6 g6 (k0_off1 i) (k0_off1_inb i)) (at13 a7 g7 (k0_off1 i) (k0_off1_inb i))

/-- The softmax weights of head 1 in the block on the diagonal. -/
def eW1 (c : Dev nD) (i : grid0.Coords) (a2 : 𝕧 S8448x128 .bf16) (a4 : 𝕧 S768x128 .bf16) (a6 : 𝕧 S2x11x1x768 .f32) (a8 : 𝕧 S2x11x1x768 .f32) (a27 : 𝕧 S768x768 .f32) (a31 : 𝕧 S768x128 .f32) (g2 : Buf (Elt F) (a2.view.loc (c : 𝕋))) (g4 : Buf (Elt F) (a4.view.loc (c : 𝕋))) (g6 : Buf (Elt F) (a6.view.loc (c : 𝕋))) (g8 : Buf (Elt F) (a8.view.loc (c : 𝕋))) : Fin 24 → FVec F S32x768 .f32 :=
  wH true a27 (k0_pay7 k0_pay665 (whole128 a4 g4) (View.readAt (Elt F) a2.view (Rect.unit (s := S8448x128) (k0_off3 i) S768x128.size (k0_off3_inb i)).toLoadRect g2)) (lanesOf a31 (k0_pay673 (at13 a8 g8 (k0_off2 i) (k0_off2_inb i)))) (at13 a8 g8 (k0_off2 i) (k0_off2_inb i)) (at13 a6 g6 (k0_off2 i) (k0_off2_inb i))

/-- The score gradients of head 1 there. -/
def eD1 (c : Dev nD) (i : grid0.Coords) (a2 : 𝕧 S8448x128 .bf16) (a3 : 𝕧 S8448x128 .bf16) (a4 : 𝕧 S768x128 .bf16) (a5 : 𝕧 S768x128 .bf16) (a6 : 𝕧 S2x11x1x768 .f32) (a7 : 𝕧 S2x11x1x768 .f32) (a8 : 𝕧 S2x11x1x768 .f32) (a27 : 𝕧 S768x768 .f32) (a28 : 𝕧 S768x768 .f32) (a31 : 𝕧 S768x128 .f32) (g2 : Buf (Elt F) (a2.view.loc (c : 𝕋))) (g3 : Buf (Elt F) (a3.view.loc (c : 𝕋))) (g4 : Buf (Elt F) (a4.view.loc (c : 𝕋))) (g5 : Buf (Elt F) (a5.view.loc (c : 𝕋))) (g6 : Buf (Elt F) (a6.view.loc (c : 𝕋))) (g7 : Buf (Elt F) (a7.view.loc (c : 𝕋))) (g8 : Buf (Elt F) (a8.view.loc (c : 𝕋))) : Fin 24 → FVec F S32x768 .f32 :=
  dH true a27 a28 (k0_pay7 k0_pay665 (whole128 a4 g4) (View.readAt (Elt F) a2.view (Rect.unit (s := S8448x128) (k0_off3 i) S768x128.size (k0_off3_inb i)).toLoadRect g2)) (k0_pay8 k0_pay665 (whole128 a5 g5) (View.readAt (Elt F) a3.view (Rect.unit (s := S8448x128) (k0_off3 i) S768x128.size (k0_off3_inb i)).toLoadRect g3)) (lanesOf a31 (k0_pay673 (at13 a8 g8 (k0_off2 i) (k0_off2_inb i)))) (at13 a8 g8 (k0_off2 i) (k0_off2_inb i)) (at13 a6 g6 (k0_off2 i) (k0_off2_inb i)) (at13 a7 g7 (k0_off2 i) (k0_off2_inb i))

/-- The carried buffers after the block on the diagonal, from contents `f13` and `f14` of the two that last. -/
def enter (c : Dev nD) (i : grid0.Coords) (a2 : 𝕧 S8448x128 .bf16) (a3 : 𝕧 S8448x128 .bf16) (a4 : 𝕧 S768x128 .bf16) (a5 : 𝕧 S768x128 .bf16) (a6 : 𝕧 S2x11x1x768 .f32) (a7 : 𝕧 S2x11x1x768 .f32) (a8 : 𝕧 S2x11x1x768 .f32) (a13 : 𝕧 S2x11x1x768 .f32) (a14 : 𝕧 S11x128x768 .f32) (a15 : 𝕧 S128x768 .bf16) (a16 : 𝕧 S768x128 .f32) (a17 : 𝕧 S768x128 .f32) (a18 : 𝕧 S768x1 .f32) (a19 : 𝕧 S768x768 .f32) (a20 : 𝕧 S768x768 .f32) (a21 : 𝕧 S768x768 .bf16) (a22 : 𝕧 S768x768 .bf16) (a23 : 𝕧 S768x128 .f32) (a24 : 𝕧 S768x128 .f32) (a25 : 𝕧 S768x128 .f32) (a26 : 𝕧 S768x1 .f32) (a27 : 𝕧 S768x768 .f32) (a28 : 𝕧 S768x768 .f32) (a29 : 𝕧 S768x768 .bf16) (a30 : 𝕧 S768x768 .bf16) (a31 : 𝕧 S768x128 .f32) (g2 : Buf (Elt F) (a2.view.loc (c : 𝕋))) (g3 : Buf (Elt F) (a3.view.loc (c : 𝕋))) (g4 : Buf (Elt F) (a4.view.loc (c : 𝕋))) (g5 : Buf (Elt F) (a5.view.loc (c : 𝕋))) (g6 : Buf (Elt F) (a6.view.loc (c : 𝕋))) (g7 : Buf (Elt F) (a7.view.loc (c : 𝕋))) (g8 : Buf (Elt F) (a8.view.loc (c : 𝕋))) (f13 : Buf (Elt F) (a13.view.loc (c : 𝕋))) (f14 : Buf (Elt F) (a14.view.loc (c : 𝕋))) (old2 : Vec F S1x1x1x768 .f32) : Carried F c a13 a14 a16 a17 a18 a24 a25 a26 where
  dcq := a13.view.writes (Elt F) f13 [put13 (k0_off2 i) (k0_off2_inb i) (k0_pay166 (colSum (eD1 c i a2 a3 a4 a5 a6 a7 a8 a27 a28 a31 g2 g3 g4 g5 g6 g7 g8)) old2),
    put13 (k0_off1 i) (k0_off1_inb i) (k0_pay166 (colSum (eD0 c i a2 a3 a4 a5 a6 a7 a8 a19 a20 a23 g2 g3 g4 g5 g6 g7 g8)) (at13 a13 f13 (k0_off1 i) (k0_off1_inb i)))]
  dqt := a14.view.writes (Elt F) f14 [put14 (k0_off4 i) (k0_off4_inb i) (k0_pay1021 k0_pay669 (k0_pay169 (a15.view.readCov [⟨Rect.unit (s := S128x768) ![0, 0] S128x768.size inb_S128x768_S128x768_0_0, k0_pay668 (whole128 a4 g4)⟩] (Rect.unit (s := S128x768) ![0, 0] S128x768.size inb_S128x768_S128x768_0_0).toLoadRect) (narrowOf a22 (eD0 c i a2 a3 a4 a5 a6 a7 a8 a19 a20 a23 g2 g3 g4 g5 g6 g7 g8))) (k0_pay327 (a15.view.readCov [⟨Rect.unit (s := S128x768) ![0, 0] S128x768.size inb_S128x768_S128x768_0_0, k0_pay668 (whole128 a4 g4)⟩] (Rect.unit (s := S128x768) ![0, 0] S128x768.size inb_S128x768_S128x768_0_0).toLoadRect) (narrowOf a30 (eD1 c i a2 a3 a4 a5 a6 a7 a8 a27 a28 a31 g2 g3 g4 g5 g6 g7 g8))) (at14 a14 f14 (k0_off4 i) (k0_off4_inb i)))]
  dk0 := a16.view.writes (Elt F) a16.view.junk [⟨Rect.unit (s := S768x128) ![0, 0] S768x128.size inb_S768x128_S768x128_0_0, k0_pay168 (View.readAt (Elt F) a2.view (Rect.unit (s := S8448x128) (k0_off3 i) S768x128.size (k0_off3_inb i)).toLoadRect g2) (a16.view.readCov (put128 k0_pay670) (Rect.unit (s := S768x128) ![0, 0] S768x128.size inb_S768x128_S768x128_0_0).toLoadRect) (narrowOf a22 (eD0 c i a2 a3 a4 a5 a6 a7 a8 a19 a20 a23 g2 g3 g4 g5 g6 g7 g8))⟩, ⟨Rect.unit (s := S768x128) ![0, 0] S768x128.size inb_S768x128_S768x128_0_0, k0_pay670⟩]
  dv0 := a17.view.writes (Elt F) a17.view.junk [⟨Rect.unit (s := S768x128) ![0, 0] S768x128.size inb_S768x128_S768x128_0_0, k0_pay167 (View.readAt (Elt F) a3.view (Rect.unit (s := S8448x128) (k0_off3 i) S768x128.size (k0_off3_inb i)).toLoadRect g3) (a17.view.readCov (put128 k0_pay670) (Rect.unit (s := S768x128) ![0, 0] S768x128.size inb_S768x128_S768x128_0_0).toLoadRect) (narrowOf a21 (eW0 c i a2 a4 a6 a8 a19 a23 g2 g4 g6 g8))⟩, ⟨Rect.unit (s := S768x128) ![0, 0] S768x128.size inb_S768x128_S768x128_0_0, k0_pay670⟩]
  dc0 := a18.view.writes (Elt F) a18.view.junk (rowRec a18 [⟨Rect.unit (s := S768x1) ![0, 0] S768x1.size inb_S768x1_S768x1_0_0, k0_pay672⟩] (eD0 c i a2 a3 a4 a5 a6 a7 a8 a19 a20 a23 g2 g3 g4 g5 g6 g7 g8) stripsR)
  dk1 := a24.view.writes (Elt F) a24.view.junk [⟨Rect.unit (s := S768x128) ![0, 0] S768x128.size inb_S768x128_S768x128_0_0, k0_pay168 (View.readAt (Elt F) a2.view (Rect.unit (s := S8448x128) (k0_off3 i) S768x128.size (k0_off3_inb i)).toLoadRect g2) (a24.view.readCov (put128 k0_pay670) (Rect.unit (s := S768x128) ![0, 0] S768x128.size inb_S768x128_S768x128_0_0).toLoadRect) (narrowOf a30 (eD1 c i a2 a3 a4 a5 a6 a7 a8 a27 a28 a31 g2 g3 g4 g5 g6 g7 g8))⟩, ⟨Rect.unit (s := S768x128) ![0, 0] S768x128.size inb_S768x128_S768x128_0_0, k0_pay670⟩]
  dv1 := a25.view.writes (Elt F) a25.view.junk [⟨Rect.unit (s := S768x128) ![0, 0] S768x128.size inb_S768x128_S768x128_0_0, k0_pay167 (View.readAt (Elt F) a3.view (Rect.unit (s := S8448x128) (k0_off3 i) S768x128.size (k0_off3_inb i)).toLoadRect g3) (a25.view.readCov (put128 k0_pay670) (Rect.unit (s := S768x128) ![0, 0] S768x128.size inb_S768x128_S768x128_0_0).toLoadRect) (narrowOf a29 (eW1 c i a2 a4 a6 a8 a27 a31 g2 g4 g6 g8))⟩, ⟨Rect.unit (s := S768x128) ![0, 0] S768x128.size inb_S768x128_S768x128_0_0, k0_pay670⟩]
  dc1 := a26.view.writes (Elt F) a26.view.junk (rowRec a26 [⟨Rect.unit (s := S768x1) ![0, 0] S768x1.size inb_S768x1_S768x1_0_0, k0_pay672⟩] (eD1 c i a2 a3 a4 a5 a6 a7 a8 a27 a28 a31 g2 g3 g4 g5 g6 g7 g8) stripsR)
/-- The carried buffers at the end of the loop entered at `s`. -/
def leave (c : Dev nD) (i : grid0.Coords) (a2 : 𝕧 S8448x128 .bf16) (p2 : a2.IsWhole) (a3 : 𝕧 S8448x128 .bf16) (p3 : a3.IsWhole) (a4 : 𝕧 S768x128 .bf16) (p4 : a4.IsWhole) (a5 : 𝕧 S768x128 .bf16) (p5 : a5.IsWhole) (a6 : 𝕧 S2x11x1x768 .f32) (p6 : a6.IsWhole) (a7 : 𝕧 S2x11x1x768 .f32) (p7 : a7.IsWhole) (a8 : 𝕧 S2x11x1x768 .f32) (p8 : a8.IsWhole) (a9 : 𝕧 S8448x128 .bf16) (p9 : a9.IsWhole) (a10 : 𝕧 S768x128 .bf16) (p10 : a10.IsWhole) (a11 : 𝕧 S768x128 .bf16) (p11 : a11.IsWhole) (a12 : 𝕧 S2x1x1x768 .f32) (p12 : a12.IsWhole) (a13 : 𝕧 S2x11x1x768 .f32) (p13 : a13.IsWhole) (a14 : 𝕧 S11x128x768 .f32) (p14 : a14.IsWhole) (a15 : 𝕧 S128x768 .bf16) (p15 : a15.IsWhole) (a16 : 𝕧 S768x128 .f32) (p16 : a16.IsWhole) (a17 : 𝕧 S768x128 .f32) (p17 : a17.IsWhole) (a18 : 𝕧 S768x1 .f32) (p18 : a18.IsWhole) (a19 : 𝕧 S768x768 .f32) (p19 : a19.IsWhole) (a20 : 𝕧 S768x768 .f32) (p20 : a20.IsWhole) (a21 : 𝕧 S768x768 .bf16) (p21 : a21.IsWhole) (a22 : 𝕧 S768x768 .bf16) (p22 : a22.IsWhole) (a23 : 𝕧 S768x128 .f32) (p23 : a23.IsWhole) (a24 : 𝕧 S768x128 .f32) (p24 : a24.IsWhole) (a25 : 𝕧 S768x128 .f32) (p25 : a25.IsWhole) (a26 : 𝕧 S768x1 .f32) (p26 : a26.IsWhole) (a27 : 𝕧 S768x768 .f32) (p27 : a27.IsWhole) (a28 : 𝕧 S768x768 .f32) (p28 : a28.IsWhole) (a29 : 𝕧 S768x768 .bf16) (p29 : a29.IsWhole) (a30 : 𝕧 S768x768 .bf16) (p30 : a30.IsWhole) (a31 : 𝕧 S768x128 .f32) (p31 : a31.IsWhole) (g2 : Buf (Elt F) (a2.view.loc (c : 𝕋))) (g3 : Buf (Elt F) (a3.view.loc (c : 𝕋))) (g4 : Buf (Elt F) (a4.view.loc (c : 𝕋))) (g5 : Buf (Elt F) (a5.view.loc (c : 𝕋))) (g6 : Buf (Elt F) (a6.view.loc (c : 𝕋))) (g7 : Buf (Elt F) (a7.view.loc (c : 𝕋))) (g8 : Buf (Elt F) (a8.view.loc (c : 𝕋))) (s : Carried F c a13 a14 a16 a17 a18 a24 a25 a26) :
    Carried F c a13 a14 a16 a17 a18 a24 a25 a26 :=
  carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 (BitVec.ofNat 32 (i 1).val) k0_pay665 (whole128 a4 g4) (whole128 a5 g5) k0_pay669 (k0_pay169 (a15.view.readCov [⟨Rect.unit (s := S128x768) ![0, 0] S128x768.size inb_S128x768_S128x768_0_0, k0_pay668 (whole128 a4 g4)⟩] (Rect.unit (s := S128x768) ![0, 0] S128x768.size inb_S128x768_S128x768_0_0).toLoadRect) (narrowOf a22 (eD0 c i a2 a3 a4 a5 a6 a7 a8 a19 a20 a23 g2 g3 g4 g5 g6 g7 g8))) (k0_pay327 (a15.view.readCov [⟨Rect.unit (s := S128x768) ![0, 0] S128x768.size inb_S128x768_S128x768_0_0, k0_pay668 (whole128 a4 g4)⟩] (Rect.unit (s := S128x768) ![0, 0] S128x768.size inb_S128x768_S128x768_0_0).toLoadRect) (narrowOf a30 (eD1 c i a2 a3 a4 a5 a6 a7 a8 a27 a28 a31 g2 g3 g4 g5 g6 g7 g8))) (Scalar.addi (BitVec.ofNat 32 (i 1).val) 1#32) g2 g3 g6 g7 g8 (a15.view.writes (Elt F) a15.view.junk [⟨Rect.unit (s := S128x768) ![0, 0] S128x768.size inb_S128x768_S128x768_0_0, k0_pay668 (whole128 a4 g4)⟩]) (a23.view.writes (Elt F) a23.view.junk (put128 (k0_pay673 (at13 a8 g8 (k0_off1 i) (k0_off1_inb i))))) (a31.view.writes (Elt F) a31.view.junk (put128 (k0_pay673 (at13 a8 g8 (k0_off2 i) (k0_off2_inb i))))) s (k0_t1_loop i).trips

end Cert.AttnBwdIdeal.Hand
-- ==== Proof.AttnI.Whole.lean ====
/-
  What the carried buffers hold before and after the loop over the later query blocks.
-/
module

public import proofs.«01_k».proof.Proof.AttnI.Holds
public import proofs.«01_k».proof.Proof.AttnI.Enter

@[expose] public section

set_option maxHeartbeats 400000
set_option maxRecDepth 16384

noncomputable section

namespace Cert.AttnBwdIdeal.Hand

open Cert.AttnBwdIdeal Cert.AttnBwdIdeal.Gen Cert.Arrays
open Idealize.ShloMosaic Idealize.ShloMosaic.TcCoe

local notation "𝕧" => Memref sig Kind.tc Space.vmem
local notation "𝕋" => Thread nD τ

/-- A query block other than the key block's own: no key of the block is new to it. -/
theorem met_skip (G : Glob) (f : ℕ → EReal) (j q p : ℕ) (hp : p < 768) (hq : q ≠ j) (hf : ∀ u, 768 * q + p < u → f u = 0) :
    ∑ u ∈ Finset.range (768 * j), f u = ∑ u ∈ Finset.range (met j j q), f u := by
  unfold met
  by_cases h : q ≤ j
  · rw [if_pos h, ← show 768 * j + 768 = 768 * (j + 1) from rfl, ← sum_block f (768 * j) 768,
      Finset.sum_eq_zero (s := Finset.univ) fun k _ => hf _ (by omega), add_zero]
  · rw [if_neg h]

theorem early_dv (G : Glob) (h j : ℕ) (r l : ℕ) : (0 : EReal) = ∑ t ∈ Finset.range (768 * j), G.W h t (768 * j + r) * G.DO t l := by
  refine (Finset.sum_eq_zero fun t ht => ?_).symm
  have := Finset.mem_range.mp ht
  rw [G.W_late h (by omega), zero_mul]
theorem early_dk (G : Glob) (h j : ℕ) (r l : ℕ) : (0 : EReal) = ∑ t ∈ Finset.range (768 * j), G.Dm h t (768 * j + r) * G.Q t l := by
  refine (Finset.sum_eq_zero fun t ht => ?_).symm
  have := Finset.mem_range.mp ht
  rw [G.Dm_late h (by omega), zero_mul]
theorem early_dc (G : Glob) (h j : ℕ) (r : ℕ) : (0 : EReal) = ∑ t ∈ Finset.range (768 * j), G.Dm h t (768 * j + r) := by
  refine (Finset.sum_eq_zero fun t ht => ?_).symm
  have := Finset.mem_range.mp ht
  rw [G.Dm_late h (by omega)]

section enter

variable (c : Dev nD) (i : grid0.Coords) (a2 : 𝕧 S8448x128 .bf16) (a3 : 𝕧 S8448x128 .bf16) (a4 : 𝕧 S768x128 .bf16) (a5 : 𝕧 S768x128 .bf16) (a6 : 𝕧 S2x11x1x768 .f32) (a7 : 𝕧 S2x11x1x768 .f32) (a8 : 𝕧 S2x11x1x768 .f32) (a13 : 𝕧 S2x11x1x768 .f32) (a14 : 𝕧 S11x128x768 .f32) (a15 : 𝕧 S128x768 .bf16) (a16 : 𝕧 S768x128 .f32) (a17 : 𝕧 S768x128 .f32) (a18 : 𝕧 S768x1 .f32) (a19 : 𝕧 S768x768 .f32) (a20 : 𝕧 S768x768 .f32) (a21 : 𝕧 S768x768 .bf16) (a22 : 𝕧 S768x768 .bf16) (a23 : 𝕧 S768x128 .f32) (a24 : 𝕧 S768x128 .f32) (a25 : 𝕧 S768x128 .f32) (a26 : 𝕧 S768x1 .f32) (a27 : 𝕧 S768x768 .f32) (a28 : 𝕧 S768x768 .f32) (a29 : 𝕧 S768x768 .bf16) (a30 : 𝕧 S768x768 .bf16) (a31 : 𝕧 S768x128 .f32) (g2 : Buf (Elt Ideal) (a2.view.loc (c : 𝕋))) (g3 : Buf (Elt Ideal) (a3.view.loc (c : 𝕋))) (g4 : Buf (Elt Ideal) (a4.view.loc (c : 𝕋))) (g5 : Buf (Elt Ideal) (a5.view.loc (c : 𝕋))) (g6 : Buf (Elt Ideal) (a6.view.loc (c : 𝕋))) (g7 : Buf (Elt Ideal) (a7.view.loc (c : 𝕋))) (g8 : Buf (Elt Ideal) (a8.view.loc (c : 𝕋))) (f13 : Buf (Elt Ideal) (a13.view.loc (c : 𝕋))) (f14 : Buf (Elt Ideal) (a14.view.loc (c : 𝕋))) (old2 : Vec Ideal S1x1x1x768 .f32)
  (G : Glob)

/-- The arguments are what they stand for; `a4` and `a5` are key block `(i 1)` of the pair. -/
structure Ins : Prop where
  hQ : ∀ (t : Fin 8448) (l : Fin 128), a2.view.read (Elt Ideal) g2 (ix2 t l) = G.Q t.val l.val
  hDO : ∀ (t : Fin 8448) (l : Fin 128), a3.view.read (Elt Ideal) g3 (ix2 t l) = G.DO t.val l.val
  hK : ∀ (r : Fin 768) (l : Fin 128), a4.view.read (Elt Ideal) g4 (ix2 r l) = G.K (768 * (i 1).val + r.val) l.val
  hV : ∀ (r : Fin 768) (l : Fin 128), a5.view.read (Elt Ideal) g5 (ix2 r l) = G.V (768 * (i 1).val + r.val) l.val
  hL : ∀ (h : Fin 2) (q : Fin 11) (p : Fin 768), a6.view.read (Elt Ideal) g6 (ix4 h q (0 : Fin 1) p) = G.L h.val (768 * q.val + p.val)
  hDl : ∀ (h : Fin 2) (q : Fin 11) (p : Fin 768), a7.view.read (Elt Ideal) g7 (ix4 h q (0 : Fin 1) p) = G.Dl h.val (768 * q.val + p.val)
  hC : ∀ (h : Fin 2) (q : Fin 11) (p : Fin 768), a8.view.read (Elt Ideal) g8 (ix4 h q (0 : Fin 1) p) = G.C h.val (768 * q.val + p.val)

variable (hi : Ins c i a2 a3 a4 a5 a6 a7 a8 g2 g3 g4 g5 g6 g7 g8 G)

include hi in
theorem eW0_at (n : Fin 24) (r : Fin 32) (p : Fin 768) :
    eW0 c i a2 a4 a6 a8 a19 a23 g2 g4 g6 g8 n (ix2 r p) = G.W 0 (768 * (i 1).val + p.val) (768 * (i 1).val + (32 * n.val + r.val)) :=
  wH_at G 0 (i 1).val (i 1).val true (fun _ => rfl) (fun e => absurd e (by decide)) _ _ _ _ _ (S0_at G (i 1).val (i 1).val _ _ (fun r l => (whole128_at a4 g4 _).trans (hi.hK r l)) (fun r l => (rd128 a2 g2 _ _ ⟨(i 1).val, row_lt i⟩ (off3_eq i) r l).trans (hi.hQ _ l))) (fun n r l => (lanes_at a23 _ n r l).trans ((pay673_at _ _ _).trans ((at13_at a8 g8 _ _ 0 ⟨(i 1).val, row_lt i⟩ (off1_eq i) _).trans (hi.hC 0 _ _)))) (fun p => (at13_at a8 g8 _ _ 0 ⟨(i 1).val, row_lt i⟩ (off1_eq i) p).trans (hi.hC 0 _ p)) (fun p => (at13_at a6 g6 _ _ 0 ⟨(i 1).val, row_lt i⟩ (off1_eq i) p).trans (hi.hL 0 _ p)) n r p

include hi in
theorem eD0_at (n : Fin 24) (r : Fin 32) (p : Fin 768) :
    eD0 c i a2 a3 a4 a5 a6 a7 a8 a19 a20 a23 g2 g3 g4 g5 g6 g7 g8 n (ix2 r p) = G.Dm 0 (768 * (i 1).val + p.val) (768 * (i 1).val + (32 * n.val + r.val)) :=
  dH_at G 0 (i 1).val (i 1).val true (fun _ => rfl) (fun e => absurd e (by decide)) _ _ _ _ _ _ _ _ (S0_at G (i 1).val (i 1).val _ _ (fun r l => (whole128_at a4 g4 _).trans (hi.hK r l)) (fun r l => (rd128 a2 g2 _ _ ⟨(i 1).val, row_lt i⟩ (off3_eq i) r l).trans (hi.hQ _ l))) (DP0_at G (i 1).val (i 1).val _ _ (fun r l => (whole128_at a5 g5 _).trans (hi.hV r l)) (fun r l => (rd128 a3 g3 _ _ ⟨(i 1).val, row_lt i⟩ (off3_eq i) r l).trans (hi.hDO _ l))) (fun n r l => (lanes_at a23 _ n r l).trans ((pay673_at _ _ _).trans ((at13_at a8 g8 _ _ 0 ⟨(i 1).val, row_lt i⟩ (off1_eq i) _).trans (hi.hC 0 _ _)))) (fun p => (at13_at a8 g8 _ _ 0 ⟨(i 1).val, row_lt i⟩ (off1_eq i) p).trans (hi.hC 0 _ p)) (fun p => (at13_at a6 g6 _ _ 0 ⟨(i 1).val, row_lt i⟩ (off1_eq i) p).trans (hi.hL 0 _ p)) (fun p => (at13_at a7 g7 _ _ 0 ⟨(i 1).val, row_lt i⟩ (off1_eq i) p).trans (hi.hDl 0 _ p)) n r p

include hi in
theorem eW1_at (n : Fin 24) (r : Fin 32) (p : Fin 768) :
    eW1 c i a2 a4 a6 a8 a27 a31 g2 g4 g6 g8 n (ix2 r p) = G.W 1 (768 * (i 1).val + p.val) (768 * (i 1).val + (32 * n.val + r.val)) :=
  wH_at G 1 (i 1).val (i 1).val true (fun _ => rfl) (fun e => absurd e (by decide)) _ _ _ _ _ (S1_at G (i 1).val (i 1).val _ _ (fun r l => (whole128_at a4 g4 _).trans (hi.hK r l)) (fun r l => (rd128 a2 g2 _ _ ⟨(i 1).val, row_lt i⟩ (off3_eq i) r l).trans (hi.hQ _ l))) (fun n r l => (lanes_at a31 _ n r l).trans ((pay673_at _ _ _).trans ((at13_at a8 g8 _ _ 1 ⟨(i 1).val, row_lt i⟩ (off2_eq i) _).trans (hi.hC 1 _ _)))) (fun p => (at13_at a8 g8 _ _ 1 ⟨(i 1).val, row_lt i⟩ (off2_eq i) p).trans (hi.hC 1 _ p)) (fun p => (at13_at a6 g6 _ _ 1 ⟨(i 1).val, row_lt i⟩ (off2_eq i) p).trans (hi.hL 1 _ p)) n r p

include hi in
theorem eD1_at (n : Fin 24) (r : Fin 32) (p : Fin 768) :
    eD1 c i a2 a3 a4 a5 a6 a7 a8 a27 a28 a31 g2 g3 g4 g5 g6 g7 g8 n (ix2 r p) = G.Dm 1 (768 * (i 1).val + p.val) (768 * (i 1).val + (32 * n.val + r.val)) :=
  dH_at G 1 (i 1).val (i 1).val true (fun _ => rfl) (fun e => absurd e (by decide)) _ _ _ _ _ _ _ _ (S1_at G (i 1).val (i 1).val _ _ (fun r l => (whole128_at a4 g4 _).trans (hi.hK r l)) (fun r l => (rd128 a2 g2 _ _ ⟨(i 1).val, row_lt i⟩ (off3_eq i) r l).trans (hi.hQ _ l))) (DP1_at G (i 1).val (i 1).val _ _ (fun r l => (whole128_at a5 g5 _).trans (hi.hV r l)) (fun r l => (rd128 a3 g3 _ _ ⟨(i 1).val, row_lt i⟩ (off3_eq i) r l).trans (hi.hDO _ l))) (fun n r l => (lanes_at a31 _ n r l).trans ((pay673_at _ _ _).trans ((at13_at a8 g8 _ _ 1 ⟨(i 1).val, row_lt i⟩ (off2_eq i) _).trans (hi.hC 1 _ _)))) (fun p => (at13_at a8 g8 _ _ 1 ⟨(i 1).val, row_lt i⟩ (off2_eq i) p).trans (hi.hC 1 _ p)) (fun p => (at13_at a6 g6 _ _ 1 ⟨(i 1).val, row_lt i⟩ (off2_eq i) p).trans (hi.hL 1 _ p)) (fun p => (at13_at a7 g7 _ _ 1 ⟨(i 1).val, row_lt i⟩ (off2_eq i) p).trans (hi.hDl 1 _ p)) n r p

variable (hf13 : ∀ (h : Fin 2) (q : Fin 11) (p : Fin 768), a13.view.read (Elt Ideal) f13 (ix4 h q (0 : Fin 1) p) = ∑ u ∈ Finset.range (768 * (i 1).val), G.Dm h.val (768 * q.val + p.val) u)
  (hf14 : ∀ (q : Fin 11) (l : Fin 128) (p : Fin 768), a14.view.read (Elt Ideal) f14 (ix3 q l p) = ∑ u ∈ Finset.range (768 * (i 1).val), G.K u l.val * G.Dm (l.val / 64) (768 * q.val + p.val) u)
  (hold2 : ∀ p : Fin 768, old2 (ix4 0 0 0 p) = ∑ u ∈ Finset.range (768 * (i 1).val), G.Dm 1 (768 * (i 1).val + p.val) u)

include hi hf13 hf14 hold2 in
theorem enter_dv0 (r : Fin 768) (l : Fin 128) : a17.view.read (Elt Ideal) (enter c i a2 a3 a4 a5 a6 a7 a8 a13 a14 a15 a16 a17 a18 a19 a20 a21 a22 a23 a24 a25 a26 a27 a28 a29 a30 a31 g2 g3 g4 g5 g6 g7 g8 f13 f14 old2).dv0 (ix2 r l) = ∑ t ∈ Finset.range (768 * ((i 1).val + 1)), G.W 0 t (768 * (i 1).val + r.val) * G.DO t l.val := by
  dsimp only [enter]
  refine (whole_top a17.view a17.view.junk hz2 _ _ _ (ix2 r l)).trans ?_
  exact dv_step G 0 (i 1).val (i 1).val a21 _ (eW0 c i a2 a4 a6 a8 a19 a23 g2 g4 g6 g8) (fun n r p => eW0_at (hi := hi) (n := n) (r := r) (p := p) ..)
      (fun r l => (rd128 a3 g3 _ _ ⟨(i 1).val, row_lt i⟩ (off3_eq i) r l).trans (hi.hDO _ l)) _ (fun r l => (cov128 a17 _ _).trans ((pay670_at r l).trans (early_dv G 0 _ _ _))) r l
include hi hf13 hf14 hold2 in
theorem enter_dk0 (r : Fin 768) (l : Fin 128) : a16.view.read (Elt Ideal) (enter c i a2 a3 a4 a5 a6 a7 a8 a13 a14 a15 a16 a17 a18 a19 a20 a21 a22 a23 a24 a25 a26 a27 a28 a29 a30 a31 g2 g3 g4 g5 g6 g7 g8 f13 f14 old2).dk0 (ix2 r l) = ∑ t ∈ Finset.range (768 * ((i 1).val + 1)), G.Dm 0 t (768 * (i 1).val + r.val) * G.Q t l.val := by
  dsimp only [enter]
  refine (whole_top a16.view a16.view.junk hz2 _ _ _ (ix2 r l)).trans ?_
  exact dk_step G 0 (i 1).val (i 1).val a22 _ (eD0 c i a2 a3 a4 a5 a6 a7 a8 a19 a20 a23 g2 g3 g4 g5 g6 g7 g8) (fun n r p => eD0_at (hi := hi) (n := n) (r := r) (p := p) ..)
      (fun r l => (rd128 a2 g2 _ _ ⟨(i 1).val, row_lt i⟩ (off3_eq i) r l).trans (hi.hQ _ l)) _ (fun r l => (cov128 a16 _ _).trans ((pay670_at r l).trans (early_dk G 0 _ _ _))) r l
include hi hf13 hf14 hold2 in
theorem enter_dc0 (r : Fin 768) : a18.view.read (Elt Ideal) (enter c i a2 a3 a4 a5 a6 a7 a8 a13 a14 a15 a16 a17 a18 a19 a20 a21 a22 a23 a24 a25 a26 a27 a28 a29 a30 a31 g2 g3 g4 g5 g6 g7 g8 f13 f14 old2).dc0 (ix2 r (0 : Fin 1)) = ∑ t ∈ Finset.range (768 * ((i 1).val + 1)), G.Dm 0 t (768 * (i 1).val + r.val) := by
    have e : (enter c i a2 a3 a4 a5 a6 a7 a8 a13 a14 a15 a16 a17 a18 a19 a20 a21 a22 a23 a24 a25 a26 a27 a28 a29 a30 a31 g2 g3 g4 g5 g6 g7 g8 f13 f14 old2).dc0 = a18.view.writes (Elt Ideal) a18.view.junk (rowRec a18 [⟨Rect.unit (s := S768x1) ![0, 0] S768x1.size inb_S768x1_S768x1_0_0, (k0_pay672 : FVec Ideal S768x1 .f32)⟩] (eD0 c i a2 a3 a4 a5 a6 a7 a8 a19 a20 a23 g2 g3 g4 g5 g6 g7 g8) stripsR) := rfl
    rw [e]
    refine (rowRec_read a18 [⟨Rect.unit (s := S768x1) ![0, 0] S768x1.size inb_S768x1_S768x1_0_0, (k0_pay672 : FVec Ideal S768x1 .f32)⟩] (eD0 c i a2 a3 a4 a5 a6 a7 a8 a19 a20 a23 g2 g3 g4 g5 g6 g7 g8) (fun a p => G.Dm 0 (768 * (i 1).val + p) (768 * (i 1).val + a)) (fun n r p => eD0_at (hi := hi) (n := n) (r := r) (p := p) ..) r stripsR (by decide)).trans ?_
    have hr := r.isLt
    rw [if_pos ⟨⟨r.val / 32, by omega⟩, strip_mem _, rfl⟩]
    refine (congrArg (· + _) ((whole_top a18.view a18.view.junk hz2 _ _ [] _).trans ((pay672_at r).trans (early_dc G 0 (i 1).val r.val)))).trans ?_
    exact sum_block (fun t => G.Dm 0 t (768 * (i 1).val + r.val)) (768 * (i 1).val) 768
include hi hf13 hf14 hold2 in
theorem enter_dv1 (r : Fin 768) (l : Fin 128) : a25.view.read (Elt Ideal) (enter c i a2 a3 a4 a5 a6 a7 a8 a13 a14 a15 a16 a17 a18 a19 a20 a21 a22 a23 a24 a25 a26 a27 a28 a29 a30 a31 g2 g3 g4 g5 g6 g7 g8 f13 f14 old2).dv1 (ix2 r l) = ∑ t ∈ Finset.range (768 * ((i 1).val + 1)), G.W 1 t (768 * (i 1).val + r.val) * G.DO t l.val := by
  dsimp only [enter]
  refine (whole_top a25.view a25.view.junk hz2 _ _ _ (ix2 r l)).trans ?_
  exact dv_step G 1 (i 1).val (i 1).val a29 _ (eW1 c i a2 a4 a6 a8 a27 a31 g2 g4 g6 g8) (fun n r p => eW1_at (hi := hi) (n := n) (r := r) (p := p) ..)
      (fun r l => (rd128 a3 g3 _ _ ⟨(i 1).val, row_lt i⟩ (off3_eq i) r l).trans (hi.hDO _ l)) _ (fun r l => (cov128 a25 _ _).trans ((pay670_at r l).trans (early_dv G 1 _ _ _))) r l
include hi hf13 hf14 hold2 in
theorem enter_dk1 (r : Fin 768) (l : Fin 128) : a24.view.read (Elt Ideal) (enter c i a2 a3 a4 a5 a6 a7 a8 a13 a14 a15 a16 a17 a18 a19 a20 a21 a22 a23 a24 a25 a26 a27 a28 a29 a30 a31 g2 g3 g4 g5 g6 g7 g8 f13 f14 old2).dk1 (ix2 r l) = ∑ t ∈ Finset.range (768 * ((i 1).val + 1)), G.Dm 1 t (768 * (i 1).val + r.val) * G.Q t l.val := by
  dsimp only [enter]
  refine (whole_top a24.view a24.view.junk hz2 _ _ _ (ix2 r l)).trans ?_
  exact dk_step G 1 (i 1).val (i 1).val a30 _ (eD1 c i a2 a3 a4 a5 a6 a7 a8 a27 a28 a31 g2 g3 g4 g5 g6 g7 g8) (fun n r p => eD1_at (hi := hi) (n := n) (r := r) (p := p) ..)
      (fun r l => (rd128 a2 g2 _ _ ⟨(i 1).val, row_lt i⟩ (off3_eq i) r l).trans (hi.hQ _ l)) _ (fun r l => (cov128 a24 _ _).trans ((pay670_at r l).trans (early_dk G 1 _ _ _))) r l
include hi hf13 hf14 hold2 in
theorem enter_dc1 (r : Fin 768) : a26.view.read (Elt Ideal) (enter c i a2 a3 a4 a5 a6 a7 a8 a13 a14 a15 a16 a17 a18 a19 a20 a21 a22 a23 a24 a25 a26 a27 a28 a29 a30 a31 g2 g3 g4 g5 g6 g7 g8 f13 f14 old2).dc1 (ix2 r (0 : Fin 1)) = ∑ t ∈ Finset.range (768 * ((i 1).val + 1)), G.Dm 1 t (768 * (i 1).val + r.val) := by
    have e : (enter c i a2 a3 a4 a5 a6 a7 a8 a13 a14 a15 a16 a17 a18 a19 a20 a21 a22 a23 a24 a25 a26 a27 a28 a29 a30 a31 g2 g3 g4 g5 g6 g7 g8 f13 f14 old2).dc1 = a26.view.writes (Elt Ideal) a26.view.junk (rowRec a26 [⟨Rect.unit (s := S768x1) ![0, 0] S768x1.size inb_S768x1_S768x1_0_0, (k0_pay672 : FVec Ideal S768x1 .f32)⟩] (eD1 c i a2 a3 a4 a5 a6 a7 a8 a27 a28 a31 g2 g3 g4 g5 g6 g7 g8) stripsR) := rfl
    rw [e]
    refine (rowRec_read a26 [⟨Rect.unit (s := S768x1) ![0, 0] S768x1.size inb_S768x1_S768x1_0_0, (k0_pay672 : FVec Ideal S768x1 .f32)⟩] (eD1 c i a2 a3 a4 a5 a6 a7 a8 a27 a28 a31 g2 g3 g4 g5 g6 g7 g8) (fun a p => G.Dm 1 (768 * (i 1).val + p) (768 * (i 1).val + a)) (fun n r p => eD1_at (hi := hi) (n := n) (r := r) (p := p) ..) r stripsR (by decide)).trans ?_
    have hr := r.isLt
    rw [if_pos ⟨⟨r.val / 32, by omega⟩, strip_mem _, rfl⟩]
    refine (congrArg (· + _) ((whole_top a26.view a26.view.junk hz2 _ _ [] _).trans ((pay672_at r).trans (early_dc G 1 (i 1).val r.val)))).trans ?_
    exact sum_block (fun t => G.Dm 1 t (768 * (i 1).val + r.val)) (768 * (i 1).val) 768
include hi hf13 hf14 hold2 in
theorem enter_dcq (h : Fin 2) (q : Fin 11) (p : Fin 768) : a13.view.read (Elt Ideal) (enter c i a2 a3 a4 a5 a6 a7 a8 a13 a14 a15 a16 a17 a18 a19 a20 a21 a22 a23 a24 a25 a26 a27 a28 a29 a30 a31 g2 g3 g4 g5 g6 g7 g8 f13 f14 old2).dcq (ix4 h q (0 : Fin 1) p) = ∑ u ∈ Finset.range (met (i 1).val (i 1).val q.val), G.Dm h.val (768 * q.val + p.val) u := by
    dsimp only [enter]
    refine (put13_read a13 f13 _ _ 1 ⟨(i 1).val, row_lt i⟩ (off2_eq i) _ _ h q p).trans ?_
    by_cases e1 : h = 1 ∧ q = ⟨(i 1).val, row_lt i⟩
    · rw [if_pos e1]
      obtain ⟨rfl, rfl⟩ := e1
      refine (col_step G 1 (i 1).val (i 1).val _ (fun n r p => eD1_at (hi := hi) (n := n) (r := r) (p := p) ..) _ p (hold2 p)).trans ?_
      rw [show met (i 1).val (i 1).val (i 1).val = 768 * ((i 1).val + 1) from if_pos (Nat.le_refl _)]; rfl
    · rw [if_neg e1]
      refine (put13_read a13 f13 _ _ 0 ⟨(i 1).val, row_lt i⟩ (off1_eq i) _ _ h q p).trans ?_
      by_cases e0 : h = 0 ∧ q = ⟨(i 1).val, row_lt i⟩
      · rw [if_pos e0]
        obtain ⟨rfl, rfl⟩ := e0
        refine (col_step G 0 (i 1).val (i 1).val _ (fun n r p => eD0_at (hi := hi) (n := n) (r := r) (p := p) ..) _ p ((at13_at a13 f13 _ _ 0 ⟨(i 1).val, row_lt i⟩ (off1_eq i) p).trans (hf13 0 _ p))).trans ?_
        rw [show met (i 1).val (i 1).val (i 1).val = 768 * ((i 1).val + 1) from if_pos (Nat.le_refl _)]; rfl
      · rw [if_neg e0]
        refine (hf13 h q p).trans ?_
        have hq : q.val ≠ (i 1).val := fun e => by
          have hq' : q = ⟨(i 1).val, row_lt i⟩ := Fin.ext e
          rcases (by omega : h.val = 0 ∨ h.val = 1) with e2 | e2
          · exact e0 ⟨Fin.ext e2, hq'⟩
          · exact e1 ⟨Fin.ext e2, hq'⟩
        exact met_skip G _ (i 1).val q.val p.val p.isLt hq fun u hu => G.Dm_late _ hu
include hi hf13 hf14 hold2 in
theorem enter_dqt (q : Fin 11) (l : Fin 128) (p : Fin 768) : a14.view.read (Elt Ideal) (enter c i a2 a3 a4 a5 a6 a7 a8 a13 a14 a15 a16 a17 a18 a19 a20 a21 a22 a23 a24 a25 a26 a27 a28 a29 a30 a31 g2 g3 g4 g5 g6 g7 g8 f13 f14 old2).dqt (ix3 q l p) = ∑ u ∈ Finset.range (met (i 1).val (i 1).val q.val), G.K u l.val * G.Dm (l.val / 64) (768 * q.val + p.val) u := by
    dsimp only [enter]
    refine (put14_read a14 f14 _ _ ⟨(i 1).val, row_lt i⟩ (off4_eq i) _ _ q l p).trans ?_
    by_cases e : q = ⟨(i 1).val, row_lt i⟩
    · rw [if_pos e]
      obtain rfl := e
      refine (q_step G (i 1).val (i 1).val a22 a30 _ (fun l r => (covT a15 _ _).trans ((pay668_at _ l r).trans ((whole128_at a4 g4 _).trans (hi.hK r l)))) (eD0 c i a2 a3 a4 a5 a6 a7 a8 a19 a20 a23 g2 g3 g4 g5 g6 g7 g8) (eD1 c i a2 a3 a4 a5 a6 a7 a8 a27 a28 a31 g2 g3 g4 g5 g6 g7 g8)
        (fun n r p => eD0_at (hi := hi) (n := n) (r := r) (p := p) ..) (fun n r p => eD1_at (hi := hi) (n := n) (r := r) (p := p) ..) _ l p
        ((at14_at a14 f14 _ _ ⟨(i 1).val, row_lt i⟩ (off4_eq i) l p).trans (hf14 _ l p))).trans ?_
      rw [show met (i 1).val (i 1).val (i 1).val = 768 * ((i 1).val + 1) from if_pos (Nat.le_refl _)]
    · rw [if_neg e]
      refine (hf14 q l p).trans ?_
      have hq : q.val ≠ (i 1).val := fun e' => e (Fin.ext e')
      exact met_skip G _ (i 1).val q.val p.val p.isLt hq fun u hu => by rw [G.Dm_late _ hu, mul_zero]

include hi hf13 hf14 hold2 in
/-- The key block has met its own query block. -/
theorem holds_enter : Holds G (i 1).val (i 1).val (enter c i a2 a3 a4 a5 a6 a7 a8 a13 a14 a15 a16 a17 a18 a19 a20 a21 a22 a23 a24 a25 a26 a27 a28 a29 a30 a31 g2 g3 g4 g5 g6 g7 g8 f13 f14 old2) where
  dv0 := by intros; apply enter_dv0 (hi := hi) (hf13 := hf13) (hf14 := hf14) (hold2 := hold2)
  dv1 := by intros; apply enter_dv1 (hi := hi) (hf13 := hf13) (hf14 := hf14) (hold2 := hold2)
  dk0 := by intros; apply enter_dk0 (hi := hi) (hf13 := hf13) (hf14 := hf14) (hold2 := hold2)
  dk1 := by intros; apply enter_dk1 (hi := hi) (hf13 := hf13) (hf14 := hf14) (hold2 := hold2)
  dc0 := by intros; apply enter_dc0 (hi := hi) (hf13 := hf13) (hf14 := hf14) (hold2 := hold2)
  dc1 := by intros; apply enter_dc1 (hi := hi) (hf13 := hf13) (hf14 := hf14) (hold2 := hold2)
  dcq := by intros; apply enter_dcq (hi := hi) (hf13 := hf13) (hf14 := hf14) (hold2 := hold2)
  dqt := by intros; apply enter_dqt (hi := hi) (hf13 := hf13) (hf14 := hf14) (hold2 := hold2)

end enter

section loop

variable (c : Dev nD) (i : grid0.Coords) (a2 : 𝕧 S8448x128 .bf16) (p2 : a2.IsWhole) (a3 : 𝕧 S8448x128 .bf16) (p3 : a3.IsWhole) (a4 : 𝕧 S768x128 .bf16) (p4 : a4.IsWhole) (a5 : 𝕧 S768x128 .bf16) (p5 : a5.IsWhole) (a6 : 𝕧 S2x11x1x768 .f32) (p6 : a6.IsWhole) (a7 : 𝕧 S2x11x1x768 .f32) (p7 : a7.IsWhole) (a8 : 𝕧 S2x11x1x768 .f32) (p8 : a8.IsWhole) (a9 : 𝕧 S8448x128 .bf16) (p9 : a9.IsWhole) (a10 : 𝕧 S768x128 .bf16) (p10 : a10.IsWhole) (a11 : 𝕧 S768x128 .bf16) (p11 : a11.IsWhole) (a12 : 𝕧 S2x1x1x768 .f32) (p12 : a12.IsWhole) (a13 : 𝕧 S2x11x1x768 .f32) (p13 : a13.IsWhole) (a14 : 𝕧 S11x128x768 .f32) (p14 : a14.IsWhole) (a15 : 𝕧 S128x768 .bf16) (p15 : a15.IsWhole) (a16 : 𝕧 S768x128 .f32) (p16 : a16.IsWhole) (a17 : 𝕧 S768x128 .f32) (p17 : a17.IsWhole) (a18 : 𝕧 S768x1 .f32) (p18 : a18.IsWhole) (a19 : 𝕧 S768x768 .f32) (p19 : a19.IsWhole) (a20 : 𝕧 S768x768 .f32) (p20 : a20.IsWhole) (a21 : 𝕧 S768x768 .bf16) (p21 : a21.IsWhole) (a22 : 𝕧 S768x768 .bf16) (p22 : a22.IsWhole) (a23 : 𝕧 S768x128 .f32) (p23 : a23.IsWhole) (a24 : 𝕧 S768x128 .f32) (p24 : a24.IsWhole) (a25 : 𝕧 S768x128 .f32) (p25 : a25.IsWhole) (a26 : 𝕧 S768x1 .f32) (p26 : a26.IsWhole) (a27 : 𝕧 S768x768 .f32) (p27 : a27.IsWhole) (a28 : 𝕧 S768x768 .f32) (p28 : a28.IsWhole) (a29 : 𝕧 S768x768 .bf16) (p29 : a29.IsWhole) (a30 : 𝕧 S768x768 .bf16) (p30 : a30.IsWhole) (a31 : 𝕧 S768x128 .f32) (p31 : a31.IsWhole) (a1 : BitVec 32) (v2 : IVec S768x128 1) (v6 : Vec Ideal S768x128 .bf16) (v7 : Vec Ideal S768x128 .bf16) (v16 : IVec S128x768 1) (v1108 : FVec Ideal S128x768 .f32) (v2130 : FVec Ideal S128x768 .f32) (v2140 : BitVec 32)
  (g2 : Buf (Elt Ideal) (a2.view.loc (c : 𝕋))) (g3 : Buf (Elt Ideal) (a3.view.loc (c : 𝕋))) (g6 : Buf (Elt Ideal) (a6.view.loc (c : 𝕋))) (g7 : Buf (Elt Ideal) (a7.view.loc (c : 𝕋))) (g8 : Buf (Elt Ideal) (a8.view.loc (c : 𝕋))) (g15 : Buf (Elt Ideal) (a15.view.loc (c : 𝕋))) (g23 : Buf (Elt Ideal) (a23.view.loc (c : 𝕋))) (g31 : Buf (Elt Ideal) (a31.view.loc (c : 𝕋))) (s : Carried Ideal c a13 a14 a16 a17 a18 a24 a25 a26)
  (G : Glob)

/-- Trip by trip. -/
theorem holds_carried (hf : Feeds c i a2 a3 a6 a7 a8 a15 a23 a31 v6 v7 g2 g3 g6 g7 g8 g15 g23 g31 G) (hs : Holds G (i 1).val (i 1).val s) :
    ∀ n, n ≤ (k0_t1_loop i).trips → Holds G (i 1).val ((i 1).val + n) (carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 k0_pay665 v6 v7 k0_pay669 v1108 v2130 v2140 g2 g3 g6 g7 g8 g15 g23 g31 s n)
  | 0, _ => by
    have e := carried_zero (s := s) c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 k0_pay665 v6 v7 k0_pay669 v1108 v2130 v2140 g2 g3 g6 g7 g8 g15 g23 g31
    rw [e]; exact hs
  | n + 1, hn => by
    have e := carried_succ (s := s) (k := ⟨n, hn⟩) (u := ()) c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 a1 k0_pay665 v6 v7 k0_pay669 v1108 v2130 v2140 g2 g3 g6 g7 g8 g15 g23 g31
    rw [e]
    exact holds_trip (m := (i 1).val + n) (hm := by show (i 1).val + n + 1 = (i 1).val + 1 + n; omega) (hf := hf) (hs := holds_carried hf hs n (by omega)) ..

end loop

section leave

variable (c : Dev nD) (i : grid0.Coords) (a2 : 𝕧 S8448x128 .bf16) (p2 : a2.IsWhole) (a3 : 𝕧 S8448x128 .bf16) (p3 : a3.IsWhole) (a4 : 𝕧 S768x128 .bf16) (p4 : a4.IsWhole) (a5 : 𝕧 S768x128 .bf16) (p5 : a5.IsWhole) (a6 : 𝕧 S2x11x1x768 .f32) (p6 : a6.IsWhole) (a7 : 𝕧 S2x11x1x768 .f32) (p7 : a7.IsWhole) (a8 : 𝕧 S2x11x1x768 .f32) (p8 : a8.IsWhole) (a9 : 𝕧 S8448x128 .bf16) (p9 : a9.IsWhole) (a10 : 𝕧 S768x128 .bf16) (p10 : a10.IsWhole) (a11 : 𝕧 S768x128 .bf16) (p11 : a11.IsWhole) (a12 : 𝕧 S2x1x1x768 .f32) (p12 : a12.IsWhole) (a13 : 𝕧 S2x11x1x768 .f32) (p13 : a13.IsWhole) (a14 : 𝕧 S11x128x768 .f32) (p14 : a14.IsWhole) (a15 : 𝕧 S128x768 .bf16) (p15 : a15.IsWhole) (a16 : 𝕧 S768x128 .f32) (p16 : a16.IsWhole) (a17 : 𝕧 S768x128 .f32) (p17 : a17.IsWhole) (a18 : 𝕧 S768x1 .f32) (p18 : a18.IsWhole) (a19 : 𝕧 S768x768 .f32) (p19 : a19.IsWhole) (a20 : 𝕧 S768x768 .f32) (p20 : a20.IsWhole) (a21 : 𝕧 S768x768 .bf16) (p21 : a21.IsWhole) (a22 : 𝕧 S768x768 .bf16) (p22 : a22.IsWhole) (a23 : 𝕧 S768x128 .f32) (p23 : a23.IsWhole) (a24 : 𝕧 S768x128 .f32) (p24 : a24.IsWhole) (a25 : 𝕧 S768x128 .f32) (p25 : a25.IsWhole) (a26 : 𝕧 S768x1 .f32) (p26 : a26.IsWhole) (a27 : 𝕧 S768x768 .f32) (p27 : a27.IsWhole) (a28 : 𝕧 S768x768 .f32) (p28 : a28.IsWhole) (a29 : 𝕧 S768x768 .bf16) (p29 : a29.IsWhole) (a30 : 𝕧 S768x768 .bf16) (p30 : a30.IsWhole) (a31 : 𝕧 S768x128 .f32) (p31 : a31.IsWhole) (g2 : Buf (Elt Ideal) (a2.view.loc (c : 𝕋))) (g3 : Buf (Elt Ideal) (a3.view.loc (c : 𝕋))) (g4 : Buf (Elt Ideal) (a4.view.loc (c : 𝕋))) (g5 : Buf (Elt Ideal) (a5.view.loc (c : 𝕋))) (g6 : Buf (Elt Ideal) (a6.view.loc (c : 𝕋))) (g7 : Buf (Elt Ideal) (a7.view.loc (c : 𝕋))) (g8 : Buf (Elt Ideal) (a8.view.loc (c : 𝕋))) (s : Carried Ideal c a13 a14 a16 a17 a18 a24 a25 a26)
  (G : Glob)

/-- The key block has met every query block. -/
theorem holds_leave (hi : Ins c i a2 a3 a4 a5 a6 a7 a8 g2 g3 g4 g5 g6 g7 g8 G) (hs : Holds G (i 1).val (i 1).val s) :
    Holds G (i 1).val 10 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 s) := by
  have h := holds_carried c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 (BitVec.ofNat 32 (i 1).val) (v6 := whole128 a4 g4) (v7 := whole128 a5 g5)
    (g2 := g2) (g3 := g3) (g6 := g6) (g7 := g7) (g8 := g8)
    (g15 := a15.view.writes (Elt Ideal) a15.view.junk [⟨Rect.unit (s := S128x768) ![0, 0] S128x768.size inb_S128x768_S128x768_0_0, k0_pay668 (whole128 a4 g4)⟩])
    (g23 := a23.view.writes (Elt Ideal) a23.view.junk (put128 (k0_pay673 (at13 a8 g8 (k0_off1 i) (k0_off1_inb i)))))
    (g31 := a31.view.writes (Elt Ideal) a31.view.junk (put128 (k0_pay673 (at13 a8 g8 (k0_off2 i) (k0_off2_inb i)))))
    (G := G) (s := s) (hs := hs) (n := (k0_t1_loop i).trips) (hf := {
      hQ := hi.hQ, hDO := hi.hDO, hL := hi.hL, hDl := hi.hDl, hC := hi.hC
      hK := fun r l => (whole128_at a4 g4 _).trans (hi.hK r l)
      hV := fun r l => (whole128_at a5 g5 _).trans (hi.hV r l)
      hT := fun l r => (whole_top a15.view a15.view.junk hz2 inb_S128x768_S128x768_0_0 (k0_pay668 (whole128 a4 g4)) [] _).trans ((pay668_at _ l r).trans ((whole128_at a4 g4 _).trans (hi.hK r l)))
      hC0 := fun r l => (put128_read (c := c) a23 _ (k0_pay673 (at13 a8 g8 (k0_off1 i) (k0_off1_inb i))) _).trans ((pay673_at _ _ _).trans ((at13_at a8 g8 _ _ 0 ⟨(i 1).val, row_lt i⟩ (off1_eq i) _).trans (hi.hC 0 _ _)))
      hC1 := fun r l => (put128_read (c := c) a31 _ (k0_pay673 (at13 a8 g8 (k0_off2 i) (k0_off2_inb i))) _).trans ((pay673_at _ _ _).trans ((at13_at a8 g8 _ _ 1 ⟨(i 1).val, row_lt i⟩ (off2_eq i) _).trans (hi.hC 1 _ _))) })
    (v1108 := k0_pay169 (a15.view.readCov [⟨Rect.unit (s := S128x768) ![0, 0] S128x768.size inb_S128x768_S128x768_0_0, k0_pay668 (whole128 a4 g4)⟩] (Rect.unit (s := S128x768) ![0, 0] S128x768.size inb_S128x768_S128x768_0_0).toLoadRect) (narrowOf a22 (eD0 c i a2 a3 a4 a5 a6 a7 a8 a19 a20 a23 g2 g3 g4 g5 g6 g7 g8)))
    (v2130 := k0_pay327 (a15.view.readCov [⟨Rect.unit (s := S128x768) ![0, 0] S128x768.size inb_S128x768_S128x768_0_0, k0_pay668 (whole128 a4 g4)⟩] (Rect.unit (s := S128x768) ![0, 0] S128x768.size inb_S128x768_S128x768_0_0).toLoadRect) (narrowOf a30 (eD1 c i a2 a3 a4 a5 a6 a7 a8 a27 a28 a31 g2 g3 g4 g5 g6 g7 g8)))
    (v2140 := Scalar.addi (BitVec.ofNat 32 (i 1).val) 1#32) (Nat.le_refl _)
  have e : (i 1).val + (k0_t1_loop i).trips = 10 := by
    have e1 := trips1_eq (i := i)
    have e2 := row_lt i
    rw [e1]; omega
  rw [e] at h
  exact h

end leave

end Cert.AttnBwdIdeal.Hand
-- ==== Proof.AttnI.Leave.lean ====
/-
  The carried buffers at the end of the loop, field by field, and the outputs made of them.
-/
module

public import proofs.«01_k».proof.Proof.AttnI.Enter

@[expose] public section

set_option maxRecDepth 16384

noncomputable section

namespace Cert.AttnBwdIdeal.Hand

open Cert.AttnBwdIdeal Cert.AttnBwdIdeal.Gen
open Idealize.ShloMosaic Idealize.ShloMosaic.TcCoe

local notation "𝕧" => Memref sig Kind.tc Space.vmem
local notation "𝕋" => Thread nD τ

variable {F : FTy → Type} [FloatOps F] [Named F]

variable (c : Dev nD) (i : grid0.Coords) (a2 : 𝕧 S8448x128 .bf16) (p2 : a2.IsWhole) (a3 : 𝕧 S8448x128 .bf16) (p3 : a3.IsWhole) (a4 : 𝕧 S768x128 .bf16) (p4 : a4.IsWhole) (a5 : 𝕧 S768x128 .bf16) (p5 : a5.IsWhole) (a6 : 𝕧 S2x11x1x768 .f32) (p6 : a6.IsWhole) (a7 : 𝕧 S2x11x1x768 .f32) (p7 : a7.IsWhole) (a8 : 𝕧 S2x11x1x768 .f32) (p8 : a8.IsWhole) (a9 : 𝕧 S8448x128 .bf16) (p9 : a9.IsWhole) (a10 : 𝕧 S768x128 .bf16) (p10 : a10.IsWhole) (a11 : 𝕧 S768x128 .bf16) (p11 : a11.IsWhole) (a12 : 𝕧 S2x1x1x768 .f32) (p12 : a12.IsWhole) (a13 : 𝕧 S2x11x1x768 .f32) (p13 : a13.IsWhole) (a14 : 𝕧 S11x128x768 .f32) (p14 : a14.IsWhole) (a15 : 𝕧 S128x768 .bf16) (p15 : a15.IsWhole) (a16 : 𝕧 S768x128 .f32) (p16 : a16.IsWhole) (a17 : 𝕧 S768x128 .f32) (p17 : a17.IsWhole) (a18 : 𝕧 S768x1 .f32) (p18 : a18.IsWhole) (a19 : 𝕧 S768x768 .f32) (p19 : a19.IsWhole) (a20 : 𝕧 S768x768 .f32) (p20 : a20.IsWhole) (a21 : 𝕧 S768x768 .bf16) (p21 : a21.IsWhole) (a22 : 𝕧 S768x768 .bf16) (p22 : a22.IsWhole) (a23 : 𝕧 S768x128 .f32) (p23 : a23.IsWhole) (a24 : 𝕧 S768x128 .f32) (p24 : a24.IsWhole) (a25 : 𝕧 S768x128 .f32) (p25 : a25.IsWhole) (a26 : 𝕧 S768x1 .f32) (p26 : a26.IsWhole) (a27 : 𝕧 S768x768 .f32) (p27 : a27.IsWhole) (a28 : 𝕧 S768x768 .f32) (p28 : a28.IsWhole) (a29 : 𝕧 S768x768 .bf16) (p29 : a29.IsWhole) (a30 : 𝕧 S768x768 .bf16) (p30 : a30.IsWhole) (a31 : 𝕧 S768x128 .f32) (p31 : a31.IsWhole) (g2 : Buf (Elt F) (a2.view.loc (c : 𝕋))) (g3 : Buf (Elt F) (a3.view.loc (c : 𝕋))) (g4 : Buf (Elt F) (a4.view.loc (c : 𝕋))) (g5 : Buf (Elt F) (a5.view.loc (c : 𝕋))) (g6 : Buf (Elt F) (a6.view.loc (c : 𝕋))) (g7 : Buf (Elt F) (a7.view.loc (c : 𝕋))) (g8 : Buf (Elt F) (a8.view.loc (c : 𝕋))) (s : Carried F c a13 a14 a16 a17 a18 a24 a25 a26)

/-- A field of the carried buffers at the end is the last trip's, or the entry's where there is no trip. -/
theorem leave_at {α : Type} (f : Carried F c a13 a14 a16 a17 a18 a24 a25 a26 → α) :
    pick (f s) (k0_t1_loop i).trips (f (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 s)) = f (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 s) := by
  unfold leave
  generalize (k0_t1_loop i).trips = n
  cases n <;> rfl

theorem inbQ (n : Fin 11) : ∀ a, (![768 * n.val, 0] : Fin 2 → ℕ) a + S768x128.size a ≤ S8448x128.size a := by
  revert n; decide
theorem inbT (n : Fin 11) : ∀ a, (![n.val, 0, 0] : Fin 3 → ℕ) a + S1x128x768.size a ≤ S11x128x768.size a := by
  revert n; decide

/-- The query gradient, a block of 768 rows for each block of the transposed one. -/
abbrev qOut (v : 𝕧 S11x128x768 .f32) {c : Dev nD} (f : Buf (Elt F) (v.view.loc (c : 𝕋))) :
    List (View.Piece (Elt F) S8448x128 .bf16) :=
  ([10, 9, 8, 7, 6, 5, 4, 3, 2, 1, 0] : List (Fin 11)).map fun n =>
    ⟨Rect.unit (s := S8448x128) ![768 * n.val, 0] S768x128.size (inbQ n), k0_pay653 (at14 v f ![n.val, 0, 0] (inbT n))⟩

/-- The key (and the value) gradient: lanes of the first head from its sum, of the second from the other. -/
abbrev kOut (a b : Vec F S768x128 .f32) : List (View.Piece (Elt F) S768x128 .bf16) :=
  [⟨Rect.unit (s := S768x128) ![0, 0] S768x128.size inb_S768x128_S768x128_0_0, k0_pay1023 k0_pay665 a b⟩]

/-- A column of row sums read whole. -/
abbrev whole1 (v : 𝕧 S768x1 .f32) {c : Dev nD} (f : Buf (Elt F) (v.view.loc (c : 𝕋))) :
    Vec F S768x1 .f32 :=
  View.readAt (Elt F) v.view (Rect.unit (s := S768x1) ![0, 0] S768x1.size inb_S768x1_S768x1_0_0).toLoadRect f

/-- The gradient of the cumulative gate at the key rows: less the row sums of each head. -/
abbrev cOut (a b : Vec F S768x1 .f32) : List (View.Piece (Elt F) S2x1x1x768 .f32) :=
  [⟨Rect.unit (s := S2x1x1x768) ![1, 0, 0, 0] S1x1x1x768.size inb_S2x1x1x768_S1x1x1x768_1_0_0_0, k0_pay2 b⟩,
   ⟨Rect.unit (s := S2x1x1x768) ![0, 0, 0, 0] S1x1x1x768.size inb_S2x1x1x768_S1x1x1x768_0_0_0_0,
    k0_pay1 (k0_pay1026 (k0_pay1025 a) (Scalar.ofBits .f32 0x00000000#32))⟩]

end Cert.AttnBwdIdeal.Hand
-- ==== Proof.AttnI.RunAEq.lean ====
/-
  The lists a run of case A stores before the loop, in the terms of the strips.
-/
module

public import proofs.«01_k».proof.Proof.AttnI.Enter
public import proofs.«01_k».proof.Proof.AttnI.RunA

@[expose] public section

set_option maxHeartbeats 400000
set_option maxRecDepth 16384

noncomputable section

namespace Cert.AttnBwdIdeal.Hand

open Cert.AttnBwdIdeal Cert.AttnBwdIdeal.Gen
open Idealize.ShloMosaic Idealize.ShloMosaic.TcCoe

local notation "𝕧" => Memref sig Kind.tc Space.vmem
local notation "𝕋" => Thread nD τ

variable {F : FTy → Type} [FloatOps F] [Named F]

variable (c : Dev nD) (i : grid0.Coords) (a2 : 𝕧 S8448x128 .bf16) (a3 : 𝕧 S8448x128 .bf16) (a4 : 𝕧 S768x128 .bf16) (a5 : 𝕧 S768x128 .bf16) (a6 : 𝕧 S2x11x1x768 .f32) (a7 : 𝕧 S2x11x1x768 .f32) (a8 : 𝕧 S2x11x1x768 .f32) (a13 : 𝕧 S2x11x1x768 .f32) (a14 : 𝕧 S11x128x768 .f32) (a15 : 𝕧 S128x768 .bf16) (a16 : 𝕧 S768x128 .f32) (a17 : 𝕧 S768x128 .f32) (a18 : 𝕧 S768x1 .f32) (a19 : 𝕧 S768x768 .f32) (a20 : 𝕧 S768x768 .f32) (a21 : 𝕧 S768x768 .bf16) (a22 : 𝕧 S768x768 .bf16) (a23 : 𝕧 S768x128 .f32) (a24 : 𝕧 S768x128 .f32) (a25 : 𝕧 S768x128 .f32) (a26 : 𝕧 S768x1 .f32) (a27 : 𝕧 S768x768 .f32) (a28 : 𝕧 S768x768 .f32) (a29 : 𝕧 S768x768 .bf16) (a30 : 𝕧 S768x768 .bf16) (a31 : 𝕧 S768x128 .f32) (g2 : Buf (Elt F) (a2.view.loc (c : 𝕋))) (g3 : Buf (Elt F) (a3.view.loc (c : 𝕋))) (g4 : Buf (Elt F) (a4.view.loc (c : 𝕋))) (g5 : Buf (Elt F) (a5.view.loc (c : 𝕋))) (g6 : Buf (Elt F) (a6.view.loc (c : 𝕋))) (g7 : Buf (Elt F) (a7.view.loc (c : 𝕋))) (g8 : Buf (Elt F) (a8.view.loc (c : 𝕋)))

theorem runA_H16_2 : runA.sl.H16_2 c i a2 a3 a4 a5 a6 a7 a8 a16 a19 a20 a22 a23 g2 g3 g4 g5 g6 g7 g8 = [⟨Rect.unit (s := S768x128) ![0, 0] S768x128.size inb_S768x128_S768x128_0_0, k0_pay168 (View.readAt (Elt F) a2.view (Rect.unit (s := S8448x128) (k0_off3 i) S768x128.size (k0_off3_inb i)).toLoadRect g2) (a16.view.readCov (put128 k0_pay670) (Rect.unit (s := S768x128) ![0, 0] S768x128.size inb_S768x128_S768x128_0_0).toLoadRect) (narrowOf a22 (eD0 c i a2 a3 a4 a5 a6 a7 a8 a19 a20 a23 g2 g3 g4 g5 g6 g7 g8))⟩, ⟨Rect.unit (s := S768x128) ![0, 0] S768x128.size inb_S768x128_S768x128_0_0, k0_pay670⟩] := rfl

theorem runA_H17_2 : runA.sl.H17_2 c i a2 a3 a4 a6 a8 a17 a19 a21 a23 g2 g3 g4 g6 g8 = [⟨Rect.unit (s := S768x128) ![0, 0] S768x128.size inb_S768x128_S768x128_0_0, k0_pay167 (View.readAt (Elt F) a3.view (Rect.unit (s := S8448x128) (k0_off3 i) S768x128.size (k0_off3_inb i)).toLoadRect g3) (a17.view.readCov (put128 k0_pay670) (Rect.unit (s := S768x128) ![0, 0] S768x128.size inb_S768x128_S768x128_0_0).toLoadRect) (narrowOf a21 (eW0 c i a2 a4 a6 a8 a19 a23 g2 g4 g6 g8))⟩, ⟨Rect.unit (s := S768x128) ![0, 0] S768x128.size inb_S768x128_S768x128_0_0, k0_pay670⟩] := rfl

theorem runA_H24_2 : runA.sl.H24_2 c i a2 a3 a4 a5 a6 a7 a8 a24 a27 a28 a30 a31 g2 g3 g4 g5 g6 g7 g8 = [⟨Rect.unit (s := S768x128) ![0, 0] S768x128.size inb_S768x128_S768x128_0_0, k0_pay168 (View.readAt (Elt F) a2.view (Rect.unit (s := S8448x128) (k0_off3 i) S768x128.size (k0_off3_inb i)).toLoadRect g2) (a24.view.readCov (put128 k0_pay670) (Rect.unit (s := S768x128) ![0, 0] S768x128.size inb_S768x128_S768x128_0_0).toLoadRect) (narrowOf a30 (eD1 c i a2 a3 a4 a5 a6 a7 a8 a27 a28 a31 g2 g3 g4 g5 g6 g7 g8))⟩, ⟨Rect.unit (s := S768x128) ![0, 0] S768x128.size inb_S768x128_S768x128_0_0, k0_pay670⟩] := rfl

theorem runA_H25_2 : runA.sl.H25_2 c i a2 a3 a4 a6 a8 a25 a27 a29 a31 g2 g3 g4 g6 g8 = [⟨Rect.unit (s := S768x128) ![0, 0] S768x128.size inb_S768x128_S768x128_0_0, k0_pay167 (View.readAt (Elt F) a3.view (Rect.unit (s := S8448x128) (k0_off3 i) S768x128.size (k0_off3_inb i)).toLoadRect g3) (a25.view.readCov (put128 k0_pay670) (Rect.unit (s := S768x128) ![0, 0] S768x128.size inb_S768x128_S768x128_0_0).toLoadRect) (narrowOf a29 (eW1 c i a2 a4 a6 a8 a27 a31 g2 g4 g6 g8))⟩, ⟨Rect.unit (s := S768x128) ![0, 0] S768x128.size inb_S768x128_S768x128_0_0, k0_pay670⟩] := rfl

theorem runA_H18_25 : runA.sl.H18_25 c i a2 a3 a4 a5 a6 a7 a8 a18 a19 a20 a23 g2 g3 g4 g5 g6 g7 g8 = rowRec a18 [⟨Rect.unit (s := S768x1) ![0, 0] S768x1.size inb_S768x1_S768x1_0_0, k0_pay672⟩] (eD0 c i a2 a3 a4 a5 a6 a7 a8 a19 a20 a23 g2 g3 g4 g5 g6 g7 g8) stripsR := rfl

theorem runA_H26_25 : runA.sl.H26_25 c i a2 a3 a4 a5 a6 a7 a8 a26 a27 a28 a31 g2 g3 g4 g5 g6 g7 g8 = rowRec a26 [⟨Rect.unit (s := S768x1) ![0, 0] S768x1.size inb_S768x1_S768x1_0_0, k0_pay672⟩] (eD1 c i a2 a3 a4 a5 a6 a7 a8 a27 a28 a31 g2 g3 g4 g5 g6 g7 g8) stripsR := rfl

theorem runA_r_67 : runA.sl.r_67 c i a2 a3 a4 a5 a6 a7 a8 a15 a19 a20 a22 a23 g2 g3 g4 g5 g6 g7 g8 = (k0_pay169 (a15.view.readCov [⟨Rect.unit (s := S128x768) ![0, 0] S128x768.size inb_S128x768_S128x768_0_0, k0_pay668 (whole128 a4 g4)⟩] (Rect.unit (s := S128x768) ![0, 0] S128x768.size inb_S128x768_S128x768_0_0).toLoadRect) (narrowOf a22 (eD0 c i a2 a3 a4 a5 a6 a7 a8 a19 a20 a23 g2 g3 g4 g5 g6 g7 g8))) := rfl

theorem runA_r_114 : runA.sl.r_114 c i a2 a3 a4 a5 a6 a7 a8 a15 a27 a28 a30 a31 g2 g3 g4 g5 g6 g7 g8 = (k0_pay327 (a15.view.readCov [⟨Rect.unit (s := S128x768) ![0, 0] S128x768.size inb_S128x768_S128x768_0_0, k0_pay668 (whole128 a4 g4)⟩] (Rect.unit (s := S128x768) ![0, 0] S128x768.size inb_S128x768_S128x768_0_0).toLoadRect) (narrowOf a30 (eD1 c i a2 a3 a4 a5 a6 a7 a8 a27 a28 a31 g2 g3 g4 g5 g6 g7 g8))) := rfl

theorem runA_H15_1 : runA.sl.H15_1 c a4 g4 = [⟨Rect.unit (s := S128x768) ![0, 0] S128x768.size inb_S128x768_S128x768_0_0, k0_pay668 (whole128 a4 g4)⟩] := rfl

theorem runA_H23_1 : runA.sl.H23_1 c i a8 g8 = put128 (k0_pay673 (at13 a8 g8 (k0_off1 i) (k0_off1_inb i))) := rfl

theorem runA_H31_1 : runA.sl.H31_1 c i a8 g8 = put128 (k0_pay673 (at13 a8 g8 (k0_off2 i) (k0_off2_inb i))) := rfl

theorem runA_r : runA.sl.r c a4 g4 = (whole128 a4 g4) := rfl

theorem runA_r_1 : runA.sl.r_1 c a5 g5 = (whole128 a5 g5) := rfl

theorem runA_H13_2 : runA.sl.H13_2 c i a2 a3 a4 a5 a6 a7 a8 a13 a19 a20 a23 g2 g3 g4 g5 g6 g7 g8 = put13 (k0_off1 i) (k0_off1_inb i) (k0_pay166 (colSum (eD0 c i a2 a3 a4 a5 a6 a7 a8 a19 a20 a23 g2 g3 g4 g5 g6 g7 g8)) (at13 a13 (c := c) (a13.view.writes (Elt F) a13.view.junk [⟨Rect.unit (s := S2x11x1x768) ![0, 0, 0, 0] S2x11x1x768.size inb_S2x11x1x768_S2x11x1x768_0_0_0_0, k0_pay667⟩]) (k0_off1 i) (k0_off1_inb i))) :: [⟨Rect.unit (s := S2x11x1x768) ![0, 0, 0, 0] S2x11x1x768.size inb_S2x11x1x768_S2x11x1x768_0_0_0_0, k0_pay667⟩] := by
  refine congrArg₂ List.cons (congrArg (put13 (k0_off1 i) (k0_off1_inb i)) ?_) ?_
  · change k0_pay166 _ _ = k0_pay166 _ _
    refine congrArg₂ k0_pay166 ?_ rfl
    dsimp only [colSum, colStep]
    rfl
  · rfl

theorem runA_H13_3 : runA.sl.H13_3 c i a2 a3 a4 a5 a6 a7 a8 a13 a19 a20 a23 a27 a28 a31 g2 g3 g4 g5 g6 g7 g8 = put13 (k0_off2 i) (k0_off2_inb i) (k0_pay166 (colSum (eD1 c i a2 a3 a4 a5 a6 a7 a8 a27 a28 a31 g2 g3 g4 g5 g6 g7 g8)) (at13 a13 (c := c) (a13.view.writes (Elt F) a13.view.junk (put13 (k0_off1 i) (k0_off1_inb i) (k0_pay166 (colSum (eD0 c i a2 a3 a4 a5 a6 a7 a8 a19 a20 a23 g2 g3 g4 g5 g6 g7 g8)) (at13 a13 (c := c) (a13.view.writes (Elt F) a13.view.junk [⟨Rect.unit (s := S2x11x1x768) ![0, 0, 0, 0] S2x11x1x768.size inb_S2x11x1x768_S2x11x1x768_0_0_0_0, k0_pay667⟩]) (k0_off1 i) (k0_off1_inb i))) :: [⟨Rect.unit (s := S2x11x1x768) ![0, 0, 0, 0] S2x11x1x768.size inb_S2x11x1x768_S2x11x1x768_0_0_0_0, k0_pay667⟩])) (k0_off2 i) (k0_off2_inb i))) :: put13 (k0_off1 i) (k0_off1_inb i) (k0_pay166 (colSum (eD0 c i a2 a3 a4 a5 a6 a7 a8 a19 a20 a23 g2 g3 g4 g5 g6 g7 g8)) (at13 a13 (c := c) (a13.view.writes (Elt F) a13.view.junk [⟨Rect.unit (s := S2x11x1x768) ![0, 0, 0, 0] S2x11x1x768.size inb_S2x11x1x768_S2x11x1x768_0_0_0_0, k0_pay667⟩]) (k0_off1 i) (k0_off1_inb i))) :: [⟨Rect.unit (s := S2x11x1x768) ![0, 0, 0, 0] S2x11x1x768.size inb_S2x11x1x768_S2x11x1x768_0_0_0_0, k0_pay667⟩] := by
  refine congrArg₂ List.cons (congrArg (put13 (k0_off2 i) (k0_off2_inb i)) ?_) ?_
  · change k0_pay166 _ _ = k0_pay166 _ _
    refine congrArg₂ k0_pay166 ?_ rfl
    dsimp only [colSum, colStep]
    rfl
  · rfl

end Cert.AttnBwdIdeal.Hand
-- ==== Proof.AttnI.RunAOut.lean ====
/-
  What a run of case A leaves, in the terms of the strips and the loop.
-/
module

public import proofs.«01_k».proof.Proof.AttnI.Leave
public import proofs.«01_k».proof.Proof.AttnI.RunAEq

@[expose] public section

set_option maxHeartbeats 800000
set_option maxRecDepth 16384

noncomputable section

namespace Cert.AttnBwdIdeal.Hand

open Cert.AttnBwdIdeal Cert.AttnBwdIdeal.Gen
open Idealize.ShloMosaic Idealize.ShloMosaic.TcCoe

local notation "𝕧" => Memref sig Kind.tc Space.vmem
local notation "𝕋" => Thread nD τ

variable {F : FTy → Type} [FloatOps F] [Named F]

variable (c : Dev nD) (i : grid0.Coords) (a2 : 𝕧 S8448x128 .bf16) (p2 : a2.IsWhole) (a3 : 𝕧 S8448x128 .bf16) (p3 : a3.IsWhole) (a4 : 𝕧 S768x128 .bf16) (p4 : a4.IsWhole) (a5 : 𝕧 S768x128 .bf16) (p5 : a5.IsWhole) (a6 : 𝕧 S2x11x1x768 .f32) (p6 : a6.IsWhole) (a7 : 𝕧 S2x11x1x768 .f32) (p7 : a7.IsWhole) (a8 : 𝕧 S2x11x1x768 .f32) (p8 : a8.IsWhole) (a9 : 𝕧 S8448x128 .bf16) (p9 : a9.IsWhole) (a10 : 𝕧 S768x128 .bf16) (p10 : a10.IsWhole) (a11 : 𝕧 S768x128 .bf16) (p11 : a11.IsWhole) (a12 : 𝕧 S2x1x1x768 .f32) (p12 : a12.IsWhole) (a13 : 𝕧 S2x11x1x768 .f32) (p13 : a13.IsWhole) (a14 : 𝕧 S11x128x768 .f32) (p14 : a14.IsWhole) (a15 : 𝕧 S128x768 .bf16) (p15 : a15.IsWhole) (a16 : 𝕧 S768x128 .f32) (p16 : a16.IsWhole) (a17 : 𝕧 S768x128 .f32) (p17 : a17.IsWhole) (a18 : 𝕧 S768x1 .f32) (p18 : a18.IsWhole) (a19 : 𝕧 S768x768 .f32) (p19 : a19.IsWhole) (a20 : 𝕧 S768x768 .f32) (p20 : a20.IsWhole) (a21 : 𝕧 S768x768 .bf16) (p21 : a21.IsWhole) (a22 : 𝕧 S768x768 .bf16) (p22 : a22.IsWhole) (a23 : 𝕧 S768x128 .f32) (p23 : a23.IsWhole) (a24 : 𝕧 S768x128 .f32) (p24 : a24.IsWhole) (a25 : 𝕧 S768x128 .f32) (p25 : a25.IsWhole) (a26 : 𝕧 S768x1 .f32) (p26 : a26.IsWhole) (a27 : 𝕧 S768x768 .f32) (p27 : a27.IsWhole) (a28 : 𝕧 S768x768 .f32) (p28 : a28.IsWhole) (a29 : 𝕧 S768x768 .bf16) (p29 : a29.IsWhole) (a30 : 𝕧 S768x768 .bf16) (p30 : a30.IsWhole) (a31 : 𝕧 S768x128 .f32) (p31 : a31.IsWhole) (hc0 : condFirst i) (hc1 : ¬ condLast i) (g2 : Buf (Elt F) (a2.view.loc (c : 𝕋))) (g3 : Buf (Elt F) (a3.view.loc (c : 𝕋))) (g4 : Buf (Elt F) (a4.view.loc (c : 𝕋))) (g5 : Buf (Elt F) (a5.view.loc (c : 𝕋))) (g6 : Buf (Elt F) (a6.view.loc (c : 𝕋))) (g7 : Buf (Elt F) (a7.view.loc (c : 𝕋))) (g8 : Buf (Elt F) (a8.view.loc (c : 𝕋)))

theorem runA_dk : (runA c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 hc0 hc1 g2 g3 g4 g5 g6 g7 g8).1.dk = kOut (whole128 a16 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 (a13.view.writes (Elt F) a13.view.junk [⟨Rect.unit (s := S2x11x1x768) ![0, 0, 0, 0] S2x11x1x768.size inb_S2x11x1x768_S2x11x1x768_0_0_0_0, k0_pay667⟩]) (a14.view.writes (Elt F) a14.view.junk [⟨Rect.unit (s := S11x128x768) ![0, 0, 0] S11x128x768.size inb_S11x128x768_S11x128x768_0_0_0, k0_pay666⟩]) (at13 a13 (c := c) (a13.view.writes (Elt F) a13.view.junk (put13 (k0_off1 i) (k0_off1_inb i) (k0_pay166 (colSum (eD0 c i a2 a3 a4 a5 a6 a7 a8 a19 a20 a23 g2 g3 g4 g5 g6 g7 g8)) (at13 a13 (c := c) (a13.view.writes (Elt F) a13.view.junk [⟨Rect.unit (s := S2x11x1x768) ![0, 0, 0, 0] S2x11x1x768.size inb_S2x11x1x768_S2x11x1x768_0_0_0_0, k0_pay667⟩]) (k0_off1 i) (k0_off1_inb i))) :: [⟨Rect.unit (s := S2x11x1x768) ![0, 0, 0, 0] S2x11x1x768.size inb_S2x11x1x768_S2x11x1x768_0_0_0_0, k0_pay667⟩])) (k0_off2 i) (k0_off2_inb i)))).dk0) (whole128 a24 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 (a13.view.writes (Elt F) a13.view.junk [⟨Rect.unit (s := S2x11x1x768) ![0, 0, 0, 0] S2x11x1x768.size inb_S2x11x1x768_S2x11x1x768_0_0_0_0, k0_pay667⟩]) (a14.view.writes (Elt F) a14.view.junk [⟨Rect.unit (s := S11x128x768) ![0, 0, 0] S11x128x768.size inb_S11x128x768_S11x128x768_0_0_0, k0_pay666⟩]) (at13 a13 (c := c) (a13.view.writes (Elt F) a13.view.junk (put13 (k0_off1 i) (k0_off1_inb i) (k0_pay166 (colSum (eD0 c i a2 a3 a4 a5 a6 a7 a8 a19 a20 a23 g2 g3 g4 g5 g6 g7 g8)) (at13 a13 (c := c) (a13.view.writes (Elt F) a13.view.junk [⟨Rect.unit (s := S2x11x1x768) ![0, 0, 0, 0] S2x11x1x768.size inb_S2x11x1x768_S2x11x1x768_0_0_0_0, k0_pay667⟩]) (k0_off1 i) (k0_off1_inb i))) :: [⟨Rect.unit (s := S2x11x1x768) ![0, 0, 0, 0] S2x11x1x768.size inb_S2x11x1x768_S2x11x1x768_0_0_0_0, k0_pay667⟩])) (k0_off2 i) (k0_off2_inb i)))).dk1) := by
  rw [← leave_at (f := Carried.dk0), ← leave_at (f := Carried.dk1)]
  unfold leave
  delta runA; dsimp only
  simp only [runA.sl.v2146, runA.sl.v2147, runA.sl.v2140, runA.sl.H14_1, runA_H16_2, runA_H17_2, runA_H24_2, runA_H25_2, runA_H18_25, runA_H26_25, runA_H15_1, runA_H23_1, runA_H31_1, runA_r_67, runA_r_114, runA_r, runA_r_1, runA_H13_3]
  have hn : (k0_t1_loop i).trips = Scf.trips (k0_t1_loop i).lb (k0_t1_loop i).ub (k0_t1_loop i).st := rfl
  dsimp only at hn
  rw [hn]
  generalize Scf.trips _ _ _ = n
  simp only [enter, ← View.writes_append, List.cons_append, List.nil_append]
  cases n <;> rfl

theorem runA_dv : (runA c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 hc0 hc1 g2 g3 g4 g5 g6 g7 g8).1.dv = kOut (whole128 a17 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 (a13.view.writes (Elt F) a13.view.junk [⟨Rect.unit (s := S2x11x1x768) ![0, 0, 0, 0] S2x11x1x768.size inb_S2x11x1x768_S2x11x1x768_0_0_0_0, k0_pay667⟩]) (a14.view.writes (Elt F) a14.view.junk [⟨Rect.unit (s := S11x128x768) ![0, 0, 0] S11x128x768.size inb_S11x128x768_S11x128x768_0_0_0, k0_pay666⟩]) (at13 a13 (c := c) (a13.view.writes (Elt F) a13.view.junk (put13 (k0_off1 i) (k0_off1_inb i) (k0_pay166 (colSum (eD0 c i a2 a3 a4 a5 a6 a7 a8 a19 a20 a23 g2 g3 g4 g5 g6 g7 g8)) (at13 a13 (c := c) (a13.view.writes (Elt F) a13.view.junk [⟨Rect.unit (s := S2x11x1x768) ![0, 0, 0, 0] S2x11x1x768.size inb_S2x11x1x768_S2x11x1x768_0_0_0_0, k0_pay667⟩]) (k0_off1 i) (k0_off1_inb i))) :: [⟨Rect.unit (s := S2x11x1x768) ![0, 0, 0, 0] S2x11x1x768.size inb_S2x11x1x768_S2x11x1x768_0_0_0_0, k0_pay667⟩])) (k0_off2 i) (k0_off2_inb i)))).dv0) (whole128 a25 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 (a13.view.writes (Elt F) a13.view.junk [⟨Rect.unit (s := S2x11x1x768) ![0, 0, 0, 0] S2x11x1x768.size inb_S2x11x1x768_S2x11x1x768_0_0_0_0, k0_pay667⟩]) (a14.view.writes (Elt F) a14.view.junk [⟨Rect.unit (s := S11x128x768) ![0, 0, 0] S11x128x768.size inb_S11x128x768_S11x128x768_0_0_0, k0_pay666⟩]) (at13 a13 (c := c) (a13.view.writes (Elt F) a13.view.junk (put13 (k0_off1 i) (k0_off1_inb i) (k0_pay166 (colSum (eD0 c i a2 a3 a4 a5 a6 a7 a8 a19 a20 a23 g2 g3 g4 g5 g6 g7 g8)) (at13 a13 (c := c) (a13.view.writes (Elt F) a13.view.junk [⟨Rect.unit (s := S2x11x1x768) ![0, 0, 0, 0] S2x11x1x768.size inb_S2x11x1x768_S2x11x1x768_0_0_0_0, k0_pay667⟩]) (k0_off1 i) (k0_off1_inb i))) :: [⟨Rect.unit (s := S2x11x1x768) ![0, 0, 0, 0] S2x11x1x768.size inb_S2x11x1x768_S2x11x1x768_0_0_0_0, k0_pay667⟩])) (k0_off2 i) (k0_off2_inb i)))).dv1) := by
  rw [← leave_at (f := Carried.dv0), ← leave_at (f := Carried.dv1)]
  unfold leave
  delta runA; dsimp only
  simp only [runA.sl.v2151, runA.sl.v2152, runA.sl.v2140, runA.sl.H14_1, runA_H16_2, runA_H17_2, runA_H24_2, runA_H25_2, runA_H18_25, runA_H26_25, runA_H15_1, runA_H23_1, runA_H31_1, runA_r_67, runA_r_114, runA_r, runA_r_1, runA_H13_3]
  have hn : (k0_t1_loop i).trips = Scf.trips (k0_t1_loop i).lb (k0_t1_loop i).ub (k0_t1_loop i).st := rfl
  dsimp only at hn
  rw [hn]
  generalize Scf.trips _ _ _ = n
  simp only [enter, ← View.writes_append, List.cons_append, List.nil_append]
  cases n <;> rfl

theorem runA_dcs : (runA c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 hc0 hc1 g2 g3 g4 g5 g6 g7 g8).1.dcs = cOut (whole1 a18 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 (a13.view.writes (Elt F) a13.view.junk [⟨Rect.unit (s := S2x11x1x768) ![0, 0, 0, 0] S2x11x1x768.size inb_S2x11x1x768_S2x11x1x768_0_0_0_0, k0_pay667⟩]) (a14.view.writes (Elt F) a14.view.junk [⟨Rect.unit (s := S11x128x768) ![0, 0, 0] S11x128x768.size inb_S11x128x768_S11x128x768_0_0_0, k0_pay666⟩]) (at13 a13 (c := c) (a13.view.writes (Elt F) a13.view.junk (put13 (k0_off1 i) (k0_off1_inb i) (k0_pay166 (colSum (eD0 c i a2 a3 a4 a5 a6 a7 a8 a19 a20 a23 g2 g3 g4 g5 g6 g7 g8)) (at13 a13 (c := c) (a13.view.writes (Elt F) a13.view.junk [⟨Rect.unit (s := S2x11x1x768) ![0, 0, 0, 0] S2x11x1x768.size inb_S2x11x1x768_S2x11x1x768_0_0_0_0, k0_pay667⟩]) (k0_off1 i) (k0_off1_inb i))) :: [⟨Rect.unit (s := S2x11x1x768) ![0, 0, 0, 0] S2x11x1x768.size inb_S2x11x1x768_S2x11x1x768_0_0_0_0, k0_pay667⟩])) (k0_off2 i) (k0_off2_inb i)))).dc0) (whole1 a26 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 (a13.view.writes (Elt F) a13.view.junk [⟨Rect.unit (s := S2x11x1x768) ![0, 0, 0, 0] S2x11x1x768.size inb_S2x11x1x768_S2x11x1x768_0_0_0_0, k0_pay667⟩]) (a14.view.writes (Elt F) a14.view.junk [⟨Rect.unit (s := S11x128x768) ![0, 0, 0] S11x128x768.size inb_S11x128x768_S11x128x768_0_0_0, k0_pay666⟩]) (at13 a13 (c := c) (a13.view.writes (Elt F) a13.view.junk (put13 (k0_off1 i) (k0_off1_inb i) (k0_pay166 (colSum (eD0 c i a2 a3 a4 a5 a6 a7 a8 a19 a20 a23 g2 g3 g4 g5 g6 g7 g8)) (at13 a13 (c := c) (a13.view.writes (Elt F) a13.view.junk [⟨Rect.unit (s := S2x11x1x768) ![0, 0, 0, 0] S2x11x1x768.size inb_S2x11x1x768_S2x11x1x768_0_0_0_0, k0_pay667⟩]) (k0_off1 i) (k0_off1_inb i))) :: [⟨Rect.unit (s := S2x11x1x768) ![0, 0, 0, 0] S2x11x1x768.size inb_S2x11x1x768_S2x11x1x768_0_0_0_0, k0_pay667⟩])) (k0_off2 i) (k0_off2_inb i)))).dc1) := by
  rw [← leave_at (f := Carried.dc0), ← leave_at (f := Carried.dc1)]
  unfold leave
  delta runA; dsimp only
  simp only [runA.sl.v2156, runA.sl.v2166, runA.sl.r_115, runA.sl.r_116, runA.sl.v2140, runA.sl.H14_1, runA_H16_2, runA_H17_2, runA_H24_2, runA_H25_2, runA_H18_25, runA_H26_25, runA_H15_1, runA_H23_1, runA_H31_1, runA_r_67, runA_r_114, runA_r, runA_r_1, runA_H13_3]
  have hn : (k0_t1_loop i).trips = Scf.trips (k0_t1_loop i).lb (k0_t1_loop i).ub (k0_t1_loop i).st := rfl
  dsimp only at hn
  rw [hn]
  generalize Scf.trips _ _ _ = n
  simp only [enter, ← View.writes_append, List.cons_append, List.nil_append]
  cases n <;> rfl

theorem runA_dcq : (runA c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 hc0 hc1 g2 g3 g4 g5 g6 g7 g8).1.dcq = (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 (a13.view.writes (Elt F) a13.view.junk [⟨Rect.unit (s := S2x11x1x768) ![0, 0, 0, 0] S2x11x1x768.size inb_S2x11x1x768_S2x11x1x768_0_0_0_0, k0_pay667⟩]) (a14.view.writes (Elt F) a14.view.junk [⟨Rect.unit (s := S11x128x768) ![0, 0, 0] S11x128x768.size inb_S11x128x768_S11x128x768_0_0_0, k0_pay666⟩]) (at13 a13 (c := c) (a13.view.writes (Elt F) a13.view.junk (put13 (k0_off1 i) (k0_off1_inb i) (k0_pay166 (colSum (eD0 c i a2 a3 a4 a5 a6 a7 a8 a19 a20 a23 g2 g3 g4 g5 g6 g7 g8)) (at13 a13 (c := c) (a13.view.writes (Elt F) a13.view.junk [⟨Rect.unit (s := S2x11x1x768) ![0, 0, 0, 0] S2x11x1x768.size inb_S2x11x1x768_S2x11x1x768_0_0_0_0, k0_pay667⟩]) (k0_off1 i) (k0_off1_inb i))) :: [⟨Rect.unit (s := S2x11x1x768) ![0, 0, 0, 0] S2x11x1x768.size inb_S2x11x1x768_S2x11x1x768_0_0_0_0, k0_pay667⟩])) (k0_off2 i) (k0_off2_inb i)))).dcq := by
  rw [← leave_at (f := Carried.dcq)]
  unfold leave
  delta runA; dsimp only
  simp only [runA.sl.v2140, runA.sl.H14_1, runA_H16_2, runA_H17_2, runA_H24_2, runA_H25_2, runA_H18_25, runA_H26_25, runA_H15_1, runA_H23_1, runA_H31_1, runA_r_67, runA_r_114, runA_r, runA_r_1, runA_H13_3]
  have hn : (k0_t1_loop i).trips = Scf.trips (k0_t1_loop i).lb (k0_t1_loop i).ub (k0_t1_loop i).st := rfl
  dsimp only at hn
  rw [hn]
  generalize Scf.trips _ _ _ = n
  simp only [enter, ← View.writes_append, List.cons_append, List.nil_append]
  exact congrArg₂ (fun a s => pick a n (Carried.dcq s)) rfl rfl

theorem runA_dqt : (runA c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 hc0 hc1 g2 g3 g4 g5 g6 g7 g8).1.dqt = (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 (a13.view.writes (Elt F) a13.view.junk [⟨Rect.unit (s := S2x11x1x768) ![0, 0, 0, 0] S2x11x1x768.size inb_S2x11x1x768_S2x11x1x768_0_0_0_0, k0_pay667⟩]) (a14.view.writes (Elt F) a14.view.junk [⟨Rect.unit (s := S11x128x768) ![0, 0, 0] S11x128x768.size inb_S11x128x768_S11x128x768_0_0_0, k0_pay666⟩]) (at13 a13 (c := c) (a13.view.writes (Elt F) a13.view.junk (put13 (k0_off1 i) (k0_off1_inb i) (k0_pay166 (colSum (eD0 c i a2 a3 a4 a5 a6 a7 a8 a19 a20 a23 g2 g3 g4 g5 g6 g7 g8)) (at13 a13 (c := c) (a13.view.writes (Elt F) a13.view.junk [⟨Rect.unit (s := S2x11x1x768) ![0, 0, 0, 0] S2x11x1x768.size inb_S2x11x1x768_S2x11x1x768_0_0_0_0, k0_pay667⟩]) (k0_off1 i) (k0_off1_inb i))) :: [⟨Rect.unit (s := S2x11x1x768) ![0, 0, 0, 0] S2x11x1x768.size inb_S2x11x1x768_S2x11x1x768_0_0_0_0, k0_pay667⟩])) (k0_off2 i) (k0_off2_inb i)))).dqt := by
  rw [← leave_at (f := Carried.dqt)]
  unfold leave
  delta runA; dsimp only
  simp only [runA.sl.H14_1, runA.sl.v2140, runA_H16_2, runA_H17_2, runA_H24_2, runA_H25_2, runA_H18_25, runA_H26_25, runA_H15_1, runA_H23_1, runA_H31_1, runA_r_67, runA_r_114, runA_r, runA_r_1, runA_H13_3]
  have hn : (k0_t1_loop i).trips = Scf.trips (k0_t1_loop i).lb (k0_t1_loop i).ub (k0_t1_loop i).st := rfl
  dsimp only at hn
  rw [hn]
  generalize Scf.trips _ _ _ = n
  simp only [enter, ← View.writes_append, List.cons_append, List.nil_append]
  exact congrArg₂ (fun a s => pick a n (Carried.dqt s)) rfl rfl

end Cert.AttnBwdIdeal.Hand
-- ==== Proof.AttnI.RunBEq.lean ====
/-
  The lists a run of case B stores before the loop, in the terms of the strips.
-/
module

public import proofs.«01_k».proof.Proof.AttnI.Enter
public import proofs.«01_k».proof.Proof.AttnI.RunB

@[expose] public section

set_option maxHeartbeats 400000
set_option maxRecDepth 16384

noncomputable section

namespace Cert.AttnBwdIdeal.Hand

open Cert.AttnBwdIdeal Cert.AttnBwdIdeal.Gen
open Idealize.ShloMosaic Idealize.ShloMosaic.TcCoe

local notation "𝕧" => Memref sig Kind.tc Space.vmem
local notation "𝕋" => Thread nD τ

variable {F : FTy → Type} [FloatOps F] [Named F]

variable (c : Dev nD) (i : grid0.Coords) (a2 : 𝕧 S8448x128 .bf16) (a3 : 𝕧 S8448x128 .bf16) (a4 : 𝕧 S768x128 .bf16) (a5 : 𝕧 S768x128 .bf16) (a6 : 𝕧 S2x11x1x768 .f32) (a7 : 𝕧 S2x11x1x768 .f32) (a8 : 𝕧 S2x11x1x768 .f32) (a13 : 𝕧 S2x11x1x768 .f32) (a14 : 𝕧 S11x128x768 .f32) (a15 : 𝕧 S128x768 .bf16) (a16 : 𝕧 S768x128 .f32) (a17 : 𝕧 S768x128 .f32) (a18 : 𝕧 S768x1 .f32) (a19 : 𝕧 S768x768 .f32) (a20 : 𝕧 S768x768 .f32) (a21 : 𝕧 S768x768 .bf16) (a22 : 𝕧 S768x768 .bf16) (a23 : 𝕧 S768x128 .f32) (a24 : 𝕧 S768x128 .f32) (a25 : 𝕧 S768x128 .f32) (a26 : 𝕧 S768x1 .f32) (a27 : 𝕧 S768x768 .f32) (a28 : 𝕧 S768x768 .f32) (a29 : 𝕧 S768x768 .bf16) (a30 : 𝕧 S768x768 .bf16) (a31 : 𝕧 S768x128 .f32) (g2 : Buf (Elt F) (a2.view.loc (c : 𝕋))) (g3 : Buf (Elt F) (a3.view.loc (c : 𝕋))) (g4 : Buf (Elt F) (a4.view.loc (c : 𝕋))) (g5 : Buf (Elt F) (a5.view.loc (c : 𝕋))) (g6 : Buf (Elt F) (a6.view.loc (c : 𝕋))) (g7 : Buf (Elt F) (a7.view.loc (c : 𝕋))) (g8 : Buf (Elt F) (a8.view.loc (c : 𝕋))) (f13 : Buf (Elt F) (a13.view.loc (c : 𝕋))) (f14 : Buf (Elt F) (a14.view.loc (c : 𝕋)))

theorem runB_H16_2 : runB.sl.H16_2 c i a2 a3 a4 a5 a6 a7 a8 a16 a19 a20 a22 a23 g2 g3 g4 g5 g6 g7 g8 = [⟨Rect.unit (s := S768x128) ![0, 0] S768x128.size inb_S768x128_S768x128_0_0, k0_pay168 (View.readAt (Elt F) a2.view (Rect.unit (s := S8448x128) (k0_off3 i) S768x128.size (k0_off3_inb i)).toLoadRect g2) (a16.view.readCov (put128 k0_pay670) (Rect.unit (s := S768x128) ![0, 0] S768x128.size inb_S768x128_S768x128_0_0).toLoadRect) (narrowOf a22 (eD0 c i a2 a3 a4 a5 a6 a7 a8 a19 a20 a23 g2 g3 g4 g5 g6 g7 g8))⟩, ⟨Rect.unit (s := S768x128) ![0, 0] S768x128.size inb_S768x128_S768x128_0_0, k0_pay670⟩] := rfl

theorem runB_H17_2 : runB.sl.H17_2 c i a2 a3 a4 a6 a8 a17 a19 a21 a23 g2 g3 g4 g6 g8 = [⟨Rect.unit (s := S768x128) ![0, 0] S768x128.size inb_S768x128_S768x128_0_0, k0_pay167 (View.readAt (Elt F) a3.view (Rect.unit (s := S8448x128) (k0_off3 i) S768x128.size (k0_off3_inb i)).toLoadRect g3) (a17.view.readCov (put128 k0_pay670) (Rect.unit (s := S768x128) ![0, 0] S768x128.size inb_S768x128_S768x128_0_0).toLoadRect) (narrowOf a21 (eW0 c i a2 a4 a6 a8 a19 a23 g2 g4 g6 g8))⟩, ⟨Rect.unit (s := S768x128) ![0, 0] S768x128.size inb_S768x128_S768x128_0_0, k0_pay670⟩] := rfl

theorem runB_H24_2 : runB.sl.H24_2 c i a2 a3 a4 a5 a6 a7 a8 a24 a27 a28 a30 a31 g2 g3 g4 g5 g6 g7 g8 = [⟨Rect.unit (s := S768x128) ![0, 0] S768x128.size inb_S768x128_S768x128_0_0, k0_pay168 (View.readAt (Elt F) a2.view (Rect.unit (s := S8448x128) (k0_off3 i) S768x128.size (k0_off3_inb i)).toLoadRect g2) (a24.view.readCov (put128 k0_pay670) (Rect.unit (s := S768x128) ![0, 0] S768x128.size inb_S768x128_S768x128_0_0).toLoadRect) (narrowOf a30 (eD1 c i a2 a3 a4 a5 a6 a7 a8 a27 a28 a31 g2 g3 g4 g5 g6 g7 g8))⟩, ⟨Rect.unit (s := S768x128) ![0, 0] S768x128.size inb_S768x128_S768x128_0_0, k0_pay670⟩] := rfl

theorem runB_H25_2 : runB.sl.H25_2 c i a2 a3 a4 a6 a8 a25 a27 a29 a31 g2 g3 g4 g6 g8 = [⟨Rect.unit (s := S768x128) ![0, 0] S768x128.size inb_S768x128_S768x128_0_0, k0_pay167 (View.readAt (Elt F) a3.view (Rect.unit (s := S8448x128) (k0_off3 i) S768x128.size (k0_off3_inb i)).toLoadRect g3) (a25.view.readCov (put128 k0_pay670) (Rect.unit (s := S768x128) ![0, 0] S768x128.size inb_S768x128_S768x128_0_0).toLoadRect) (narrowOf a29 (eW1 c i a2 a4 a6 a8 a27 a31 g2 g4 g6 g8))⟩, ⟨Rect.unit (s := S768x128) ![0, 0] S768x128.size inb_S768x128_S768x128_0_0, k0_pay670⟩] := rfl

theorem runB_H18_25 : runB.sl.H18_25 c i a2 a3 a4 a5 a6 a7 a8 a18 a19 a20 a23 g2 g3 g4 g5 g6 g7 g8 = rowRec a18 [⟨Rect.unit (s := S768x1) ![0, 0] S768x1.size inb_S768x1_S768x1_0_0, k0_pay672⟩] (eD0 c i a2 a3 a4 a5 a6 a7 a8 a19 a20 a23 g2 g3 g4 g5 g6 g7 g8) stripsR := rfl

theorem runB_H26_25 : runB.sl.H26_25 c i a2 a3 a4 a5 a6 a7 a8 a26 a27 a28 a31 g2 g3 g4 g5 g6 g7 g8 = rowRec a26 [⟨Rect.unit (s := S768x1) ![0, 0] S768x1.size inb_S768x1_S768x1_0_0, k0_pay672⟩] (eD1 c i a2 a3 a4 a5 a6 a7 a8 a27 a28 a31 g2 g3 g4 g5 g6 g7 g8) stripsR := rfl

theorem runB_r_67 : runB.sl.r_67 c i a2 a3 a4 a5 a6 a7 a8 a15 a19 a20 a22 a23 g2 g3 g4 g5 g6 g7 g8 = (k0_pay169 (a15.view.readCov [⟨Rect.unit (s := S128x768) ![0, 0] S128x768.size inb_S128x768_S128x768_0_0, k0_pay668 (whole128 a4 g4)⟩] (Rect.unit (s := S128x768) ![0, 0] S128x768.size inb_S128x768_S128x768_0_0).toLoadRect) (narrowOf a22 (eD0 c i a2 a3 a4 a5 a6 a7 a8 a19 a20 a23 g2 g3 g4 g5 g6 g7 g8))) := rfl

theorem runB_r_114 : runB.sl.r_114 c i a2 a3 a4 a5 a6 a7 a8 a15 a27 a28 a30 a31 g2 g3 g4 g5 g6 g7 g8 = (k0_pay327 (a15.view.readCov [⟨Rect.unit (s := S128x768) ![0, 0] S128x768.size inb_S128x768_S128x768_0_0, k0_pay668 (whole128 a4 g4)⟩] (Rect.unit (s := S128x768) ![0, 0] S128x768.size inb_S128x768_S128x768_0_0).toLoadRect) (narrowOf a30 (eD1 c i a2 a3 a4 a5 a6 a7 a8 a27 a28 a31 g2 g3 g4 g5 g6 g7 g8))) := rfl

theorem runB_H15_1 : runB.sl.H15_1 c a4 g4 = [⟨Rect.unit (s := S128x768) ![0, 0] S128x768.size inb_S128x768_S128x768_0_0, k0_pay668 (whole128 a4 g4)⟩] := rfl

theorem runB_H23_1 : runB.sl.H23_1 c i a8 g8 = put128 (k0_pay673 (at13 a8 g8 (k0_off1 i) (k0_off1_inb i))) := rfl

theorem runB_H31_1 : runB.sl.H31_1 c i a8 g8 = put128 (k0_pay673 (at13 a8 g8 (k0_off2 i) (k0_off2_inb i))) := rfl

theorem runB_r : runB.sl.r c a4 g4 = (whole128 a4 g4) := rfl

theorem runB_r_1 : runB.sl.r_1 c a5 g5 = (whole128 a5 g5) := rfl

theorem runB_H13_1 : runB.sl.H13_1 c i a2 a3 a4 a5 a6 a7 a8 a13 a19 a20 a23 g2 g3 g4 g5 g6 g7 g8 f13 = [put13 (k0_off1 i) (k0_off1_inb i) (k0_pay166 (colSum (eD0 c i a2 a3 a4 a5 a6 a7 a8 a19 a20 a23 g2 g3 g4 g5 g6 g7 g8)) (at13 a13 f13 (k0_off1 i) (k0_off1_inb i)))] := by
  refine congrArg₂ List.cons (congrArg (put13 (k0_off1 i) (k0_off1_inb i)) ?_) ?_
  · change k0_pay166 _ _ = k0_pay166 _ _
    refine congrArg₂ k0_pay166 ?_ rfl
    dsimp only [colSum, colStep]
    rfl
  · rfl

theorem runB_H13_2 : runB.sl.H13_2 c i a2 a3 a4 a5 a6 a7 a8 a13 a19 a20 a23 a27 a28 a31 g2 g3 g4 g5 g6 g7 g8 f13 = [put13 (k0_off2 i) (k0_off2_inb i) (k0_pay166 (colSum (eD1 c i a2 a3 a4 a5 a6 a7 a8 a27 a28 a31 g2 g3 g4 g5 g6 g7 g8)) (at13 a13 f13 (k0_off2 i) (k0_off2_inb i))), put13 (k0_off1 i) (k0_off1_inb i) (k0_pay166 (colSum (eD0 c i a2 a3 a4 a5 a6 a7 a8 a19 a20 a23 g2 g3 g4 g5 g6 g7 g8)) (at13 a13 f13 (k0_off1 i) (k0_off1_inb i)))] := by
  refine congrArg₂ List.cons (congrArg (put13 (k0_off2 i) (k0_off2_inb i)) ?_) ?_
  · change k0_pay166 _ _ = k0_pay166 _ _
    refine congrArg₂ k0_pay166 ?_ rfl
    dsimp only [colSum, colStep]
    rfl
  · exact runB_H13_1 c i a2 a3 a4 a5 a6 a7 a8 a13 a19 a20 a23 g2 g3 g4 g5 g6 g7 g8 f13

end Cert.AttnBwdIdeal.Hand
-- ==== Proof.AttnI.RunBOut.lean ====
/-
  What a run of case B leaves, in the terms of the strips and the loop.
-/
module

public import proofs.«01_k».proof.Proof.AttnI.Leave
public import proofs.«01_k».proof.Proof.AttnI.RunBEq

@[expose] public section

set_option maxHeartbeats 800000
set_option maxRecDepth 16384

noncomputable section

namespace Cert.AttnBwdIdeal.Hand

open Cert.AttnBwdIdeal Cert.AttnBwdIdeal.Gen
open Idealize.ShloMosaic Idealize.ShloMosaic.TcCoe

local notation "𝕧" => Memref sig Kind.tc Space.vmem
local notation "𝕋" => Thread nD τ

variable {F : FTy → Type} [FloatOps F] [Named F]

variable (c : Dev nD) (i : grid0.Coords) (a2 : 𝕧 S8448x128 .bf16) (p2 : a2.IsWhole) (a3 : 𝕧 S8448x128 .bf16) (p3 : a3.IsWhole) (a4 : 𝕧 S768x128 .bf16) (p4 : a4.IsWhole) (a5 : 𝕧 S768x128 .bf16) (p5 : a5.IsWhole) (a6 : 𝕧 S2x11x1x768 .f32) (p6 : a6.IsWhole) (a7 : 𝕧 S2x11x1x768 .f32) (p7 : a7.IsWhole) (a8 : 𝕧 S2x11x1x768 .f32) (p8 : a8.IsWhole) (a9 : 𝕧 S8448x128 .bf16) (p9 : a9.IsWhole) (a10 : 𝕧 S768x128 .bf16) (p10 : a10.IsWhole) (a11 : 𝕧 S768x128 .bf16) (p11 : a11.IsWhole) (a12 : 𝕧 S2x1x1x768 .f32) (p12 : a12.IsWhole) (a13 : 𝕧 S2x11x1x768 .f32) (p13 : a13.IsWhole) (a14 : 𝕧 S11x128x768 .f32) (p14 : a14.IsWhole) (a15 : 𝕧 S128x768 .bf16) (p15 : a15.IsWhole) (a16 : 𝕧 S768x128 .f32) (p16 : a16.IsWhole) (a17 : 𝕧 S768x128 .f32) (p17 : a17.IsWhole) (a18 : 𝕧 S768x1 .f32) (p18 : a18.IsWhole) (a19 : 𝕧 S768x768 .f32) (p19 : a19.IsWhole) (a20 : 𝕧 S768x768 .f32) (p20 : a20.IsWhole) (a21 : 𝕧 S768x768 .bf16) (p21 : a21.IsWhole) (a22 : 𝕧 S768x768 .bf16) (p22 : a22.IsWhole) (a23 : 𝕧 S768x128 .f32) (p23 : a23.IsWhole) (a24 : 𝕧 S768x128 .f32) (p24 : a24.IsWhole) (a25 : 𝕧 S768x128 .f32) (p25 : a25.IsWhole) (a26 : 𝕧 S768x1 .f32) (p26 : a26.IsWhole) (a27 : 𝕧 S768x768 .f32) (p27 : a27.IsWhole) (a28 : 𝕧 S768x768 .f32) (p28 : a28.IsWhole) (a29 : 𝕧 S768x768 .bf16) (p29 : a29.IsWhole) (a30 : 𝕧 S768x768 .bf16) (p30 : a30.IsWhole) (a31 : 𝕧 S768x128 .f32) (p31 : a31.IsWhole) (hc0 : ¬ condFirst i) (hc1 : ¬ condLast i) (g2 : Buf (Elt F) (a2.view.loc (c : 𝕋))) (g3 : Buf (Elt F) (a3.view.loc (c : 𝕋))) (g4 : Buf (Elt F) (a4.view.loc (c : 𝕋))) (g5 : Buf (Elt F) (a5.view.loc (c : 𝕋))) (g6 : Buf (Elt F) (a6.view.loc (c : 𝕋))) (g7 : Buf (Elt F) (a7.view.loc (c : 𝕋))) (g8 : Buf (Elt F) (a8.view.loc (c : 𝕋))) (f13 : Buf (Elt F) (a13.view.loc (c : 𝕋))) (f14 : Buf (Elt F) (a14.view.loc (c : 𝕋)))

theorem runB_dk : (runB c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 hc0 hc1 g2 g3 g4 g5 g6 g7 g8 f13 f14).1.dk = kOut (whole128 a16 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 f13 f14 (at13 a13 f13 (k0_off2 i) (k0_off2_inb i)))).dk0) (whole128 a24 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 f13 f14 (at13 a13 f13 (k0_off2 i) (k0_off2_inb i)))).dk1) := by
  rw [← leave_at (f := Carried.dk0), ← leave_at (f := Carried.dk1)]
  unfold leave
  delta runB; dsimp only
  simp only [runB.sl.v2146, runB.sl.v2147, runB.sl.v2140, runB_H16_2, runB_H17_2, runB_H24_2, runB_H25_2, runB_H18_25, runB_H26_25, runB_H15_1, runB_H23_1, runB_H31_1, runB_r_67, runB_r_114, runB_r, runB_r_1, runB_H13_2]
  have hn : (k0_t1_loop i).trips = Scf.trips (k0_t1_loop i).lb (k0_t1_loop i).ub (k0_t1_loop i).st := rfl
  dsimp only at hn
  rw [hn]
  generalize Scf.trips _ _ _ = n
  simp only [enter, ← View.writes_append, List.cons_append, List.nil_append]
  cases n <;> rfl

theorem runB_dv : (runB c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 hc0 hc1 g2 g3 g4 g5 g6 g7 g8 f13 f14).1.dv = kOut (whole128 a17 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 f13 f14 (at13 a13 f13 (k0_off2 i) (k0_off2_inb i)))).dv0) (whole128 a25 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 f13 f14 (at13 a13 f13 (k0_off2 i) (k0_off2_inb i)))).dv1) := by
  rw [← leave_at (f := Carried.dv0), ← leave_at (f := Carried.dv1)]
  unfold leave
  delta runB; dsimp only
  simp only [runB.sl.v2151, runB.sl.v2152, runB.sl.v2140, runB_H16_2, runB_H17_2, runB_H24_2, runB_H25_2, runB_H18_25, runB_H26_25, runB_H15_1, runB_H23_1, runB_H31_1, runB_r_67, runB_r_114, runB_r, runB_r_1, runB_H13_2]
  have hn : (k0_t1_loop i).trips = Scf.trips (k0_t1_loop i).lb (k0_t1_loop i).ub (k0_t1_loop i).st := rfl
  dsimp only at hn
  rw [hn]
  generalize Scf.trips _ _ _ = n
  simp only [enter, ← View.writes_append, List.cons_append, List.nil_append]
  cases n <;> rfl

theorem runB_dcs : (runB c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 hc0 hc1 g2 g3 g4 g5 g6 g7 g8 f13 f14).1.dcs = cOut (whole1 a18 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 f13 f14 (at13 a13 f13 (k0_off2 i) (k0_off2_inb i)))).dc0) (whole1 a26 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 f13 f14 (at13 a13 f13 (k0_off2 i) (k0_off2_inb i)))).dc1) := by
  rw [← leave_at (f := Carried.dc0), ← leave_at (f := Carried.dc1)]
  unfold leave
  delta runB; dsimp only
  simp only [runB.sl.v2156, runB.sl.v2166, runB.sl.r_115, runB.sl.r_116, runB.sl.v2140, runB_H16_2, runB_H17_2, runB_H24_2, runB_H25_2, runB_H18_25, runB_H26_25, runB_H15_1, runB_H23_1, runB_H31_1, runB_r_67, runB_r_114, runB_r, runB_r_1, runB_H13_2]
  have hn : (k0_t1_loop i).trips = Scf.trips (k0_t1_loop i).lb (k0_t1_loop i).ub (k0_t1_loop i).st := rfl
  dsimp only at hn
  rw [hn]
  generalize Scf.trips _ _ _ = n
  simp only [enter, ← View.writes_append, List.cons_append, List.nil_append]
  cases n <;> rfl

theorem runB_dcq : (runB c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 hc0 hc1 g2 g3 g4 g5 g6 g7 g8 f13 f14).1.dcq = (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 f13 f14 (at13 a13 f13 (k0_off2 i) (k0_off2_inb i)))).dcq := by
  rw [← leave_at (f := Carried.dcq)]
  unfold leave
  delta runB; dsimp only
  simp only [runB.sl.v2140, runB_H16_2, runB_H17_2, runB_H24_2, runB_H25_2, runB_H18_25, runB_H26_25, runB_H15_1, runB_H23_1, runB_H31_1, runB_r_67, runB_r_114, runB_r, runB_r_1, runB_H13_2]
  have hn : (k0_t1_loop i).trips = Scf.trips (k0_t1_loop i).lb (k0_t1_loop i).ub (k0_t1_loop i).st := rfl
  dsimp only at hn
  rw [hn]
  generalize Scf.trips _ _ _ = n
  simp only [enter, ← View.writes_append, List.cons_append, List.nil_append]
  exact congrArg₂ (fun a s => pick a n (Carried.dcq s)) rfl rfl

theorem runB_dqt : (runB c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 hc0 hc1 g2 g3 g4 g5 g6 g7 g8 f13 f14).1.dqt = (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 f13 f14 (at13 a13 f13 (k0_off2 i) (k0_off2_inb i)))).dqt := by
  rw [← leave_at (f := Carried.dqt)]
  unfold leave
  delta runB; dsimp only
  simp only [runB.sl.v2140, runB_H16_2, runB_H17_2, runB_H24_2, runB_H25_2, runB_H18_25, runB_H26_25, runB_H15_1, runB_H23_1, runB_H31_1, runB_r_67, runB_r_114, runB_r, runB_r_1, runB_H13_2]
  have hn : (k0_t1_loop i).trips = Scf.trips (k0_t1_loop i).lb (k0_t1_loop i).ub (k0_t1_loop i).st := rfl
  dsimp only at hn
  rw [hn]
  generalize Scf.trips _ _ _ = n
  simp only [enter, ← View.writes_append, List.cons_append, List.nil_append]
  exact congrArg₂ (fun a s => pick a n (Carried.dqt s)) rfl rfl

end Cert.AttnBwdIdeal.Hand
-- ==== Proof.AttnI.RunCEq.lean ====
/-
  The lists a run of case C stores before the loop, in the terms of the strips.
-/
module

public import proofs.«01_k».proof.Proof.AttnI.Enter
public import proofs.«01_k».proof.Proof.AttnI.RunC

@[expose] public section

set_option maxHeartbeats 400000
set_option maxRecDepth 16384

noncomputable section

namespace Cert.AttnBwdIdeal.Hand

open Cert.AttnBwdIdeal Cert.AttnBwdIdeal.Gen
open Idealize.ShloMosaic Idealize.ShloMosaic.TcCoe

local notation "𝕧" => Memref sig Kind.tc Space.vmem
local notation "𝕋" => Thread nD τ

variable {F : FTy → Type} [FloatOps F] [Named F]

variable (c : Dev nD) (i : grid0.Coords) (a2 : 𝕧 S8448x128 .bf16) (a3 : 𝕧 S8448x128 .bf16) (a4 : 𝕧 S768x128 .bf16) (a5 : 𝕧 S768x128 .bf16) (a6 : 𝕧 S2x11x1x768 .f32) (a7 : 𝕧 S2x11x1x768 .f32) (a8 : 𝕧 S2x11x1x768 .f32) (a13 : 𝕧 S2x11x1x768 .f32) (a14 : 𝕧 S11x128x768 .f32) (a15 : 𝕧 S128x768 .bf16) (a16 : 𝕧 S768x128 .f32) (a17 : 𝕧 S768x128 .f32) (a18 : 𝕧 S768x1 .f32) (a19 : 𝕧 S768x768 .f32) (a20 : 𝕧 S768x768 .f32) (a21 : 𝕧 S768x768 .bf16) (a22 : 𝕧 S768x768 .bf16) (a23 : 𝕧 S768x128 .f32) (a24 : 𝕧 S768x128 .f32) (a25 : 𝕧 S768x128 .f32) (a26 : 𝕧 S768x1 .f32) (a27 : 𝕧 S768x768 .f32) (a28 : 𝕧 S768x768 .f32) (a29 : 𝕧 S768x768 .bf16) (a30 : 𝕧 S768x768 .bf16) (a31 : 𝕧 S768x128 .f32) (g2 : Buf (Elt F) (a2.view.loc (c : 𝕋))) (g3 : Buf (Elt F) (a3.view.loc (c : 𝕋))) (g4 : Buf (Elt F) (a4.view.loc (c : 𝕋))) (g5 : Buf (Elt F) (a5.view.loc (c : 𝕋))) (g6 : Buf (Elt F) (a6.view.loc (c : 𝕋))) (g7 : Buf (Elt F) (a7.view.loc (c : 𝕋))) (g8 : Buf (Elt F) (a8.view.loc (c : 𝕋))) (f13 : Buf (Elt F) (a13.view.loc (c : 𝕋))) (f14 : Buf (Elt F) (a14.view.loc (c : 𝕋)))

theorem runC_H16_2 : runC.sl.H16_2 c i a2 a3 a4 a5 a6 a7 a8 a16 a19 a20 a22 a23 g2 g3 g4 g5 g6 g7 g8 = [⟨Rect.unit (s := S768x128) ![0, 0] S768x128.size inb_S768x128_S768x128_0_0, k0_pay168 (View.readAt (Elt F) a2.view (Rect.unit (s := S8448x128) (k0_off3 i) S768x128.size (k0_off3_inb i)).toLoadRect g2) (a16.view.readCov (put128 k0_pay670) (Rect.unit (s := S768x128) ![0, 0] S768x128.size inb_S768x128_S768x128_0_0).toLoadRect) (narrowOf a22 (eD0 c i a2 a3 a4 a5 a6 a7 a8 a19 a20 a23 g2 g3 g4 g5 g6 g7 g8))⟩, ⟨Rect.unit (s := S768x128) ![0, 0] S768x128.size inb_S768x128_S768x128_0_0, k0_pay670⟩] := rfl

theorem runC_H17_2 : runC.sl.H17_2 c i a2 a3 a4 a6 a8 a17 a19 a21 a23 g2 g3 g4 g6 g8 = [⟨Rect.unit (s := S768x128) ![0, 0] S768x128.size inb_S768x128_S768x128_0_0, k0_pay167 (View.readAt (Elt F) a3.view (Rect.unit (s := S8448x128) (k0_off3 i) S768x128.size (k0_off3_inb i)).toLoadRect g3) (a17.view.readCov (put128 k0_pay670) (Rect.unit (s := S768x128) ![0, 0] S768x128.size inb_S768x128_S768x128_0_0).toLoadRect) (narrowOf a21 (eW0 c i a2 a4 a6 a8 a19 a23 g2 g4 g6 g8))⟩, ⟨Rect.unit (s := S768x128) ![0, 0] S768x128.size inb_S768x128_S768x128_0_0, k0_pay670⟩] := rfl

theorem runC_H24_2 : runC.sl.H24_2 c i a2 a3 a4 a5 a6 a7 a8 a24 a27 a28 a30 a31 g2 g3 g4 g5 g6 g7 g8 = [⟨Rect.unit (s := S768x128) ![0, 0] S768x128.size inb_S768x128_S768x128_0_0, k0_pay168 (View.readAt (Elt F) a2.view (Rect.unit (s := S8448x128) (k0_off3 i) S768x128.size (k0_off3_inb i)).toLoadRect g2) (a24.view.readCov (put128 k0_pay670) (Rect.unit (s := S768x128) ![0, 0] S768x128.size inb_S768x128_S768x128_0_0).toLoadRect) (narrowOf a30 (eD1 c i a2 a3 a4 a5 a6 a7 a8 a27 a28 a31 g2 g3 g4 g5 g6 g7 g8))⟩, ⟨Rect.unit (s := S768x128) ![0, 0] S768x128.size inb_S768x128_S768x128_0_0, k0_pay670⟩] := rfl

theorem runC_H25_2 : runC.sl.H25_2 c i a2 a3 a4 a6 a8 a25 a27 a29 a31 g2 g3 g4 g6 g8 = [⟨Rect.unit (s := S768x128) ![0, 0] S768x128.size inb_S768x128_S768x128_0_0, k0_pay167 (View.readAt (Elt F) a3.view (Rect.unit (s := S8448x128) (k0_off3 i) S768x128.size (k0_off3_inb i)).toLoadRect g3) (a25.view.readCov (put128 k0_pay670) (Rect.unit (s := S768x128) ![0, 0] S768x128.size inb_S768x128_S768x128_0_0).toLoadRect) (narrowOf a29 (eW1 c i a2 a4 a6 a8 a27 a31 g2 g4 g6 g8))⟩, ⟨Rect.unit (s := S768x128) ![0, 0] S768x128.size inb_S768x128_S768x128_0_0, k0_pay670⟩] := rfl

theorem runC_H18_25 : runC.sl.H18_25 c i a2 a3 a4 a5 a6 a7 a8 a18 a19 a20 a23 g2 g3 g4 g5 g6 g7 g8 = rowRec a18 [⟨Rect.unit (s := S768x1) ![0, 0] S768x1.size inb_S768x1_S768x1_0_0, k0_pay672⟩] (eD0 c i a2 a3 a4 a5 a6 a7 a8 a19 a20 a23 g2 g3 g4 g5 g6 g7 g8) stripsR := rfl

theorem runC_H26_25 : runC.sl.H26_25 c i a2 a3 a4 a5 a6 a7 a8 a26 a27 a28 a31 g2 g3 g4 g5 g6 g7 g8 = rowRec a26 [⟨Rect.unit (s := S768x1) ![0, 0] S768x1.size inb_S768x1_S768x1_0_0, k0_pay672⟩] (eD1 c i a2 a3 a4 a5 a6 a7 a8 a27 a28 a31 g2 g3 g4 g5 g6 g7 g8) stripsR := rfl

theorem runC_r_67 : runC.sl.r_67 c i a2 a3 a4 a5 a6 a7 a8 a15 a19 a20 a22 a23 g2 g3 g4 g5 g6 g7 g8 = (k0_pay169 (a15.view.readCov [⟨Rect.unit (s := S128x768) ![0, 0] S128x768.size inb_S128x768_S128x768_0_0, k0_pay668 (whole128 a4 g4)⟩] (Rect.unit (s := S128x768) ![0, 0] S128x768.size inb_S128x768_S128x768_0_0).toLoadRect) (narrowOf a22 (eD0 c i a2 a3 a4 a5 a6 a7 a8 a19 a20 a23 g2 g3 g4 g5 g6 g7 g8))) := rfl

theorem runC_r_114 : runC.sl.r_114 c i a2 a3 a4 a5 a6 a7 a8 a15 a27 a28 a30 a31 g2 g3 g4 g5 g6 g7 g8 = (k0_pay327 (a15.view.readCov [⟨Rect.unit (s := S128x768) ![0, 0] S128x768.size inb_S128x768_S128x768_0_0, k0_pay668 (whole128 a4 g4)⟩] (Rect.unit (s := S128x768) ![0, 0] S128x768.size inb_S128x768_S128x768_0_0).toLoadRect) (narrowOf a30 (eD1 c i a2 a3 a4 a5 a6 a7 a8 a27 a28 a31 g2 g3 g4 g5 g6 g7 g8))) := rfl

theorem runC_H15_1 : runC.sl.H15_1 c a4 g4 = [⟨Rect.unit (s := S128x768) ![0, 0] S128x768.size inb_S128x768_S128x768_0_0, k0_pay668 (whole128 a4 g4)⟩] := rfl

theorem runC_H23_1 : runC.sl.H23_1 c i a8 g8 = put128 (k0_pay673 (at13 a8 g8 (k0_off1 i) (k0_off1_inb i))) := rfl

theorem runC_H31_1 : runC.sl.H31_1 c i a8 g8 = put128 (k0_pay673 (at13 a8 g8 (k0_off2 i) (k0_off2_inb i))) := rfl

theorem runC_r : runC.sl.r c a4 g4 = (whole128 a4 g4) := rfl

theorem runC_r_1 : runC.sl.r_1 c a5 g5 = (whole128 a5 g5) := rfl

theorem runC_H13_1 : runC.sl.H13_1 c i a2 a3 a4 a5 a6 a7 a8 a13 a19 a20 a23 g2 g3 g4 g5 g6 g7 g8 f13 = [put13 (k0_off1 i) (k0_off1_inb i) (k0_pay166 (colSum (eD0 c i a2 a3 a4 a5 a6 a7 a8 a19 a20 a23 g2 g3 g4 g5 g6 g7 g8)) (at13 a13 f13 (k0_off1 i) (k0_off1_inb i)))] := by
  refine congrArg₂ List.cons (congrArg (put13 (k0_off1 i) (k0_off1_inb i)) ?_) ?_
  · change k0_pay166 _ _ = k0_pay166 _ _
    refine congrArg₂ k0_pay166 ?_ rfl
    dsimp only [colSum, colStep]
    rfl
  · rfl

theorem runC_H13_2 : runC.sl.H13_2 c i a2 a3 a4 a5 a6 a7 a8 a13 a19 a20 a23 a27 a28 a31 g2 g3 g4 g5 g6 g7 g8 f13 = [put13 (k0_off2 i) (k0_off2_inb i) (k0_pay166 (colSum (eD1 c i a2 a3 a4 a5 a6 a7 a8 a27 a28 a31 g2 g3 g4 g5 g6 g7 g8)) (at13 a13 f13 (k0_off2 i) (k0_off2_inb i))), put13 (k0_off1 i) (k0_off1_inb i) (k0_pay166 (colSum (eD0 c i a2 a3 a4 a5 a6 a7 a8 a19 a20 a23 g2 g3 g4 g5 g6 g7 g8)) (at13 a13 f13 (k0_off1 i) (k0_off1_inb i)))] := by
  refine congrArg₂ List.cons (congrArg (put13 (k0_off2 i) (k0_off2_inb i)) ?_) ?_
  · change k0_pay166 _ _ = k0_pay166 _ _
    refine congrArg₂ k0_pay166 ?_ rfl
    dsimp only [colSum, colStep]
    rfl
  · exact runC_H13_1 c i a2 a3 a4 a5 a6 a7 a8 a13 a19 a20 a23 g2 g3 g4 g5 g6 g7 g8 f13

end Cert.AttnBwdIdeal.Hand
-- ==== Proof.AttnI.RunCOut.lean ====
/-
  What a run of case C leaves, in the terms of the strips and the loop.
-/
module

public import proofs.«01_k».proof.Proof.AttnI.Leave
public import proofs.«01_k».proof.Proof.AttnI.RunCEq

@[expose] public section

set_option maxHeartbeats 800000
set_option maxRecDepth 16384

noncomputable section

namespace Cert.AttnBwdIdeal.Hand

open Cert.AttnBwdIdeal Cert.AttnBwdIdeal.Gen
open Idealize.ShloMosaic Idealize.ShloMosaic.TcCoe

local notation "𝕧" => Memref sig Kind.tc Space.vmem
local notation "𝕋" => Thread nD τ

variable {F : FTy → Type} [FloatOps F] [Named F]

variable (c : Dev nD) (i : grid0.Coords) (a2 : 𝕧 S8448x128 .bf16) (p2 : a2.IsWhole) (a3 : 𝕧 S8448x128 .bf16) (p3 : a3.IsWhole) (a4 : 𝕧 S768x128 .bf16) (p4 : a4.IsWhole) (a5 : 𝕧 S768x128 .bf16) (p5 : a5.IsWhole) (a6 : 𝕧 S2x11x1x768 .f32) (p6 : a6.IsWhole) (a7 : 𝕧 S2x11x1x768 .f32) (p7 : a7.IsWhole) (a8 : 𝕧 S2x11x1x768 .f32) (p8 : a8.IsWhole) (a9 : 𝕧 S8448x128 .bf16) (p9 : a9.IsWhole) (a10 : 𝕧 S768x128 .bf16) (p10 : a10.IsWhole) (a11 : 𝕧 S768x128 .bf16) (p11 : a11.IsWhole) (a12 : 𝕧 S2x1x1x768 .f32) (p12 : a12.IsWhole) (a13 : 𝕧 S2x11x1x768 .f32) (p13 : a13.IsWhole) (a14 : 𝕧 S11x128x768 .f32) (p14 : a14.IsWhole) (a15 : 𝕧 S128x768 .bf16) (p15 : a15.IsWhole) (a16 : 𝕧 S768x128 .f32) (p16 : a16.IsWhole) (a17 : 𝕧 S768x128 .f32) (p17 : a17.IsWhole) (a18 : 𝕧 S768x1 .f32) (p18 : a18.IsWhole) (a19 : 𝕧 S768x768 .f32) (p19 : a19.IsWhole) (a20 : 𝕧 S768x768 .f32) (p20 : a20.IsWhole) (a21 : 𝕧 S768x768 .bf16) (p21 : a21.IsWhole) (a22 : 𝕧 S768x768 .bf16) (p22 : a22.IsWhole) (a23 : 𝕧 S768x128 .f32) (p23 : a23.IsWhole) (a24 : 𝕧 S768x128 .f32) (p24 : a24.IsWhole) (a25 : 𝕧 S768x128 .f32) (p25 : a25.IsWhole) (a26 : 𝕧 S768x1 .f32) (p26 : a26.IsWhole) (a27 : 𝕧 S768x768 .f32) (p27 : a27.IsWhole) (a28 : 𝕧 S768x768 .f32) (p28 : a28.IsWhole) (a29 : 𝕧 S768x768 .bf16) (p29 : a29.IsWhole) (a30 : 𝕧 S768x768 .bf16) (p30 : a30.IsWhole) (a31 : 𝕧 S768x128 .f32) (p31 : a31.IsWhole) (hc0 : ¬ condFirst i) (hc1 : condLast i) (g2 : Buf (Elt F) (a2.view.loc (c : 𝕋))) (g3 : Buf (Elt F) (a3.view.loc (c : 𝕋))) (g4 : Buf (Elt F) (a4.view.loc (c : 𝕋))) (g5 : Buf (Elt F) (a5.view.loc (c : 𝕋))) (g6 : Buf (Elt F) (a6.view.loc (c : 𝕋))) (g7 : Buf (Elt F) (a7.view.loc (c : 𝕋))) (g8 : Buf (Elt F) (a8.view.loc (c : 𝕋))) (f13 : Buf (Elt F) (a13.view.loc (c : 𝕋))) (f14 : Buf (Elt F) (a14.view.loc (c : 𝕋)))

theorem runC_dk : (runC c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 hc0 hc1 g2 g3 g4 g5 g6 g7 g8 f13 f14).1.dk = kOut (whole128 a16 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 f13 f14 (at13 a13 f13 (k0_off2 i) (k0_off2_inb i)))).dk0) (whole128 a24 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 f13 f14 (at13 a13 f13 (k0_off2 i) (k0_off2_inb i)))).dk1) := by
  rw [← leave_at (f := Carried.dk0), ← leave_at (f := Carried.dk1)]
  unfold leave
  delta runC; dsimp only
  simp only [runC.sl.v2146, runC.sl.v2147, runC.sl.H10_1, runC.sl.v2140, runC_H16_2, runC_H17_2, runC_H24_2, runC_H25_2, runC_H18_25, runC_H26_25, runC_H15_1, runC_H23_1, runC_H31_1, runC_r_67, runC_r_114, runC_r, runC_r_1, runC_H13_2]
  have hn : (k0_t1_loop i).trips = Scf.trips (k0_t1_loop i).lb (k0_t1_loop i).ub (k0_t1_loop i).st := rfl
  dsimp only at hn
  rw [hn]
  generalize Scf.trips _ _ _ = n
  simp only [enter, ← View.writes_append, List.cons_append, List.nil_append]
  cases n <;> rfl

theorem runC_dv : (runC c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 hc0 hc1 g2 g3 g4 g5 g6 g7 g8 f13 f14).1.dv = kOut (whole128 a17 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 f13 f14 (at13 a13 f13 (k0_off2 i) (k0_off2_inb i)))).dv0) (whole128 a25 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 f13 f14 (at13 a13 f13 (k0_off2 i) (k0_off2_inb i)))).dv1) := by
  rw [← leave_at (f := Carried.dv0), ← leave_at (f := Carried.dv1)]
  unfold leave
  delta runC; dsimp only
  simp only [runC.sl.v2151, runC.sl.v2152, runC.sl.H11_1, runC.sl.v2140, runC_H16_2, runC_H17_2, runC_H24_2, runC_H25_2, runC_H18_25, runC_H26_25, runC_H15_1, runC_H23_1, runC_H31_1, runC_r_67, runC_r_114, runC_r, runC_r_1, runC_H13_2]
  have hn : (k0_t1_loop i).trips = Scf.trips (k0_t1_loop i).lb (k0_t1_loop i).ub (k0_t1_loop i).st := rfl
  dsimp only at hn
  rw [hn]
  generalize Scf.trips _ _ _ = n
  simp only [enter, ← View.writes_append, List.cons_append, List.nil_append]
  cases n <;> rfl

theorem runC_dcs : (runC c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 hc0 hc1 g2 g3 g4 g5 g6 g7 g8 f13 f14).1.dcs = cOut (whole1 a18 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 f13 f14 (at13 a13 f13 (k0_off2 i) (k0_off2_inb i)))).dc0) (whole1 a26 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 f13 f14 (at13 a13 f13 (k0_off2 i) (k0_off2_inb i)))).dc1) := by
  rw [← leave_at (f := Carried.dc0), ← leave_at (f := Carried.dc1)]
  unfold leave
  delta runC; dsimp only
  simp only [runC.sl.v2156, runC.sl.v2166, runC.sl.r_115, runC.sl.r_116, runC.sl.H12_2, runC.sl.v2140, runC_H16_2, runC_H17_2, runC_H24_2, runC_H25_2, runC_H18_25, runC_H26_25, runC_H15_1, runC_H23_1, runC_H31_1, runC_r_67, runC_r_114, runC_r, runC_r_1, runC_H13_2]
  have hn : (k0_t1_loop i).trips = Scf.trips (k0_t1_loop i).lb (k0_t1_loop i).ub (k0_t1_loop i).st := rfl
  dsimp only at hn
  rw [hn]
  generalize Scf.trips _ _ _ = n
  simp only [enter, ← View.writes_append, List.cons_append, List.nil_append]
  cases n <;> rfl

theorem runC_dcq : (runC c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 hc0 hc1 g2 g3 g4 g5 g6 g7 g8 f13 f14).1.dcq = (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 f13 f14 (at13 a13 f13 (k0_off2 i) (k0_off2_inb i)))).dcq := by
  rw [← leave_at (f := Carried.dcq)]
  unfold leave
  delta runC; dsimp only
  simp only [runC.sl.v2140, runC_H16_2, runC_H17_2, runC_H24_2, runC_H25_2, runC_H18_25, runC_H26_25, runC_H15_1, runC_H23_1, runC_H31_1, runC_r_67, runC_r_114, runC_r, runC_r_1, runC_H13_2]
  have hn : (k0_t1_loop i).trips = Scf.trips (k0_t1_loop i).lb (k0_t1_loop i).ub (k0_t1_loop i).st := rfl
  dsimp only at hn
  rw [hn]
  generalize Scf.trips _ _ _ = n
  simp only [enter, ← View.writes_append, List.cons_append, List.nil_append]
  exact congrArg₂ (fun a s => pick a n (Carried.dcq s)) rfl rfl

theorem runC_dqt : (runC c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 hc0 hc1 g2 g3 g4 g5 g6 g7 g8 f13 f14).1.dqt = (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 f13 f14 (at13 a13 f13 (k0_off2 i) (k0_off2_inb i)))).dqt := by
  rw [← leave_at (f := Carried.dqt)]
  unfold leave
  delta runC; dsimp only
  simp only [runC.sl.v2140, runC_H16_2, runC_H17_2, runC_H24_2, runC_H25_2, runC_H18_25, runC_H26_25, runC_H15_1, runC_H23_1, runC_H31_1, runC_r_67, runC_r_114, runC_r, runC_r_1, runC_H13_2]
  have hn : (k0_t1_loop i).trips = Scf.trips (k0_t1_loop i).lb (k0_t1_loop i).ub (k0_t1_loop i).st := rfl
  dsimp only at hn
  rw [hn]
  generalize Scf.trips _ _ _ = n
  simp only [enter, ← View.writes_append, List.cons_append, List.nil_append]
  exact congrArg₂ (fun a s => pick a n (Carried.dqt s)) rfl rfl

theorem runC_dq : (runC c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 hc0 hc1 g2 g3 g4 g5 g6 g7 g8 f13 f14).1.dq = qOut a14 (leave c i a2 p2 a3 p3 a4 p4 a5 p5 a6 p6 a7 p7 a8 p8 a9 p9 a10 p10 a11 p11 a12 p12 a13 p13 a14 p14 a15 p15 a16 p16 a17 p17 a18 p18 a19 p19 a20 p20 a21 p21 a22 p22 a23 p23 a24 p24 a25 p25 a26 p26 a27 p27 a28 p28 a29 p29 a30 p30 a31 p31 g2 g3 g4 g5 g6 g7 g8 (enter c i a2 a3 a4 a5 a6 a7 a8 a13 a14 a15 a16 a17 a18 a19 a20 a21 a22 a23 a24 a25 a26 a27 a28 a29 a30 a31 g2 g3 g4 g5 g6 g7 g8 f13 f14 (at13 a13 f13 (k0_off2 i) (k0_off2_inb i)))).dqt := by
  rw [← leave_at (f := Carried.dqt)]
  unfold leave
  delta runC; dsimp only
  simp only [runC.sl.v2214, runC.sl.v2194, runC.sl.v2189, runC.sl.v2184, runC.sl.v2204, runC.sl.v2224, runC.sl.r_117, runC.sl.v2229, runC.sl.H9_5, runC.sl.v2199, runC.sl.v2209, runC.sl.v2219, runC.sl.r_118, runC.sl.v2179, runC.sl.v2140, runC_H16_2, runC_H17_2, runC_H24_2, runC_H25_2, runC_H18_25, runC_H26_25, runC_H15_1, runC_H23_1, runC_H31_1, runC_r_67, runC_r_114, runC_r, runC_r_1, runC_H13_2]
  have hn : (k0_t1_loop i).trips = Scf.trips (k0_t1_loop i).lb (k0_t1_loop i).ub (k0_t1_loop i).st := rfl
  dsimp only at hn
  rw [hn]
  generalize Scf.trips _ _ _ = n
  simp only [enter, ← View.writes_append, List.cons_append, List.nil_append]
  cases n <;> rfl

end Cert.AttnBwdIdeal.Hand
-- ==== Proof.AttnI.Result.lean ====
/-
  What every point of the grid leaves in its five outputs and in the transposed query gradient.
-/
module

public import proofs.«01_k».proof.Proof.AttnI.Whole
public import proofs.«01_k».proof.Proof.AttnI.RunAOut
public import proofs.«01_k».proof.Proof.AttnI.RunBOut
public import proofs.«01_k».proof.Proof.AttnI.RunCOut
public import proofs.«01_k».proof.Proof.AttnI.Point

@[expose] public section

set_option maxRecDepth 16384

noncomputable section

namespace Cert.AttnBwdIdeal.Hand

open Cert.AttnBwdIdeal Cert.AttnBwdIdeal.Gen Cert.Arrays
open Idealize.ShloMosaic Idealize.ShloMosaic.TcCoe

local notation "𝕧" => Memref sig Kind.tc Space.vmem

/-- Key block `j` of a pair has met every query block of it, and so have the key blocks before. -/
structure Done (G : Glob) (j : ℕ) (o : Outs Ideal) : Prop where
  dk : ∀ (r : Fin 768) (l : Fin 128), o.dk (ix2 r l) = ∑ t ∈ Finset.range 8448, G.Dm (l.val / 64) t (768 * j + r.val) * G.Q t l.val
  dv : ∀ (r : Fin 768) (l : Fin 128), o.dv (ix2 r l) = ∑ t ∈ Finset.range 8448, G.W (l.val / 64) t (768 * j + r.val) * G.DO t l.val
  dcs : ∀ (h : Fin 2) (r : Fin 768), o.dcs (ix4 h (0 : Fin 1) (0 : Fin 1) r) = 0 - ∑ t ∈ Finset.range 8448, G.Dm h.val t (768 * j + r.val)
  dcq : ∀ (h : Fin 2) (q : Fin 11) (p : Fin 768), o.dcq (ix4 h q (0 : Fin 1) p) = ∑ u ∈ Finset.range (768 * (j + 1)), G.Dm h.val (768 * q.val + p.val) u
  dqt : ∀ (q : Fin 11) (l : Fin 128) (p : Fin 768), o.dqt (ix3 q l p) = ∑ u ∈ Finset.range (768 * (j + 1)), G.K u l.val * G.Dm (l.val / 64) (768 * q.val + p.val) u

theorem whole1_at {c : Dev nD} (v : 𝕧 S768x1 .f32) (f : Buf (Elt Ideal) (v.view.loc (c : Thread nD τ))) (y : S768x1.Idx) :
    whole1 v f y = v.view.read (Elt Ideal) f y := by
  have e : whole1 v f = View.ld (v.view.read (Elt Ideal) f) (Rect.unit (s := S768x1) ![0, 0] S768x1.size inb_S768x1_S768x1_0_0) := rfl
  rw [e, View.ld_unit_zero hz2]

theorem half (l : Fin 128) : l.val / 64 = 0 ∨ l.val / 64 = 1 := by omega

/-- The two columns stored, one row each. -/
theorem cOut_read {κ : Kind} {sp : Space} (v : View sig κ sp S2x1x1x768 .f32) (f : BufTy.Contents (Elt Ideal) v.ty) (a b : Vec Ideal S768x1 .f32) (h : Fin 2) (r : Fin 768) :
    v.read (Elt Ideal) (v.writes (Elt Ideal) f (cOut a b)) (ix4 h (0 : Fin 1) (0 : Fin 1) r) = 0 - (if h = 0 then a else b) (ix2 r (0 : Fin 1)) := by
  fin_cases h
  · refine (View.read_writes_cons_unit_of_not_mem v f inb_S2x1x1x768_S1x1x1x768_1_0_0_0 _ _ _ rfl (0 : Fin 4) (Or.inl ?_)).trans ?_
    · show (0 : ℕ) < 1; decide
    · refine (View.read_writes_cons_unit_of_mem v f inb_S2x1x1x768_S1x1x1x768_0_0_0_0 _ _ _ (ix4 (0 : Fin 1) (0 : Fin 1) (0 : Fin 1) r) rfl fun a => ?_).trans ?_
      · fin_cases a
        · rfl
        · rfl
        · rfl
        · show r.val = 0 + r.val; omega
      · exact pay1_at a r
  · refine (View.read_writes_cons_unit_of_mem v f inb_S2x1x1x768_S1x1x1x768_1_0_0_0 _ _ _ (ix4 (0 : Fin 1) (0 : Fin 1) (0 : Fin 1) r) rfl fun a => ?_).trans ?_
    · fin_cases a
      · rfl
      · rfl
      · rfl
      · show r.val = 0 + r.val; omega
    · exact pay2_at b r

theorem block_mem (n : Fin 11) : n ∈ ([10, 9, 8, 7, 6, 5, 4, 3, 2, 1, 0] : List (Fin 11)) := by revert n; decide

/-- The query gradient stored block by block. -/
theorem qOut_read {κ : Kind} {sp : Space} (w : View sig κ sp S8448x128 .bf16) (g : BufTy.Contents (Elt Ideal) w.ty)
    (v : 𝕧 S11x128x768 .f32) {c : Dev nD} (f : Buf (Elt Ideal) (v.view.loc (c : Thread nD τ)))
    (X : ℕ → ℕ → EReal) (hX : ∀ (q : Fin 11) (l : Fin 128) (p : Fin 768), v.view.read (Elt Ideal) f (ix3 q l p) = X (768 * q.val + p.val) l.val)
    (t : Fin 8448) (l : Fin 128) :
    (w.read (Elt Ideal) (w.writes (Elt Ideal) g (qOut v f)) : S8448x128.Idx → EReal) (ix2 t l) = X t.val l.val := by
  refine View.read_writes_apply_of_pieces w g (fun y => X (y 0).val (y 1).val) _ ?_ (ix2 t l) ?_
  · intro p hp
    obtain ⟨n, -, rfl⟩ := List.mem_map.mp hp
    intro (x : S768x128.Idx)
    obtain ⟨a, b, rfl⟩ : ∃ (a : Fin 768) (b : Fin 128), x = ix2 a b := ⟨_, _, eq_ix2 x⟩
    refine (pay653_at _ a b).trans ((at14_at v f _ _ n rfl b a).trans ((hX n b a).trans ?_))
    show X _ _ = X (768 * n.val + 1 * a.val) (0 + 1 * b.val)
    rw [Nat.one_mul, Nat.one_mul, Nat.zero_add]
  · have ht := t.isLt
    have hq : t.val / 768 < 11 := by omega
    have hm : ix2 t l ∈ (Rect.unit (s := S8448x128) ![768 * (t.val / 768), 0] S768x128.size (inbQ ⟨t.val / 768, hq⟩)).set := by
      refine Rect.mem_set_unit.mpr fun a => ?_
      fin_cases a
      · show 768 * (t.val / 768) ≤ t.val ∧ t.val < 768 * (t.val / 768) + 768
        omega
      · show 0 ≤ l.val ∧ l.val < 0 + 128
        omega
    exact ⟨_, List.mem_map.mpr ⟨⟨t.val / 768, hq⟩, block_mem _, rfl⟩, hm⟩

variable {c : Dev nD} (t : Fin cfg0.N) {a16 a17 : 𝕧 S768x128 .f32} {a18 : 𝕧 S768x1 .f32}
  {a24 a25 : 𝕧 S768x128 .f32} {a26 : 𝕧 S768x1 .f32} (G : Glob)

theorem done_of {l : Left Ideal c (ms0_11 t) scM0_0} {s : Carried Ideal c (ms0_11 t) scM0_0 a16 a17 a18 a24 a25 a26} (j : ℕ)
    (e1 : l.dk = kOut (whole128 a16 s.dk0) (whole128 a24 s.dk1)) (e2 : l.dv = kOut (whole128 a17 s.dv0) (whole128 a25 s.dv1))
    (e3 : l.dcs = cOut (whole1 a18 s.dc0) (whole1 a26 s.dc1)) (e4 : l.dcq = s.dcq) (e5 : l.dqt = s.dqt)
    (hs : Holds G j 10 s) : Done G j (outsOf t l) where
  dk := fun r x => by
    show VO0_8.read (Elt Ideal) (VO0_8.writes (Elt Ideal) VO0_8.junk l.dk) (ix2 r x) = _
    rw [e1]
    refine (whole_top VO0_8 VO0_8.junk hz2 _ _ [] _).trans ((pay1023_at _ _ r x).trans ?_)
    rcases half x with h | h
    · rw [if_pos h, h]; exact (whole128_at a16 _ _).trans (hs.dk0 r x)
    · rw [if_neg (by omega), h]; exact (whole128_at a24 _ _).trans (hs.dk1 r x)
  dv := fun r x => by
    show VO0_9.read (Elt Ideal) (VO0_9.writes (Elt Ideal) VO0_9.junk l.dv) (ix2 r x) = _
    rw [e2]
    refine (whole_top VO0_9 VO0_9.junk hz2 _ _ [] _).trans ((pay1023_at _ _ r x).trans ?_)
    rcases half x with h | h
    · rw [if_pos h, h]; exact (whole128_at a17 _ _).trans (hs.dv0 r x)
    · rw [if_neg (by omega), h]; exact (whole128_at a25 _ _).trans (hs.dv1 r x)
  dcs := fun h r => by
    show VO0_10.read (Elt Ideal) (VO0_10.writes (Elt Ideal) VO0_10.junk l.dcs) _ = _
    rw [e3]
    refine (cOut_read VO0_10 VO0_10.junk _ _ h r).trans (congrArg (0 - ·) ?_)
    fin_cases h
    · exact (whole1_at a18 _ _).trans (hs.dc0 r)
    · exact (whole1_at a26 _ _).trans (hs.dc1 r)
  dcq := fun h q p => by
    show (ms0_11 t).view.read (Elt Ideal) l.dcq _ = _
    rw [e4]
    refine (hs.dcq h q p).trans ?_
    rw [show met j 10 q.val = 768 * (j + 1) from if_pos (by omega)]
  dqt := fun q x p => by
    show scM0_0.view.read (Elt Ideal) l.dqt _ = _
    rw [e5]
    refine (hs.dqt q x p).trans ?_
    rw [show met j 10 q.val = 768 * (j + 1) from if_pos (by omega)]

theorem dq_of {l : Left Ideal c (ms0_11 t) scM0_0} {s : Carried Ideal c (ms0_11 t) scM0_0 a16 a17 a18 a24 a25 a26}
    (e0 : l.dq = qOut scM0_0 s.dqt) (hs : Holds G 10 10 s) (i : Fin 8448) (x : Fin 128) :
    (outsOf t l).dq (ix2 i x) = ∑ u ∈ Finset.range 8448, G.K u x.val * G.Dm (x.val / 64) i.val u := by
  show VO0_7.read (Elt Ideal) (VO0_7.writes (Elt Ideal) VO0_7.junk l.dq) _ = _
  rw [e0]
  refine qOut_read VO0_7 VO0_7.junk scM0_0 s.dqt (fun i x => ∑ u ∈ Finset.range 8448, G.K u x * G.Dm (x / 64) i u) (fun q x p => ?_) i x
  refine (hs.dqt q x p).trans ?_
  rw [show met 10 10 q.val = 8448 from if_pos (by omega)]

end Cert.AttnBwdIdeal.Hand
-- ==== Proof.AttnI.Points.lean ====
/-
  The grid of the attention gradient read: what each point is given, and what it leaves over what the point before left.
-/
module

public import proofs.«01_k».proof.Proof.AttnI.Result
public import proofs.«01_k».proof.Proof.Arrays

@[expose] public section

set_option maxRecDepth 16384

noncomputable section

namespace Cert.AttnBwdIdeal.Hand

open Cert.AttnBwdIdeal Cert.AttnBwdIdeal.Gen Cert.Arrays
open Idealize.ShloMosaic Idealize.ShloMosaic.TcCoe

variable (m : (ℓ : Loc nD τ sig) → Buf (Elt Ideal) ℓ)

/-- The arrays the call is given. -/
abbrev aQ (c : Dev nD) : S8448x1024.Idx → EReal := V m c main_arg0
abbrev aDO (c : Dev nD) : S8448x1024.Idx → EReal := V m c main_arg1
abbrev aKV (c : Dev nD) : S8448x2048.Idx → EReal := V m c main_arg2
abbrev aL (c : Dev nD) : S16x11x1x768.Idx → EReal := V m c main_v42
abbrev aDl (c : Dev nD) : S16x11x1x768.Idx → EReal := V m c main_v43
abbrev aC (c : Dev nD) : S16x11x1x768.Idx → EReal := V m c main_v44

/-- Rows by head, read at a head and a position; zero outside. -/
def atRow (x : S16x11x1x768.Idx → EReal) (h t : ℕ) : EReal :=
  if hh : h < 16 ∧ t < 8448 then
    x (ix4 (⟨h, hh.1⟩ : Fin 16) (⟨t / 768, by omega⟩ : Fin 11) (0 : Fin 1) (⟨t % 768, Nat.mod_lt _ (by decide)⟩ : Fin 768))
  else 0

theorem atRow_eq (x : S16x11x1x768.Idx → EReal) (y : S16x11x1x768.Idx) {h : ℕ} (q p : ℕ) (hp : p < 768)
    (e0 : (y 0).val = h) (e1 : (y 1).val = q) (e3 : (y 3).val = p) : x y = atRow x h (768 * q + p) := by
  subst e0; subst e1; subst e3
  have h0 : (y 0).val < 16 := (y 0).isLt
  have h1 : (y 1).val < 11 := (y 1).isLt
  have h3 : (y 3).val < 768 := (y 3).isLt
  unfold atRow
  rw [dif_pos ⟨h0, by omega⟩]
  refine congrArg x (funext fun a => ?_)
  fin_cases a
  · rfl
  · exact Fin.ext (by show (y 1).val = (768 * (y 1).val + (y 3).val) / 768; omega)
  · exact Subsingleton.elim (α := Fin 1) _ _
  · exact Fin.ext (by show (y 3).val = (768 * (y 1).val + (y 3).val) % 768; omega)

/-- The pair of heads `p`. -/
def glob (c : Dev nD) (p : ℕ) : Glob where
  Q t l := at2 (aQ m c) t (128 * p + l)
  DO t l := at2 (aDO m c) t (128 * p + l)
  K u l := at2 (aKV m c) u (128 * p + l)
  V u l := at2 (aKV m c) u (1024 + (128 * p + l))
  C h t := atRow (aC m c) (2 * p + h) t
  L h t := atRow (aL m c) (2 * p + h) t
  Dl h t := atRow (aDl m c) (2 * p + h) t

theorem idx0 : ∀ t : Fin cfg0.N, win0_0.index t (0 : Fin 2) = 0 ∧ win0_0.index t (1 : Fin 2) = t.val / 11 := by decide +kernel
theorem idx1 : ∀ t : Fin cfg0.N, win0_1.index t (0 : Fin 2) = 0 ∧ win0_1.index t (1 : Fin 2) = t.val / 11 := by decide +kernel
theorem idx2 : ∀ t : Fin cfg0.N, win0_2.index t (0 : Fin 2) = t.val % 11 ∧ win0_2.index t (1 : Fin 2) = t.val / 11 := by decide +kernel
theorem idx3 : ∀ t : Fin cfg0.N, win0_3.index t (0 : Fin 2) = t.val % 11 ∧ win0_3.index t (1 : Fin 2) = 8 + t.val / 11 := by decide +kernel
theorem idx4 : ∀ t : Fin cfg0.N, win0_4.index t (0 : Fin 4) = t.val / 11 ∧ win0_4.index t (1 : Fin 4) = 0 ∧ win0_4.index t (3 : Fin 4) = 0 := by decide +kernel
theorem idx5 : ∀ t : Fin cfg0.N, win0_5.index t (0 : Fin 4) = t.val / 11 ∧ win0_5.index t (1 : Fin 4) = 0 ∧ win0_5.index t (3 : Fin 4) = 0 := by decide +kernel
theorem idx6 : ∀ t : Fin cfg0.N, win0_6.index t (0 : Fin 4) = t.val / 11 ∧ win0_6.index t (1 : Fin 4) = 0 ∧ win0_6.index t (3 : Fin 4) = 0 := by decide +kernel

theorem coord1 (t : Fin cfg0.N) : (grid0.coords t 1).val = t.val % 11 := by
  have e1 : (grid0.coords t 1).val = t.val / 1 % 11 := Pipeline.Grid.coords_val t 1 (by decide) rfl
  rw [e1, Nat.div_one]

variable (c : Dev nD) (t : Fin cfg0.N)

theorem read0 (W : S8448x1024.Idx → EReal) (a : Fin 8448) (l : Fin 128) :
    ((win0_0.blk t).view.read (Elt Ideal) W : S8448x128.Idx → EReal) (ix2 a l) = at2 W (a.val) (128 * (t.val / 11) + l.val) := by
  obtain ⟨h0, h1⟩ := idx0 t
  rw [View.read_apply]
  refine at2_eq W _ ?_ ?_
  · show win0_0.index t 0 * 8448 + 1 * a.val = _
    omega
  · show win0_0.index t 1 * 128 + 1 * l.val = _
    omega

theorem blk0 (a : Fin 8448) (l : Fin 128) : (iblk m c 0 t : S8448x128.Idx → EReal) (ix2 a l) = (glob m c (t.val / 11)).Q (a.val) l.val :=
  read0 t (V m c main_arg0) a l

theorem read1 (W : S8448x1024.Idx → EReal) (a : Fin 8448) (l : Fin 128) :
    ((win0_1.blk t).view.read (Elt Ideal) W : S8448x128.Idx → EReal) (ix2 a l) = at2 W (a.val) (128 * (t.val / 11) + l.val) := by
  obtain ⟨h0, h1⟩ := idx1 t
  rw [View.read_apply]
  refine at2_eq W _ ?_ ?_
  · show win0_1.index t 0 * 8448 + 1 * a.val = _
    omega
  · show win0_1.index t 1 * 128 + 1 * l.val = _
    omega

theorem blk1 (a : Fin 8448) (l : Fin 128) : (iblk m c 1 t : S8448x128.Idx → EReal) (ix2 a l) = (glob m c (t.val / 11)).DO (a.val) l.val :=
  read1 t (V m c main_arg1) a l

theorem read2 (W : S8448x2048.Idx → EReal) (a : Fin 768) (l : Fin 128) :
    ((win0_2.blk t).view.read (Elt Ideal) W : S768x128.Idx → EReal) (ix2 a l) = at2 W (768 * (t.val % 11) + a.val) (128 * (t.val / 11) + l.val) := by
  obtain ⟨h0, h1⟩ := idx2 t
  rw [View.read_apply]
  refine at2_eq W _ ?_ ?_
  · show win0_2.index t 0 * 768 + 1 * a.val = _
    omega
  · show win0_2.index t 1 * 128 + 1 * l.val = _
    omega

theorem blk2 (a : Fin 768) (l : Fin 128) : (iblk m c 2 t : S768x128.Idx → EReal) (ix2 a l) = (glob m c (t.val / 11)).K (768 * (t.val % 11) + a.val) l.val :=
  read2 t (V m c main_arg2) a l

theorem read3 (W : S8448x2048.Idx → EReal) (a : Fin 768) (l : Fin 128) :
    ((win0_3.blk t).view.read (Elt Ideal) W : S768x128.Idx → EReal) (ix2 a l) = at2 W (768 * (t.val % 11) + a.val) (1024 + (128 * (t.val / 11) + l.val)) := by
  obtain ⟨h0, h1⟩ := idx3 t
  rw [View.read_apply]
  refine at2_eq W _ ?_ ?_
  · show win0_3.index t 0 * 768 + 1 * a.val = _
    omega
  · show win0_3.index t 1 * 128 + 1 * l.val = _
    omega

theorem blk3 (a : Fin 768) (l : Fin 128) : (iblk m c 3 t : S768x128.Idx → EReal) (ix2 a l) = (glob m c (t.val / 11)).V (768 * (t.val % 11) + a.val) l.val :=
  read3 t (V m c main_arg2) a l

theorem read4 (W : S16x11x1x768.Idx → EReal) (h : Fin 2) (q : Fin 11) (p : Fin 768) :
    ((win0_4.blk t).view.read (Elt Ideal) W : S2x11x1x768.Idx → EReal) (ix4 h q (0 : Fin 1) p) = atRow W (2 * (t.val / 11) + h.val) (768 * q.val + p.val) := by
  obtain ⟨h0, h1, h3⟩ := idx4 t
  rw [View.read_apply]
  refine atRow_eq W _ q.val p.val p.isLt ?_ ?_ ?_
  · show win0_4.index t 0 * 2 + 1 * h.val = _
    omega
  · show win0_4.index t 1 * 11 + 1 * q.val = _
    omega
  · show win0_4.index t 3 * 768 + 1 * p.val = _
    omega

theorem blk4 (h : Fin 2) (q : Fin 11) (p : Fin 768) : (iblk m c 4 t : S2x11x1x768.Idx → EReal) (ix4 h q (0 : Fin 1) p) = (glob m c (t.val / 11)).L h.val (768 * q.val + p.val) :=
  read4 t (V m c main_v42) h q p

theorem read5 (W : S16x11x1x768.Idx → EReal) (h : Fin 2) (q : Fin 11) (p : Fin 768) :
    ((win0_5.blk t).view.read (Elt Ideal) W : S2x11x1x768.Idx → EReal) (ix4 h q (0 : Fin 1) p) = atRow W (2 * (t.val / 11) + h.val) (768 * q.val + p.val) := by
  obtain ⟨h0, h1, h3⟩ := idx5 t
  rw [View.read_apply]
  refine atRow_eq W _ q.val p.val p.isLt ?_ ?_ ?_
  · show win0_5.index t 0 * 2 + 1 * h.val = _
    omega
  · show win0_5.index t 1 * 11 + 1 * q.val = _
    omega
  · show win0_5.index t 3 * 768 + 1 * p.val = _
    omega

theorem blk5 (h : Fin 2) (q : Fin 11) (p : Fin 768) : (iblk m c 5 t : S2x11x1x768.Idx → EReal) (ix4 h q (0 : Fin 1) p) = (glob m c (t.val / 11)).Dl h.val (768 * q.val + p.val) :=
  read5 t (V m c main_v43) h q p

theorem read6 (W : S16x11x1x768.Idx → EReal) (h : Fin 2) (q : Fin 11) (p : Fin 768) :
    ((win0_6.blk t).view.read (Elt Ideal) W : S2x11x1x768.Idx → EReal) (ix4 h q (0 : Fin 1) p) = atRow W (2 * (t.val / 11) + h.val) (768 * q.val + p.val) := by
  obtain ⟨h0, h1, h3⟩ := idx6 t
  rw [View.read_apply]
  refine atRow_eq W _ q.val p.val p.isLt ?_ ?_ ?_
  · show win0_6.index t 0 * 2 + 1 * h.val = _
    omega
  · show win0_6.index t 1 * 11 + 1 * q.val = _
    omega
  · show win0_6.index t 3 * 768 + 1 * p.val = _
    omega

theorem blk6 (h : Fin 2) (q : Fin 11) (p : Fin 768) : (iblk m c 6 t : S2x11x1x768.Idx → EReal) (ix4 h q (0 : Fin 1) p) = (glob m c (t.val / 11)).C h.val (768 * q.val + p.val) :=
  read6 t (V m c main_v44) h q p

/-- The point's arguments are the blocks of its pair. -/
theorem ins : Ins c (grid0.coords t) (ms0_0 t) (ms0_1 t) (ms0_2 t) (ms0_3 t) (ms0_4 t) (ms0_5 t) (ms0_6 t)
    ((hs0_0 t).unread (iblk m c 0 t)) ((hs0_1 t).unread (iblk m c 1 t)) ((hs0_2 t).unread (iblk m c 2 t)) ((hs0_3 t).unread (iblk m c 3 t))
    ((hs0_4 t).unread (iblk m c 4 t)) ((hs0_5 t).unread (iblk m c 5 t)) ((hs0_6 t).unread (iblk m c 6 t)) (glob m c (t.val / 11)) where
  hQ a l := (congrFun ((hs0_0 t).read_unread (iblk m c 0 t)) _).trans (blk0 m c t a l)
  hDO a l := (congrFun ((hs0_1 t).read_unread (iblk m c 1 t)) _).trans (blk1 m c t a l)
  hK a l := by rw [coord1]; exact (congrFun ((hs0_2 t).read_unread (iblk m c 2 t)) _).trans (blk2 m c t a l)
  hV a l := by rw [coord1]; exact (congrFun ((hs0_3 t).read_unread (iblk m c 3 t)) _).trans (blk3 m c t a l)
  hL h q p := (congrFun ((hs0_4 t).read_unread (iblk m c 4 t)) _).trans (blk4 m c t h q p)
  hDl h q p := (congrFun ((hs0_5 t).read_unread (iblk m c 5 t)) _).trans (blk5 m c t h q p)
  hC h q p := (congrFun ((hs0_6 t).read_unread (iblk m c 6 t)) _).trans (blk6 m c t h q p)

/-- A row's first point. -/
theorem done_A (h0 : t.val % 11 = 0) : Done (glob m c (t.val / 11)) (grid0.coords t 1).val (outsOf t (leftA m c t h0)) := by
  have hj : (grid0.coords t 1).val = 0 := (coord1 t).trans h0
  delta leftA
  refine done_of t _ _ (runA_dk ..) (runA_dv ..) (runA_dcs ..) (runA_dcq ..) (runA_dqt ..)
    (holds_leave (hi := ins m c t) (hs := holds_enter (hi := ins m c t) (hf13 := ?_) (hf14 := ?_) (hold2 := ?_) ..) ..)
  · intro h q p
    rw [hj]
    exact (whole_top (ms0_11 t).view (ms0_11 t).view.junk hz4 _ _ [] _).trans (pay667_at _)
  · intro q l p
    rw [hj]
    exact (whole_top scM0_0.view scM0_0.view.junk hz3 _ _ [] _).trans (pay666_at _)
  · intro p
    refine (at13_at (ms0_11 t) _ _ _ 1 ⟨(grid0.coords t 1).val, row_lt _⟩ (off2_eq _) _).trans ?_
    refine (put13_read (c := c) (ms0_11 t) _ _ _ 0 ⟨(grid0.coords t 1).val, row_lt _⟩ (off1_eq _) _ _ _ _ _).trans ?_
    rw [if_neg (fun h => absurd h.1 (by decide))]
    refine Eq.trans ?_ (congrArg (fun n => ∑ u ∈ Finset.range (768 * n), (glob m c (t.val / 11)).Dm 1 (768 * (grid0.coords t 1).val + p.val) u) hj.symm)
    exact (whole_top (ms0_11 t).view (ms0_11 t).view.junk hz4 _ _ [] _).trans (pay667_at _)

/-- What the point before hands on. -/
structure Handed (G : Glob) (j : ℕ) (o : Outs Ideal) : Prop where
  dcq : ∀ (h : Fin 2) (q : Fin 11) (p : Fin 768), o.dcq (ix4 h q (0 : Fin 1) p) = ∑ u ∈ Finset.range (768 * j), G.Dm h.val (768 * q.val + p.val) u
  dqt : ∀ (q : Fin 11) (l : Fin 128) (p : Fin 768), o.dqt (ix3 q l p) = ∑ u ∈ Finset.range (768 * j), G.K u l.val * G.Dm (l.val / 64) (768 * q.val + p.val) u

/-- A row's later points. -/
theorem done_B (h0 : ¬ t.val % 11 = 0) (h1 : ¬ t.val % 11 = 10) (prev : Outs Ideal) (hp : Handed (glob m c (t.val / 11)) (grid0.coords t 1).val prev) :
    Done (glob m c (t.val / 11)) (grid0.coords t 1).val (outsOf t (leftB m c t h0 h1 prev)) := by
  delta leftB
  refine done_of t _ _ (runB_dk ..) (runB_dv ..) (runB_dcs ..) (runB_dcq ..) (runB_dqt ..)
    (holds_leave (hi := ins m c t) (hs := holds_enter (hi := ins m c t) (hf13 := ?_) (hf14 := ?_) (hold2 := ?_) ..) ..)
  · intro h q p
    exact (congrFun ((hs0_11 t).read_unread prev.dcq) _).trans (hp.dcq h q p)
  · intro q l p
    exact (congrFun ((Memref.isWhole_whole cc0_scratch0).read_unread prev.dqt) _).trans (hp.dqt q l p)
  · intro p
    refine (at13_at (ms0_11 t) _ _ _ 1 ⟨(grid0.coords t 1).val, row_lt _⟩ (off2_eq _) _).trans ?_
    exact (congrFun ((hs0_11 t).read_unread prev.dcq) _).trans (hp.dcq 1 _ p)

/-- A row's last point, -/
theorem done_C (h0 : ¬ t.val % 11 = 0) (h1 : t.val % 11 = 10) (prev : Outs Ideal) (hp : Handed (glob m c (t.val / 11)) (grid0.coords t 1).val prev) :
    Done (glob m c (t.val / 11)) (grid0.coords t 1).val (outsOf t (leftC m c t h0 h1 prev)) := by
  delta leftC
  refine done_of t _ _ (runC_dk ..) (runC_dv ..) (runC_dcs ..) (runC_dcq ..) (runC_dqt ..)
    (holds_leave (hi := ins m c t) (hs := holds_enter (hi := ins m c t) (hf13 := ?_) (hf14 := ?_) (hold2 := ?_) ..) ..)
  · intro h q p
    exact (congrFun ((hs0_11 t).read_unread prev.dcq) _).trans (hp.dcq h q p)
  · intro q l p
    exact (congrFun ((Memref.isWhole_whole cc0_scratch0).read_unread prev.dqt) _).trans (hp.dqt q l p)
  · intro p
    refine (at13_at (ms0_11 t) _ _ _ 1 ⟨(grid0.coords t 1).val, row_lt _⟩ (off2_eq _) _).trans ?_
    exact (congrFun ((hs0_11 t).read_unread prev.dcq) _).trans (hp.dcq 1 _ p)

/-- and the query gradient it stores. -/
theorem dq_C (h0 : ¬ t.val % 11 = 0) (h1 : t.val % 11 = 10) (prev : Outs Ideal) (hp : Handed (glob m c (t.val / 11)) (grid0.coords t 1).val prev)
    (a : Fin 8448) (x : Fin 128) :
    (outsOf t (leftC m c t h0 h1 prev)).dq (ix2 a x)
      = ∑ u ∈ Finset.range 8448, (glob m c (t.val / 11)).K u x.val * (glob m c (t.val / 11)).Dm (x.val / 64) a.val u := by
  have hj : (grid0.coords t 1).val = 10 := (coord1 t).trans h1
  delta leftC
  refine dq_of t _ (runC_dq ..) (hj ▸ holds_leave (hi := ins m c t) (hs := holds_enter (hi := ins m c t) (hf13 := ?_) (hf14 := ?_) (hold2 := ?_) ..) ..) a x
  · intro h q p
    exact (congrFun ((hs0_11 t).read_unread prev.dcq) _).trans (hp.dcq h q p)
  · intro q l p
    exact (congrFun ((Memref.isWhole_whole cc0_scratch0).read_unread prev.dqt) _).trans (hp.dqt q l p)
  · intro p
    refine (at13_at (ms0_11 t) _ _ _ 1 ⟨(grid0.coords t 1).val, row_lt _⟩ (off2_eq _) _).trans ?_
    exact (congrFun ((hs0_11 t).read_unread prev.dcq) _).trans (hp.dcq 1 _ p)

/-- What the points so far hand on, and so what every point leaves. -/
theorem handed : ∀ (n : ℕ) (t : Fin cfg0.N), t.val % 11 = n + 1 → Handed (glob m c (t.val / 11)) (n + 1) (outsBefore m c t)
  | 0, t, h => by
    have ht := t.isLt
    let s : Fin cfg0.N := ⟨t.val - 1, by omega⟩
    have hs : s.val % 11 = 0 := by show (t.val - 1) % 11 = 0; omega
    have e : outsBefore m c t = outsOf s (leftA m c s hs) := outsAt_A m c s hs
    have hd := done_A m c s hs
    rw [show s.val / 11 = t.val / 11 from by show (t.val - 1) / 11 = _; omega, coord1, hs] at hd
    rw [e]
    exact ⟨hd.dcq, hd.dqt⟩
  | n + 1, t, h => by
    have ht := t.isLt
    let s : Fin cfg0.N := ⟨t.val - 1, by omega⟩
    have hs : s.val % 11 = n + 1 := by show (t.val - 1) % 11 = n + 1; omega
    have h0 : ¬ s.val % 11 = 0 := by omega
    have h1 : ¬ s.val % 11 = 10 := by omega
    have e : outsBefore m c t = outsOf s (leftB m c s h0 h1 (outsBefore m c s)) := outsAt_B m c s h0 h1
    have ih := handed n s hs
    have hd := done_B m c s h0 h1 (outsBefore m c s) (by rw [coord1, hs]; exact ih)
    rw [show s.val / 11 = t.val / 11 from by show (t.val - 1) / 11 = _; omega, coord1, hs] at hd
    rw [e]
    exact ⟨hd.dcq, hd.dqt⟩

theorem handed_at (h0 : ¬ t.val % 11 = 0) : Handed (glob m c (t.val / 11)) (grid0.coords t 1).val (outsBefore m c t) := by
  obtain ⟨n, hn⟩ := Nat.exists_eq_succ_of_ne_zero h0
  rw [coord1, hn]
  exact handed m c n t hn

theorem done_at : Done (glob m c (t.val / 11)) (t.val % 11) (outsAt m c t.val t.isLt) := by
  rw [← coord1]
  by_cases h0 : t.val % 11 = 0
  · rw [outsAt_A m c t h0]; exact done_A m c t h0
  · by_cases h1 : t.val % 11 = 10
    · rw [outsAt_C m c t h0 h1]; exact done_C m c t h0 h1 _ (handed_at m c t h0)
    · rw [outsAt_B m c t h0 h1]; exact done_B m c t h0 h1 _ (handed_at m c t h0)

theorem dq_at (h1 : t.val % 11 = 10) (a : Fin 8448) (x : Fin 128) :
    (outsAt m c t.val t.isLt).dq (ix2 a x)
      = ∑ u ∈ Finset.range 8448, (glob m c (t.val / 11)).K u x.val * (glob m c (t.val / 11)).Dm (x.val / 64) a.val u := by
  have h0 : ¬ t.val % 11 = 0 := by omega
  rw [outsAt_C m c t h0 h1]
  exact dq_C m c t h0 h1 _ (handed_at m c t h0) a x

end Cert.AttnBwdIdeal.Hand
-- ==== Proof.AttnI.Finals.lean ====
/-
  What the arrays hold after the attention gradient: every write-back is a block of one array, and the blocks cover it.
-/
module

public import proofs.«01_k».proof.Proof.AttnI.Points
public import proofs.«01_k».proof.Proof.AttnI.Frame

@[expose] public section

set_option maxRecDepth 16384

noncomputable section

namespace Cert.AttnBwdIdeal.Hand

open Cert.AttnBwdIdeal Cert.AttnBwdIdeal.Gen Cert.Arrays
open Idealize.ShloMosaic Idealize.ShloMosaic.TcCoe Idealize.SL.Sem

/-- The five results over the pairs of heads. -/
def R7 (G : ℕ → Glob) : S8448x1024.Idx → EReal := fun i =>
  ∑ u ∈ Finset.range 8448, (G ((i 1).val / 128)).K u ((i 1).val % 128) * (G ((i 1).val / 128)).Dm ((i 1).val % 128 / 64) (i 0).val u
def R8 (G : ℕ → Glob) : S8448x1024.Idx → EReal := fun i =>
  ∑ t ∈ Finset.range 8448, (G ((i 1).val / 128)).Dm ((i 1).val % 128 / 64) t (i 0).val * (G ((i 1).val / 128)).Q t ((i 1).val % 128)
def R9 (G : ℕ → Glob) : S8448x1024.Idx → EReal := fun i =>
  ∑ t ∈ Finset.range 8448, (G ((i 1).val / 128)).W ((i 1).val % 128 / 64) t (i 0).val * (G ((i 1).val / 128)).DO t ((i 1).val % 128)
def R10 (G : ℕ → Glob) : S16x11x1x768.Idx → EReal := fun i =>
  0 - ∑ t ∈ Finset.range 8448, (G ((i 0).val / 2)).Dm ((i 0).val % 2) t (768 * (i 1).val + (i 3).val)
def R11 (G : ℕ → Glob) : S16x11x1x768.Idx → EReal := fun i =>
  ∑ u ∈ Finset.range 8448, (G ((i 0).val / 2)).Dm ((i 0).val % 2) (768 * (i 1).val + (i 3).val) u

theorem idx7 : ∀ t : Fin cfg0.N, win0_7.index t (0 : Fin 2) = 0 ∧ win0_7.index t (1 : Fin 2) = t.val / 11 := by decide +kernel
theorem idx8 : ∀ t : Fin cfg0.N, win0_8.index t (0 : Fin 2) = t.val % 11 ∧ win0_8.index t (1 : Fin 2) = t.val / 11 := by decide +kernel
theorem idx9 : ∀ t : Fin cfg0.N, win0_9.index t (0 : Fin 2) = t.val % 11 ∧ win0_9.index t (1 : Fin 2) = t.val / 11 := by decide +kernel
theorem idx10 : ∀ t : Fin cfg0.N, win0_10.index t (0 : Fin 4) = t.val / 11 ∧ win0_10.index t (1 : Fin 4) = t.val % 11 ∧ win0_10.index t (2 : Fin 4) = 0 ∧ win0_10.index t (3 : Fin 4) = 0 := by decide +kernel
theorem idx11 : ∀ t : Fin cfg0.N, win0_11.index t (0 : Fin 4) = t.val / 11 ∧ win0_11.index t (1 : Fin 4) = 0 ∧ win0_11.index t (2 : Fin 4) = 0 ∧ win0_11.index t (3 : Fin 4) = 0 := by decide +kernel

theorem read7 (t : Fin cfg0.N) (G : ℕ → Glob) (a : Fin 8448) (l : Fin 128) :
    (win0_7.blk t).view.read (Elt Ideal) (R7 G) (ix2 a l) = ∑ u ∈ Finset.range 8448, (G (t.val / 11)).K u l.val * (G (t.val / 11)).Dm (l.val / 64) a.val u := by
  obtain ⟨h0, h1⟩ := idx7 t
  have hl := l.isLt
  rw [View.read_apply]
  have e0 : ((win0_7.blk t).view.emb (ix2 a l) 0).val = a.val := by
    show win0_7.index t 0 * 8448 + 1 * a.val = _
    omega
  have e1 : ((win0_7.blk t).view.emb (ix2 a l) 1).val = 128 * (t.val / 11) + l.val := by
    show win0_7.index t 1 * 128 + 1 * l.val = _
    omega
  unfold R7
  rw [e0, e1, show (128 * (t.val / 11) + l.val) / 128 = t.val / 11 from by omega, show (128 * (t.val / 11) + l.val) % 128 = l.val from by omega]
  rfl

theorem cover7 (i : S8448x1024.Idx) : ∃ t : Fin cfg0.N, (cfg0.win 7).flush t = true ∧ i ∈ ((cfg0.win 7).blk t).view.set := by
  have h0 : (i 0).val < 8448 := (i 0).isLt
  have h1 : (i 1).val < 1024 := (i 1).isLt
  let t : Fin cfg0.N := ⟨11 * ((i 1).val / 128) + 10, lt_of_lt_of_eq (by omega) N_0.symm⟩
  have ht : t.val = 11 * ((i 1).val / 128) + 10 := rfl
  obtain ⟨q0, q1⟩ := idx7 t
  refine ⟨t, (flush0_7 t).mpr (by omega), ?_⟩
  show i ∈ ((View.whole main_v45_0).slice (win0_7.rect t)).set
  rw [View.set_slice_whole, Rect.mem_set_unit]
  intro a
  match a with
  | ⟨0, _⟩ => show win0_7.index t (0 : Fin 2) * 8448 ≤ (i 0).val ∧ (i 0).val < win0_7.index t (0 : Fin 2) * 8448 + 8448; omega
  | ⟨1, _⟩ => show win0_7.index t (1 : Fin 2) * 128 ≤ (i 1).val ∧ (i 1).val < win0_7.index t (1 : Fin 2) * 128 + 128; omega

theorem read8 (t : Fin cfg0.N) (G : ℕ → Glob) (a : Fin 768) (l : Fin 128) :
    (win0_8.blk t).view.read (Elt Ideal) (R8 G) (ix2 a l) = ∑ s ∈ Finset.range 8448, (G (t.val / 11)).Dm (l.val / 64) s (768 * (t.val % 11) + a.val) * (G (t.val / 11)).Q s l.val := by
  obtain ⟨h0, h1⟩ := idx8 t
  have hl := l.isLt
  rw [View.read_apply]
  have e0 : ((win0_8.blk t).view.emb (ix2 a l) 0).val = 768 * (t.val % 11) + a.val := by
    show win0_8.index t 0 * 768 + 1 * a.val = _
    omega
  have e1 : ((win0_8.blk t).view.emb (ix2 a l) 1).val = 128 * (t.val / 11) + l.val := by
    show win0_8.index t 1 * 128 + 1 * l.val = _
    omega
  unfold R8
  rw [e0, e1, show (128 * (t.val / 11) + l.val) / 128 = t.val / 11 from by omega, show (128 * (t.val / 11) + l.val) % 128 = l.val from by omega]
  rfl

theorem cover8 (i : S8448x1024.Idx) : ∃ t : Fin cfg0.N, (cfg0.win 8).flush t = true ∧ i ∈ ((cfg0.win 8).blk t).view.set := by
  have h0 : (i 0).val < 8448 := (i 0).isLt
  have h1 : (i 1).val < 1024 := (i 1).isLt
  let t : Fin cfg0.N := ⟨11 * ((i 1).val / 128) + (i 0).val / 768, lt_of_lt_of_eq (by omega) N_0.symm⟩
  have ht : t.val = 11 * ((i 1).val / 128) + (i 0).val / 768 := rfl
  obtain ⟨q0, q1⟩ := idx8 t
  refine ⟨t, flush0_8 t, ?_⟩
  show i ∈ ((View.whole main_v45_1).slice (win0_8.rect t)).set
  rw [View.set_slice_whole, Rect.mem_set_unit]
  intro a
  match a with
  | ⟨0, _⟩ => show win0_8.index t (0 : Fin 2) * 768 ≤ (i 0).val ∧ (i 0).val < win0_8.index t (0 : Fin 2) * 768 + 768; omega
  | ⟨1, _⟩ => show win0_8.index t (1 : Fin 2) * 128 ≤ (i 1).val ∧ (i 1).val < win0_8.index t (1 : Fin 2) * 128 + 128; omega

theorem read9 (t : Fin cfg0.N) (G : ℕ → Glob) (a : Fin 768) (l : Fin 128) :
    (win0_9.blk t).view.read (Elt Ideal) (R9 G) (ix2 a l) = ∑ s ∈ Finset.range 8448, (G (t.val / 11)).W (l.val / 64) s (768 * (t.val % 11) + a.val) * (G (t.val / 11)).DO s l.val := by
  obtain ⟨h0, h1⟩ := idx9 t
  have hl := l.isLt
  rw [View.read_apply]
  have e0 : ((win0_9.blk t).view.emb (ix2 a l) 0).val = 768 * (t.val % 11) + a.val := by
    show win0_9.index t 0 * 768 + 1 * a.val = _
    omega
  have e1 : ((win0_9.blk t).view.emb (ix2 a l) 1).val = 128 * (t.val / 11) + l.val := by
    show win0_9.index t 1 * 128 + 1 * l.val = _
    omega
  unfold R9
  rw [e0, e1, show (128 * (t.val / 11) + l.val) / 128 = t.val / 11 from by omega, show (128 * (t.val / 11) + l.val) % 128 = l.val from by omega]
  rfl

theorem cover9 (i : S8448x1024.Idx) : ∃ t : Fin cfg0.N, (cfg0.win 9).flush t = true ∧ i ∈ ((cfg0.win 9).blk t).view.set := by
  have h0 : (i 0).val < 8448 := (i 0).isLt
  have h1 : (i 1).val < 1024 := (i 1).isLt
  let t : Fin cfg0.N := ⟨11 * ((i 1).val / 128) + (i 0).val / 768, lt_of_lt_of_eq (by omega) N_0.symm⟩
  have ht : t.val = 11 * ((i 1).val / 128) + (i 0).val / 768 := rfl
  obtain ⟨q0, q1⟩ := idx9 t
  refine ⟨t, flush0_9 t, ?_⟩
  show i ∈ ((View.whole main_v45_2).slice (win0_9.rect t)).set
  rw [View.set_slice_whole, Rect.mem_set_unit]
  intro a
  match a with
  | ⟨0, _⟩ => show win0_9.index t (0 : Fin 2) * 768 ≤ (i 0).val ∧ (i 0).val < win0_9.index t (0 : Fin 2) * 768 + 768; omega
  | ⟨1, _⟩ => show win0_9.index t (1 : Fin 2) * 128 ≤ (i 1).val ∧ (i 1).val < win0_9.index t (1 : Fin 2) * 128 + 128; omega

theorem read10 (t : Fin cfg0.N) (G : ℕ → Glob) (h : Fin 2) (q : Fin 1) (p : Fin 768) :
    (win0_10.blk t).view.read (Elt Ideal) (R10 G) (ix4 h q (0 : Fin 1) p) = 0 - ∑ s ∈ Finset.range 8448, (G (t.val / 11)).Dm h.val s (768 * (t.val % 11) + p.val) := by
  obtain ⟨h0, h1, h2, h3⟩ := idx10 t
  have hh := h.isLt
  have hq := q.isLt
  rw [View.read_apply]
  have e0 : ((win0_10.blk t).view.emb (ix4 h q (0 : Fin 1) p) 0).val = 2 * (t.val / 11) + h.val := by
    show win0_10.index t 0 * 2 + 1 * h.val = _
    omega
  have e1 : ((win0_10.blk t).view.emb (ix4 h q (0 : Fin 1) p) 1).val = t.val % 11 := by
    show win0_10.index t 1 * 1 + 1 * q.val = _
    omega
  have e3 : ((win0_10.blk t).view.emb (ix4 h q (0 : Fin 1) p) 3).val = p.val := by
    show win0_10.index t 3 * 768 + 1 * p.val = _
    omega
  unfold R10
  rw [e0, e1, e3, show (2 * (t.val / 11) + h.val) / 2 = t.val / 11 from by omega, show (2 * (t.val / 11) + h.val) % 2 = h.val from by omega]
  rfl

theorem cover10 (i : S16x11x1x768.Idx) : ∃ t : Fin cfg0.N, (cfg0.win 10).flush t = true ∧ i ∈ ((cfg0.win 10).blk t).view.set := by
  have h0 : (i 0).val < 16 := (i 0).isLt
  have h1 : (i 1).val < 11 := (i 1).isLt
  have h2 : (i 2).val < 1 := (i 2).isLt
  have h3 : (i 3).val < 768 := (i 3).isLt
  let t : Fin cfg0.N := ⟨11 * ((i 0).val / 2) + (i 1).val, lt_of_lt_of_eq (by omega) N_0.symm⟩
  have ht : t.val = 11 * ((i 0).val / 2) + (i 1).val := rfl
  obtain ⟨q0, q1, q2, q3⟩ := idx10 t
  refine ⟨t, flush0_10 t, ?_⟩
  show i ∈ ((View.whole main_v45_3).slice (win0_10.rect t)).set
  rw [View.set_slice_whole, Rect.mem_set_unit]
  intro a
  match a with
  | ⟨0, _⟩ => show win0_10.index t (0 : Fin 4) * 2 ≤ (i 0).val ∧ (i 0).val < win0_10.index t (0 : Fin 4) * 2 + 2; omega
  | ⟨1, _⟩ => show win0_10.index t (1 : Fin 4) * 1 ≤ (i 1).val ∧ (i 1).val < win0_10.index t (1 : Fin 4) * 1 + 1; omega
  | ⟨2, _⟩ => show win0_10.index t (2 : Fin 4) * 1 ≤ (i 2).val ∧ (i 2).val < win0_10.index t (2 : Fin 4) * 1 + 1; omega
  | ⟨3, _⟩ => show win0_10.index t (3 : Fin 4) * 768 ≤ (i 3).val ∧ (i 3).val < win0_10.index t (3 : Fin 4) * 768 + 768; omega

theorem read11 (t : Fin cfg0.N) (G : ℕ → Glob) (h : Fin 2) (q : Fin 11) (p : Fin 768) :
    (win0_11.blk t).view.read (Elt Ideal) (R11 G) (ix4 h q (0 : Fin 1) p) = ∑ u ∈ Finset.range 8448, (G (t.val / 11)).Dm h.val (768 * q.val + p.val) u := by
  obtain ⟨h0, h1, h2, h3⟩ := idx11 t
  have hh := h.isLt
  have hq := q.isLt
  rw [View.read_apply]
  have e0 : ((win0_11.blk t).view.emb (ix4 h q (0 : Fin 1) p) 0).val = 2 * (t.val / 11) + h.val := by
    show win0_11.index t 0 * 2 + 1 * h.val = _
    omega
  have e1 : ((win0_11.blk t).view.emb (ix4 h q (0 : Fin 1) p) 1).val = q.val := by
    show win0_11.index t 1 * 11 + 1 * q.val = _
    omega
  have e3 : ((win0_11.blk t).view.emb (ix4 h q (0 : Fin 1) p) 3).val = p.val := by
    show win0_11.index t 3 * 768 + 1 * p.val = _
    omega
  unfold R11
  rw [e0, e1, e3, show (2 * (t.val / 11) + h.val) / 2 = t.val / 11 from by omega, show (2 * (t.val / 11) + h.val) % 2 = h.val from by omega]
  rfl

theorem cover11 (i : S16x11x1x768.Idx) : ∃ t : Fin cfg0.N, (cfg0.win 11).flush t = true ∧ i ∈ ((cfg0.win 11).blk t).view.set := by
  have h0 : (i 0).val < 16 := (i 0).isLt
  have h1 : (i 1).val < 11 := (i 1).isLt
  have h2 : (i 2).val < 1 := (i 2).isLt
  have h3 : (i 3).val < 768 := (i 3).isLt
  let t : Fin cfg0.N := ⟨11 * ((i 0).val / 2) + 10, lt_of_lt_of_eq (by omega) N_0.symm⟩
  have ht : t.val = 11 * ((i 0).val / 2) + 10 := rfl
  obtain ⟨q0, q1, q2, q3⟩ := idx11 t
  refine ⟨t, (flush0_11 t).mpr (by omega), ?_⟩
  show i ∈ ((View.whole main_v45_4).slice (win0_11.rect t)).set
  rw [View.set_slice_whole, Rect.mem_set_unit]
  intro a
  match a with
  | ⟨0, _⟩ => show win0_11.index t (0 : Fin 4) * 2 ≤ (i 0).val ∧ (i 0).val < win0_11.index t (0 : Fin 4) * 2 + 2; omega
  | ⟨1, _⟩ => show win0_11.index t (1 : Fin 4) * 11 ≤ (i 1).val ∧ (i 1).val < win0_11.index t (1 : Fin 4) * 11 + 11; omega
  | ⟨2, _⟩ => show win0_11.index t (2 : Fin 4) * 1 ≤ (i 2).val ∧ (i 2).val < win0_11.index t (2 : Fin 4) * 1 + 1; omega
  | ⟨3, _⟩ => show win0_11.index t (3 : Fin 4) * 768 ≤ (i 3).val ∧ (i 3).val < win0_11.index t (3 : Fin 4) * 768 + 768; omega

variable (m : (ℓ : Loc nD τ sig) → Buf (Elt Ideal) ℓ) (ρ : Dev nD → PrngReg) (c : Dev nD)

theorem flushed7 (t : Fin cfg0.N) (hf : (cfg0.win 7).flush t = true) :
    (dats m 0 c).flushed 7 t = ((cfg0.win 7).blk t).view.read (Elt Ideal) (R7 (glob m c)) := by
  show (cfg0.win 7).cut (grid0.coords t) ((dats m 0 c).after 7 t) = _
  rw [after0_7]
  funext y
  have e : ∀ (a : Fin 8448) (l : Fin 128), (outsAt m c t.val t.isLt).dq (ix2 a l) = (win0_7.blk t).view.read (Elt Ideal) (R7 (glob m c)) (ix2 a l) := fun a l =>
    (dq_at m c t ((flush0_7 t).mp hf) a l).trans (read7 t (glob m c) a l).symm
  have y2 : (y : S8448x128.Idx) = ix2 (y 0) (y 1) := eq_ix2 (n0 := 8448) (n1 := 128) y
  show (outsAt m c t.val t.isLt).dq (y : S8448x128.Idx) = (win0_7.blk t).view.read (Elt Ideal) (R7 (glob m c)) (y : S8448x128.Idx)
  rw [y2]
  exact e (y 0) (y 1)

theorem final7 : (dats m 0 c).arrAt 7 cfg0.N = R7 (glob m c) :=
  (dats m 0 c).arrAt_eq_of_cover 7 _ (fun t hf => flushed7 m c t hf) cover7

theorem flushed8 (t : Fin cfg0.N) (hf : (cfg0.win 8).flush t = true) :
    (dats m 0 c).flushed 8 t = ((cfg0.win 8).blk t).view.read (Elt Ideal) (R8 (glob m c)) := by
  show (cfg0.win 8).cut (grid0.coords t) ((dats m 0 c).after 8 t) = _
  rw [after0_8]
  funext y
  have e : ∀ (a : Fin 768) (l : Fin 128), (outsAt m c t.val t.isLt).dk (ix2 a l) = (win0_8.blk t).view.read (Elt Ideal) (R8 (glob m c)) (ix2 a l) := fun a l =>
    ((done_at m c t).dk a l).trans (read8 t (glob m c) a l).symm
  have y2 : (y : S768x128.Idx) = ix2 (y 0) (y 1) := eq_ix2 (n0 := 768) (n1 := 128) y
  show (outsAt m c t.val t.isLt).dk (y : S768x128.Idx) = (win0_8.blk t).view.read (Elt Ideal) (R8 (glob m c)) (y : S768x128.Idx)
  rw [y2]
  exact e (y 0) (y 1)

theorem final8 : (dats m 0 c).arrAt 8 cfg0.N = R8 (glob m c) :=
  (dats m 0 c).arrAt_eq_of_cover 8 _ (fun t hf => flushed8 m c t hf) cover8

theorem flushed9 (t : Fin cfg0.N) (hf : (cfg0.win 9).flush t = true) :
    (dats m 0 c).flushed 9 t = ((cfg0.win 9).blk t).view.read (Elt Ideal) (R9 (glob m c)) := by
  show (cfg0.win 9).cut (grid0.coords t) ((dats m 0 c).after 9 t) = _
  rw [after0_9]
  funext y
  have e : ∀ (a : Fin 768) (l : Fin 128), (outsAt m c t.val t.isLt).dv (ix2 a l) = (win0_9.blk t).view.read (Elt Ideal) (R9 (glob m c)) (ix2 a l) := fun a l =>
    ((done_at m c t).dv a l).trans (read9 t (glob m c) a l).symm
  have y2 : (y : S768x128.Idx) = ix2 (y 0) (y 1) := eq_ix2 (n0 := 768) (n1 := 128) y
  show (outsAt m c t.val t.isLt).dv (y : S768x128.Idx) = (win0_9.blk t).view.read (Elt Ideal) (R9 (glob m c)) (y : S768x128.Idx)
  rw [y2]
  exact e (y 0) (y 1)

theorem final9 : (dats m 0 c).arrAt 9 cfg0.N = R9 (glob m c) :=
  (dats m 0 c).arrAt_eq_of_cover 9 _ (fun t hf => flushed9 m c t hf) cover9

theorem flushed10 (t : Fin cfg0.N) (hf : (cfg0.win 10).flush t = true) :
    (dats m 0 c).flushed 10 t = ((cfg0.win 10).blk t).view.read (Elt Ideal) (R10 (glob m c)) := by
  show (cfg0.win 10).cut (grid0.coords t) ((dats m 0 c).after 10 t) = _
  rw [after0_10]
  funext y
  have e : ∀ (h : Fin 2) (q : Fin 1) (p : Fin 768), (outsAt m c t.val t.isLt).dcs (ix4 h q (0 : Fin 1) p) = (win0_10.blk t).view.read (Elt Ideal) (R10 (glob m c)) (ix4 h q (0 : Fin 1) p) := fun h q p => by
    obtain rfl : q = 0 := Subsingleton.elim _ _
    exact ((done_at m c t).dcs h p).trans (read10 t (glob m c) h 0 p).symm
  have y4 : (y : S2x1x1x768.Idx) = ix4 (y 0) (y 1) (0 : Fin 1) (y 3) := (eq_ix4 (n0 := 2) (n1 := 1) (n2 := 1) (n3 := 768) y).trans
    (congrArg (fun z : Fin 1 => ix4 (y 0) (y 1) z (y 3)) (Subsingleton.elim _ _))
  show (outsAt m c t.val t.isLt).dcs (y : S2x1x1x768.Idx) = (win0_10.blk t).view.read (Elt Ideal) (R10 (glob m c)) (y : S2x1x1x768.Idx)
  rw [y4]
  exact e (y 0) (y 1) (y 3)

theorem final10 : (dats m 0 c).arrAt 10 cfg0.N = R10 (glob m c) :=
  (dats m 0 c).arrAt_eq_of_cover 10 _ (fun t hf => flushed10 m c t hf) cover10

theorem flushed11 (t : Fin cfg0.N) (hf : (cfg0.win 11).flush t = true) :
    (dats m 0 c).flushed 11 t = ((cfg0.win 11).blk t).view.read (Elt Ideal) (R11 (glob m c)) := by
  show (cfg0.win 11).cut (grid0.coords t) ((dats m 0 c).after 11 t) = _
  rw [after0_11]
  funext y
  have e : ∀ (h : Fin 2) (q : Fin 11) (p : Fin 768), (outsAt m c t.val t.isLt).dcq (ix4 h q (0 : Fin 1) p) = (win0_11.blk t).view.read (Elt Ideal) (R11 (glob m c)) (ix4 h q (0 : Fin 1) p) := fun h q p => by
    have e := (done_at m c t).dcq h q p
    rw [(flush0_11 t).mp hf] at e
    exact e.trans (read11 t (glob m c) h q p).symm
  have y4 : (y : S2x11x1x768.Idx) = ix4 (y 0) (y 1) (0 : Fin 1) (y 3) := (eq_ix4 (n0 := 2) (n1 := 11) (n2 := 1) (n3 := 768) y).trans
    (congrArg (fun z : Fin 1 => ix4 (y 0) (y 1) z (y 3)) (Subsingleton.elim _ _))
  show (outsAt m c t.val t.isLt).dcq (y : S2x11x1x768.Idx) = (win0_11.blk t).view.read (Elt Ideal) (R11 (glob m c)) (y : S2x11x1x768.Idx)
  rw [y4]
  exact e (y 0) (y 1) (y 3)

theorem final11 : (dats m 0 c).arrAt 11 cfg0.N = R11 (glob m c) :=
  (dats m 0 c).arrAt_eq_of_cover 11 _ (fun t hf => flushed11 m c t hf) cover11

/-- The run, read: the five results, and the arguments as launched. -/
theorem run : θ_run defs (onTc (τ := τ) (main (F := Ideal))) ⟨m, fun _ => 0, ρ⟩ fun r => ∀ c : Dev nD,
      r.2.mem ((c : Thread nD τ).loc main_v45_0) = R7 (glob m c)
      ∧ r.2.mem ((c : Thread nD τ).loc main_v45_1) = R8 (glob m c)
      ∧ r.2.mem ((c : Thread nD τ).loc main_v45_2) = R9 (glob m c)
      ∧ r.2.mem ((c : Thread nD τ).loc main_v45_3) = R10 (glob m c)
      ∧ r.2.mem ((c : Thread nD τ).loc main_v45_4) = R11 (glob m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.2 c).1 7).trans (final7 m c), ((h.2 c).1 8).trans (final8 m c), ((h.2 c).1 9).trans (final9 m c),
      ((h.2 c).1 10).trans (final10 m c), ((h.2 c).1 11).trans (final11 m c), h.1 c⟩)
    (θ_run_and (frame_of m ρ (dats m) (A_eq m) ((θ_run defs _ _).mono (fun _ h => h.1) (run_main_quiescent m ρ)))
      ((θ_run defs _ _).mono (fun _ h => h.1) (run_main_quiescent m ρ)))

end Cert.AttnBwdIdeal.Hand
-- ==== Proof.Soft.lean ====
/-
  A row of the masked softmax and of its gradient over extended reals that are real: the rule from the row's logsumexp and
  its delta, and the rule from the row's sum, are one.
-/
module

public import proofs.«01_k».proof.Proof.Reals

@[expose] public section

open Idealize.ShloMosaic

namespace Cert.Soft

open Cert.Reals

/-- Two sums read in the other order. -/
theorem swap {N n : ℕ} (o : Fin n → ℝ) (p : Fin N → ℝ) (v : Fin N → Fin n → ℝ) :
    ∑ d, o d * ∑ u, p u * v u d = ∑ u, p u * ∑ d, o d * v u d := by
  simp only [Finset.mul_sum]
  rw [Finset.sum_comm]
  exact Finset.sum_congr rfl fun u _ => Finset.sum_congr rfl fun d _ => by ring

/-- The masked row's weights before they are divided by their sum. -/
noncomputable def wt {N : ℕ} (s : Fin N → ℝ) (keep : Fin N → Prop) [DecidablePred keep] (u : Fin N) : ℝ :=
  if keep u then Real.exp (s u) else 0

theorem wt_pos {N : ℕ} (s : Fin N → ℝ) (keep : Fin N → Prop) [DecidablePred keep] (u₀ : Fin N) (h : keep u₀) :
    0 < ∑ u, wt s keep u :=
  Finset.sum_pos' (fun u _ => by unfold wt; split; exacts [(Real.exp_pos _).le, le_rfl])
    ⟨u₀, Finset.mem_univ _, by unfold wt; rw [if_pos h]; exact Real.exp_pos _⟩

theorem exp_shift {N : ℕ} (s : Fin N → ℝ) (keep : Fin N → Prop) [DecidablePred keep] (M : ℝ) (u : Fin N) :
    Ideal.exp ((if keep u then (s u : EReal) else ⊥) - (M : EReal)) = ((wt s keep u * Real.exp (-M) : ℝ) : EReal) := by
  unfold wt
  split
  · rw [← EReal.coe_sub, sub_eq_add_neg]
    show ((Real.exp (s u + -M) : ℝ) : EReal) = _
    rw [Real.exp_add]
  · rw [EReal.bot_sub, zero_mul]
    rfl

/-- The row's weights, summing to one. -/
noncomputable def pr {N : ℕ} (s : Fin N → ℝ) (keep : Fin N → Prop) [DecidablePred keep] (u : Fin N) : ℝ :=
  wt s keep u / ∑ u', wt s keep u'

section row

variable {N : ℕ} (s : Fin N → ℝ) (keep : Fin N → Prop) [DecidablePred keep] (u₀ : Fin N) (h₀ : keep u₀) (M : ℝ)
  (E : Fin N → EReal) (hE : ∀ u, E u = Ideal.exp ((if keep u then (s u : EReal) else ⊥) - (M : EReal)))
  (Z : EReal) (hZ : Z = ∑ u, E u)

include hE hZ

theorem Z_eq : Z = (((∑ u, wt s keep u) * Real.exp (-M) : ℝ) : EReal) := by
  rw [hZ, Finset.sum_mul, coe_sum]
  exact Finset.sum_congr rfl fun u _ => (hE u).trans (exp_shift s keep M u)

include h₀

/-- A weight is its exponential over the row's sum, -/
theorem div_eq (u : Fin N) : Ideal.div (E u) Z = ((pr s keep u : ℝ) : EReal) := by
  have hz := wt_pos s keep u₀ h₀
  have he := Real.exp_pos (-M)
  rw [Z_eq s keep M E hE Z hZ, hE, exp_shift, div_real (mul_pos hz he).ne']
  unfold pr
  congr 1
  field_simp

/-- and the exponential of its score less the row's logsumexp. -/
theorem lse_eq (u : Fin N) (hu : keep u) (a b c : ℝ) (hab : a + b - c = s u) :
    Ideal.exp ((a : EReal) + (((b : EReal) - ((M : EReal) + Ideal.log Z)) - (c : EReal))) = ((pr s keep u : ℝ) : EReal) := by
  have hz := wt_pos s keep u₀ h₀
  have he := Real.exp_pos (-M)
  rw [Z_eq s keep M E hE Z hZ, Ideal.log_coe, if_neg (not_le.mpr (mul_pos hz he)), Real.log_mul hz.ne' he.ne', Real.log_exp,
    ← EReal.coe_add, ← EReal.coe_sub, ← EReal.coe_sub, ← EReal.coe_add]
  show ((Real.exp _ : ℝ) : EReal) = _
  congr 1
  rw [show a + ((b - (M + (Real.log (∑ u, wt s keep u) + -M))) - c) = s u - Real.log (∑ u, wt s keep u) from by rw [← hab]; ring,
    Real.exp_sub, Real.exp_log hz]
  unfold pr wt
  rw [if_pos hu]

/-- The gradient of a score as differentiating the quotient leaves it. -/
theorem grad_eq (dp : Fin N → ℝ) (u : Fin N) :
    (Ideal.div (dp u : EReal) Z + -(∑ u', (dp u' : EReal) * Ideal.div 1 (Z * Z) * E u')) * E u
      = ((pr s keep u * (dp u - ∑ u', pr s keep u' * dp u') : ℝ) : EReal) := by
  have hz := wt_pos s keep u₀ h₀
  have he := Real.exp_pos (-M)
  have hz' := (mul_pos hz he).ne'
  have hzz := mul_ne_zero hz' hz'
  simp only [hE, exp_shift]
  rw [Z_eq s keep M E hE Z hZ, ← EReal.coe_mul, div_real hz', ← EReal.coe_one, div_real hzz]
  simp only [← EReal.coe_mul]
  rw [← coe_sum, ← EReal.coe_neg, ← EReal.coe_add, ← EReal.coe_mul]
  congr 1
  set e := Real.exp (-M)
  set S := ∑ u, wt s keep u with hS
  have hS' : S ≠ 0 := hz.ne'
  have he' : e ≠ 0 := he.ne'
  have e1 : ∑ u', dp u' * (1 / (S * e * (S * e))) * (wt s keep u' * e) = (∑ u', pr s keep u' * dp u') / (S * e) := by
    rw [Finset.sum_div]
    refine Finset.sum_congr rfl fun u' _ => ?_
    unfold pr
    rw [← hS]
    field_simp
  rw [e1]
  unfold pr
  rw [← hS]
  field_simp
  ring

end row

theorem pr_out {N : ℕ} (s : Fin N → ℝ) (keep : Fin N → Prop) [DecidablePred keep] (u : Fin N) (hu : ¬ keep u) : pr s keep u = 0 := by
  unfold pr wt
  rw [if_neg hu, zero_div]

/-- The sum over two heads' lanes of the products that one head takes. -/
theorem lanes (F H : ℕ → EReal) (e : Fin 2) :
    ∑ l : Fin 128, F l.val * (if l.val / 64 = e.val then H l.val else 0) = ∑ d : Fin 64, F (64 * e.val + d.val) * H (64 * e.val + d.val) := by
  have sp := Fin.sum_univ_add (a := 64) (b := 64) fun l : Fin (64 + 64) => F l.val * (if l.val / 64 = e.val then H l.val else 0)
  refine sp.trans ?_
  match e with
  | ⟨0, _⟩ =>
    have e1 : ∀ d : Fin 64, F (Fin.natAdd 64 d).val * (if (Fin.natAdd 64 d).val / 64 = 0 then H (Fin.natAdd 64 d).val else 0) = 0 := fun d => by
      rw [if_neg (by show ¬ (64 + d.val) / 64 = 0; omega), mul_zero]
    refine (congrArg (_ + ·) (Finset.sum_eq_zero fun d _ => e1 d)).trans ((add_zero _).trans (Finset.sum_congr rfl fun d _ => ?_))
    have hd : (Fin.castAdd 64 d).val / 64 = 0 := by show d.val / 64 = 0; omega
    have he : 64 * 0 + d.val = (Fin.castAdd 64 d).val := by show _ = d.val; omega
    show _ = F (64 * 0 + d.val) * H (64 * 0 + d.val)
    rw [he]
    exact congrArg (F (Fin.castAdd 64 d).val * ·) (if_pos hd)
  | ⟨1, _⟩ =>
    have e1 : ∀ d : Fin 64, F (Fin.castAdd 64 d).val * (if (Fin.castAdd 64 d).val / 64 = 1 then H (Fin.castAdd 64 d).val else 0) = 0 := fun d => by
      rw [if_neg (by show ¬ d.val / 64 = 1; omega), mul_zero]
    refine (congrArg (· + _) (Finset.sum_eq_zero fun d _ => e1 d)).trans ((zero_add _).trans (Finset.sum_congr rfl fun d _ => ?_))
    have hd : (Fin.natAdd 64 d).val / 64 = 1 := by show (64 + d.val) / 64 = 1; omega
    have he : 64 * 1 + d.val = (Fin.natAdd 64 d).val := by show _ = 64 + d.val; omega
    show _ = F (64 * 1 + d.val) * H (64 * 1 + d.val)
    rw [he]
    exact congrArg (F (Fin.natAdd 64 d).val * ·) (if_pos hd)

/-- The maximum of a row of reals and −∞, over any set that holds a real, is real. -/
theorem fold_real {ι : Type} (S : Finset ι) (f : ι → EReal) (hf : ∀ i, f i ≠ ⊤) (i₀ : ι) (h₀ : i₀ ∈ S) (h : f i₀ ≠ ⊥) :
    IsReal (S.fold max ⊥ f) := by
  have h1 : S.fold max ⊥ f ≠ ⊤ := by
    refine ne_of_lt ((Finset.fold_max_lt _).mpr ⟨bot_lt_top, fun i _ => lt_top_iff_ne_top.mpr (hf i)⟩)
  have h2 : S.fold max ⊥ f ≠ ⊥ := by
    intro e
    have : f i₀ ≤ S.fold max ⊥ f := (Finset.le_fold_max _).mpr (Or.inr ⟨i₀, h₀, le_rfl⟩)
    rw [e] at this
    exact h (le_bot_iff.mp this)
  exact ⟨(S.fold max ⊥ f).toReal, (EReal.coe_toReal h1 h2).symm⟩

end Cert.Soft
-- ==== Proof.AttnRef.lean ====
/-
  The reference of the attention gradient read at an index, stage by stage.
-/
module

public import proofs.«01_k».proof.Proof.Gen.AttnRefIdeal.Read
public import proofs.«01_k».proof.Proof.Arrays
public import proofs.«01_k».proof.Proof.Soft
public import Idealize.ShloMosaic.Lib.Pointwise
public import Idealize.ShloMosaic.Lib.Pointwise.Tactic

@[expose] public section

noncomputable section

namespace Cert.AttnRefIdeal.Stages

open Cert.AttnRefIdeal Cert.AttnRefIdeal.Read Cert.Arrays
open Idealize.ShloMosaic

variable (x0 x1 : S8448x1024.Idx → EReal) (x2 : S8448x2048.Idx → EReal) (x3 : S16x8448.Idx → EReal)

theorem zero_bits : Ideal.ofBits .f32 0x00000000#32 = 0 := by simp [Ideal.ofBits, Ideal.ieee]
theorem bot_bits : Ideal.ofBits .f32 0xFF800000#32 = ⊥ := by simp [Ideal.ofBits, Ideal.ieee]
theorem one_bits : Ideal.ofBits .f32 0x3F800000#32 = 1 := by
  simp [Ideal.ofBits, Ideal.ieee, -EReal.coe_mul]; norm_num

theorem v6_at (h : Fin 16) (t : Fin 8448) (d : Fin 64) :
    val_main_v6 (F := Ideal) x0 (ix3 h t d) = at2 x0 t.val (64 * h.val + d.val) := by
  pointwise [val_main_v6, val_main_v5, val_main_v4]
  exact at2_eq x0 _ rfl (by show h.val * 64 + d.val = _; omega)

theorem v8_at (h : Fin 16) (t : Fin 8448) (d : Fin 64) :
    val_main_v8 (F := Ideal) x2 (ix3 h t d) = at2 x2 t.val (64 * h.val + d.val) := by
  pointwise [val_main_v8, val_main_v7, val_main_v1, val_main_v0]
  exact at2_eq x2 _ rfl (by show h.val * 64 + d.val = _; omega)

theorem v56_at (h : Fin 16) (t : Fin 8448) (d : Fin 64) :
    val_main_v56 (F := Ideal) x1 (ix3 h t d) = at2 x1 t.val (64 * h.val + d.val) := by
  pointwise [val_main_v56, val_main_v55, val_main_v54]
  exact at2_eq x1 _ rfl (by show h.val * 64 + d.val = _; omega)

theorem v52_at (h : Fin 16) (t : Fin 8448) (d : Fin 64) :
    val_main_v52 (F := Ideal) x2 (ix3 h t d) = at2 x2 t.val (1024 + (64 * h.val + d.val)) := by
  pointwise [val_main_v52, val_main_v51, val_main_v3, val_main_v2]
  exact at2_eq x2 _ rfl (by show 1024 + (h.val * 64 + d.val) = _; omega)

theorem v15_at (h : Fin 16) (t u : Fin 8448) :
    val_main_v15 (F := Ideal) x0 x2 x3 (ix3 h t u)
      = ((∑ d : Fin 64, val_main_v6 (F := Ideal) x0 (ix3 h t d) * val_main_v8 (F := Ideal) x2 (ix3 h u d)) + x3 (ix2 h t)) - x3 (ix2 h u) := by
  pointwise [val_main_v15, val_main_v14, val_main_v13, val_main_v12, val_main_v11, val_main_v10, val_main_v9]

/-- The comparison of two positions, as a choice. -/
theorem le_select (t u : Fin 8448) (a b : EReal) :
    Scalar.select (IntOp.cmpi CmpIPredicate.sle (BitVec.ofNat 32 u.val) (BitVec.ofNat 32 t.val)) a b = if u.val ≤ t.val then a else b := by
  have ht := t.isLt
  have hu := u.isLt
  have e : (BitVec.ofNat 32 u.val).sle (BitVec.ofNat 32 t.val) = decide (u.val ≤ t.val) := by
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp
  unfold Scalar.select IntOp.cmpi
  simp only [e]
  by_cases hl : u.val ≤ t.val <;> simp [hl]

theorem v22_at (h : Fin 16) (t u : Fin 8448) :
    val_main_v22_0 (F := Ideal) x0 x2 x3 (ix3 h t u)
      = if u.val ≤ t.val then val_main_v15 (F := Ideal) x0 x2 x3 (ix3 h t u) else ⊥ := by
  pointwise [val_main_v22_0, val_main_v22_1, val_main_call0_v2, val_main_call0_v0, val_main_cst, val_main_v21, val_main_v20, val_main_v19, val_main_v18, val_main_v17, val_main_v16]
  refine (le_select t u _ _).trans ?_
  exact congrArg (fun z : EReal => if u.val ≤ t.val then val_main_v15 (F := Ideal) x0 x2 x3 (ix3 h t u) else z) bot_bits

theorem v43_at (h : Fin 16) (t u : Fin 8448) :
    val_main_v43 (F := Ideal) x0 x2 x3 (ix3 h t u) = Ideal.exp (val_main_v22_0 (F := Ideal) x0 x2 x3 (ix3 h t u) - val_main_v30 (F := Ideal) x0 x2 x3 (ix2 h t)) := by
  pointwise [val_main_v43, val_main_v42, val_main_v41, val_main_v40]

theorem v44_at (h : Fin 16) (t : Fin 8448) :
    val_main_v44 (F := Ideal) x0 x2 x3 (ix2 h t) = ∑ u : Fin 8448, val_main_v43 (F := Ideal) x0 x2 x3 (ix3 h t u) := by
  pointwise [val_main_v44, val_main_cst_8]

theorem v47_at (h : Fin 16) (t u : Fin 8448) :
    val_main_v47 (F := Ideal) x0 x2 x3 (ix3 h t u) = Ideal.div (val_main_v43 (F := Ideal) x0 x2 x3 (ix3 h t u)) (val_main_v44 (F := Ideal) x0 x2 x3 (ix2 h t)) := by
  pointwise [val_main_v47, val_main_v46, val_main_v45]

theorem v59_at (h : Fin 16) (t u : Fin 8448) :
    val_main_v59 (F := Ideal) x1 x2 (ix3 h t u) = ∑ d : Fin 64, val_main_v56 (F := Ideal) x1 (ix3 h t d) * val_main_v52 (F := Ideal) x2 (ix3 h u d) := by
  pointwise [val_main_v59]

theorem v65_at (h : Fin 16) (t : Fin 8448) :
    val_main_v65 (F := Ideal) x0 x1 x2 x3 (ix2 h t)
      = ∑ u : Fin 8448, val_main_v59 (F := Ideal) x1 x2 (ix3 h t u)
          * Ideal.div 1 (val_main_v44 (F := Ideal) x0 x2 x3 (ix2 h t) * val_main_v44 (F := Ideal) x0 x2 x3 (ix2 h t)) * val_main_v43 (F := Ideal) x0 x2 x3 (ix3 h t u) := by
  rw [← one_bits]
  pointwise [val_main_v65, val_main_cst_10, val_main_v64, val_main_v63, val_main_v62, val_main_v50, val_main_v49, val_main_cst_9, val_main_v48, val_main_v45]

theorem v70_at (h : Fin 16) (t : Fin 8448) :
    val_main_v70 (F := Ideal) x0 x1 x2 x3 (ix2 h t) = -val_main_v65 (F := Ideal) x0 x1 x2 x3 (ix2 h t) := by
  pointwise [val_main_v70, val_main_cst_11, val_main_v67, val_main_v66]
  exact Fin.sum_univ_one _

theorem v74_at (h : Fin 16) (t u : Fin 8448) :
    val_main_v74 (F := Ideal) x0 x1 x2 x3 (ix3 h t u)
      = if u.val ≤ t.val then (Ideal.div (val_main_v59 (F := Ideal) x1 x2 (ix3 h t u)) (val_main_v44 (F := Ideal) x0 x2 x3 (ix2 h t))
          + val_main_v70 (F := Ideal) x0 x1 x2 x3 (ix2 h t)) * val_main_v43 (F := Ideal) x0 x2 x3 (ix3 h t u) else 0 := by
  rw [← zero_bits]
  pointwise [val_main_v74, val_main_v22_1, val_main_call1_v0, val_main_call1_cst, val_main_v21, val_main_v20, val_main_v19, val_main_v18, val_main_v17, val_main_v16,
    val_main_v73, val_main_v72, val_main_v71, val_main_v69, val_main_v68, val_main_v45]
  exact le_select t u _ _

theorem v83_at (h : Fin 16) (t : Fin 8448) (d : Fin 64) :
    val_main_v83 (F := Ideal) x0 x1 x2 x3 (ix3 h t d) = ∑ u : Fin 8448, val_main_v74 (F := Ideal) x0 x1 x2 x3 (ix3 h t u) * val_main_v8 (F := Ideal) x2 (ix3 h u d) := by
  pointwise [val_main_v83]

theorem v82_at (h : Fin 16) (u : Fin 8448) (d : Fin 64) :
    val_main_v82 (F := Ideal) x0 x1 x2 x3 (ix3 h u d) = ∑ t : Fin 8448, val_main_v74 (F := Ideal) x0 x1 x2 x3 (ix3 h t u) * val_main_v6 (F := Ideal) x0 (ix3 h t d) := by
  pointwise [val_main_v82]

theorem v57_at (h : Fin 16) (u : Fin 8448) (d : Fin 64) :
    val_main_v57 (F := Ideal) x0 x1 x2 x3 (ix3 h d u) = ∑ t : Fin 8448, val_main_v56 (F := Ideal) x1 (ix3 h t d) * val_main_v47 (F := Ideal) x0 x2 x3 (ix3 h t u) := by
  pointwise [val_main_v57]

/-- The row maximum of scores below infinity, one of them above minus infinity, is real. -/
theorem rowmax (W : S16x8448x8448.Idx → EReal) (h : Fin 16) (t : Fin 8448) (hW : ∀ i, W i ≠ ⊤) (hd : W (ix3 h t t) ≠ ⊥) (b : S_.Idx → EReal) (hb : ∀ i, b i = ⊥)
    (hr : S16x8448x8448.ReducesTo [2] S16x8448) (hu : 0 < S_.numel) :
    Cert.Reals.IsReal (Host.reduce max W b hr hu (ix2 h t)) := by
  rw [Host.reduce_eq_fold, hb]
  refine Cert.Soft.fold_real _ W hW (ix3 h t t) (Finset.mem_filter.mpr ⟨Finset.mem_univ _, ?_⟩) hd
  funext a
  match a with
  | ⟨0, _⟩ => exact Fin.ext rfl
  | ⟨1, _⟩ => exact Fin.ext rfl

/-- The head and the lane of a column. -/
abbrev hd (j : Fin 1024) : Fin 16 := ⟨j.val / 64, by omega⟩
abbrev ln (j : Fin 1024) : Fin 64 := ⟨j.val % 64, by omega⟩

theorem v90_at (t : Fin 8448) (j : Fin 1024) :
    val_main_v90 (F := Ideal) x0 x1 x2 x3 (ix2 t j) = val_main_v83 (F := Ideal) x0 x1 x2 x3 (ix3 (hd j) t (ln j)) := by
  pointwise [val_main_v90, val_main_v87, val_main_v86]

theorem v91_at (t : Fin 8448) (j : Fin 1024) :
    val_main_v91 (F := Ideal) x0 x1 x2 x3 (ix2 t j) = val_main_v82 (F := Ideal) x0 x1 x2 x3 (ix3 (hd j) t (ln j)) := by
  pointwise [val_main_v91, val_main_v85, val_main_v84]

theorem v92_at (t : Fin 8448) (j : Fin 1024) :
    val_main_v92 (F := Ideal) x0 x1 x2 x3 (ix2 t j) = val_main_v57 (F := Ideal) x0 x1 x2 x3 (ix3 (hd j) (ln j) t) := by
  pointwise [val_main_v92, val_main_v61, val_main_v60, val_main_v58]

theorem v78_at (h : Fin 16) (u : Fin 8448) :
    val_main_v78 (F := Ideal) x0 x1 x2 x3 (ix2 h u) = ∑ t : Fin 8448, -val_main_v74 (F := Ideal) x0 x1 x2 x3 (ix3 h t u) := by
  pointwise [val_main_v78, val_main_cst_13, val_main_v77, val_main_v76, val_main_cst_12, val_main_v75]
  exact Fin.sum_univ_one _

theorem v81_at (h : Fin 16) (t : Fin 8448) :
    val_main_v81 (F := Ideal) x0 x1 x2 x3 (ix2 h t) = ∑ u : Fin 8448, val_main_v74 (F := Ideal) x0 x1 x2 x3 (ix3 h t u) := by
  pointwise [val_main_v81, val_main_cst_15, val_main_v80, val_main_v79, val_main_cst_14]
  exact Fin.sum_univ_one _

abbrev pos (q : Fin 11) (p : Fin 768) : Fin 8448 := ⟨768 * q.val + p.val, by omega⟩

theorem v88_at (h : Fin 16) (q : Fin 11) (p : Fin 768) :
    val_main_v88 (F := Ideal) x0 x1 x2 x3 (ix4 h q (0 : Fin 1) p) = val_main_v78 (F := Ideal) x0 x1 x2 x3 (ix2 h (pos q p)) := by
  pointwise [val_main_v88]
  exact congrArg (fun z => val_main_v78 (F := Ideal) x0 x1 x2 x3 (ix2 h z)) (Fin.ext (by show q.val * 768 + p.val = 768 * q.val + p.val; omega))

theorem v89_at (h : Fin 16) (q : Fin 11) (p : Fin 768) :
    val_main_v89 (F := Ideal) x0 x1 x2 x3 (ix4 h q (0 : Fin 1) p) = val_main_v81 (F := Ideal) x0 x1 x2 x3 (ix2 h (pos q p)) := by
  pointwise [val_main_v89]
  exact congrArg (fun z => val_main_v81 (F := Ideal) x0 x1 x2 x3 (ix2 h z)) (Fin.ext (by show q.val * 768 + p.val = 768 * q.val + p.val; omega))

end Cert.AttnRefIdeal.Stages
-- ==== Proof.AttnI.Prelude.lean ====
/-
  What the host hands the attention gradient: the logsumexp of every row and its delta.
-/
module

public import proofs.«01_k».proof.Proof.Gen.AttnBwdIdeal.Frame
public import proofs.«01_k».proof.Proof.AttnRef

@[expose] public section

set_option maxRecDepth 16384

noncomputable section

namespace Cert.AttnBwdIdeal.Hand

open Cert.AttnBwdIdeal Cert.AttnBwdIdeal.Gen Cert.Arrays
open Idealize.ShloMosaic Idealize.ShloMosaic.TcCoe

variable (x0 x1 : S8448x1024.Idx → EReal) (x2 : S8448x2048.Idx → EReal) (x3 : S16x8448.Idx → EReal)

/-- The masked scores, as the reference has them. -/
abbrev hS : S16x8448x8448.Idx → EReal := Cert.AttnRefIdeal.Read.val_main_v22_0 (F := Ideal) x0 x2 x3
def hM : FVec Ideal S16x8448 .f32 := Host.reduce FloatOps.maximumf (hS x0 x2 x3) (constant S_ .f32 0xFF800000#32 : FVec Ideal S_ .f32) reducesTo_S16x8448x8448_S16x8448_d2 h_S_
def hMc : FVec Ideal S16x8448x1 .f32 := broadcastInDim S16x8448x1 ![0, 1] bcast_S16x8448_S16x8448x1_0_1 (hM x0 x2 x3)
def hE : FVec Ideal S16x8448x8448 .f32 := Host.exp (subf (hS x0 x2 x3 : FVec Ideal S16x8448x8448 .f32) (broadcastInDim S16x8448x8448 ![0, 1, 2] bcast_S16x8448x1_S16x8448x8448_0_1_2 (hMc x0 x2 x3)))
def hZ : FVec Ideal S16x8448 .f32 := Host.reduceAdd (hE x0 x2 x3) (constant S_ .f32 0x00000000#32 : FVec Ideal S_ .f32) reducesTo_S16x8448x8448_S16x8448_d2 h_S_
def hZc : FVec Ideal S16x8448x1 .f32 := broadcastInDim S16x8448x1 ![0, 1] bcast_S16x8448_S16x8448x1_0_1 (hZ x0 x2 x3)
def hL : FVec Ideal S16x8448x1 .f32 := addf (hMc x0 x2 x3) (Host.log (hZc x0 x2 x3))
def hP : FVec Ideal S16x8448x8448 .f32 := Host.divf (hE x0 x2 x3) (broadcastInDim S16x8448x8448 ![0, 1, 2] bcast_S16x8448x1_S16x8448x8448_0_1_2 (hZc x0 x2 x3))
def hO : FVec Ideal S16x8448x64 .f32 := Host.dotGeneral (φ₂ := .f32) dot_S16x8448x8448_S16x8448x64_S16x8448x64_2_1_1_2_0_0 none (hP x0 x2 x3) (Cert.AttnRefIdeal.Read.val_main_v52 (F := Ideal) x2 : FVec Ideal S16x8448x64 .f32)
def hD : FVec Ideal S16x8448 .f32 := Host.reduceAdd (mulf (Cert.AttnRefIdeal.Read.val_main_v56 (F := Ideal) x1 : FVec Ideal S16x8448x64 .f32) (hO x0 x2 x3)) (constant S_ .f32 0x00000000#32 : FVec Ideal S_ .f32) reducesTo_S16x8448x64_S16x8448_d2 h_S_

theorem hE_at (h : Fin 16) (t u : Fin 8448) : hE x0 x2 x3 (ix3 h t u) = Ideal.exp (hS x0 x2 x3 (ix3 h t u) - hM x0 x2 x3 (ix2 h t)) := by
  pointwise [hE, hMc]
theorem hZ_at (h : Fin 16) (t : Fin 8448) : hZ x0 x2 x3 (ix2 h t) = ∑ u : Fin 8448, hE x0 x2 x3 (ix3 h t u) := by
  pointwise [hZ]
theorem cast3_at (y : S16x8448x1.Idx → EReal) (h : Fin 16) (q : Fin 11) (p : Fin 768) :
    shapeCast S16x11x1x768 (y : FVec Ideal S16x8448x1 .f32) shapeCasts_S16x8448x1_S16x11x1x768 (ix4 h q (0 : Fin 1) p) = y (ix3 h (Cert.AttnRefIdeal.Stages.pos q p) (0 : Fin 1)) := by
  pointwise []
  exact congrArg (fun z => y (ix3 h z (0 : Fin 1))) (Fin.ext (by show q.val * 768 + p.val = 768 * q.val + p.val; omega))
theorem cast2_at (y : S16x8448.Idx → EReal) (h : Fin 16) (q : Fin 11) (p : Fin 768) :
    shapeCast S16x11x1x768 (y : FVec Ideal S16x8448 .f32) shapeCasts_S16x8448_S16x11x1x768 (ix4 h q (0 : Fin 1) p) = y (ix2 h (Cert.AttnRefIdeal.Stages.pos q p)) := by
  pointwise []
  exact congrArg (fun z => y (ix2 h z)) (Fin.ext (by show q.val * 768 + p.val = 768 * q.val + p.val; omega))
theorem hMc_at (h : Fin 16) (t : Fin 8448) : hMc x0 x2 x3 (ix3 h t (0 : Fin 1)) = hM x0 x2 x3 (ix2 h t) := by
  pointwise [hMc]
theorem hZc_at (h : Fin 16) (t : Fin 8448) : hZc x0 x2 x3 (ix3 h t (0 : Fin 1)) = hZ x0 x2 x3 (ix2 h t) := by
  pointwise [hZc]
theorem log_at (a z : FVec Ideal S16x8448x1 .f32) (i : S16x8448x1.Idx) : addf a (Host.log z) i = a i + Ideal.log (z i) := rfl
theorem hL_at (h : Fin 16) (t : Fin 8448) : hL x0 x2 x3 (ix3 h t (0 : Fin 1)) = hM x0 x2 x3 (ix2 h t) + Ideal.log (hZ x0 x2 x3 (ix2 h t)) := by
  rw [hL, log_at, hMc_at, hZc_at]
theorem hO_at (h : Fin 16) (t : Fin 8448) (d : Fin 64) :
    hO x0 x2 x3 (ix3 h t d) = ∑ u : Fin 8448, Ideal.div (hE x0 x2 x3 (ix3 h t u)) (hZ x0 x2 x3 (ix2 h t)) * Cert.AttnRefIdeal.Read.val_main_v52 (F := Ideal) x2 (ix3 h u d) := by
  pointwise [hO, hP, hZc]
theorem hD_at (h : Fin 16) (t : Fin 8448) :
    hD x0 x1 x2 x3 (ix2 h t) = ∑ d : Fin 64, Cert.AttnRefIdeal.Read.val_main_v56 (F := Ideal) x1 (ix3 h t d) * hO x0 x2 x3 (ix3 h t d) := by
  pointwise [hD]

variable (m : (ℓ : Loc nD τ sig) → Buf (Elt Ideal) ℓ) (c : Dev nD)

theorem V_v44 : V m c main_v44 = shapeCast S16x11x1x768 (m ((c : Thread nD τ).loc main_arg3) : FVec Ideal S16x8448 .f32) shapeCasts_S16x8448_S16x11x1x768 := by
  dsimp only [V, hostOps0, hostOps0_1, hostOps0_2]
  simp only [List.flatten_cons, List.flatten_nil, List.append_nil, List.cons_append, List.nil_append]
  after_results
  rfl

theorem V_v42 : V m c main_v42 = shapeCast S16x11x1x768 (hL (m ((c : Thread nD τ).loc main_arg0)) (m ((c : Thread nD τ).loc main_arg2)) (m ((c : Thread nD τ).loc main_arg3))) shapeCasts_S16x8448x1_S16x11x1x768 := by
  dsimp only [V, hostOps0, hostOps0_1, hostOps0_2]
  simp only [List.flatten_cons, List.flatten_nil, List.append_nil, List.cons_append, List.nil_append]
  after_results
  rfl

theorem V_v43 : V m c main_v43 = shapeCast S16x11x1x768 (hD (m ((c : Thread nD τ).loc main_arg0)) (m ((c : Thread nD τ).loc main_arg1)) (m ((c : Thread nD τ).loc main_arg2)) (m ((c : Thread nD τ).loc main_arg3))) shapeCasts_S16x8448_S16x11x1x768 := by
  dsimp only [V, hostOps0, hostOps0_1, hostOps0_2]
  simp only [List.flatten_cons, List.flatten_nil, List.append_nil, List.cons_append, List.nil_append]
  after_results
  rfl

end Cert.AttnBwdIdeal.Hand
-- ==== Proof.AttnI.Equal.lean ====
/-
  The attention gradient's arrays are the reference's: weight by weight, score gradient by score gradient.
-/
module

public import proofs.«01_k».proof.Proof.AttnI.Finals
public import proofs.«01_k».proof.Proof.AttnI.Prelude

@[expose] public section

set_option maxRecDepth 16384

noncomputable section

namespace Cert.AttnBwdIdeal.Hand

open Cert.AttnBwdIdeal Cert.AttnBwdIdeal.Gen Cert.Arrays Cert.Reals Cert.Soft
open Cert.AttnRefIdeal.Read Cert.AttnRefIdeal.Stages
open Idealize.ShloMosaic Idealize.ShloMosaic.TcCoe

variable (x0 x1 : S8448x1024.Idx → EReal) (x2 : S8448x2048.Idx → EReal) (x3 : S16x8448.Idx → EReal)

/-- Head `e` of pair `p`. -/
abbrev hpe (p : Fin 8) (e : Fin 2) : Fin 16 := ⟨2 * p.val + e.val, by omega⟩

/-- The pairs are given the arguments, the logsumexp and the delta. -/
structure Given (G : ℕ → Glob) : Prop where
  Q : ∀ p t l, (G p).Q t l = at2 x0 t (128 * p + l)
  DO : ∀ p t l, (G p).DO t l = at2 x1 t (128 * p + l)
  K : ∀ p t l, (G p).K t l = at2 x2 t (128 * p + l)
  V : ∀ p t l, (G p).V t l = at2 x2 t (1024 + (128 * p + l))
  C : ∀ (p : Fin 8) (e : Fin 2) (t : Fin 8448), (G p.val).C e.val t.val = x3 (ix2 (hpe p e) t)
  L : ∀ (p : Fin 8) (e : Fin 2) (t : Fin 8448), (G p.val).L e.val t.val = hL x0 x2 x3 (ix3 (hpe p e) t (0 : Fin 1))
  D : ∀ (p : Fin 8) (e : Fin 2) (t : Fin 8448), (G p.val).Dl e.val t.val = hD x0 x1 x2 x3 (ix2 (hpe p e) t)

theorem at2_real {n0 n1 : ℕ} (x : (⟨2, ![n0, n1]⟩ : Shape).Idx → EReal) (hx : ∀ i, IsReal (x i)) (a b : ℕ) : IsReal (at2 x a b) := by
  unfold at2
  split
  · exact hx _
  · exact ⟨0, rfl⟩

variable (r0 : ∀ i, IsReal (x0 i)) (r1 : ∀ i, IsReal (x1 i)) (r2 : ∀ i, IsReal (x2 i)) (r3 : ∀ i, IsReal (x3 i))

section real

include r0 r2 in
theorem qk_real (h : Fin 16) (t u : Fin 8448) :
    IsReal (∑ d : Fin 64, val_main_v6 (F := Ideal) x0 (ix3 h t d) * val_main_v8 (F := Ideal) x2 (ix3 h u d)) :=
  IsReal.sum _ _ fun d => by rw [v6_at, v8_at]; exact (at2_real x0 r0 _ _).mul (at2_real x2 r2 _ _)

include r0 r2 r3 in
theorem v15_real (h : Fin 16) (t u : Fin 8448) : IsReal (val_main_v15 (F := Ideal) x0 x2 x3 (ix3 h t u)) := by
  rw [v15_at]
  exact ((qk_real x0 x2 r0 r2 h t u).add (r3 _)).sub (r3 _)

include r0 r2 r3 in
theorem v22_top (i : S16x8448x8448.Idx) : val_main_v22_0 (F := Ideal) x0 x2 x3 i ≠ ⊤ := by
  have key : ∀ (h : Fin 16) (t u : Fin 8448), val_main_v22_0 (F := Ideal) x0 x2 x3 (ix3 h t u) ≠ ⊤ := fun h t u => by
    rw [v22_at]
    split
    · obtain ⟨r, hr⟩ := v15_real x0 x2 x3 r0 r2 r3 h t u
      rw [hr]; exact EReal.coe_ne_top r
    · exact bot_ne_top
  exact fun hh => key (i 0) (i 1) (i 2) ((congrArg (val_main_v22_0 (F := Ideal) x0 x2 x3) (eq_ix3 (n0 := 16) (n1 := 8448) (n2 := 8448) i)).symm.trans hh)

include r0 r2 r3 in
theorem v22_diag (h : Fin 16) (t : Fin 8448) : val_main_v22_0 (F := Ideal) x0 x2 x3 (ix3 h t t) ≠ ⊥ := by
  rw [v22_at, if_pos le_rfl]
  obtain ⟨r, hr⟩ := v15_real x0 x2 x3 r0 r2 r3 h t t
  rw [hr]; exact EReal.coe_ne_bot r

include r0 r2 r3 in
theorem hM_real (h : Fin 16) (t : Fin 8448) : IsReal (hM x0 x2 x3 (ix2 h t)) :=
  rowmax (val_main_v22_0 (F := Ideal) x0 x2 x3) h t (v22_top x0 x2 x3 r0 r2 r3) (v22_diag x0 x2 x3 r0 r2 r3 h t) _ (fun _ => bot_bits) _ _

include r0 r2 r3 in
theorem v30_real (h : Fin 16) (t : Fin 8448) : IsReal (val_main_v30 (F := Ideal) x0 x2 x3 (ix2 h t)) := by
  obtain ⟨r, hr⟩ := rowmax (val_main_v22_0 (F := Ideal) x0 x2 x3) h t (v22_top x0 x2 x3 r0 r2 r3) (v22_diag x0 x2 x3 r0 r2 r3 h t)
    (val_main_cst_0 (F := Ideal)) (fun _ => bot_bits) reducesTo_S16x8448x8448_S16x8448_d2 h_S_
  refine ⟨r, ?_⟩
  rw [val_main_v30_apply]
  have e : val_main_v29 (F := Ideal) (ix2 h t) = ⊥ := bot_bits
  show max (val_main_v29 (F := Ideal) (ix2 h t)) (val_main_v23 (F := Ideal) x0 x2 x3 (ix2 h t)) = _
  rw [e, max_eq_right bot_le]
  exact hr

include r1 r2 in
theorem v59_real (h : Fin 16) (t u : Fin 8448) : IsReal (val_main_v59 (F := Ideal) x1 x2 (ix3 h t u)) := by
  rw [v59_at]
  exact IsReal.sum _ _ fun d => by rw [v56_at, v52_at]; exact (at2_real x1 r1 _ _).mul (at2_real x2 r2 _ _)

/-- What one row of a pair's arrays says: its weights and its score gradients are the reference's, and real. -/
structure RowEq (G : ℕ → Glob) (p : Fin 8) (e : Fin 2) (t u : Fin 8448) : Prop where
  w : (G p.val).W e.val t.val u.val = val_main_v47 (F := Ideal) x0 x2 x3 (ix3 (hpe p e) t u)
  dm : (G p.val).Dm e.val t.val u.val = val_main_v74 (F := Ideal) x0 x1 x2 x3 (ix3 (hpe p e) t u)
  real : IsReal (val_main_v74 (F := Ideal) x0 x1 x2 x3 (ix3 (hpe p e) t u))

theorem S_eq (G : ℕ → Glob) (g : Given x0 x1 x2 x3 G) (p : Fin 8) (e : Fin 2) (t u : Fin 8448) :
    (G p.val).S e.val t.val u.val
      = ∑ d : Fin 64, val_main_v6 (F := Ideal) x0 (ix3 (hpe p e) t d) * val_main_v8 (F := Ideal) x2 (ix3 (hpe p e) u d) := by
  unfold Glob.S
  refine (lanes (fun l => (G p.val).K u.val l) (fun l => (G p.val).Q t.val l) e).trans (Finset.sum_congr rfl fun d _ => ?_)
  rw [g.K, g.Q, v6_at, v8_at, mul_comm]
  have a : 128 * p.val + (64 * e.val + d.val) = 64 * (hpe p e).val + d.val := by show _ = 64 * (2 * p.val + e.val) + d.val; omega
  rw [a]

theorem DP_eq (G : ℕ → Glob) (g : Given x0 x1 x2 x3 G) (p : Fin 8) (e : Fin 2) (t u : Fin 8448) :
    (G p.val).DP e.val t.val u.val = val_main_v59 (F := Ideal) x1 x2 (ix3 (hpe p e) t u) := by
  rw [v59_at]
  unfold Glob.DP
  refine (lanes (fun l => (G p.val).V u.val l) (fun l => (G p.val).DO t.val l) e).trans (Finset.sum_congr rfl fun d _ => ?_)
  rw [g.V, g.DO, v56_at, v52_at, mul_comm]
  have a : 128 * p.val + (64 * e.val + d.val) = 64 * (hpe p e).val + d.val := by show _ = 64 * (2 * p.val + e.val) + d.val; omega
  rw [a]

include r0 r1 r2 r3 in
theorem row_eq (G : ℕ → Glob) (g : Given x0 x1 x2 x3 G) (p : Fin 8) (e : Fin 2) (t u : Fin 8448) :
    RowEq x0 x1 x2 x3 G p e t u := by
  obtain ⟨h, hh⟩ : ∃ h, h = hpe p e := ⟨_, rfl⟩
  choose s hs using fun u => v15_real x0 x2 x3 r0 r2 r3 h t u
  choose dp hdp using fun u => v59_real x1 x2 r1 r2 h t u
  choose a ha using fun u => qk_real x0 x2 r0 r2 h t u
  choose o ho using fun d : Fin 64 => at2_real x1 r1 t.val (64 * h.val + d.val)
  choose v hv using fun (u : Fin 8448) (d : Fin 64) => at2_real x2 r2 u.val (1024 + (64 * h.val + d.val))
  choose c hc using fun u : Fin 8448 => r3 (ix2 h u)
  obtain ⟨M1, hM1⟩ := v30_real x0 x2 x3 r0 r2 r3 h t
  obtain ⟨M2, hM2⟩ := hM_real x0 x2 x3 r0 r2 r3 h t
  have k0 : t.val ≤ t.val := le_rfl
  have hab : ∀ u, a u + c t - c u = s u := fun u => by
    have e := v15_at x0 x2 x3 h t u
    rw [hs u, ha u, hc t, hc u, ← EReal.coe_add, ← EReal.coe_sub] at e
    exact (EReal.coe_eq_coe_iff.mp e).symm
  have hdo : ∀ u, dp u = ∑ d, o d * v u d := fun u => by
    have e := v59_at x1 x2 h t u
    rw [hdp u, Finset.sum_congr rfl fun d _ => by rw [v56_at, v52_at, ho d, hv u d, ← EReal.coe_mul], ← coe_sum] at e
    exact EReal.coe_eq_coe_iff.mp e
  have h22 : ∀ u : Fin 8448, val_main_v22_0 (F := Ideal) x0 x2 x3 (ix3 h t u) = if u.val ≤ t.val then (s u : EReal) else ⊥ := fun u => by
    rw [v22_at, hs u]
  have E1 : ∀ u : Fin 8448, val_main_v43 (F := Ideal) x0 x2 x3 (ix3 h t u) = Ideal.exp ((if u.val ≤ t.val then (s u : EReal) else ⊥) - (M1 : EReal)) := fun u => by
    rw [v43_at, h22 u, hM1]
  have E2 : ∀ u : Fin 8448, hE x0 x2 x3 (ix3 h t u) = Ideal.exp ((if u.val ≤ t.val then (s u : EReal) else ⊥) - (M2 : EReal)) := fun u => by
    rw [hE_at, hM2]
    exact congrArg (fun z => Ideal.exp (z - (M2 : EReal))) (h22 u)
  have Z1 := v44_at x0 x2 x3 h t
  have Z2 := hZ_at x0 x2 x3 h t
  have w1 : ∀ u, val_main_v47 (F := Ideal) x0 x2 x3 (ix3 h t u) = ((pr s (fun u => u.val ≤ t.val) u : ℝ) : EReal) := fun u => by
    rw [v47_at]
    exact div_eq s (fun u => u.val ≤ t.val) t k0 M1 _ E1 _ Z1 u
  have d1 : val_main_v74 (F := Ideal) x0 x1 x2 x3 (ix3 h t u)
      = ((pr s (fun u => u.val ≤ t.val) u * (dp u - ∑ u', pr s (fun u => u.val ≤ t.val) u' * dp u') : ℝ) : EReal) := by
    rw [v74_at]
    by_cases hu : u.val ≤ t.val
    · rw [if_pos hu, v70_at, v65_at, hdp u]
      rw [Finset.sum_congr rfl fun u' _ => by rw [hdp u']]
      exact grad_eq s (fun u => u.val ≤ t.val) t k0 M1 _ E1 _ Z1 dp u
    · rw [if_neg hu, pr_out s (fun u => u.val ≤ t.val) u hu, zero_mul]; rfl
  have D2 : hD x0 x1 x2 x3 (ix2 h t) = ((∑ u', pr s (fun u => u.val ≤ t.val) u' * dp u' : ℝ) : EReal) := by
    rw [hD_at]
    rw [Finset.sum_congr rfl fun d _ => by
      rw [hO_at, v56_at, ho d, Finset.sum_congr rfl fun u _ => by
        rw [div_eq s (fun u => u.val ≤ t.val) t k0 M2 _ E2 _ Z2 u, v52_at, hv u d, ← EReal.coe_mul], ← coe_sum, ← EReal.coe_mul], ← coe_sum]
    rw [swap o (fun u => pr s (fun u => u.val ≤ t.val) u) v]
    simp only [← hdo]
  have w2 : (G p.val).W e.val t.val u.val = ((pr s (fun u => u.val ≤ t.val) u : ℝ) : EReal) := by
    unfold Glob.W
    by_cases hu : u.val ≤ t.val
    · rw [if_pos hu, S_eq x0 x1 x2 x3 G g, g.C, g.C, g.L, ← hh, hL_at, ha u, hc t, hc u, hM2]
      exact lse_eq s (fun u => u.val ≤ t.val) t k0 M2 _ E2 _ Z2 u hu (a u) (c t) (c u) (hab u)
    · rw [if_neg hu, pr_out s (fun u => u.val ≤ t.val) u hu]; rfl
  have m2 : (G p.val).Dm e.val t.val u.val
      = ((pr s (fun u => u.val ≤ t.val) u * (dp u - ∑ u', pr s (fun u => u.val ≤ t.val) u' * dp u') : ℝ) : EReal) := by
    unfold Glob.Dm
    rw [w2, DP_eq x0 x1 x2 x3 G g, g.D, ← hh, hdp u, D2, ← EReal.coe_sub, ← EReal.coe_mul]
  exact ⟨by rw [← hh]; exact w2.trans (w1 u).symm, by rw [← hh]; exact m2.trans d1.symm, by rw [← hh]; exact ⟨_, d1⟩⟩

end real

section results

theorem head_lane (p : Fin 8) (j : Fin 1024) (hp : p.val = j.val / 128) : ∃ e : Fin 2, e.val = j.val % 128 / 64 ∧ hpe p e = hd j :=
  ⟨⟨j.val % 128 / 64, by omega⟩, rfl, Fin.ext (by show 2 * p.val + j.val % 128 / 64 = j.val / 64; omega)⟩

include r0 r1 r2 r3 in
theorem eq_dq (G : ℕ → Glob) (g : Given x0 x1 x2 x3 G) (t : Fin 8448) (j : Fin 1024) :
    R7 G (ix2 t j) = val_main_v90 (F := Ideal) x0 x1 x2 x3 (ix2 t j) := by
  obtain ⟨p, hp⟩ : ∃ p : Fin 8, p.val = j.val / 128 := ⟨⟨j.val / 128, by omega⟩, rfl⟩
  obtain ⟨e, he, hh⟩ := head_lane p j hp
  rw [v90_at, v83_at]
  show ∑ u ∈ Finset.range 8448, (G (j.val / 128)).K u (j.val % 128) * (G (j.val / 128)).Dm (j.val % 128 / 64) t.val u = _
  rw [Finset.sum_range, ← hp, ← he]
  refine Finset.sum_congr rfl fun u _ => ?_
  rw [(row_eq x0 x1 x2 x3 r0 r1 r2 r3 G g p e t u).dm, g.K, hh, v8_at, mul_comm]
  have a : 128 * p.val + j.val % 128 = 64 * (hd j).val + (ln j).val := by show _ = 64 * (j.val / 64) + j.val % 64; omega
  rw [a]

include r0 r1 r2 r3 in
theorem eq_dk (G : ℕ → Glob) (g : Given x0 x1 x2 x3 G) (u : Fin 8448) (j : Fin 1024) :
    R8 G (ix2 u j) = val_main_v91 (F := Ideal) x0 x1 x2 x3 (ix2 u j) := by
  obtain ⟨p, hp⟩ : ∃ p : Fin 8, p.val = j.val / 128 := ⟨⟨j.val / 128, by omega⟩, rfl⟩
  obtain ⟨e, he, hh⟩ := head_lane p j hp
  rw [v91_at, v82_at]
  show ∑ t ∈ Finset.range 8448, (G (j.val / 128)).Dm (j.val % 128 / 64) t u.val * (G (j.val / 128)).Q t (j.val % 128) = _
  rw [Finset.sum_range, ← hp, ← he]
  refine Finset.sum_congr rfl fun t _ => ?_
  rw [(row_eq x0 x1 x2 x3 r0 r1 r2 r3 G g p e t u).dm, g.Q, hh, v6_at]
  have a : 128 * p.val + j.val % 128 = 64 * (hd j).val + (ln j).val := by show _ = 64 * (j.val / 64) + j.val % 64; omega
  rw [a]

include r0 r1 r2 r3 in
theorem eq_dv (G : ℕ → Glob) (g : Given x0 x1 x2 x3 G) (u : Fin 8448) (j : Fin 1024) :
    R9 G (ix2 u j) = val_main_v92 (F := Ideal) x0 x1 x2 x3 (ix2 u j) := by
  obtain ⟨p, hp⟩ : ∃ p : Fin 8, p.val = j.val / 128 := ⟨⟨j.val / 128, by omega⟩, rfl⟩
  obtain ⟨e, he, hh⟩ := head_lane p j hp
  rw [v92_at, v57_at]
  show ∑ t ∈ Finset.range 8448, (G (j.val / 128)).W (j.val % 128 / 64) t u.val * (G (j.val / 128)).DO t (j.val % 128) = _
  rw [Finset.sum_range, ← hp, ← he]
  refine Finset.sum_congr rfl fun t _ => ?_
  rw [(row_eq x0 x1 x2 x3 r0 r1 r2 r3 G g p e t u).w, g.DO, hh, v56_at, mul_comm]
  have a : 128 * p.val + j.val % 128 = 64 * (hd j).val + (ln j).val := by show _ = 64 * (j.val / 64) + j.val % 64; omega
  rw [a]

theorem pair_of (h : Fin 16) : ∃ (p : Fin 8) (e : Fin 2), p.val = h.val / 2 ∧ e.val = h.val % 2 ∧ hpe p e = h :=
  ⟨⟨h.val / 2, by omega⟩, ⟨h.val % 2, by omega⟩, rfl, rfl, Fin.ext (by show 2 * (h.val / 2) + h.val % 2 = h.val; omega)⟩

include r0 r1 r2 r3 in
theorem eq_dcs (G : ℕ → Glob) (g : Given x0 x1 x2 x3 G) (h : Fin 16) (q : Fin 11) (l : Fin 768) :
    R10 G (ix4 h q (0 : Fin 1) l) = val_main_v88 (F := Ideal) x0 x1 x2 x3 (ix4 h q (0 : Fin 1) l) := by
  obtain ⟨p, e, hp, he, hh⟩ := pair_of h
  rw [v88_at, v78_at]
  show 0 - ∑ t ∈ Finset.range 8448, (G (h.val / 2)).Dm (h.val % 2) t (pos q l).val = _
  rw [Finset.sum_range, ← hp, ← he]
  choose r hr using fun t : Fin 8448 => (row_eq x0 x1 x2 x3 r0 r1 r2 r3 G g p e t (pos q l)).real
  have ek : ∑ t : Fin 8448, (G p.val).Dm e.val t.val (pos q l).val = ((∑ t, r t : ℝ) : EReal) := by
    rw [coe_sum]
    exact Finset.sum_congr rfl fun t _ => (row_eq x0 x1 x2 x3 r0 r1 r2 r3 G g p e t (pos q l)).dm.trans (hr t)
  have er : ∑ t : Fin 8448, -val_main_v74 (F := Ideal) x0 x1 x2 x3 (ix3 (hpe p e) t (pos q l)) = ((∑ t, -r t : ℝ) : EReal) := by
    rw [coe_sum]
    exact Finset.sum_congr rfl fun t _ => by rw [hr t, EReal.coe_neg]
  rw [← hh, er]
  refine (congrArg (0 - ·) ek).trans ?_
  rw [Finset.sum_neg_distrib, EReal.coe_neg, zero_sub]

include r0 r1 r2 r3 in
theorem eq_dcq (G : ℕ → Glob) (g : Given x0 x1 x2 x3 G) (h : Fin 16) (q : Fin 11) (l : Fin 768) :
    R11 G (ix4 h q (0 : Fin 1) l) = val_main_v89 (F := Ideal) x0 x1 x2 x3 (ix4 h q (0 : Fin 1) l) := by
  obtain ⟨p, e, hp, he, hh⟩ := pair_of h
  rw [v89_at, v81_at]
  show ∑ u ∈ Finset.range 8448, (G (h.val / 2)).Dm (h.val % 2) (pos q l).val u = _
  rw [Finset.sum_range, ← hp, ← he]
  exact Finset.sum_congr rfl fun u _ => by rw [(row_eq x0 x1 x2 x3 r0 r1 r2 r3 G g p e (pos q l) u).dm, hh]

end results

theorem atRow_pos (x : S16x11x1x768.Idx → EReal) (h : Fin 16) (t : Fin 8448) :
    atRow x h.val t.val = x (ix4 h (⟨t.val / 768, by omega⟩ : Fin 11) (0 : Fin 1) (⟨t.val % 768, by omega⟩ : Fin 768)) := by
  unfold atRow
  rw [dif_pos ⟨h.isLt, t.isLt⟩]

theorem pos_eq (t : Fin 8448) : pos (⟨t.val / 768, by omega⟩ : Fin 11) (⟨t.val % 768, by omega⟩ : Fin 768) = t :=
  Fin.ext (by show 768 * (t.val / 768) + t.val % 768 = t.val; omega)

theorem row3 (y : S16x8448x1.Idx → EReal) (h : Fin 16) (t : Fin 8448) :
    atRow (shapeCast S16x11x1x768 (y : FVec Ideal S16x8448x1 .f32) shapeCasts_S16x8448x1_S16x11x1x768) h.val t.val = y (ix3 h t (0 : Fin 1)) :=
  (atRow_pos _ h t).trans ((cast3_at y h _ _).trans (congrArg (fun z => y (ix3 h z (0 : Fin 1))) (pos_eq t)))

theorem row2 (y : S16x8448.Idx → EReal) (h : Fin 16) (t : Fin 8448) :
    atRow (shapeCast S16x11x1x768 (y : FVec Ideal S16x8448 .f32) shapeCasts_S16x8448_S16x11x1x768) h.val t.val = y (ix2 h t) :=
  (atRow_pos _ h t).trans ((cast2_at y h _ _).trans (congrArg (fun z => y (ix2 h z)) (pos_eq t)))

variable (m : (ℓ : Loc nD τ sig) → Buf (Elt Ideal) ℓ) (c : Dev nD)

theorem given : Given (m ((c : Thread nD τ).loc main_arg0)) (m ((c : Thread nD τ).loc main_arg1)) (m ((c : Thread nD τ).loc main_arg2))
    (m ((c : Thread nD τ).loc main_arg3)) (glob m c) where
  Q p t l := congrArg (fun x : S8448x1024.Idx → EReal => at2 x t (128 * p + l)) (V_main_arg0 m c)
  DO p t l := congrArg (fun x : S8448x1024.Idx → EReal => at2 x t (128 * p + l)) (V_main_arg1 m c)
  K p t l := congrArg (fun x : S8448x2048.Idx → EReal => at2 x t (128 * p + l)) (V_main_arg2 m c)
  V p t l := congrArg (fun x : S8448x2048.Idx → EReal => at2 x t (1024 + (128 * p + l))) (V_main_arg2 m c)
  C p e t := (congrArg (fun x : S16x11x1x768.Idx → EReal => atRow x (hpe p e).val t.val) (V_v44 m c)).trans (row2 _ (hpe p e) t)
  L p e t := (congrArg (fun x : S16x11x1x768.Idx → EReal => atRow x (hpe p e).val t.val) (V_v42 m c)).trans (row3 _ (hpe p e) t)
  D p e t := (congrArg (fun x : S16x11x1x768.Idx → EReal => atRow x (hpe p e).val t.val) (V_v43 m c)).trans (row2 _ (hpe p e) t)

include r0 r1 r2 r3 in
/-- The five results of the pairs, as whole arrays. -/
theorem equal (G : ℕ → Glob) (g : Given x0 x1 x2 x3 G) :
    R7 G = val_main_v90 (F := Ideal) x0 x1 x2 x3 ∧ R8 G = val_main_v91 (F := Ideal) x0 x1 x2 x3 ∧ R9 G = val_main_v92 (F := Ideal) x0 x1 x2 x3
      ∧ R10 G = val_main_v88 (F := Ideal) x0 x1 x2 x3 ∧ R11 G = val_main_v89 (F := Ideal) x0 x1 x2 x3 := by
  refine ⟨?_, ?_, ?_, ?_, ?_⟩ <;> funext i
  · obtain ⟨t, j, rfl⟩ : ∃ (t : Fin 8448) (j : Fin 1024), i = ix2 t j := ⟨i 0, i 1, eq_ix2 i⟩
    exact eq_dq x0 x1 x2 x3 r0 r1 r2 r3 G g t j
  · obtain ⟨t, j, rfl⟩ : ∃ (t : Fin 8448) (j : Fin 1024), i = ix2 t j := ⟨i 0, i 1, eq_ix2 i⟩
    exact eq_dk x0 x1 x2 x3 r0 r1 r2 r3 G g t j
  · obtain ⟨t, j, rfl⟩ : ∃ (t : Fin 8448) (j : Fin 1024), i = ix2 t j := ⟨i 0, i 1, eq_ix2 i⟩
    exact eq_dv x0 x1 x2 x3 r0 r1 r2 r3 G g t j
  · obtain ⟨h, q, z, l, rfl⟩ : ∃ (h : Fin 16) (q : Fin 11) (z : Fin 1) (l : Fin 768), i = ix4 h q z l := ⟨i 0, i 1, i 2, i 3, eq_ix4 i⟩
    rw [Subsingleton.elim z (0 : Fin 1)]
    exact eq_dcs x0 x1 x2 x3 r0 r1 r2 r3 G g h q l
  · obtain ⟨h, q, z, l, rfl⟩ : ∃ (h : Fin 16) (q : Fin 11) (z : Fin 1) (l : Fin 768), i = ix4 h q z l := ⟨i 0, i 1, i 2, i 3, eq_ix4 i⟩
    rw [Subsingleton.elim z (0 : Fin 1)]
    exact eq_dcq x0 x1 x2 x3 r0 r1 r2 r3 G g h q l

end Cert.AttnBwdIdeal.Hand
-- ==== Proof.lean ====
/-
  The claims, from the frames, the values and the equations.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.AttnBwd.Frame
public import proofs.«01_k».proof.Proof.Gen.AttnBwd.Skeleton
public import proofs.«01_k».proof.Proof.Gen.AttnBwd.Loops
public import proofs.«01_k».proof.Proof.Gen.AttnBwdIdeal.Frame
public import proofs.«01_k».proof.Proof.Gen.AttnBwdIdeal.Skeleton
public import proofs.«01_k».proof.Proof.Gen.AttnBwdIdeal.Loops
public import proofs.«01_k».proof.Proof.Gen.AttnRefIdeal.Run
public import proofs.«01_k».proof.Proof.Gen.AttnRefIdeal.Read
public import proofs.«01_k».proof.Proof.Gen.Pre_attn_finite
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Dact
public import proofs.«01_k».proof.Proof.Gen.Dact.Skeleton
public import proofs.«01_k».proof.Proof.Gen.Dact.Launch
public import proofs.«01_k».proof.Proof.Gen.Dact.Points
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactIdeal.Value
public import proofs.«01_k».proof.Proof.Gen.DactRefIdeal
public import proofs.«01_k».proof.Proof.Gen.DactRefIdeal.Run
public import proofs.«01_k».proof.Proof.Gen.DactRefIdeal.Read
public import proofs.«01_k».proof.Proof.Gen.Dwin
public import proofs.«01_k».proof.Proof.Gen.Dwin.Skeleton
public import proofs.«01_k».proof.Proof.Gen.Dwin.Launch
public import proofs.«01_k».proof.Proof.Gen.Dwin.Points
public import proofs.«01_k».proof.Proof.Gen.Dwin.Frame
public import proofs.«01_k».proof.Proof.Gen.DwinIdeal
public import proofs.«01_k».proof.Proof.Gen.DwinIdeal.Skeleton
public import proofs.«01_k».proof.Proof.Gen.DwinIdeal.Launch
public import proofs.«01_k».proof.Proof.Gen.DwinIdeal.Points
public import proofs.«01_k».proof.Proof.Gen.DwinIdeal.Frame
public import proofs.«01_k».proof.Proof.Gen.DwinIdeal.Value
public import proofs.«01_k».proof.Proof.Gen.DwinRefIdeal
public import proofs.«01_k».proof.Proof.Gen.DwinRefIdeal.Run
public import proofs.«01_k».proof.Proof.Gen.DwinRefIdeal.Read
public import proofs.«01_k».proof.Proof.Gen.Dwout
public import proofs.«01_k».proof.Proof.Gen.Dwout.Skeleton
public import proofs.«01_k».proof.Proof.Gen.Dwout.Launch
public import proofs.«01_k».proof.Proof.Gen.Dwout.Points
public import proofs.«01_k».proof.Proof.Gen.Dwout.Frame
public import proofs.«01_k».proof.Proof.Gen.DwoutIdeal
public import proofs.«01_k».proof.Proof.Gen.DwoutIdeal.Skeleton
public import proofs.«01_k».proof.Proof.Gen.DwoutIdeal.Launch
public import proofs.«01_k».proof.Proof.Gen.DwoutIdeal.Points
public import proofs.«01_k».proof.Proof.Gen.DwoutIdeal.Frame
public import proofs.«01_k».proof.Proof.Gen.DwoutIdeal.Value
public import proofs.«01_k».proof.Proof.Gen.DwoutRefIdeal
public import proofs.«01_k».proof.Proof.Gen.DwoutRefIdeal.Run
public import proofs.«01_k».proof.Proof.Gen.DwoutRefIdeal.Read
public import proofs.«01_k».proof.Proof.Equation
public import proofs.«01_k».proof.Proof.Up
public import proofs.«01_k».proof.Proof.Dact
public import proofs.«01_k».proof.Proof.Dwin
public import proofs.«01_k».proof.Proof.Dwout
public import proofs.«01_k».proof.Proof.AttnB.Frame
public import proofs.«01_k».proof.Proof.AttnI.Frame
public import proofs.«01_k».proof.Proof.AttnI.Equal
public import Idealize.ShloMosaic.Adequacy
public import Idealize.ShloMosaic.Init

@[expose] public section

noncomputable section

namespace Cert.Proof

open Idealize.ShloMosaic Idealize.ShloMosaic.TcCoe Idealize.SL.Sem

/-- The reference is host code without semaphores; its run leaves the arguments. -/
theorem frame_ref : quiescent_ReferenceIdeal (hReferenceIdeal := ReferenceIdeal.Gen.facts) := fun m ρ _ =>
  (θ_run _ _ _).mono (fun r h => ⟨fun c => (h c).2.2.2.2, sem_eq_zero_of_no_sems (by decide) r.2⟩)
    (ReferenceIdeal.Value.run (F := Ideal) m ρ)

/-- The precondition says of every entry that it is real. -/
theorem entries [Pre_finite.Facts] (m) (h : Pre_KernelIdeal_finite m) (c : Dev KernelIdeal.nD) :
    (∀ i, Reals.IsReal (Equation.a0 m c i)) ∧ (∀ i, Reals.IsReal (Equation.a1 m c i))
    ∧ (∀ i, Reals.IsReal (Equation.a2 m c i)) ∧ (∀ i, Reals.IsReal (Equation.a3 m c i))
    ∧ (∀ i, Reals.IsReal (Equation.a4 m c i)) := by
  obtain ⟨p0, p1, p2, p3, p4⟩ := h c
  exact ⟨fun i => Reals.isReal_of_finite _ (congrFun p0 i), fun i => Reals.isReal_of_finite _ (congrFun p1 i),
    fun i => Reals.isReal_of_finite _ (congrFun p2 i), fun i => Reals.isReal_of_finite _ (congrFun p3 i),
    fun i => Reals.isReal_of_finite _ (congrFun p4 i)⟩

theorem dh_algebraic [Pre_finite.Facts] :
    algebraic_KernelIdeal_ReferenceIdeal_pre_finite (hKernelIdeal := KernelIdeal.Gen.facts)
      (hReferenceIdeal := ReferenceIdeal.Gen.facts) := by
  intro m g m' g' hpre hargs
  refine ⟨fun c => KernelIdeal.Value.G6 m c, fun c => KernelIdeal.Value.G7 m c,
    fun c => KernelIdeal.Value.G8 m c, fun c => KernelIdeal.Value.G9 m c,
    KernelIdeal.Value.run m g, (θ_run _ _ _).mono (fun r h c => ?_) (ReferenceIdeal.Value.run m' g')⟩
  obtain ⟨e0, e1, e2, e3, k⟩ := h c
  obtain ⟨q0, q1, q2, q3, q4⟩ := hargs c
  obtain ⟨p0, p1, p2, p3, p4⟩ := entries m hpre c
  refine ⟨e0.trans ((ReferenceIdeal.Read.val_main_v66_eq m' c).trans ?_),
    e1.trans ((ReferenceIdeal.Read.val_main_v67_eq m' c).trans ?_),
    e2.trans ((ReferenceIdeal.Read.val_main_v42_eq _ _ _ _).trans ?_),
    e3.trans ((ReferenceIdeal.Read.val_main_v39_eq _ _ _).trans ?_), k⟩
  · rw [q0, q1, q2, q3, q4]; exact (Equation.rows32 m c p0 p1 p2 p3 p4).symm
  · rw [q0, q1, q2, q3, q4]; exact (Equation.rows16 m c p0 p1 p2 p3 p4).symm
  · rw [q0, q1, q2, q3]; exact (Equation.scale m c).symm
  · rw [q0, q1, q2]; exact (Equation.shift m c).symm

/-- The attention reference is host code without semaphores; its run leaves the arguments. -/
theorem frame_attn_ref : quiescent_AttnRefIdeal (hAttnRefIdeal := AttnRefIdeal.Gen.facts) := fun m ρ _ =>
  (θ_run _ _ _).mono (fun r h => ⟨fun c => (h c).2.2.2.2.2, sem_eq_zero_of_no_sems (by decide) r.2⟩)
    (AttnRefIdeal.Value.run (F := Ideal) m ρ)

abbrev arg0 (m : (ℓ : Loc AttnBwdIdeal.nD AttnBwdIdeal.τ AttnBwdIdeal.sig) → Buf (Elt Ideal) ℓ) (c : Dev AttnBwdIdeal.nD) :=
  m ((c.tc : Thread AttnBwdIdeal.nD AttnBwdIdeal.τ).loc AttnBwdIdeal.main_arg0)
abbrev arg1 (m : (ℓ : Loc AttnBwdIdeal.nD AttnBwdIdeal.τ AttnBwdIdeal.sig) → Buf (Elt Ideal) ℓ) (c : Dev AttnBwdIdeal.nD) :=
  m ((c.tc : Thread AttnBwdIdeal.nD AttnBwdIdeal.τ).loc AttnBwdIdeal.main_arg1)
abbrev arg2 (m : (ℓ : Loc AttnBwdIdeal.nD AttnBwdIdeal.τ AttnBwdIdeal.sig) → Buf (Elt Ideal) ℓ) (c : Dev AttnBwdIdeal.nD) :=
  m ((c.tc : Thread AttnBwdIdeal.nD AttnBwdIdeal.τ).loc AttnBwdIdeal.main_arg2)
abbrev arg3 (m : (ℓ : Loc AttnBwdIdeal.nD AttnBwdIdeal.τ AttnBwdIdeal.sig) → Buf (Elt Ideal) ℓ) (c : Dev AttnBwdIdeal.nD) :=
  m ((c.tc : Thread AttnBwdIdeal.nD AttnBwdIdeal.τ).loc AttnBwdIdeal.main_arg3)

/-- On arguments whose entries are real the pairs' results are the reference's. -/
theorem attn_equal [Pre_attn_finite.Facts] (m) (h : Pre_AttnBwdIdeal_attn_finite m) (c : Dev AttnBwdIdeal.nD) :
    AttnBwdIdeal.Hand.R7 (AttnBwdIdeal.Hand.glob m c) = AttnRefIdeal.Read.val_main_v90 (F := Ideal)
      (arg0 m c) (arg1 m c) (arg2 m c) (arg3 m c)
    ∧ AttnBwdIdeal.Hand.R8 (AttnBwdIdeal.Hand.glob m c) = AttnRefIdeal.Read.val_main_v91 (F := Ideal)
      (arg0 m c) (arg1 m c) (arg2 m c) (arg3 m c)
    ∧ AttnBwdIdeal.Hand.R9 (AttnBwdIdeal.Hand.glob m c) = AttnRefIdeal.Read.val_main_v92 (F := Ideal)
      (arg0 m c) (arg1 m c) (arg2 m c) (arg3 m c)
    ∧ AttnBwdIdeal.Hand.R10 (AttnBwdIdeal.Hand.glob m c) = AttnRefIdeal.Read.val_main_v88 (F := Ideal)
      (arg0 m c) (arg1 m c) (arg2 m c) (arg3 m c)
    ∧ AttnBwdIdeal.Hand.R11 (AttnBwdIdeal.Hand.glob m c) = AttnRefIdeal.Read.val_main_v89 (F := Ideal)
      (arg0 m c) (arg1 m c) (arg2 m c) (arg3 m c) :=
  AttnBwdIdeal.Hand.equal _ _ _ _
    (fun i => Reals.isReal_of_finite _ (congrFun (h c).1 i)) (fun i => Reals.isReal_of_finite _ (congrFun (h c).2.1 i))
    (fun i => Reals.isReal_of_finite _ (congrFun (h c).2.2.1 i)) (fun i => Reals.isReal_of_finite _ (congrFun (h c).2.2.2 i))
    _ (AttnBwdIdeal.Hand.given m c)

theorem attn_algebraic [Pre_attn_finite.Facts] :
    algebraic_AttnBwdIdeal_AttnRefIdeal_pre_attn_finite (hAttnBwdIdeal := AttnBwdIdeal.Gen.facts)
      (hAttnRefIdeal := AttnRefIdeal.Gen.facts) := by
  intro m g m' g' hpre hargs
  refine ⟨fun c => AttnBwdIdeal.Hand.R7 (AttnBwdIdeal.Hand.glob m c), fun c => AttnBwdIdeal.Hand.R8 (AttnBwdIdeal.Hand.glob m c),
    fun c => AttnBwdIdeal.Hand.R9 (AttnBwdIdeal.Hand.glob m c), fun c => AttnBwdIdeal.Hand.R10 (AttnBwdIdeal.Hand.glob m c),
    fun c => AttnBwdIdeal.Hand.R11 (AttnBwdIdeal.Hand.glob m c),
    AttnBwdIdeal.Hand.run m g, (θ_run _ _ _).mono (fun r h c => ?_) (AttnRefIdeal.Value.run m' g')⟩
  obtain ⟨e0, e1, e2, e3, e4, k⟩ := h c
  obtain ⟨q0, q1, q2, q3⟩ := hargs c
  obtain ⟨w0, w1, w2, w3, w4⟩ := attn_equal m hpre c
  refine ⟨e0.trans ((AttnRefIdeal.Read.val_main_v90_eq m' c).trans ?_),
    e1.trans ((AttnRefIdeal.Read.val_main_v91_eq m' c).trans ?_),
    e2.trans ((AttnRefIdeal.Read.val_main_v92_eq m' c).trans ?_),
    e3.trans ((AttnRefIdeal.Read.val_main_v88_eq m' c).trans ?_),
    e4.trans ((AttnRefIdeal.Read.val_main_v89_eq m' c).trans ?_), k⟩
  · rw [q0, q1, q2, q3]; exact w0.symm
  · rw [q0, q1, q2, q3]; exact w1.symm
  · rw [q0, q1, q2, q3]; exact w2.symm
  · rw [q0, q1, q2, q3]; exact w3.symm
  · rw [q0, q1, q2, q3]; exact w4.symm

/-- The product's reference is host code without semaphores; its run leaves the arguments. -/
theorem frame_up_ref : quiescent_UpRefIdeal (hUpRefIdeal := UpRefIdeal.Gen.facts) := fun m ρ _ =>
  (θ_run _ _ _).mono (fun r h => ⟨fun c => (h c).2, sem_eq_zero_of_no_sems (by decide) r.2⟩)
    (UpRefIdeal.Value.run (F := Ideal) m ρ)

theorem up_algebraic :
    algebraic_UpIdeal_UpRefIdeal (hUpIdeal := UpIdeal.Gen.facts) (hUpRefIdeal := UpRefIdeal.Gen.facts) := by
  intro m g m' g' _ hargs
  refine ⟨_, UpIdeal.Value.run_blocks m g, (θ_run _ _ _).mono (fun r h c => ?_) (UpRefIdeal.Value.run m' g')⟩
  obtain ⟨e, k⟩ := h c
  refine ⟨e.trans ((UpRefIdeal.Read.val_main_v2_eq _ _).trans ?_), k⟩
  rw [(hargs c).1, (hargs c).2]; exact (UpIdeal.Hand.equal m c).symm

/-- The hidden rows' gradient's reference is host code without semaphores; its run leaves the arguments. -/
theorem frame_dact_ref : quiescent_DactRefIdeal (hDactRefIdeal := DactRefIdeal.Gen.facts) := fun m ρ _ =>
  (θ_run _ _ _).mono (fun r h => ⟨fun c => (h c).2, sem_eq_zero_of_no_sems (by decide) r.2⟩)
    (DactRefIdeal.Value.run (F := Ideal) m ρ)

theorem dact_algebraic :
    algebraic_DactIdeal_DactRefIdeal (hDactIdeal := DactIdeal.Gen.facts) (hDactRefIdeal := DactRefIdeal.Gen.facts) := by
  intro m g m' g' _ hargs
  refine ⟨_, DactIdeal.Value.run_blocks m g, (θ_run _ _ _).mono (fun r h c => ?_) (DactRefIdeal.Value.run m' g')⟩
  obtain ⟨e, k⟩ := h c
  refine ⟨e.trans ((DactRefIdeal.Read.val_main_v4_eq _ _).trans ?_), k⟩
  rw [(hargs c).1, (hargs c).2]; exact (DactIdeal.Hand.equal m c).symm

/-- The up weight's gradient's reference is host code without semaphores; its run leaves the arguments. -/
theorem frame_dwin_ref : quiescent_DwinRefIdeal (hDwinRefIdeal := DwinRefIdeal.Gen.facts) := fun m ρ _ =>
  (θ_run _ _ _).mono (fun r h => ⟨fun c => (h c).2, sem_eq_zero_of_no_sems (by decide) r.2⟩)
    (DwinRefIdeal.Value.run (F := Ideal) m ρ)

theorem dwin_algebraic :
    algebraic_DwinIdeal_DwinRefIdeal (hDwinIdeal := DwinIdeal.Gen.facts) (hDwinRefIdeal := DwinRefIdeal.Gen.facts) := by
  intro m g m' g' _ hargs
  refine ⟨_, DwinIdeal.Value.run_blocks m g, (θ_run _ _ _).mono (fun r h c => ?_) (DwinRefIdeal.Value.run m' g')⟩
  obtain ⟨e, k⟩ := h c
  refine ⟨e.trans ((DwinRefIdeal.Read.val_main_v17_eq _ _ _).trans ?_), k⟩
  rw [(hargs c).1, (hargs c).2.1, (hargs c).2.2]; exact (DwinIdeal.Hand.equal m c).symm

/-- The down weight's gradient's reference is host code without semaphores; its run leaves the arguments. -/
theorem frame_dwout_ref : quiescent_DwoutRefIdeal (hDwoutRefIdeal := DwoutRefIdeal.Gen.facts) := fun m ρ _ =>
  (θ_run _ _ _).mono (fun r h => ⟨fun c => (h c).2, sem_eq_zero_of_no_sems (by decide) r.2⟩)
    (DwoutRefIdeal.Value.run (F := Ideal) m ρ)

theorem dwout_algebraic :
    algebraic_DwoutIdeal_DwoutRefIdeal (hDwoutIdeal := DwoutIdeal.Gen.facts) (hDwoutRefIdeal := DwoutRefIdeal.Gen.facts) := by
  intro m g m' g' _ hargs
  refine ⟨_, DwoutIdeal.Value.run_blocks m g, (θ_run _ _ _).mono (fun r h c => ?_) (DwoutRefIdeal.Value.run m' g')⟩
  obtain ⟨e, k⟩ := h c
  refine ⟨e.trans ((DwoutRefIdeal.Read.val_main_v10_eq _ _ _).trans ?_), k⟩
  rw [(hargs c).1, (hargs c).2.1, (hargs c).2.2]; exact (DwoutIdeal.Hand.equal m c).symm

theorem claim : Claim := ⟨Kernel.Gen.facts, KernelIdeal.Gen.facts, ReferenceIdeal.Gen.facts, AttnBwd.Gen.facts, AttnBwdIdeal.Gen.facts,
  AttnRefIdeal.Gen.facts, Up.Gen.facts, UpIdeal.Gen.facts, UpRefIdeal.Gen.facts, Dact.Gen.facts, DactIdeal.Gen.facts,
  DactRefIdeal.Gen.facts, Dwin.Gen.facts, DwinIdeal.Gen.facts, DwinRefIdeal.Gen.facts,
  Dwout.Gen.facts, DwoutIdeal.Gen.facts, DwoutRefIdeal.Gen.facts, Pre_finite.Gen.facts, Pre_attn_finite.Gen.facts,
  fun m ρ _ => Kernel.Gen.frame m ρ,
  fun m ρ _ => KernelIdeal.Gen.frame m ρ,
  fun m ρ _ => KernelIdeal.Gen.frame m ρ,
  fun m ρ _ => frame_ref m ρ trivial,
  fun m ρ _ => frame_ref m ρ trivial,
  fun m ρ _ => AttnBwd.Hand.frame m ρ,
  fun m ρ _ => AttnBwdIdeal.Hand.frame m ρ,
  fun m ρ _ => AttnBwdIdeal.Hand.frame m ρ,
  fun m ρ _ => frame_attn_ref m ρ trivial,
  fun m ρ _ => frame_attn_ref m ρ trivial,
  fun m ρ _ => Up.Gen.frame m ρ,
  fun m ρ _ => UpIdeal.Gen.frame m ρ,
  frame_up_ref,
  fun m ρ _ => Dact.Gen.frame m ρ,
  fun m ρ _ => DactIdeal.Gen.frame m ρ,
  frame_dact_ref,
  fun m ρ _ => Dwin.Gen.frame m ρ,
  fun m ρ _ => DwinIdeal.Gen.frame m ρ,
  frame_dwin_ref,
  fun m ρ _ => Dwout.Gen.frame m ρ,
  fun m ρ _ => DwoutIdeal.Gen.frame m ρ,
  frame_dwout_ref,
  trivial,
  dh_algebraic,
  IdealRules.named_const.statement AttnBwdIdeal.κ "mask" .f32 0xF149F2CA#32 ⊥ rfl,
  attn_algebraic,
  trivial,
  up_algebraic,
  trivial,
  dact_algebraic,
  trivial,
  dwin_algebraic,
  trivial,
  dwout_algebraic⟩

end Cert.Proof

end
